-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_mu_above_minus_infinity [hPre_log_mu_above_minus_infinity : Cert.Pre_log_mu_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_log_mu_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_mu_above_minus_infinity [hPre_log_mu_above_minus_infinity : Cert.Pre_log_mu_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_mu_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_log_mu_above_minus_infinity [hKernelIdeal : Cert.KernelIdeal.Facts] [hPre_log_mu_above_minus_infinity : Cert.Pre_log_mu_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_mu_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_log_mu_above_minus_infinity [hReferenceIdeal : Cert.ReferenceIdeal.Facts] [hPre_log_mu_above_minus_infinity : Cert.Pre_log_mu_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_mu_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_log_mu_above_minus_infinity [hKernelIdeal : Cert.KernelIdeal.Facts] [hReferenceIdeal : Cert.ReferenceIdeal.Facts] [hPre_log_mu_above_minus_infinity : Cert.Pre_log_mu_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_mu_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344_9) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_log_mu_above_minus_infinity : Cert.Pre_log_mu_above_minus_infinity.Facts),
    quiescent_Kernel (hKernel := hKernel)
    ∧ quiescent_KernelIdeal (hKernelIdeal := hKernelIdeal)
    ∧ quiescent_KernelIdeal_pre_log_mu_above_minus_infinity (hKernelIdeal := hKernelIdeal) (hPre_log_mu_above_minus_infinity := hPre_log_mu_above_minus_infinity)
    ∧ quiescent_ReferenceIdeal (hReferenceIdeal := hReferenceIdeal)
    ∧ quiescent_ReferenceIdeal_pre_log_mu_above_minus_infinity (hReferenceIdeal := hReferenceIdeal) (hPre_log_mu_above_minus_infinity := hPre_log_mu_above_minus_infinity)
    ∧ preserves_Kernel_KernelIdeal
    ∧ algebraic_KernelIdeal_ReferenceIdeal_pre_log_mu_above_minus_infinity (hKernelIdeal := hKernelIdeal) (hReferenceIdeal := hReferenceIdeal) (hPre_log_mu_above_minus_infinity := hPre_log_mu_above_minus_infinity)
-- ==== Pre_log_mu_above_minus_infinity.lean ====
abbrev S4x3x256x256 : Shape := ⟨4, ![4, 3, 256, 256]⟩
abbrev S4x1x32x32 : Shape := ⟨4, ![4, 1, 32, 32]⟩
abbrev S4x1x256x256 : Shape := ⟨4, ![4, 1, 256, 256]⟩
abbrev S1x4x3x3 : Shape := ⟨4, ![1, 4, 3, 3]⟩
abbrev S1 : Shape := ⟨1, ![1]⟩
abbrev S32x4x3x3 : Shape := ⟨4, ![32, 4, 3, 3]⟩
abbrev S32 : Shape := ⟨1, ![32]⟩
abbrev S32x32x3x3 : Shape := ⟨4, ![32, 32, 3, 3]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x3x256x256 .f32) (main_arg1 : FVec F S4x1x32x32 .f32) (main_arg2 : FVec F S4x1x32x32 .f32) (main_arg3 : FVec F S4x1x256x256 .f32) (main_arg4 : FVec F S1x4x3x3 .f32) (main_arg5 : FVec F S1 .f32) (main_arg6 : FVec F S32x4x3x3 .f32) (main_arg7 : FVec F S32 .f32) (main_arg8 : FVec F S32x32x3x3 .f32) (main_arg9 : FVec F S32 .f32) (main_arg10 : FVec F S32x32x3x3 .f32) (main_arg11 : FVec F S32 .f32) (main_arg12 : FVec F S1 .f32) (main_arg13 : FVec F S1 .f32) : IVec S1 1 :=
  let main_cst : FVec F S_ .f32 := constant S_ .f32 0xFF800000#32
  let main_v0 : FVec F S1 .f32 := broadcastInDim S1 ![] bcast_S_S1 main_cst
  let main_v1 : IVec S1 1 := cmpf .ogt main_arg13 main_v0
  main_v1
-- ==== Kernel.lean ====
abbrev S4x3x256x256 : Shape := ⟨4, ![4, 3, 256, 256]⟩
abbrev S4x1x32x32 : Shape := ⟨4, ![4, 1, 32, 32]⟩
abbrev S4x1x256x256 : Shape := ⟨4, ![4, 1, 256, 256]⟩
abbrev S1x4x3x3 : Shape := ⟨4, ![1, 4, 3, 3]⟩
abbrev S1 : Shape := ⟨1, ![1]⟩
abbrev S32x4x3x3 : Shape := ⟨4, ![32, 4, 3, 3]⟩
abbrev S32 : Shape := ⟨1, ![32]⟩
abbrev S32x32x3x3 : Shape := ⟨4, ![32, 32, 3, 3]⟩
abbrev S4x4x256x256 : Shape := ⟨4, ![4, 4, 256, 256]⟩
abbrev S_ : Shape := ⟨0, ![]⟩
abbrev S4x4x264x256 : Shape := ⟨4, ![4, 4, 264, 256]⟩
abbrev S4x4x67584 : Shape := ⟨3, ![4, 4, 67584]⟩
abbrev S33x4x3x3 : Shape := ⟨4, ![33, 4, 3, 3]⟩
abbrev S40x4x3x3 : Shape := ⟨4, ![40, 4, 3, 3]⟩
abbrev S3x40x3x4 : Shape := ⟨4, ![3, 40, 3, 4]⟩
abbrev S3x40x12 : Shape := ⟨3, ![3, 40, 12]⟩
abbrev S7 : Shape := ⟨1, ![7]⟩
abbrev S40 : Shape := ⟨1, ![40]⟩
abbrev S40x1 : Shape := ⟨2, ![40, 1]⟩
abbrev S3x32x3x32 : Shape := ⟨4, ![3, 32, 3, 32]⟩
abbrev S3x32x96 : Shape := ⟨3, ![3, 32, 96]⟩
abbrev S32x1 : Shape := ⟨2, ![32, 1]⟩
abbrev S1x1 : Shape := ⟨2, ![1, 1]⟩
abbrev S4x1x65536 : Shape := ⟨3, ![4, 1, 65536]⟩
abbrev S4x5x65536 : Shape := ⟨3, ![4, 5, 65536]⟩
abbrev S1x4x67584 : Shape := ⟨3, ![1, 4, 67584]⟩
abbrev S1x1x16384 : Shape := ⟨3, ![1, 1, 16384]⟩
abbrev S1x5x16384 : Shape := ⟨3, ![1, 5, 16384]⟩
abbrev S1x4x18432 : Shape := ⟨3, ![1, 4, 18432]⟩
abbrev S4x18432 : Shape := ⟨2, ![4, 18432]⟩
abbrev S1x18432 : Shape := ⟨2, ![1, 18432]⟩
abbrev S4x1 : Shape := ⟨2, ![4, 1]⟩
abbrev S4x18431 : Shape := ⟨2, ![4, 18431]⟩
abbrev S12x18432 : Shape := ⟨2, ![12, 18432]⟩
abbrev S1x40x12 : Shape := ⟨3, ![1, 40, 12]⟩
abbrev S40x12 : Shape := ⟨2, ![40, 12]⟩
abbrev S40x18432 : Shape := ⟨2, ![40, 18432]⟩
abbrev S40x256 : Shape := ⟨2, ![40, 256]⟩
abbrev S40x18176 : Shape := ⟨2, ![40, 18176]⟩
abbrev S1x16384 : Shape := ⟨2, ![1, 16384]⟩
abbrev S32x18432 : Shape := ⟨2, ![32, 18432]⟩
abbrev S32x18431 : Shape := ⟨2, ![32, 18431]⟩
abbrev S96x18432 : Shape := ⟨2, ![96, 18432]⟩
abbrev S1x32x96 : Shape := ⟨3, ![1, 32, 96]⟩
abbrev S32x96 : Shape := ⟨2, ![32, 96]⟩
abbrev S32x256 : Shape := ⟨2, ![32, 256]⟩
abbrev S32x18176 : Shape := ⟨2, ![32, 18176]⟩
abbrev S32x16384 : Shape := ⟨2, ![32, 16384]⟩
abbrev S16384 : Shape := ⟨1, ![16384]⟩
abbrev S5x16384 : Shape := ⟨2, ![5, 16384]⟩
abbrev S4x5x256x256 : Shape := ⟨4, ![4, 5, 256, 256]⟩
abbrev S4x32x32 : Shape := ⟨3, ![4, 32, 32]⟩
abbrev S4x256x256 : Shape := ⟨3, ![4, 256, 256]⟩
abbrev S256x32 : Shape := ⟨2, ![256, 32]⟩
abbrev S1x32x32 : Shape := ⟨3, ![1, 32, 32]⟩
abbrev S32x32 : Shape := ⟨2, ![32, 32]⟩
abbrev S256x256 : Shape := ⟨2, ![256, 256]⟩
abbrev S1x256x256 : Shape := ⟨3, ![1, 256, 256]⟩
abbrev S4x1x256 : Shape := ⟨3, ![4, 1, 256]⟩
abbrev S4x255x256 : Shape := ⟨3, ![4, 255, 256]⟩
abbrev S4x256x1 : Shape := ⟨3, ![4, 256, 1]⟩
abbrev S4x256x255 : Shape := ⟨3, ![4, 256, 255]⟩
abbrev S1x4x256x256 : Shape := ⟨4, ![1, 4, 256, 256]⟩
abbrev S1x1x1x1 : Shape := ⟨4, ![1, 1, 1, 1]⟩

abbrev nBuf : Space → Nat
  | .hbm => 47
  | .vmem => 18
  | .smem => 2
  | _ => 0

abbrev bufTy : (tb : Table) → Fin (tcTables nBuf tb) → BufTy
  | .hbm, ⟨0, _⟩ => ⟨S4x3x256x256, .f32⟩
  | .hbm, ⟨1, _⟩ => ⟨S4x1x32x32, .f32⟩
  | .hbm, ⟨2, _⟩ => ⟨S4x1x32x32, .f32⟩
  | .hbm, ⟨3, _⟩ => ⟨S4x1x256x256, .f32⟩
  | .hbm, ⟨4, _⟩ => ⟨S1x4x3x3, .f32⟩
  | .hbm, ⟨5, _⟩ => ⟨S1, .f32⟩
  | .hbm, ⟨6, _⟩ => ⟨S32x4x3x3, .f32⟩
  | .hbm, ⟨7, _⟩ => ⟨S32, .f32⟩
  | .hbm, ⟨8, _⟩ => ⟨S32x32x3x3, .f32⟩
  | .hbm, ⟨9, _⟩ => ⟨S32, .f32⟩
  | .hbm, ⟨10, _⟩ => ⟨S32x32x3x3, .f32⟩
  | .hbm, ⟨11, _⟩ => ⟨S32, .f32⟩
  | .hbm, ⟨12, _⟩ => ⟨S1, .f32⟩
  | .hbm, ⟨13, _⟩ => ⟨S1, .f32⟩
  | .hbm, ⟨14, _⟩ => ⟨S4x4x256x256, .f32⟩
  | .hbm, ⟨15, _⟩ => ⟨S_, .i32⟩
  | .hbm, ⟨16, _⟩ => ⟨S_, .f32⟩
  | .hbm, ⟨17, _⟩ => ⟨S4x4x264x256, .f32⟩
  | .hbm, ⟨18, _⟩ => ⟨S4x4x67584, .f32⟩
  | .hbm, ⟨19, _⟩ => ⟨S33x4x3x3, .f32⟩
  | .hbm, ⟨20, _⟩ => ⟨S_, .i32⟩
  | .hbm, ⟨21, _⟩ => ⟨S_, .f32⟩
  | .hbm, ⟨22, _⟩ => ⟨S40x4x3x3, .f32⟩
  | .hbm, ⟨23, _⟩ => ⟨S3x40x3x4, .f32⟩
  | .hbm, ⟨24, _⟩ => ⟨S3x40x12, .f32⟩
  | .hbm, ⟨25, _⟩ => ⟨S_, .f32⟩
  | .hbm, ⟨26, _⟩ => ⟨S7, .f32⟩
  | .hbm, ⟨27, _⟩ => ⟨S40, .f32⟩
  | .hbm, ⟨28, _⟩ => ⟨S40x1, .f32⟩
  | .hbm, ⟨29, _⟩ => ⟨S3x32x3x32, .f32⟩
  | .hbm, ⟨30, _⟩ => ⟨S3x32x96, .f32⟩
  | .hbm, ⟨31, _⟩ => ⟨S3x32x3x32, .f32⟩
  | .hbm, ⟨32, _⟩ => ⟨S3x32x96, .f32⟩
  | .hbm, ⟨33, _⟩ => ⟨S32x1, .f32⟩
  | .hbm, ⟨34, _⟩ => ⟨S32x1, .f32⟩
  | .hbm, ⟨35, _⟩ => ⟨S1, .f32⟩
  | .hbm, ⟨36, _⟩ => ⟨S1x1, .f32⟩
  | .hbm, ⟨37, _⟩ => ⟨S1, .f32⟩
  | .hbm, ⟨38, _⟩ => ⟨S1x1, .f32⟩
  | .hbm, ⟨39, _⟩ => ⟨S4x1x65536, .f32⟩
  | .hbm, ⟨40, _⟩ => ⟨S4x5x65536, .f32⟩
  | .hbm, ⟨41, _⟩ => ⟨S4x1x256x256, .f32⟩
  | .hbm, ⟨42, _⟩ => ⟨S4x5x256x256, .f32⟩
  | .hbm, ⟨43, _⟩ => ⟨S4x32x32, .f32⟩
  | .hbm, ⟨44, _⟩ => ⟨S4x32x32, .f32⟩
  | .hbm, ⟨45, _⟩ => ⟨S4x256x256, .f32⟩
  | .hbm, ⟨46, _⟩ => ⟨S4x1x256x256, .f32⟩
  | .local _ .vmem, ⟨0, _⟩ => ⟨S1x4x67584, .f32⟩
  | .local _ .vmem, ⟨1, _⟩ => ⟨S1x4x67584, .f32⟩
  | .local _ .vmem, ⟨2, _⟩ => ⟨S3x40x12, .f32⟩
  | .local _ .vmem, ⟨3, _⟩ => ⟨S40x1, .f32⟩
  | .local _ .vmem, ⟨4, _⟩ => ⟨S3x32x96, .f32⟩
  | .local _ .vmem, ⟨5, _⟩ => ⟨S32x1, .f32⟩
  | .local _ .vmem, ⟨6, _⟩ => ⟨S3x32x96, .f32⟩
  | .local _ .vmem, ⟨7, _⟩ => ⟨S32x1, .f32⟩
  | .local _ .vmem, ⟨8, _⟩ => ⟨S1x1x16384, .f32⟩
  | .local _ .vmem, ⟨9, _⟩ => ⟨S1x1x16384, .f32⟩
  | .local _ .vmem, ⟨10, _⟩ => ⟨S1x5x16384, .f32⟩
  | .local _ .vmem, ⟨11, _⟩ => ⟨S1x5x16384, .f32⟩
  | .local _ .vmem, ⟨12, _⟩ => ⟨S4x5x256x256, .f32⟩
  | .local _ .vmem, ⟨13, _⟩ => ⟨S4x32x32, .f32⟩
  | .local _ .vmem, ⟨14, _⟩ => ⟨S4x32x32, .f32⟩
  | .local _ .vmem, ⟨15, _⟩ => ⟨S4x256x256, .f32⟩
  | .local _ .vmem, ⟨16, _⟩ => ⟨S4x256x256, .f32⟩
  | .local _ .vmem, ⟨17, _⟩ => ⟨S4x256x256, .f32⟩
  | .local _ .smem, ⟨0, _⟩ => ⟨S1x1, .f32⟩
  | .local _ .smem, ⟨1, _⟩ => ⟨S1x1, .f32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc1_scratch1 : Ref sig .tc := ⟨.vmem, 17, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_1 : Index := 0#32
  let c0_2 : Index := 0#32
  let arg1 : BitVec 32 := BitVec.ofNat 32 (i 1).val
  let c16384_i32 : BitVec 32 := 16384#32
  let v2 : BitVec 32 := Scalar.muli arg1 c16384_i32
  let v3 : Index := Scalar.indexCast v2
  ![0, 0, v3.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x67584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x40x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x5x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := .none

@[reducible] def k1_t1_loop : Scf.Loop 32 :=
  let c0_i32_75 : BitVec 32 := 0#32
  let c30_i32 : BitVec 32 := 30#32
  let v231 : BitVec 32 := Scalar.addi c0_i32_75 c30_i32
  let c1_i32_76 : BitVec 32 := 1#32
  ⟨c0_i32_75, v231, c1_i32_76⟩
abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x5x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S4x3x256x256 : Shape := ⟨4, ![4, 3, 256, 256]⟩
abbrev S4x1x32x32 : Shape := ⟨4, ![4, 1, 32, 32]⟩
abbrev S4x1x256x256 : Shape := ⟨4, ![4, 1, 256, 256]⟩
abbrev S1x4x3x3 : Shape := ⟨4, ![1, 4, 3, 3]⟩
abbrev S1 : Shape := ⟨1, ![1]⟩
abbrev S32x4x3x3 : Shape := ⟨4, ![32, 4, 3, 3]⟩
abbrev S32 : Shape := ⟨1, ![32]⟩
abbrev S32x32x3x3 : Shape := ⟨4, ![32, 32, 3, 3]⟩
abbrev S4x4x256x256 : Shape := ⟨4, ![4, 4, 256, 256]⟩
abbrev S_ : Shape := ⟨0, ![]⟩
abbrev S4x4x258x258 : Shape := ⟨4, ![4, 4, 258, 258]⟩
abbrev S1x4x1x1 : Shape := ⟨4, ![1, 4, 1, 1]⟩
abbrev S1x4 : Shape := ⟨2, ![1, 4]⟩
abbrev S4x256x256x1 : Shape := ⟨4, ![4, 256, 256, 1]⟩
abbrev S1x1x1x1 : Shape := ⟨4, ![1, 1, 1, 1]⟩
abbrev S32x4x1x1 : Shape := ⟨4, ![32, 4, 1, 1]⟩
abbrev S32x4 : Shape := ⟨2, ![32, 4]⟩
abbrev S4x256x256x32 : Shape := ⟨4, ![4, 256, 256, 32]⟩
abbrev S4x32x256x256 : Shape := ⟨4, ![4, 32, 256, 256]⟩
abbrev S1x32x1x1 : Shape := ⟨4, ![1, 32, 1, 1]⟩
abbrev S4x32x258x258 : Shape := ⟨4, ![4, 32, 258, 258]⟩
abbrev S32x32x1x1 : Shape := ⟨4, ![32, 32, 1, 1]⟩
abbrev S32x32 : Shape := ⟨2, ![32, 32]⟩
abbrev S4x32x255x256 : Shape := ⟨4, ![4, 32, 255, 256]⟩
abbrev S4x32x256x255 : Shape := ⟨4, ![4, 32, 256, 255]⟩
abbrev S4x256x256 : Shape := ⟨3, ![4, 256, 256]⟩
abbrev S4x1x256 : Shape := ⟨3, ![4, 1, 256]⟩
abbrev S4x5x256x256 : Shape := ⟨4, ![4, 5, 256, 256]⟩
abbrev S4x1x32x8x32 : Shape := ⟨5, ![4, 1, 32, 8, 32]⟩
abbrev S4x1x256x32 : Shape := ⟨4, ![4, 1, 256, 32]⟩
abbrev S4x1x256x32x8 : Shape := ⟨5, ![4, 1, 256, 32, 8]⟩
abbrev S4x1x255x256 : Shape := ⟨4, ![4, 1, 255, 256]⟩
abbrev S4x1x256x255 : Shape := ⟨4, ![4, 1, 256, 255]⟩
abbrev S4x1x32x8x32x8 : Shape := ⟨6, ![4, 1, 32, 8, 32, 8]⟩

abbrev nBuf : Space → Nat
  | .hbm => 487
  | .vmem => 0
  | .smem => 0
  | _ => 0

abbrev hbmTy0_0 (i : Nat) : BufTy := match i % 128 with
  | 0 => ⟨S4x3x256x256, .f32⟩
  | 1 => ⟨S4x1x32x32, .f32⟩
  | 2 => ⟨S4x1x32x32, .f32⟩
  | 3 => ⟨S4x1x256x256, .f32⟩
  | 4 => ⟨S1x4x3x3, .f32⟩
  | 5 => ⟨S1, .f32⟩
  | 6 => ⟨S32x4x3x3, .f32⟩
  | 7 => ⟨S32, .f32⟩
  | 8 => ⟨S32x32x3x3, .f32⟩
  | 9 => ⟨S32, .f32⟩
  | 10 => ⟨S32x32x3x3, .f32⟩
  | 11 => ⟨S32, .f32⟩
  | 12 => ⟨S1, .f32⟩
  | 13 => ⟨S1, .f32⟩
  | 14 => ⟨S4x4x256x256, .f32⟩
  | 15 => ⟨S_, .i32⟩
  | 16 => ⟨S_, .f32⟩
  | 17 => ⟨S4x4x258x258, .f32⟩
  | 18 => ⟨S1x4x1x1, .f32⟩
  | 19 => ⟨S1x4, .f32⟩
  | 20 => ⟨S4x4x256x256, .f32⟩
  | 21 => ⟨S4x256x256x1, .f32⟩
  | 22 => ⟨S4x1x256x256, .f32⟩
  | 23 => ⟨S1x4x1x1, .f32⟩
  | 24 => ⟨S1x4, .f32⟩
  | 25 => ⟨S4x4x256x256, .f32⟩
  | 26 => ⟨S4x256x256x1, .f32⟩
  | 27 => ⟨S4x1x256x256, .f32⟩
  | 28 => ⟨S4x1x256x256, .f32⟩
  | 29 => ⟨S1x4x1x1, .f32⟩
  | 30 => ⟨S1x4, .f32⟩
  | 31 => ⟨S4x4x256x256, .f32⟩
  | 32 => ⟨S4x256x256x1, .f32⟩
  | 33 => ⟨S4x1x256x256, .f32⟩
  | 34 => ⟨S4x1x256x256, .f32⟩
  | 35 => ⟨S1x4x1x1, .f32⟩
  | 36 => ⟨S1x4, .f32⟩
  | 37 => ⟨S4x4x256x256, .f32⟩
  | 38 => ⟨S4x256x256x1, .f32⟩
  | 39 => ⟨S4x1x256x256, .f32⟩
  | 40 => ⟨S4x1x256x256, .f32⟩
  | 41 => ⟨S1x4x1x1, .f32⟩
  | 42 => ⟨S1x4, .f32⟩
  | 43 => ⟨S4x4x256x256, .f32⟩
  | 44 => ⟨S4x256x256x1, .f32⟩
  | 45 => ⟨S4x1x256x256, .f32⟩
  | 46 => ⟨S4x1x256x256, .f32⟩
  | 47 => ⟨S1x4x1x1, .f32⟩
  | 48 => ⟨S1x4, .f32⟩
  | 49 => ⟨S4x4x256x256, .f32⟩
  | 50 => ⟨S4x256x256x1, .f32⟩
  | 51 => ⟨S4x1x256x256, .f32⟩
  | 52 => ⟨S4x1x256x256, .f32⟩
  | 53 => ⟨S1x4x1x1, .f32⟩
  | 54 => ⟨S1x4, .f32⟩
  | 55 => ⟨S4x4x256x256, .f32⟩
  | 56 => ⟨S4x256x256x1, .f32⟩
  | 57 => ⟨S4x1x256x256, .f32⟩
  | 58 => ⟨S4x1x256x256, .f32⟩
  | 59 => ⟨S1x4x1x1, .f32⟩
  | 60 => ⟨S1x4, .f32⟩
  | 61 => ⟨S4x4x256x256, .f32⟩
  | 62 => ⟨S4x256x256x1, .f32⟩
  | 63 => ⟨S4x1x256x256, .f32⟩
  | 64 => ⟨S4x1x256x256, .f32⟩
  | 65 => ⟨S1x4x1x1, .f32⟩
  | 66 => ⟨S1x4, .f32⟩
  | 67 => ⟨S4x4x256x256, .f32⟩
  | 68 => ⟨S4x256x256x1, .f32⟩
  | 69 => ⟨S4x1x256x256, .f32⟩
  | 70 => ⟨S4x1x256x256, .f32⟩
  | 71 => ⟨S1x1x1x1, .f32⟩
  | 72 => ⟨S4x1x256x256, .f32⟩
  | 73 => ⟨S4x1x256x256, .f32⟩
  | 74 => ⟨S1, .f32⟩
  | 75 => ⟨S_, .f32⟩
  | 76 => ⟨S1, .f32⟩
  | 77 => ⟨S_, .f32⟩
  | 78 => ⟨S4x4x256x256, .f32⟩
  | 79 => ⟨S_, .i32⟩
  | 80 => ⟨S_, .f32⟩
  | 81 => ⟨S4x4x258x258, .f32⟩
  | 82 => ⟨S32x4x1x1, .f32⟩
  | 83 => ⟨S32x4, .f32⟩
  | 84 => ⟨S4x4x256x256, .f32⟩
  | 85 => ⟨S4x256x256x32, .f32⟩
  | 86 => ⟨S4x32x256x256, .f32⟩
  | 87 => ⟨S32x4x1x1, .f32⟩
  | 88 => ⟨S32x4, .f32⟩
  | 89 => ⟨S4x4x256x256, .f32⟩
  | 90 => ⟨S4x256x256x32, .f32⟩
  | 91 => ⟨S4x32x256x256, .f32⟩
  | 92 => ⟨S4x32x256x256, .f32⟩
  | 93 => ⟨S32x4x1x1, .f32⟩
  | 94 => ⟨S32x4, .f32⟩
  | 95 => ⟨S4x4x256x256, .f32⟩
  | 96 => ⟨S4x256x256x32, .f32⟩
  | 97 => ⟨S4x32x256x256, .f32⟩
  | 98 => ⟨S4x32x256x256, .f32⟩
  | 99 => ⟨S32x4x1x1, .f32⟩
  | 100 => ⟨S32x4, .f32⟩
  | 101 => ⟨S4x4x256x256, .f32⟩
  | 102 => ⟨S4x256x256x32, .f32⟩
  | 103 => ⟨S4x32x256x256, .f32⟩
  | 104 => ⟨S4x32x256x256, .f32⟩
  | 105 => ⟨S32x4x1x1, .f32⟩
  | 106 => ⟨S32x4, .f32⟩
  | 107 => ⟨S4x4x256x256, .f32⟩
  | 108 => ⟨S4x256x256x32, .f32⟩
  | 109 => ⟨S4x32x256x256, .f32⟩
  | 110 => ⟨S4x32x256x256, .f32⟩
  | 111 => ⟨S32x4x1x1, .f32⟩
  | 112 => ⟨S32x4, .f32⟩
  | 113 => ⟨S4x4x256x256, .f32⟩
  | 114 => ⟨S4x256x256x32, .f32⟩
  | 115 => ⟨S4x32x256x256, .f32⟩
  | 116 => ⟨S4x32x256x256, .f32⟩
  | 117 => ⟨S32x4x1x1, .f32⟩
  | 118 => ⟨S32x4, .f32⟩
  | 119 => ⟨S4x4x256x256, .f32⟩
  | 120 => ⟨S4x256x256x32, .f32⟩
  | 121 => ⟨S4x32x256x256, .f32⟩
  | 122 => ⟨S4x32x256x256, .f32⟩
  | 123 => ⟨S32x4x1x1, .f32⟩
  | 124 => ⟨S32x4, .f32⟩
  | 125 => ⟨S4x4x256x256, .f32⟩
  | 126 => ⟨S4x256x256x32, .f32⟩
  | 127 => ⟨S4x32x256x256, .f32⟩
  | _ => ⟨S4x3x256x256, .f32⟩

abbrev hbmTy0_1 (i : Nat) : BufTy := match i % 128 with
  | 0 => ⟨S4x32x256x256, .f32⟩
  | 1 => ⟨S32x4x1x1, .f32⟩
  | 2 => ⟨S32x4, .f32⟩
  | 3 => ⟨S4x4x256x256, .f32⟩
  | 4 => ⟨S4x256x256x32, .f32⟩
  | 5 => ⟨S4x32x256x256, .f32⟩
  | 6 => ⟨S4x32x256x256, .f32⟩
  | 7 => ⟨S1x32x1x1, .f32⟩
  | 8 => ⟨S4x32x256x256, .f32⟩
  | 9 => ⟨S4x32x256x256, .f32⟩
  | 10 => ⟨S_, .f32⟩
  | 11 => ⟨S4x32x256x256, .f32⟩
  | 12 => ⟨S4x32x256x256, .f32⟩
  | 13 => ⟨S_, .i32⟩
  | 14 => ⟨S_, .f32⟩
  | 15 => ⟨S4x32x258x258, .f32⟩
  | 16 => ⟨S32x32x1x1, .f32⟩
  | 17 => ⟨S32x32, .f32⟩
  | 18 => ⟨S4x32x256x256, .f32⟩
  | 19 => ⟨S4x256x256x32, .f32⟩
  | 20 => ⟨S4x32x256x256, .f32⟩
  | 21 => ⟨S32x32x1x1, .f32⟩
  | 22 => ⟨S32x32, .f32⟩
  | 23 => ⟨S4x32x256x256, .f32⟩
  | 24 => ⟨S4x256x256x32, .f32⟩
  | 25 => ⟨S4x32x256x256, .f32⟩
  | 26 => ⟨S4x32x256x256, .f32⟩
  | 27 => ⟨S32x32x1x1, .f32⟩
  | 28 => ⟨S32x32, .f32⟩
  | 29 => ⟨S4x32x256x256, .f32⟩
  | 30 => ⟨S4x256x256x32, .f32⟩
  | 31 => ⟨S4x32x256x256, .f32⟩
  | 32 => ⟨S4x32x256x256, .f32⟩
  | 33 => ⟨S32x32x1x1, .f32⟩
  | 34 => ⟨S32x32, .f32⟩
  | 35 => ⟨S4x32x256x256, .f32⟩
  | 36 => ⟨S4x256x256x32, .f32⟩
  | 37 => ⟨S4x32x256x256, .f32⟩
  | 38 => ⟨S4x32x256x256, .f32⟩
  | 39 => ⟨S32x32x1x1, .f32⟩
  | 40 => ⟨S32x32, .f32⟩
  | 41 => ⟨S4x32x256x256, .f32⟩
  | 42 => ⟨S4x256x256x32, .f32⟩
  | 43 => ⟨S4x32x256x256, .f32⟩
  | 44 => ⟨S4x32x256x256, .f32⟩
  | 45 => ⟨S32x32x1x1, .f32⟩
  | 46 => ⟨S32x32, .f32⟩
  | 47 => ⟨S4x32x256x256, .f32⟩
  | 48 => ⟨S4x256x256x32, .f32⟩
  | 49 => ⟨S4x32x256x256, .f32⟩
  | 50 => ⟨S4x32x256x256, .f32⟩
  | 51 => ⟨S32x32x1x1, .f32⟩
  | 52 => ⟨S32x32, .f32⟩
  | 53 => ⟨S4x32x256x256, .f32⟩
  | 54 => ⟨S4x256x256x32, .f32⟩
  | 55 => ⟨S4x32x256x256, .f32⟩
  | 56 => ⟨S4x32x256x256, .f32⟩
  | 57 => ⟨S32x32x1x1, .f32⟩
  | 58 => ⟨S32x32, .f32⟩
  | 59 => ⟨S4x32x256x256, .f32⟩
  | 60 => ⟨S4x256x256x32, .f32⟩
  | 61 => ⟨S4x32x256x256, .f32⟩
  | 62 => ⟨S4x32x256x256, .f32⟩
  | 63 => ⟨S32x32x1x1, .f32⟩
  | 64 => ⟨S32x32, .f32⟩
  | 65 => ⟨S4x32x256x256, .f32⟩
  | 66 => ⟨S4x256x256x32, .f32⟩
  | 67 => ⟨S4x32x256x256, .f32⟩
  | 68 => ⟨S4x32x256x256, .f32⟩
  | 69 => ⟨S1x32x1x1, .f32⟩
  | 70 => ⟨S4x32x256x256, .f32⟩
  | 71 => ⟨S4x32x256x256, .f32⟩
  | 72 => ⟨S_, .f32⟩
  | 73 => ⟨S4x32x256x256, .f32⟩
  | 74 => ⟨S4x32x256x256, .f32⟩
  | 75 => ⟨S_, .i32⟩
  | 76 => ⟨S_, .f32⟩
  | 77 => ⟨S4x32x258x258, .f32⟩
  | 78 => ⟨S32x32x1x1, .f32⟩
  | 79 => ⟨S32x32, .f32⟩
  | 80 => ⟨S4x32x256x256, .f32⟩
  | 81 => ⟨S4x256x256x32, .f32⟩
  | 82 => ⟨S4x32x256x256, .f32⟩
  | 83 => ⟨S32x32x1x1, .f32⟩
  | 84 => ⟨S32x32, .f32⟩
  | 85 => ⟨S4x32x256x256, .f32⟩
  | 86 => ⟨S4x256x256x32, .f32⟩
  | 87 => ⟨S4x32x256x256, .f32⟩
  | 88 => ⟨S4x32x256x256, .f32⟩
  | 89 => ⟨S32x32x1x1, .f32⟩
  | 90 => ⟨S32x32, .f32⟩
  | 91 => ⟨S4x32x256x256, .f32⟩
  | 92 => ⟨S4x256x256x32, .f32⟩
  | 93 => ⟨S4x32x256x256, .f32⟩
  | 94 => ⟨S4x32x256x256, .f32⟩
  | 95 => ⟨S32x32x1x1, .f32⟩
  | 96 => ⟨S32x32, .f32⟩
  | 97 => ⟨S4x32x256x256, .f32⟩
  | 98 => ⟨S4x256x256x32, .f32⟩
  | 99 => ⟨S4x32x256x256, .f32⟩
  | 100 => ⟨S4x32x256x256, .f32⟩
  | 101 => ⟨S32x32x1x1, .f32⟩
  | 102 => ⟨S32x32, .f32⟩
  | 103 => ⟨S4x32x256x256, .f32⟩
  | 104 => ⟨S4x256x256x32, .f32⟩
  | 105 => ⟨S4x32x256x256, .f32⟩
  | 106 => ⟨S4x32x256x256, .f32⟩
  | 107 => ⟨S32x32x1x1, .f32⟩
  | 108 => ⟨S32x32, .f32⟩
  | 109 => ⟨S4x32x256x256, .f32⟩
  | 110 => ⟨S4x256x256x32, .f32⟩
  | 111 => ⟨S4x32x256x256, .f32⟩
  | 112 => ⟨S4x32x256x256, .f32⟩
  | 113 => ⟨S32x32x1x1, .f32⟩
  | 114 => ⟨S32x32, .f32⟩
  | 115 => ⟨S4x32x256x256, .f32⟩
  | 116 => ⟨S4x256x256x32, .f32⟩
  | 117 => ⟨S4x32x256x256, .f32⟩
  | 118 => ⟨S4x32x256x256, .f32⟩
  | 119 => ⟨S32x32x1x1, .f32⟩
  | 120 => ⟨S32x32, .f32⟩
  | 121 => ⟨S4x32x256x256, .f32⟩
  | 122 => ⟨S4x256x256x32, .f32⟩
  | 123 => ⟨S4x32x256x256, .f32⟩
  | 124 => ⟨S4x32x256x256, .f32⟩
  | 125 => ⟨S32x32x1x1, .f32⟩
  | 126 => ⟨S32x32, .f32⟩
  | 127 => ⟨S4x32x256x256, .f32⟩
  | _ => ⟨S4x3x256x256, .f32⟩

abbrev hbmTy0_2 (i : Nat) : BufTy := match i % 128 with
  | 0 => ⟨S4x256x256x32, .f32⟩
  | 1 => ⟨S4x32x256x256, .f32⟩
  | 2 => ⟨S4x32x256x256, .f32⟩
  | 3 => ⟨S1x32x1x1, .f32⟩
  | 4 => ⟨S4x32x256x256, .f32⟩
  | 5 => ⟨S4x32x256x256, .f32⟩
  | 6 => ⟨S4x32x255x256, .f32⟩
  | 7 => ⟨S_, .i32⟩
  | 8 => ⟨S_, .f32⟩
  | 9 => ⟨S4x32x256x256, .f32⟩
  | 10 => ⟨S4x32x255x256, .f32⟩
  | 11 => ⟨S_, .i32⟩
  | 12 => ⟨S_, .f32⟩
  | 13 => ⟨S4x32x256x256, .f32⟩
  | 14 => ⟨S4x32x256x255, .f32⟩
  | 15 => ⟨S_, .i32⟩
  | 16 => ⟨S_, .f32⟩
  | 17 => ⟨S4x32x256x256, .f32⟩
  | 18 => ⟨S4x32x256x255, .f32⟩
  | 19 => ⟨S_, .i32⟩
  | 20 => ⟨S_, .f32⟩
  | 21 => ⟨S4x32x256x256, .f32⟩
  | 22 => ⟨S4x32x256x256, .f32⟩
  | 23 => ⟨S4x32x256x256, .f32⟩
  | 24 => ⟨S_, .f32⟩
  | 25 => ⟨S4x256x256, .f32⟩
  | 26 => ⟨S4x1x256x256, .f32⟩
  | 27 => ⟨S4x1x256x256, .f32⟩
  | 28 => ⟨S4x1x256x256, .f32⟩
  | 29 => ⟨S4x1x256x256, .f32⟩
  | 30 => ⟨S4x1x256x256, .f32⟩
  | 31 => ⟨S4x32x256x256, .f32⟩
  | 32 => ⟨S4x32x256x256, .f32⟩
  | 33 => ⟨S_, .f32⟩
  | 34 => ⟨S4x256x256, .f32⟩
  | 35 => ⟨S4x1x256x256, .f32⟩
  | 36 => ⟨S4x1x256x256, .f32⟩
  | 37 => ⟨S4x1x256x256, .f32⟩
  | 38 => ⟨S4x1x256x256, .f32⟩
  | 39 => ⟨S4x1x256x256, .f32⟩
  | 40 => ⟨S4x32x256x256, .f32⟩
  | 41 => ⟨S4x32x256x256, .f32⟩
  | 42 => ⟨S_, .f32⟩
  | 43 => ⟨S4x256x256, .f32⟩
  | 44 => ⟨S4x1x256x256, .f32⟩
  | 45 => ⟨S4x1x256x256, .f32⟩
  | 46 => ⟨S4x1x256x256, .f32⟩
  | 47 => ⟨S4x1x256x256, .f32⟩
  | 48 => ⟨S4x1x256x256, .f32⟩
  | 49 => ⟨S4x32x256x256, .f32⟩
  | 50 => ⟨S4x32x256x256, .f32⟩
  | 51 => ⟨S_, .f32⟩
  | 52 => ⟨S4x256x256, .f32⟩
  | 53 => ⟨S4x1x256x256, .f32⟩
  | 54 => ⟨S4x1x256x256, .f32⟩
  | 55 => ⟨S4x1x256x256, .f32⟩
  | 56 => ⟨S4x1x256x256, .f32⟩
  | 57 => ⟨S4x1x256x256, .f32⟩
  | 58 => ⟨S_, .i32⟩
  | 59 => ⟨S1, .i32⟩
  | 60 => ⟨S_, .f32⟩
  | 61 => ⟨S4x1x256, .f32⟩
  | 62 => ⟨S4x1x256x256, .f32⟩
  | 63 => ⟨S_, .i32⟩
  | 64 => ⟨S1, .i32⟩
  | 65 => ⟨S_, .f32⟩
  | 66 => ⟨S4x1x256, .f32⟩
  | 67 => ⟨S4x1x256x256, .f32⟩
  | 68 => ⟨S_, .i32⟩
  | 69 => ⟨S1, .i32⟩
  | 70 => ⟨S_, .f32⟩
  | 71 => ⟨S4x1x256, .f32⟩
  | 72 => ⟨S4x1x256x256, .f32⟩
  | 73 => ⟨S_, .i32⟩
  | 74 => ⟨S1, .i32⟩
  | 75 => ⟨S_, .f32⟩
  | 76 => ⟨S4x1x256, .f32⟩
  | 77 => ⟨S4x1x256x256, .f32⟩
  | 78 => ⟨S4x1x256x256, .f32⟩
  | 79 => ⟨S4x1x256x256, .f32⟩
  | 80 => ⟨S4x1x256x256, .f32⟩
  | 81 => ⟨S4x5x256x256, .f32⟩
  | 82 => ⟨S4x1x256x256, .f32⟩
  | 83 => ⟨S4x1x256x256, .f32⟩
  | 84 => ⟨S4x1x256x256, .f32⟩
  | 85 => ⟨S4x1x256x256, .f32⟩
  | 86 => ⟨S4x1x256x256, .f32⟩
  | 87 => ⟨S4x1x32x32, .f32⟩
  | 88 => ⟨S4x1x32x8x32, .f32⟩
  | 89 => ⟨S4x1x256x32, .f32⟩
  | 90 => ⟨S4x1x256x32x8, .f32⟩
  | 91 => ⟨S4x1x256x256, .f32⟩
  | 92 => ⟨S_, .f32⟩
  | 93 => ⟨S4x1x256x256, .f32⟩
  | 94 => ⟨S4x1x256x256, .f32⟩
  | 95 => ⟨S4x1x256x256, .f32⟩
  | 96 => ⟨S4x1x256x256, .f32⟩
  | 97 => ⟨S4x1x32x8x32, .f32⟩
  | 98 => ⟨S4x1x256x32, .f32⟩
  | 99 => ⟨S4x1x256x32x8, .f32⟩
  | 100 => ⟨S4x1x256x256, .f32⟩
  | 101 => ⟨S4x1x255x256, .f32⟩
  | 102 => ⟨S_, .i32⟩
  | 103 => ⟨S_, .f32⟩
  | 104 => ⟨S4x1x256x256, .f32⟩
  | 105 => ⟨S4x1x255x256, .f32⟩
  | 106 => ⟨S_, .i32⟩
  | 107 => ⟨S_, .f32⟩
  | 108 => ⟨S4x1x256x256, .f32⟩
  | 109 => ⟨S4x1x256x255, .f32⟩
  | 110 => ⟨S_, .i32⟩
  | 111 => ⟨S_, .f32⟩
  | 112 => ⟨S4x1x256x256, .f32⟩
  | 113 => ⟨S4x1x256x255, .f32⟩
  | 114 => ⟨S_, .i32⟩
  | 115 => ⟨S_, .f32⟩
  | 116 => ⟨S4x1x256x256, .f32⟩
  | 117 => ⟨S4x1x256x256, .f32⟩
  | 118 => ⟨S4x1x256x256, .f32⟩
  | 119 => ⟨S4x1x256x256, .f32⟩
  | 120 => ⟨S4x1x256x256, .f32⟩
  | 121 => ⟨S4x1x256x256, .f32⟩
  | 122 => ⟨S4x1x256x256, .f32⟩
  | 123 => ⟨S4x1x256x256, .f32⟩
  | 124 => ⟨S4x1x256x256, .f32⟩
  | 125 => ⟨S4x1x256x256, .f32⟩
  | 126 => ⟨S4x1x32x8x32x8, .f32⟩
  | 127 => ⟨S_, .f32⟩
  | _ => ⟨S4x3x256x256, .f32⟩

abbrev hbmTy0_3 (i : Nat) : BufTy := match i % 128 with
  | 0 => ⟨S4x1x32x32, .f32⟩
  | 1 => ⟨S_, .f32⟩
  | 2 => ⟨S4x1x32x32, .f32⟩
  | 3 => ⟨S4x1x32x32, .f32⟩
  | 4 => ⟨S4x1x32x32, .f32⟩
  | 5 => ⟨S4x1x32x8x32, .f32⟩
  | 6 => ⟨S4x1x256x32, .f32⟩
  | 7 => ⟨S4x1x256x32x8, .f32⟩
  | 8 => ⟨S4x1x256x256, .f32⟩
  | 9 => ⟨S_, .f32⟩
  | 10 => ⟨S4x1x256x256, .f32⟩
  | 11 => ⟨S4x1x256x256, .f32⟩
  | 12 => ⟨S4x1x256x256, .f32⟩
  | 13 => ⟨S4x1x256x256, .f32⟩
  | 14 => ⟨S4x1x256x256, .f32⟩
  | 15 => ⟨S4x1x256x256, .f32⟩
  | 16 => ⟨S4x1x256x256, .f32⟩
  | 17 => ⟨S_, .f32⟩
  | 18 => ⟨S_, .f32⟩
  | 19 => ⟨S_, .i32⟩
  | 20 => ⟨S_, .i32⟩
  | 21 => ⟨S4x1x256x256, .f32⟩
  | 22 => ⟨S4x1x256x256, .f32⟩
  | 23 => ⟨S4x1x256x256, .f32⟩
  | 24 => ⟨S4x1x256x256, .f32⟩
  | 25 => ⟨S4x1x256x256, .f32⟩
  | 26 => ⟨S4x1x32x32, .f32⟩
  | 27 => ⟨S_, .f32⟩
  | 28 => ⟨S_, .i32⟩
  | 29 => ⟨S_, .i32⟩
  | 30 => ⟨S4x1x256x256, .f32⟩
  | 31 => ⟨S4x1x256x256, .f32⟩
  | 32 => ⟨S4x1x256x256, .f32⟩
  | 33 => ⟨S_, .f32⟩
  | 34 => ⟨S_, .i32⟩
  | 35 => ⟨S_, .i1⟩
  | 36 => ⟨S_, .i32⟩
  | 37 => ⟨S_, .i32⟩
  | 38 => ⟨S4x1x255x256, .f32⟩
  | 39 => ⟨S_, .i32⟩
  | 40 => ⟨S_, .f32⟩
  | 41 => ⟨S4x1x256x256, .f32⟩
  | 42 => ⟨S4x1x255x256, .f32⟩
  | 43 => ⟨S_, .i32⟩
  | 44 => ⟨S_, .f32⟩
  | 45 => ⟨S4x1x256x256, .f32⟩
  | 46 => ⟨S4x1x256x255, .f32⟩
  | 47 => ⟨S_, .i32⟩
  | 48 => ⟨S_, .f32⟩
  | 49 => ⟨S4x1x256x256, .f32⟩
  | 50 => ⟨S4x1x256x255, .f32⟩
  | 51 => ⟨S_, .i32⟩
  | 52 => ⟨S_, .f32⟩
  | 53 => ⟨S4x1x256x256, .f32⟩
  | 54 => ⟨S4x1x256x256, .f32⟩
  | 55 => ⟨S4x1x256x256, .f32⟩
  | 56 => ⟨S4x1x256x256, .f32⟩
  | 57 => ⟨S4x1x256x256, .f32⟩
  | 58 => ⟨S4x1x256x256, .f32⟩
  | 59 => ⟨S4x1x256x256, .f32⟩
  | 60 => ⟨S4x1x256x256, .f32⟩
  | 61 => ⟨S4x1x256x256, .f32⟩
  | 62 => ⟨S4x1x256x256, .f32⟩
  | 63 => ⟨S4x1x32x8x32x8, .f32⟩
  | 64 => ⟨S_, .f32⟩
  | 65 => ⟨S4x1x32x32, .f32⟩
  | 66 => ⟨S_, .f32⟩
  | 67 => ⟨S4x1x32x32, .f32⟩
  | 68 => ⟨S4x1x32x32, .f32⟩
  | 69 => ⟨S4x1x32x32, .f32⟩
  | 70 => ⟨S4x1x32x8x32, .f32⟩
  | 71 => ⟨S4x1x256x32, .f32⟩
  | 72 => ⟨S4x1x256x32x8, .f32⟩
  | 73 => ⟨S4x1x256x256, .f32⟩
  | 74 => ⟨S_, .f32⟩
  | 75 => ⟨S4x1x256x256, .f32⟩
  | 76 => ⟨S4x1x256x256, .f32⟩
  | 77 => ⟨S4x1x256x256, .f32⟩
  | 78 => ⟨S4x1x256x256, .f32⟩
  | 79 => ⟨S4x1x256x256, .f32⟩
  | 80 => ⟨S4x1x256x256, .f32⟩
  | 81 => ⟨S_, .f32⟩
  | 82 => ⟨S_, .f32⟩
  | 83 => ⟨S_, .f32⟩
  | 84 => ⟨S_, .f32⟩
  | 85 => ⟨S_, .f32⟩
  | 86 => ⟨S4x1x256x256, .f32⟩
  | 87 => ⟨S4x1x256x256, .f32⟩
  | 88 => ⟨S4x1x256x256, .f32⟩
  | 89 => ⟨S4x1x256x256, .f32⟩
  | 90 => ⟨S4x1x256x256, .f32⟩
  | 91 => ⟨S4x1x256x256, .f32⟩
  | 92 => ⟨S4x1x256x256, .f32⟩
  | 93 => ⟨S_, .f32⟩
  | 94 => ⟨S_, .f32⟩
  | 95 => ⟨S_, .f32⟩
  | 96 => ⟨S_, .f32⟩
  | 97 => ⟨S_, .f32⟩
  | 98 => ⟨S4x1x256x256, .f32⟩
  | 99 => ⟨S4x1x256x256, .f32⟩
  | 100 => ⟨S4x1x256x256, .f32⟩
  | 101 => ⟨S_, .i32⟩
  | 102 => ⟨S_, .i32⟩
  | _ => ⟨S4x3x256x256, .f32⟩

abbrev hbmTy (i : Nat) : BufTy := match i / 128 with
  | 0 => hbmTy0_0 i
  | 1 => hbmTy0_1 i
  | 2 => hbmTy0_2 i
  | 3 => hbmTy0_3 i
  | _ => ⟨S4x3x256x256, .f32⟩

abbrev bufTy : (tb : Table) → Fin (tcTables nBuf tb) → BufTy
  | .hbm, ⟨i, _⟩ => hbmTy i
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_0 : Ref sig .tc := ⟨.hbm, 79, rfl⟩
abbrev main_call1_v0 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_call2_cst : Ref sig .tc := ⟨.hbm, 138, rfl⟩
abbrev main_call2_v0 : Ref sig .tc := ⟨.hbm, 139, rfl⟩
abbrev main_v120 : Ref sig .tc := ⟨.hbm, 140, rfl⟩
abbrev main_c_1 : Ref sig .tc := ⟨.hbm, 141, rfl⟩
abbrev main_call3_v0 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_call4_cst : Ref sig .tc := ⟨.hbm, 200, rfl⟩
abbrev main_call4_v0 : Ref sig .tc := ⟨.hbm, 201, rfl⟩
abbrev main_v178 : Ref sig .tc := ⟨.hbm, 202, rfl⟩
abbrev main_c_2 : Ref sig .tc := ⟨.hbm, 203, rfl⟩
abbrev main_call5_v0 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_c_3 : Ref sig .tc := ⟨.hbm, 263, rfl⟩
abbrev main_call6_v0 : Ref sig .tc := ⟨.hbm, 264, rfl⟩
abbrev main_v237 : Ref sig .tc := ⟨.hbm, 265, rfl⟩
abbrev main_v238 : Ref sig .tc := ⟨.hbm, 266, rfl⟩
abbrev main_c_4 : Ref sig .tc := ⟨.hbm, 267, rfl⟩
abbrev main_call7_v0 : Ref sig .tc := ⟨.hbm, 268, rfl⟩
abbrev main_v239 : Ref sig .tc := ⟨.hbm, 269, rfl⟩
abbrev main_v240 : Ref sig .tc := ⟨.hbm, 270, rfl⟩
abbrev main_c_5 : Ref sig .tc := ⟨.hbm, 271, rfl⟩
abbrev main_call8_v0 : Ref sig .tc := ⟨.hbm, 272, rfl⟩
abbrev main_v241 : Ref sig .tc := ⟨.hbm, 273, rfl⟩
abbrev main_v242 : Ref sig .tc := ⟨.hbm, 274, rfl⟩
abbrev main_c_6 : Ref sig .tc := ⟨.hbm, 275, rfl⟩
abbrev main_call9_v0 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_cst : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_cst_7 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_cst_8 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_cst_9 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_c_10 : Ref sig .tc := ⟨.hbm, 314, rfl⟩
abbrev main_v276 : Ref sig .tc := ⟨.hbm, 315, rfl⟩
abbrev main_cst_11 : Ref sig .tc := ⟨.hbm, 316, rfl⟩
abbrev main_v277 : Ref sig .tc := ⟨.hbm, 317, rfl⟩
abbrev main_v278 : Ref sig .tc := ⟨.hbm, 318, rfl⟩
abbrev main_c_12 : Ref sig .tc := ⟨.hbm, 319, rfl⟩
abbrev main_v279 : Ref sig .tc := ⟨.hbm, 320, rfl⟩
abbrev main_cst_13 : Ref sig .tc := ⟨.hbm, 321, rfl⟩
abbrev main_v280 : Ref sig .tc := ⟨.hbm, 322, rfl⟩
abbrev main_v281 : Ref sig .tc := ⟨.hbm, 323, rfl⟩
abbrev main_c_14 : Ref sig .tc := ⟨.hbm, 324, rfl⟩
abbrev main_v282 : Ref sig .tc := ⟨.hbm, 325, rfl⟩
abbrev main_cst_15 : Ref sig .tc := ⟨.hbm, 326, rfl⟩
abbrev main_v283 : Ref sig .tc := ⟨.hbm, 327, rfl⟩
abbrev main_v284 : Ref sig .tc := ⟨.hbm, 328, rfl⟩
abbrev main_c_16 : Ref sig .tc := ⟨.hbm, 329, rfl⟩
abbrev main_v285 : Ref sig .tc := ⟨.hbm, 330, rfl⟩
abbrev main_cst_17 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_cst_18 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_c_19 : Ref sig .tc := ⟨.hbm, 358, rfl⟩
abbrev main_call10_v0 : Ref sig .tc := ⟨.hbm, 359, rfl⟩
abbrev main_v311 : Ref sig .tc := ⟨.hbm, 360, rfl⟩
abbrev main_v312 : Ref sig .tc := ⟨.hbm, 361, rfl⟩
abbrev main_c_20 : Ref sig .tc := ⟨.hbm, 362, rfl⟩
abbrev main_call11_v0 : Ref sig .tc := ⟨.hbm, 363, rfl⟩
abbrev main_v313 : Ref sig .tc := ⟨.hbm, 364, rfl⟩
abbrev main_v314 : Ref sig .tc := ⟨.hbm, 365, rfl⟩
abbrev main_c_21 : Ref sig .tc := ⟨.hbm, 366, rfl⟩
abbrev main_call12_v0 : Ref sig .tc := ⟨.hbm, 367, rfl⟩
abbrev main_v315 : Ref sig .tc := ⟨.hbm, 368, rfl⟩
abbrev main_v316 : Ref sig .tc := ⟨.hbm, 369, rfl⟩
abbrev main_c_22 : Ref sig .tc := ⟨.hbm, 370, rfl⟩
abbrev main_call13_v0 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_cst_23 : Ref sig .tc := ⟨.hbm, 383, rfl⟩
abbrev main_v328 : Ref sig .tc := ⟨.hbm, 384, rfl⟩
abbrev main_cst_24 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_cst_25 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_cst_26 : Ref sig .tc := ⟨.hbm, 401, rfl⟩
abbrev main_v343 : Ref sig .tc := ⟨.hbm, 402, rfl⟩
abbrev main_c_27 : Ref sig .tc := ⟨.hbm, 403, rfl⟩
abbrev main_c_28 : Ref sig .tc := ⟨.hbm, 404, rfl⟩
abbrev main_v344_0 : Ref sig .tc := ⟨.hbm, 405, rfl⟩
abbrev main_v344_1 : Ref sig .tc := ⟨.hbm, 406, rfl⟩
abbrev main_v344_2 : Ref sig .tc := ⟨.hbm, 407, rfl⟩
abbrev main_v344_3 : Ref sig .tc := ⟨.hbm, 408, rfl⟩
abbrev main_v344_4 : Ref sig .tc := ⟨.hbm, 409, rfl⟩
abbrev main_v344_5 : Ref sig .tc := ⟨.hbm, 410, rfl⟩
abbrev main_v344_6 : Ref sig .tc := ⟨.hbm, 411, rfl⟩
abbrev main_v344_7 : Ref sig .tc := ⟨.hbm, 412, rfl⟩
abbrev main_v344_8 : Ref sig .tc := ⟨.hbm, 413, rfl⟩
abbrev main_v344_9 : Ref sig .tc := ⟨.hbm, 414, rfl⟩
abbrev main_v344_10 : Ref sig .tc := ⟨.hbm, 415, rfl⟩
abbrev main_v344_11 : Ref sig .tc := ⟨.hbm, 416, rfl⟩
abbrev main_v344_12 : Ref sig .tc := ⟨.hbm, 417, rfl⟩
abbrev main_while0c_c_41 : Ref sig .tc := ⟨.hbm, 418, rfl⟩
abbrev main_while0c_v345 : Ref sig .tc := ⟨.hbm, 419, rfl⟩
abbrev main_while0b_c_41 : Ref sig .tc := ⟨.hbm, 420, rfl⟩
abbrev main_while0b_v345 : Ref sig .tc := ⟨.hbm, 421, rfl⟩
abbrev main_while0b_v346 : Ref sig .tc := ⟨.hbm, 422, rfl⟩
abbrev main_while0b_c_42 : Ref sig .tc := ⟨.hbm, 423, rfl⟩
abbrev main_while0b_call14_v0 : Ref sig .tc := ⟨.hbm, 424, rfl⟩
abbrev main_while0b_v347 : Ref sig .tc := ⟨.hbm, 425, rfl⟩
abbrev main_while0b_v348 : Ref sig .tc := ⟨.hbm, 426, rfl⟩
abbrev main_while0b_c_43 : Ref sig .tc := ⟨.hbm, 427, rfl⟩
abbrev main_while0b_call15_v0 : Ref sig .tc := ⟨.hbm, 428, rfl⟩
abbrev main_while0b_v349 : Ref sig .tc := ⟨.hbm, 429, rfl⟩
abbrev main_while0b_v350 : Ref sig .tc := ⟨.hbm, 430, rfl⟩
abbrev main_while0b_c_44 : Ref sig .tc := ⟨.hbm, 431, rfl⟩
abbrev main_while0b_call16_v0 : Ref sig .tc := ⟨.hbm, 432, rfl⟩
abbrev main_while0b_v351 : Ref sig .tc := ⟨.hbm, 433, rfl⟩
abbrev main_while0b_v352 : Ref sig .tc := ⟨.hbm, 434, rfl⟩
abbrev main_while0b_c_45 : Ref sig .tc := ⟨.hbm, 435, rfl⟩
abbrev main_while0b_call17_v0 : Ref sig .tc := ⟨.hbm, 436, rfl⟩
abbrev main_while0b_v353 : Ref sig .tc := ⟨.hbm, 437, rfl⟩
abbrev main_while0b_v354 : Ref sig .tc := ⟨.hbm, 438, rfl⟩
abbrev main_while0b_v355 : Ref sig .tc := ⟨.hbm, 439, rfl⟩
abbrev main_while0b_v356 : Ref sig .tc := ⟨.hbm, 440, rfl⟩
abbrev main_while0b_v357 : Ref sig .tc := ⟨.hbm, 441, rfl⟩
abbrev main_while0b_v358 : Ref sig .tc := ⟨.hbm, 442, rfl⟩
abbrev main_while0b_v359 : Ref sig .tc := ⟨.hbm, 443, rfl⟩
abbrev main_while0b_v360 : Ref sig .tc := ⟨.hbm, 444, rfl⟩
abbrev main_while0b_v361 : Ref sig .tc := ⟨.hbm, 445, rfl⟩
abbrev main_while0b_v362 : Ref sig .tc := ⟨.hbm, 446, rfl⟩
abbrev main_while0b_v363 : Ref sig .tc := ⟨.hbm, 447, rfl⟩
abbrev main_while0b_cst_46 : Ref sig .tc := ⟨.hbm, 448, rfl⟩
abbrev main_while0b_v364 : Ref sig .tc := ⟨.hbm, 449, rfl⟩
abbrev main_while0b_cst_47 : Ref sig .tc := ⟨.hbm, 450, rfl⟩
abbrev main_while0b_v365 : Ref sig .tc := ⟨.hbm, 451, rfl⟩
abbrev main_while0b_v366 : Ref sig .tc := ⟨.hbm, 452, rfl⟩
abbrev main_while0b_v367 : Ref sig .tc := ⟨.hbm, 453, rfl⟩
abbrev main_while0b_v368 : Ref sig .tc := ⟨.hbm, 454, rfl⟩
abbrev main_while0b_v369 : Ref sig .tc := ⟨.hbm, 455, rfl⟩
abbrev main_while0b_v370 : Ref sig .tc := ⟨.hbm, 456, rfl⟩
abbrev main_while0b_v371 : Ref sig .tc := ⟨.hbm, 457, rfl⟩
abbrev main_while0b_cst_48 : Ref sig .tc := ⟨.hbm, 458, rfl⟩
abbrev main_while0b_v372 : Ref sig .tc := ⟨.hbm, 459, rfl⟩
abbrev main_while0b_v373 : Ref sig .tc := ⟨.hbm, 460, rfl⟩
abbrev main_while0b_v374 : Ref sig .tc := ⟨.hbm, 461, rfl⟩
abbrev main_while0b_v375 : Ref sig .tc := ⟨.hbm, 462, rfl⟩
abbrev main_while0b_v376 : Ref sig .tc := ⟨.hbm, 463, rfl⟩
abbrev main_while0b_v377 : Ref sig .tc := ⟨.hbm, 464, rfl⟩
abbrev main_while0b_cst_49 : Ref sig .tc := ⟨.hbm, 465, rfl⟩
abbrev main_while0b_v378 : Ref sig .tc := ⟨.hbm, 466, rfl⟩
abbrev main_while0b_cst_50 : Ref sig .tc := ⟨.hbm, 467, rfl⟩
abbrev main_while0b_v379 : Ref sig .tc := ⟨.hbm, 468, rfl⟩
abbrev main_while0b_v380 : Ref sig .tc := ⟨.hbm, 469, rfl⟩
abbrev main_while0b_v381 : Ref sig .tc := ⟨.hbm, 470, rfl⟩
abbrev main_while0b_v382 : Ref sig .tc := ⟨.hbm, 471, rfl⟩
abbrev main_while0b_v383 : Ref sig .tc := ⟨.hbm, 472, rfl⟩
abbrev main_while0b_v384 : Ref sig .tc := ⟨.hbm, 473, rfl⟩
abbrev main_while0b_v385 : Ref sig .tc := ⟨.hbm, 474, rfl⟩
abbrev main_while0b_v386 : Ref sig .tc := ⟨.hbm, 475, rfl⟩
abbrev main_while0b_v387 : Ref sig .tc := ⟨.hbm, 476, rfl⟩
abbrev main_while0b_cst_51 : Ref sig .tc := ⟨.hbm, 477, rfl⟩
abbrev main_while0b_v388 : Ref sig .tc := ⟨.hbm, 478, rfl⟩
abbrev main_while0b_cst_52 : Ref sig .tc := ⟨.hbm, 479, rfl⟩
abbrev main_while0b_v389 : Ref sig .tc := ⟨.hbm, 480, rfl⟩
abbrev main_while0b_v390 : Ref sig .tc := ⟨.hbm, 481, rfl⟩
abbrev main_while0b_v391 : Ref sig .tc := ⟨.hbm, 482, rfl⟩
abbrev main_while0b_v392 : Ref sig .tc := ⟨.hbm, 483, rfl⟩
abbrev main_while0b_v393 : Ref sig .tc := ⟨.hbm, 484, rfl⟩
abbrev main_while0b_c_53 : Ref sig .tc := ⟨.hbm, 485, rfl⟩
abbrev main_while0b_v394 : Ref sig .tc := ⟨.hbm, 486, rfl⟩

abbrev nD : Nat := 1
abbrev τ : Topo := Topo.v7x

variable {F : FTy → Type} [FloatOps F]

abbrev main_while0_count : Scf.Loop 32 := ⟨0#32, 30#32, 1#32⟩
-- ==== Proof.RefDefs.lean ====
/-
  The named values of the reference: each is the printed operations' term of the arrays its piece reads, and then of the
  contents at launch.
-/
module

public import proofs.«01_k».proof.Proof.Gen.ReferenceIdeal.Run

@[expose] public section

set_option maxRecDepth 16384

noncomputable section

namespace Cert.ReferenceIdeal.Mine

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-- The value of the reference's `v0`, of the arrays its stretch reads. -/
def r_v0 (arg0 : Vec F S4x3x256x256 .f32) (arg3 : Vec F S4x1x256x256 .f32) : Vec F S4x4x256x256 .f32 :=
  concatenate S4x4x256x256 1 [⟨S4x3x256x256, arg0⟩, ⟨S4x1x256x256, arg3⟩] concatenates_S4x3x256x256_S4x1x256x256_S4x4x256x256_d1

/-- The value of the reference's `v1`, of the arrays its stretch reads. -/
def r_v1 (v0 : Vec F S4x4x256x256 .f32) (c : Vec F S_ .i32) : Vec F S4x4x258x258 .f32 :=
  pad S4x4x258x258 ![0, 0, 1, 1] ![0, 0, 1, 1] ![0, 0, 0, 0] v0 (sitofp .f32 c) pads_S4x4x256x256_S4x4x258x258_000_000_110_110 h_S_

/-- The value of the reference's `v57`, of the arrays its stretch reads. -/
def r_v57 (v1 : Vec F S4x4x258x258 .f32) (arg4 : Vec F S1x4x3x3 .f32) (arg5 : Vec F S1 .f32) : Vec F S4x1x256x256 .f32 :=
  addf (addf (addf (addf (addf (addf (addf (addf (addf (transpose S4x1x256x256 [0, 3, 1, 2] (Host.dotGeneral dot_S4x4x256x256_S1x4_S4x256x256x1_1_1_023_0_n_n (some .fp32) (extractStridedSlice S4x4x256x256 ![0, 0, 0, 0] v1 slices_S4x4x258x258_S4x4x256x256_0_0_0_0) (shapeCast S1x4 (extractStridedSlice S1x4x1x1 ![0, 0, 0, 0] arg4 slices_S1x4x3x3_S1x4x1x1_0_0_0_0) shapeCasts_S1x4x1x1_S1x4)) transposes_S4x256x256x1_S4x1x256x256_0_3_1_2) (transpose S4x1x256x256 [0, 3, 1, 2] (Host.dotGeneral dot_S4x4x256x256_S1x4_S4x256x256x1_1_1_023_0_n_n (some .fp32) (extractStridedSlice S4x4x256x256 ![0, 0, 0, 1] v1 slices_S4x4x258x258_S4x4x256x256_0_0_0_1) (shapeCast S1x4 (extractStridedSlice S1x4x1x1 ![0, 0, 0, 1] arg4 slices_S1x4x3x3_S1x4x1x1_0_0_0_1) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 0, 2] v1 slices_S4x4x258x258_S4x4x256x256_0_0_0_2) (shapeCast S1x4 (extractStridedSlice S1x4x1x1 ![0, 0, 0, 2] arg4 slices_S1x4x3x3_S1x4x1x1_0_0_0_2) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 1, 0] v1 slices_S4x4x258x258_S4x4x256x256_0_0_1_0) (shapeCast S1x4 (extractStridedSlice S1x4x1x1 ![0, 0, 1, 0] arg4 slices_S1x4x3x3_S1x4x1x1_0_0_1_0) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 1, 1] v1 slices_S4x4x258x258_S4x4x256x256_0_0_1_1) (shapeCast S1x4 (extractStridedSlice S1x4x1x1 ![0, 0, 1, 1] arg4 slices_S1x4x3x3_S1x4x1x1_0_0_1_1) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 1, 2] v1 slices_S4x4x258x258_S4x4x256x256_0_0_1_2) (shapeCast S1x4 (extractStridedSlice S1x4x1x1 ![0, 0, 1, 2] arg4 slices_S1x4x3x3_S1x4x1x1_0_0_1_2) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 2, 0] v1 slices_S4x4x258x258_S4x4x256x256_0_0_2_0) (shapeCast S1x4 (extractStridedSlice S1x4x1x1 ![0, 0, 2, 0] arg4 slices_S1x4x3x3_S1x4x1x1_0_0_2_0) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 2, 1] v1 slices_S4x4x258x258_S4x4x256x256_0_0_2_1) (shapeCast S1x4 (extractStridedSlice S1x4x1x1 ![0, 0, 2, 1] arg4 slices_S1x4x3x3_S1x4x1x1_0_0_2_1) shapeCasts_S1x4x1x1_S1x4)) transposes_S4x256x256x1_S4x1x256x256_0_3_1_2)) (transpose S4x1x256x256 [0, 3, 1, 2] (Host.dotGeneral dot_S4x4x256x256_S1x4_S4x256x256x1_1_1_023_0_n_n (some .fp32) (extractStridedSlice S4x4x256x256 ![0, 0, 2, 2] v1 slices_S4x4x258x258_S4x4x256x256_0_0_2_2) (shapeCast S1x4 (extractStridedSlice S1x4x1x1 ![0, 0, 2, 2] arg4 slices_S1x4x3x3_S1x4x1x1_0_0_2_2) shapeCasts_S1x4x1x1_S1x4)) transposes_S4x256x256x1_S4x1x256x256_0_3_1_2)) (broadcastInDim S4x1x256x256 ![0, 1, 2, 3] bcast_S1x1x1x1_S4x1x256x256_0_1_2_3 (broadcastInDim S1x1x1x1 ![1] bcast_S1_S1x1x1x1_1 arg5))

/-- The value of the reference's `v59`, of the arrays its stretch reads. -/
def r_v59 (arg13 : Vec F S1 .f32) : Vec F S_ .f32 :=
  shapeCast S_ (Host.exp arg13) shapeCasts_S1_S_

/-- The value of the reference's `v61`, of the arrays its stretch reads. -/
def r_v61 (arg12 : Vec F S1 .f32) : Vec F S_ .f32 :=
  shapeCast S_ (Host.exp arg12) shapeCasts_S1_S_

/-- The value of the reference's `v62`, of the arrays its stretch reads. -/
def r_v62 (arg0 : Vec F S4x3x256x256 .f32) (arg3 : Vec F S4x1x256x256 .f32) : Vec F S4x4x256x256 .f32 :=
  concatenate S4x4x256x256 1 [⟨S4x3x256x256, arg0⟩, ⟨S4x1x256x256, arg3⟩] concatenates_S4x3x256x256_S4x1x256x256_S4x4x256x256_d1

/-- The value of the reference's `v63`, of the arrays its stretch reads. -/
def r_v63 (v62 : Vec F S4x4x256x256 .f32) (c_0 : Vec F S_ .i32) : Vec F S4x4x258x258 .f32 :=
  pad S4x4x258x258 ![0, 0, 1, 1] ![0, 0, 1, 1] ![0, 0, 0, 0] v62 (sitofp .f32 c_0) pads_S4x4x256x256_S4x4x258x258_000_000_110_110 h_S_

/-- The value of the reference's `v119`, of the arrays its stretch reads. -/
def r_v119 (v63 : Vec F S4x4x258x258 .f32) (arg6 : Vec F S32x4x3x3 .f32) (arg7 : Vec F S32 .f32) : Vec F S4x32x256x256 .f32 :=
  addf (addf (addf (addf (addf (addf (addf (addf (addf (transpose S4x32x256x256 [0, 3, 1, 2] (Host.dotGeneral dot_S4x4x256x256_S32x4_S4x256x256x32_1_1_023_0_n_n (some .fp32) (extractStridedSlice S4x4x256x256 ![0, 0, 0, 0] v63 slices_S4x4x258x258_S4x4x256x256_0_0_0_0) (shapeCast S32x4 (extractStridedSlice S32x4x1x1 ![0, 0, 0, 0] arg6 slices_S32x4x3x3_S32x4x1x1_0_0_0_0) shapeCasts_S32x4x1x1_S32x4)) transposes_S4x256x256x32_S4x32x256x256_0_3_1_2) (transpose S4x32x256x256 [0, 3, 1, 2] (Host.dotGeneral dot_S4x4x256x256_S32x4_S4x256x256x32_1_1_023_0_n_n (some .fp32) (extractStridedSlice S4x4x256x256 ![0, 0, 0, 1] v63 slices_S4x4x258x258_S4x4x256x256_0_0_0_1) (shapeCast S32x4 (extractStridedSlice S32x4x1x1 ![0, 0, 0, 1] arg6 slices_S32x4x3x3_S32x4x1x1_0_0_0_1) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 0, 2] v63 slices_S4x4x258x258_S4x4x256x256_0_0_0_2) (shapeCast S32x4 (extractStridedSlice S32x4x1x1 ![0, 0, 0, 2] arg6 slices_S32x4x3x3_S32x4x1x1_0_0_0_2) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 1, 0] v63 slices_S4x4x258x258_S4x4x256x256_0_0_1_0) (shapeCast S32x4 (extractStridedSlice S32x4x1x1 ![0, 0, 1, 0] arg6 slices_S32x4x3x3_S32x4x1x1_0_0_1_0) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 1, 1] v63 slices_S4x4x258x258_S4x4x256x256_0_0_1_1) (shapeCast S32x4 (extractStridedSlice S32x4x1x1 ![0, 0, 1, 1] arg6 slices_S32x4x3x3_S32x4x1x1_0_0_1_1) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 1, 2] v63 slices_S4x4x258x258_S4x4x256x256_0_0_1_2) (shapeCast S32x4 (extractStridedSlice S32x4x1x1 ![0, 0, 1, 2] arg6 slices_S32x4x3x3_S32x4x1x1_0_0_1_2) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 2, 0] v63 slices_S4x4x258x258_S4x4x256x256_0_0_2_0) (shapeCast S32x4 (extractStridedSlice S32x4x1x1 ![0, 0, 2, 0] arg6 slices_S32x4x3x3_S32x4x1x1_0_0_2_0) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 2, 1] v63 slices_S4x4x258x258_S4x4x256x256_0_0_2_1) (shapeCast S32x4 (extractStridedSlice S32x4x1x1 ![0, 0, 2, 1] arg6 slices_S32x4x3x3_S32x4x1x1_0_0_2_1) shapeCasts_S32x4x1x1_S32x4)) transposes_S4x256x256x32_S4x32x256x256_0_3_1_2)) (transpose S4x32x256x256 [0, 3, 1, 2] (Host.dotGeneral dot_S4x4x256x256_S32x4_S4x256x256x32_1_1_023_0_n_n (some .fp32) (extractStridedSlice S4x4x256x256 ![0, 0, 2, 2] v63 slices_S4x4x258x258_S4x4x256x256_0_0_2_2) (shapeCast S32x4 (extractStridedSlice S32x4x1x1 ![0, 0, 2, 2] arg6 slices_S32x4x3x3_S32x4x1x1_0_0_2_2) shapeCasts_S32x4x1x1_S32x4)) transposes_S4x256x256x32_S4x32x256x256_0_3_1_2)) (broadcastInDim S4x32x256x256 ![0, 1, 2, 3] bcast_S1x32x1x1_S4x32x256x256_0_1_2_3 (broadcastInDim S1x32x1x1 ![1] bcast_S32_S1x32x1x1_1 arg7))

/-- The value of the reference's `v120`, of the arrays its stretch reads. -/
def r_v120 (v119 : Vec F S4x32x256x256 .f32) : Vec F S4x32x256x256 .f32 :=
  maximumf v119 (broadcastInDim S4x32x256x256 ![] bcast_S_S4x32x256x256 (constant S_ .f32 0x00000000#32))

/-- The value of the reference's `v121`, of the arrays its stretch reads. -/
def r_v121 (v120 : Vec F S4x32x256x256 .f32) (c_1 : Vec F S_ .i32) : Vec F S4x32x258x258 .f32 :=
  pad S4x32x258x258 ![0, 0, 1, 1] ![0, 0, 1, 1] ![0, 0, 0, 0] v120 (sitofp .f32 c_1) pads_S4x32x256x256_S4x32x258x258_000_000_110_110 h_S_

/-- The value of the reference's `v177`, of the arrays its stretch reads. -/
def r_v177 (v121 : Vec F S4x32x258x258 .f32) (arg8 : Vec F S32x32x3x3 .f32) (arg9 : Vec F S32 .f32) : Vec F S4x32x256x256 .f32 :=
  addf (addf (addf (addf (addf (addf (addf (addf (addf (transpose S4x32x256x256 [0, 3, 1, 2] (Host.dotGeneral dot_S4x32x256x256_S32x32_S4x256x256x32_1_1_023_0_n_n (some .fp32) (extractStridedSlice S4x32x256x256 ![0, 0, 0, 0] v121 slices_S4x32x258x258_S4x32x256x256_0_0_0_0) (shapeCast S32x32 (extractStridedSlice S32x32x1x1 ![0, 0, 0, 0] arg8 slices_S32x32x3x3_S32x32x1x1_0_0_0_0) shapeCasts_S32x32x1x1_S32x32)) transposes_S4x256x256x32_S4x32x256x256_0_3_1_2) (transpose S4x32x256x256 [0, 3, 1, 2] (Host.dotGeneral dot_S4x32x256x256_S32x32_S4x256x256x32_1_1_023_0_n_n (some .fp32) (extractStridedSlice S4x32x256x256 ![0, 0, 0, 1] v121 slices_S4x32x258x258_S4x32x256x256_0_0_0_1) (shapeCast S32x32 (extractStridedSlice S32x32x1x1 ![0, 0, 0, 1] arg8 slices_S32x32x3x3_S32x32x1x1_0_0_0_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 0, 2] v121 slices_S4x32x258x258_S4x32x256x256_0_0_0_2) (shapeCast S32x32 (extractStridedSlice S32x32x1x1 ![0, 0, 0, 2] arg8 slices_S32x32x3x3_S32x32x1x1_0_0_0_2) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 0] v121 slices_S4x32x258x258_S4x32x256x256_0_0_1_0) (shapeCast S32x32 (extractStridedSlice S32x32x1x1 ![0, 0, 1, 0] arg8 slices_S32x32x3x3_S32x32x1x1_0_0_1_0) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 1] v121 slices_S4x32x258x258_S4x32x256x256_0_0_1_1) (shapeCast S32x32 (extractStridedSlice S32x32x1x1 ![0, 0, 1, 1] arg8 slices_S32x32x3x3_S32x32x1x1_0_0_1_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 2] v121 slices_S4x32x258x258_S4x32x256x256_0_0_1_2) (shapeCast S32x32 (extractStridedSlice S32x32x1x1 ![0, 0, 1, 2] arg8 slices_S32x32x3x3_S32x32x1x1_0_0_1_2) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 0] v121 slices_S4x32x258x258_S4x32x256x256_0_0_2_0) (shapeCast S32x32 (extractStridedSlice S32x32x1x1 ![0, 0, 2, 0] arg8 slices_S32x32x3x3_S32x32x1x1_0_0_2_0) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 1] v121 slices_S4x32x258x258_S4x32x256x256_0_0_2_1) (shapeCast S32x32 (extractStridedSlice S32x32x1x1 ![0, 0, 2, 1] arg8 slices_S32x32x3x3_S32x32x1x1_0_0_2_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 2] v121 slices_S4x32x258x258_S4x32x256x256_0_0_2_2) (shapeCast S32x32 (extractStridedSlice S32x32x1x1 ![0, 0, 2, 2] arg8 slices_S32x32x3x3_S32x32x1x1_0_0_2_2) shapeCasts_S32x32x1x1_S32x32)) transposes_S4x256x256x32_S4x32x256x256_0_3_1_2)) (broadcastInDim S4x32x256x256 ![0, 1, 2, 3] bcast_S1x32x1x1_S4x32x256x256_0_1_2_3 (broadcastInDim S1x32x1x1 ![1] bcast_S32_S1x32x1x1_1 arg9))

/-- The value of the reference's `v178`, of the arrays its stretch reads. -/
def r_v178 (v177 : Vec F S4x32x256x256 .f32) : Vec F S4x32x256x256 .f32 :=
  maximumf v177 (broadcastInDim S4x32x256x256 ![] bcast_S_S4x32x256x256 (constant S_ .f32 0x00000000#32))

/-- The value of the reference's `v179`, of the arrays its stretch reads. -/
def r_v179 (v178 : Vec F S4x32x256x256 .f32) (c_2 : Vec F S_ .i32) : Vec F S4x32x258x258 .f32 :=
  pad S4x32x258x258 ![0, 0, 1, 1] ![0, 0, 1, 1] ![0, 0, 0, 0] v178 (sitofp .f32 c_2) pads_S4x32x256x256_S4x32x258x258_000_000_110_110 h_S_

/-- The value of the reference's `v235`, of the arrays its stretch reads. -/
def r_v235 (v179 : Vec F S4x32x258x258 .f32) (arg10 : Vec F S32x32x3x3 .f32) (arg11 : Vec F S32 .f32) : Vec F S4x32x256x256 .f32 :=
  addf (addf (addf (addf (addf (addf (addf (addf (addf (transpose S4x32x256x256 [0, 3, 1, 2] (Host.dotGeneral dot_S4x32x256x256_S32x32_S4x256x256x32_1_1_023_0_n_n (some .fp32) (extractStridedSlice S4x32x256x256 ![0, 0, 0, 0] v179 slices_S4x32x258x258_S4x32x256x256_0_0_0_0) (shapeCast S32x32 (extractStridedSlice S32x32x1x1 ![0, 0, 0, 0] arg10 slices_S32x32x3x3_S32x32x1x1_0_0_0_0) shapeCasts_S32x32x1x1_S32x32)) transposes_S4x256x256x32_S4x32x256x256_0_3_1_2) (transpose S4x32x256x256 [0, 3, 1, 2] (Host.dotGeneral dot_S4x32x256x256_S32x32_S4x256x256x32_1_1_023_0_n_n (some .fp32) (extractStridedSlice S4x32x256x256 ![0, 0, 0, 1] v179 slices_S4x32x258x258_S4x32x256x256_0_0_0_1) (shapeCast S32x32 (extractStridedSlice S32x32x1x1 ![0, 0, 0, 1] arg10 slices_S32x32x3x3_S32x32x1x1_0_0_0_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 0, 2] v179 slices_S4x32x258x258_S4x32x256x256_0_0_0_2) (shapeCast S32x32 (extractStridedSlice S32x32x1x1 ![0, 0, 0, 2] arg10 slices_S32x32x3x3_S32x32x1x1_0_0_0_2) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 0] v179 slices_S4x32x258x258_S4x32x256x256_0_0_1_0) (shapeCast S32x32 (extractStridedSlice S32x32x1x1 ![0, 0, 1, 0] arg10 slices_S32x32x3x3_S32x32x1x1_0_0_1_0) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 1] v179 slices_S4x32x258x258_S4x32x256x256_0_0_1_1) (shapeCast S32x32 (extractStridedSlice S32x32x1x1 ![0, 0, 1, 1] arg10 slices_S32x32x3x3_S32x32x1x1_0_0_1_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 1, 2] v179 slices_S4x32x258x258_S4x32x256x256_0_0_1_2) (shapeCast S32x32 (extractStridedSlice S32x32x1x1 ![0, 0, 1, 2] arg10 slices_S32x32x3x3_S32x32x1x1_0_0_1_2) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 0] v179 slices_S4x32x258x258_S4x32x256x256_0_0_2_0) (shapeCast S32x32 (extractStridedSlice S32x32x1x1 ![0, 0, 2, 0] arg10 slices_S32x32x3x3_S32x32x1x1_0_0_2_0) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 1] v179 slices_S4x32x258x258_S4x32x256x256_0_0_2_1) (shapeCast S32x32 (extractStridedSlice S32x32x1x1 ![0, 0, 2, 1] arg10 slices_S32x32x3x3_S32x32x1x1_0_0_2_1) shapeCasts_S32x32x1x1_S32x32)) transposes_S4x256x256x32_S4x32x256x256_0_3_1_2)) (transpose S4x32x256x256 [0, 3, 1, 2] (Host.dotGeneral dot_S4x32x256x256_S32x32_S4x256x256x32_1_1_023_0_n_n (some .fp32) (extractStridedSlice S4x32x256x256 ![0, 0, 2, 2] v179 slices_S4x32x258x258_S4x32x256x256_0_0_2_2) (shapeCast S32x32 (extractStridedSlice S32x32x1x1 ![0, 0, 2, 2] arg10 slices_S32x32x3x3_S32x32x1x1_0_0_2_2) shapeCasts_S32x32x1x1_S32x32)) transposes_S4x256x256x32_S4x32x256x256_0_3_1_2)) (broadcastInDim S4x32x256x256 ![0, 1, 2, 3] bcast_S1x32x1x1_S4x32x256x256_0_1_2_3 (broadcastInDim S1x32x1x1 ![1] bcast_S32_S1x32x1x1_1 arg11))

/-- The value of the reference's `v236`, of the arrays its stretch reads. -/
def r_v236 (v179 : Vec F S4x32x258x258 .f32) (arg10 : Vec F S32x32x3x3 .f32) (arg11 : Vec F S32 .f32) : Vec F S4x32x255x256 .f32 :=
  extractStridedSlice S4x32x255x256 ![0, 0, 0, 0] (r_v235 v179 arg10 arg11) slices_S4x32x256x256_S4x32x255x256_0_0_0_0

/-- The value of the reference's `v237`, of the arrays its stretch reads. -/
def r_v237 (v236 : Vec F S4x32x255x256 .f32) (c_3 : Vec F S_ .i32) : Vec F S4x32x256x256 .f32 :=
  pad S4x32x256x256 ![0, 0, 1, 0] ![0, 0, 0, 0] ![0, 0, 0, 0] v236 (sitofp .f32 c_3) pads_S4x32x255x256_S4x32x256x256_000_000_100_000 h_S_

/-- The value of the reference's `v238`, of the arrays its stretch reads. -/
def r_v238 (v235 : Vec F S4x32x256x256 .f32) : Vec F S4x32x255x256 .f32 :=
  extractStridedSlice S4x32x255x256 ![0, 0, 1, 0] v235 slices_S4x32x256x256_S4x32x255x256_0_0_1_0

/-- The value of the reference's `v239`, of the arrays its stretch reads. -/
def r_v239 (v238 : Vec F S4x32x255x256 .f32) (c_4 : Vec F S_ .i32) : Vec F S4x32x256x256 .f32 :=
  pad S4x32x256x256 ![0, 0, 0, 0] ![0, 0, 1, 0] ![0, 0, 0, 0] v238 (sitofp .f32 c_4) pads_S4x32x255x256_S4x32x256x256_000_000_010_000 h_S_

/-- The value of the reference's `v240`, of the arrays its stretch reads. -/
def r_v240 (v235 : Vec F S4x32x256x256 .f32) : Vec F S4x32x256x255 .f32 :=
  extractStridedSlice S4x32x256x255 ![0, 0, 0, 0] v235 slices_S4x32x256x256_S4x32x256x255_0_0_0_0

/-- The value of the reference's `v241`, of the arrays its stretch reads. -/
def r_v241 (v240 : Vec F S4x32x256x255 .f32) (c_5 : Vec F S_ .i32) : Vec F S4x32x256x256 .f32 :=
  pad S4x32x256x256 ![0, 0, 0, 1] ![0, 0, 0, 0] ![0, 0, 0, 0] v240 (sitofp .f32 c_5) pads_S4x32x256x255_S4x32x256x256_000_000_000_100 h_S_

/-- The value of the reference's `v242`, of the arrays its stretch reads. -/
def r_v242 (v235 : Vec F S4x32x256x256 .f32) : Vec F S4x32x256x255 .f32 :=
  extractStridedSlice S4x32x256x255 ![0, 0, 0, 1] v235 slices_S4x32x256x256_S4x32x256x255_0_0_0_1

/-- The value of the reference's `v243`, of the arrays its stretch reads. -/
def r_v243 (v242 : Vec F S4x32x256x255 .f32) (c_6 : Vec F S_ .i32) : Vec F S4x32x256x256 .f32 :=
  pad S4x32x256x256 ![0, 0, 0, 0] ![0, 0, 0, 1] ![0, 0, 0, 0] v242 (sitofp .f32 c_6) pads_S4x32x256x255_S4x32x256x256_000_000_000_010 h_S_

/-- The value of the reference's `v251`, of the arrays its stretch reads. -/
def r_v251 (v235 : Vec F S4x32x256x256 .f32) (v237 : Vec F S4x32x256x256 .f32) (v59 : Vec F S_ .f32) : Vec F S4x1x256x256 .f32 :=
  Host.exp (Host.divf (Host.negf (broadcastInDim S4x1x256x256 ![0, 2, 3] bcast_S4x256x256_S4x1x256x256_0_2_3 (Host.reduceAdd (mulf (subf v235 v237) (subf v235 v237)) (constant S_ .f32 0x00000000#32) reducesTo_S4x32x256x256_S4x256x256_d1 h_S_))) (broadcastInDim S4x1x256x256 ![] bcast_S_S4x1x256x256 v59))

/-- The value of the reference's `v259`, of the arrays its stretch reads. -/
def r_v259 (v235 : Vec F S4x32x256x256 .f32) (v239 : Vec F S4x32x256x256 .f32) (v59 : Vec F S_ .f32) : Vec F S4x1x256x256 .f32 :=
  Host.exp (Host.divf (Host.negf (broadcastInDim S4x1x256x256 ![0, 2, 3] bcast_S4x256x256_S4x1x256x256_0_2_3 (Host.reduceAdd (mulf (subf v235 v239) (subf v235 v239)) (constant S_ .f32 0x00000000#32) reducesTo_S4x32x256x256_S4x256x256_d1 h_S_))) (broadcastInDim S4x1x256x256 ![] bcast_S_S4x1x256x256 v59))

/-- The value of the reference's `v267`, of the arrays its stretch reads. -/
def r_v267 (v235 : Vec F S4x32x256x256 .f32) (v241 : Vec F S4x32x256x256 .f32) (v59 : Vec F S_ .f32) : Vec F S4x1x256x256 .f32 :=
  Host.exp (Host.divf (Host.negf (broadcastInDim S4x1x256x256 ![0, 2, 3] bcast_S4x256x256_S4x1x256x256_0_2_3 (Host.reduceAdd (mulf (subf v235 v241) (subf v235 v241)) (constant S_ .f32 0x00000000#32) reducesTo_S4x32x256x256_S4x256x256_d1 h_S_))) (broadcastInDim S4x1x256x256 ![] bcast_S_S4x1x256x256 v59))

/-- The value of the reference's `v275`, of the arrays its stretch reads. -/
def r_v275 (v235 : Vec F S4x32x256x256 .f32) (v243 : Vec F S4x32x256x256 .f32) (v59 : Vec F S_ .f32) : Vec F S4x1x256x256 .f32 :=
  Host.exp (Host.divf (Host.negf (broadcastInDim S4x1x256x256 ![0, 2, 3] bcast_S4x256x256_S4x1x256x256_0_2_3 (Host.reduceAdd (mulf (subf v235 v243) (subf v235 v243)) (constant S_ .f32 0x00000000#32) reducesTo_S4x32x256x256_S4x256x256_d1 h_S_))) (broadcastInDim S4x1x256x256 ![] bcast_S_S4x1x256x256 v59))

/-- The value of the reference's `v278`, of the arrays its stretch reads. -/
def r_v278 (v251 : Vec F S4x1x256x256 .f32) : Vec F S4x1x256x256 .f32 :=
  Host.scatter scatter_S4x1x256x256_S1_S4x1x256_012_2_2_0 (fun _ b => b) v251 (broadcastInDim S1 ![] bcast_S_S1 (constantI S_ 32 0#32)) (broadcastInDim S4x1x256 ![] bcast_S_S4x1x256 (constant S_ .f32 0x00000000#32))

/-- The value of the reference's `v281`, of the arrays its stretch reads. -/
def r_v281 (v259 : Vec F S4x1x256x256 .f32) : Vec F S4x1x256x256 .f32 :=
  Host.scatter scatter_S4x1x256x256_S1_S4x1x256_012_2_2_0 (fun _ b => b) v259 (broadcastInDim S1 ![] bcast_S_S1 (constantI S_ 32 255#32)) (broadcastInDim S4x1x256 ![] bcast_S_S4x1x256 (constant S_ .f32 0x00000000#32))

/-- The value of the reference's `v284`, of the arrays its stretch reads. -/
def r_v284 (v267 : Vec F S4x1x256x256 .f32) : Vec F S4x1x256x256 .f32 :=
  Host.scatter scatter_S4x1x256x256_S1_S4x1x256_012_3_3_0 (fun _ b => b) v267 (broadcastInDim S1 ![] bcast_S_S1 (constantI S_ 32 0#32)) (broadcastInDim S4x1x256 ![] bcast_S_S4x1x256 (constant S_ .f32 0x00000000#32))

/-- The value of the reference's `v287`, of the arrays its stretch reads. -/
def r_v287 (v275 : Vec F S4x1x256x256 .f32) : Vec F S4x1x256x256 .f32 :=
  Host.scatter scatter_S4x1x256x256_S1_S4x1x256_012_3_3_0 (fun _ b => b) v275 (broadcastInDim S1 ![] bcast_S_S1 (constantI S_ 32 255#32)) (broadcastInDim S4x1x256 ![] bcast_S_S4x1x256 (constant S_ .f32 0x00000000#32))

/-- The value of the reference's `v290`, of the arrays its stretch reads. -/
def r_v290 (v251 : Vec F S4x1x256x256 .f32) (v259 : Vec F S4x1x256x256 .f32) (v267 : Vec F S4x1x256x256 .f32) (v275 : Vec F S4x1x256x256 .f32) : Vec F S4x1x256x256 .f32 :=
  addf (addf (addf (r_v278 v251) (r_v281 v259)) (r_v284 v267)) (r_v287 v275)

/-- The value of the reference's `v291`, of the arrays its stretch reads. -/
def r_v291 (v278 : Vec F S4x1x256x256 .f32) (v281 : Vec F S4x1x256x256 .f32) (v284 : Vec F S4x1x256x256 .f32) (v287 : Vec F S4x1x256x256 .f32) (v290 : Vec F S4x1x256x256 .f32) : Vec F S4x5x256x256 .f32 :=
  concatenate S4x5x256x256 1 [⟨S4x1x256x256, v278⟩, ⟨S4x1x256x256, v281⟩, ⟨S4x1x256x256, v284⟩, ⟨S4x1x256x256, v287⟩, ⟨S4x1x256x256, v290⟩] concatenates_S4x1x256x256_S4x1x256x256_S4x1x256x256_S4x1x256x256_S4x1x256x256_S4x5x256x256_d1

/-- The value of the reference's `v292`, of the arrays its stretch reads. -/
def r_v292 (v278 : Vec F S4x1x256x256 .f32) (v281 : Vec F S4x1x256x256 .f32) (v284 : Vec F S4x1x256x256 .f32) (v287 : Vec F S4x1x256x256 .f32) (v290 : Vec F S4x1x256x256 .f32) : Vec F S4x1x256x256 .f32 :=
  extractStridedSlice S4x1x256x256 ![0, 0, 0, 0] (r_v291 v278 v281 v284 v287 v290) slices_S4x5x256x256_S4x1x256x256_0_0_0_0

/-- The value of the reference's `v293`, of the arrays its stretch reads. -/
def r_v293 (v278 : Vec F S4x1x256x256 .f32) (v281 : Vec F S4x1x256x256 .f32) (v284 : Vec F S4x1x256x256 .f32) (v287 : Vec F S4x1x256x256 .f32) (v290 : Vec F S4x1x256x256 .f32) : Vec F S4x1x256x256 .f32 :=
  extractStridedSlice S4x1x256x256 ![0, 1, 0, 0] (r_v291 v278 v281 v284 v287 v290) slices_S4x5x256x256_S4x1x256x256_0_1_0_0

/-- The value of the reference's `v294`, of the arrays its stretch reads. -/
def r_v294 (v278 : Vec F S4x1x256x256 .f32) (v281 : Vec F S4x1x256x256 .f32) (v284 : Vec F S4x1x256x256 .f32) (v287 : Vec F S4x1x256x256 .f32) (v290 : Vec F S4x1x256x256 .f32) : Vec F S4x1x256x256 .f32 :=
  extractStridedSlice S4x1x256x256 ![0, 2, 0, 0] (r_v291 v278 v281 v284 v287 v290) slices_S4x5x256x256_S4x1x256x256_0_2_0_0

/-- The value of the reference's `v295`, of the arrays its stretch reads. -/
def r_v295 (v278 : Vec F S4x1x256x256 .f32) (v281 : Vec F S4x1x256x256 .f32) (v284 : Vec F S4x1x256x256 .f32) (v287 : Vec F S4x1x256x256 .f32) (v290 : Vec F S4x1x256x256 .f32) : Vec F S4x1x256x256 .f32 :=
  extractStridedSlice S4x1x256x256 ![0, 3, 0, 0] (r_v291 v278 v281 v284 v287 v290) slices_S4x5x256x256_S4x1x256x256_0_3_0_0

/-- The value of the reference's `v296`, of the arrays its stretch reads. -/
def r_v296 (v278 : Vec F S4x1x256x256 .f32) (v281 : Vec F S4x1x256x256 .f32) (v284 : Vec F S4x1x256x256 .f32) (v287 : Vec F S4x1x256x256 .f32) (v290 : Vec F S4x1x256x256 .f32) : Vec F S4x1x256x256 .f32 :=
  extractStridedSlice S4x1x256x256 ![0, 4, 0, 0] (r_v291 v278 v281 v284 v287 v290) slices_S4x5x256x256_S4x1x256x256_0_4_0_0

/-- The value of the reference's `v305`, of the arrays its stretch reads. -/
def r_v305 (v61 : Vec F S_ .f32) (arg2 : Vec F S4x1x32x32 .f32) (arg1 : Vec F S4x1x32x32 .f32) : Vec F S4x1x256x256 .f32 :=
  mulf (broadcastInDim S4x1x256x256 ![] bcast_S_S4x1x256x256 v61) (Host.divf (shapeCast S4x1x256x256 (broadcastInDim S4x1x256x32x8 ![0, 1, 2, 3] bcast_S4x1x256x32_S4x1x256x32x8_0_1_2_3 (shapeCast S4x1x256x32 (broadcastInDim S4x1x32x8x32 ![0, 1, 2, 4] bcast_S4x1x32x32_S4x1x32x8x32_0_1_2_4 (mulf arg2 arg1)) shapeCasts_S4x1x32x8x32_S4x1x256x32)) shapeCasts_S4x1x256x32x8_S4x1x256x256) (broadcastInDim S4x1x256x256 ![] bcast_S_S4x1x256x256 (constant S_ .f32 0x42800000#32)))

/-- The value of the reference's `v309`, of the arrays its stretch reads. -/
def r_v309 (arg1 : Vec F S4x1x32x32 .f32) : Vec F S4x1x256x256 .f32 :=
  shapeCast S4x1x256x256 (broadcastInDim S4x1x256x32x8 ![0, 1, 2, 3] bcast_S4x1x256x32_S4x1x256x32x8_0_1_2_3 (shapeCast S4x1x256x32 (broadcastInDim S4x1x32x8x32 ![0, 1, 2, 4] bcast_S4x1x32x32_S4x1x32x8x32_0_1_2_4 arg1) shapeCasts_S4x1x32x8x32_S4x1x256x32)) shapeCasts_S4x1x256x32x8_S4x1x256x256

/-- The value of the reference's `v310`, of the arrays its stretch reads. -/
def r_v310 (arg1 : Vec F S4x1x32x32 .f32) : Vec F S4x1x255x256 .f32 :=
  extractStridedSlice S4x1x255x256 ![0, 0, 0, 0] (r_v309 arg1) slices_S4x1x256x256_S4x1x255x256_0_0_0_0

/-- The value of the reference's `v311`, of the arrays its stretch reads. -/
def r_v311 (v310 : Vec F S4x1x255x256 .f32) (c_19 : Vec F S_ .i32) : Vec F S4x1x256x256 .f32 :=
  pad S4x1x256x256 ![0, 0, 1, 0] ![0, 0, 0, 0] ![0, 0, 0, 0] v310 (sitofp .f32 c_19) pads_S4x1x255x256_S4x1x256x256_000_000_100_000 h_S_

/-- The value of the reference's `v312`, of the arrays its stretch reads. -/
def r_v312 (v309 : Vec F S4x1x256x256 .f32) : Vec F S4x1x255x256 .f32 :=
  extractStridedSlice S4x1x255x256 ![0, 0, 1, 0] v309 slices_S4x1x256x256_S4x1x255x256_0_0_1_0

/-- The value of the reference's `v313`, of the arrays its stretch reads. -/
def r_v313 (v312 : Vec F S4x1x255x256 .f32) (c_20 : Vec F S_ .i32) : Vec F S4x1x256x256 .f32 :=
  pad S4x1x256x256 ![0, 0, 0, 0] ![0, 0, 1, 0] ![0, 0, 0, 0] v312 (sitofp .f32 c_20) pads_S4x1x255x256_S4x1x256x256_000_000_010_000 h_S_

/-- The value of the reference's `v314`, of the arrays its stretch reads. -/
def r_v314 (v309 : Vec F S4x1x256x256 .f32) : Vec F S4x1x256x255 .f32 :=
  extractStridedSlice S4x1x256x255 ![0, 0, 0, 0] v309 slices_S4x1x256x256_S4x1x256x255_0_0_0_0

/-- The value of the reference's `v315`, of the arrays its stretch reads. -/
def r_v315 (v314 : Vec F S4x1x256x255 .f32) (c_21 : Vec F S_ .i32) : Vec F S4x1x256x256 .f32 :=
  pad S4x1x256x256 ![0, 0, 0, 1] ![0, 0, 0, 0] ![0, 0, 0, 0] v314 (sitofp .f32 c_21) pads_S4x1x256x255_S4x1x256x256_000_000_000_100 h_S_

/-- The value of the reference's `v316`, of the arrays its stretch reads. -/
def r_v316 (v309 : Vec F S4x1x256x256 .f32) : Vec F S4x1x256x255 .f32 :=
  extractStridedSlice S4x1x256x255 ![0, 0, 0, 1] v309 slices_S4x1x256x256_S4x1x256x255_0_0_0_1

/-- The value of the reference's `v317`, of the arrays its stretch reads. -/
def r_v317 (v316 : Vec F S4x1x256x255 .f32) (c_22 : Vec F S_ .i32) : Vec F S4x1x256x256 .f32 :=
  pad S4x1x256x256 ![0, 0, 0, 0] ![0, 0, 0, 1] ![0, 0, 0, 0] v316 (sitofp .f32 c_22) pads_S4x1x256x255_S4x1x256x256_000_000_000_010 h_S_

/-- The value of the reference's `v341`, of the arrays its stretch reads. -/
def r_v341 (v305 : Vec F S4x1x256x256 .f32) (v296 : Vec F S4x1x256x256 .f32) (v309 : Vec F S4x1x256x256 .f32) (v292 : Vec F S4x1x256x256 .f32) (v311 : Vec F S4x1x256x256 .f32) (v293 : Vec F S4x1x256x256 .f32) (v313 : Vec F S4x1x256x256 .f32) (v294 : Vec F S4x1x256x256 .f32) (v315 : Vec F S4x1x256x256 .f32) (v295 : Vec F S4x1x256x256 .f32) (v317 : Vec F S4x1x256x256 .f32) (v61 : Vec F S_ .f32) (arg2 : Vec F S4x1x32x32 .f32) : Vec F S4x1x256x256 .f32 :=
  subf v305 (addf (subf (mulf v296 v309) (addf (addf (addf (mulf v292 v311) (mulf v293 v313)) (mulf v294 v315)) (mulf v295 v317))) (mulf (broadcastInDim S4x1x256x256 ![] bcast_S_S4x1x256x256 v61) (Host.divf (shapeCast S4x1x256x256 (broadcastInDim S4x1x256x32x8 ![0, 1, 2, 3] bcast_S4x1x256x32_S4x1x256x32x8_0_1_2_3 (shapeCast S4x1x256x32 (broadcastInDim S4x1x32x8x32 ![0, 1, 2, 4] bcast_S4x1x32x32_S4x1x32x8x32_0_1_2_4 (mulf arg2 (Host.divf (Host.reduceAdd (shapeCast S4x1x32x8x32x8 v309 shapeCasts_S4x1x256x256_S4x1x32x8x32x8) (constant S_ .f32 0x00000000#32) reducesTo_S4x1x32x8x32x8_S4x1x32x32_d3_5 h_S_) (broadcastInDim S4x1x32x32 ![] bcast_S_S4x1x32x32 (constant S_ .f32 0x42800000#32))))) shapeCasts_S4x1x32x8x32_S4x1x256x32)) shapeCasts_S4x1x256x32x8_S4x1x256x256) (broadcastInDim S4x1x256x256 ![] bcast_S_S4x1x256x256 (constant S_ .f32 0x42800000#32)))))

/-- The value of the reference's `v344_12`, of the arrays its stretch reads. -/
def r_v344_12 (v341 : Vec F S4x1x256x256 .f32) : Vec F S_ .f32 :=
  (Host.reduceAdd (mulf v341 v341) (constant S_ .f32 0x00000000#32) reducesTo_S4x1x256x256_S_d0_1_2_3 h_S_)

/-- `v0` of the contents at launch. -/
def R_v0 (V : Valuation τ sig (Elt F)) : Vec F S4x4x256x256 .f32 := r_v0 (V (Proc.devRef .tc main_arg0)) (V (Proc.devRef .tc main_arg3))

/-- `c` of the contents at launch. -/
def R_c (V : Valuation τ sig (Elt F)) : Vec F S_ .i32 := constantI S_ 32 0#32

/-- `v1` of the contents at launch. -/
def R_v1 (V : Valuation τ sig (Elt F)) : Vec F S4x4x258x258 .f32 := r_v1 (R_v0 V) (R_c V)

/-- `v57` of the contents at launch. -/
def R_v57 (V : Valuation τ sig (Elt F)) : Vec F S4x1x256x256 .f32 := r_v57 (R_v1 V) (V (Proc.devRef .tc main_arg4)) (V (Proc.devRef .tc main_arg5))

/-- `v59` of the contents at launch. -/
def R_v59 (V : Valuation τ sig (Elt F)) : Vec F S_ .f32 := r_v59 (V (Proc.devRef .tc main_arg13))

/-- `v61` of the contents at launch. -/
def R_v61 (V : Valuation τ sig (Elt F)) : Vec F S_ .f32 := r_v61 (V (Proc.devRef .tc main_arg12))

/-- `v62` of the contents at launch. -/
def R_v62 (V : Valuation τ sig (Elt F)) : Vec F S4x4x256x256 .f32 := r_v62 (V (Proc.devRef .tc main_arg0)) (V (Proc.devRef .tc main_arg3))

/-- `c_0` of the contents at launch. -/
def R_c_0 (V : Valuation τ sig (Elt F)) : Vec F S_ .i32 := constantI S_ 32 0#32

/-- `v63` of the contents at launch. -/
def R_v63 (V : Valuation τ sig (Elt F)) : Vec F S4x4x258x258 .f32 := r_v63 (R_v62 V) (R_c_0 V)

/-- `v119` of the contents at launch. -/
def R_v119 (V : Valuation τ sig (Elt F)) : Vec F S4x32x256x256 .f32 := r_v119 (R_v63 V) (V (Proc.devRef .tc main_arg6)) (V (Proc.devRef .tc main_arg7))

/-- `v120` of the contents at launch. -/
def R_v120 (V : Valuation τ sig (Elt F)) : Vec F S4x32x256x256 .f32 := r_v120 (R_v119 V)

/-- `c_1` of the contents at launch. -/
def R_c_1 (V : Valuation τ sig (Elt F)) : Vec F S_ .i32 := constantI S_ 32 0#32

/-- `v121` of the contents at launch. -/
def R_v121 (V : Valuation τ sig (Elt F)) : Vec F S4x32x258x258 .f32 := r_v121 (R_v120 V) (R_c_1 V)

/-- `v177` of the contents at launch. -/
def R_v177 (V : Valuation τ sig (Elt F)) : Vec F S4x32x256x256 .f32 := r_v177 (R_v121 V) (V (Proc.devRef .tc main_arg8)) (V (Proc.devRef .tc main_arg9))

/-- `v178` of the contents at launch. -/
def R_v178 (V : Valuation τ sig (Elt F)) : Vec F S4x32x256x256 .f32 := r_v178 (R_v177 V)

/-- `c_2` of the contents at launch. -/
def R_c_2 (V : Valuation τ sig (Elt F)) : Vec F S_ .i32 := constantI S_ 32 0#32

/-- `v179` of the contents at launch. -/
def R_v179 (V : Valuation τ sig (Elt F)) : Vec F S4x32x258x258 .f32 := r_v179 (R_v178 V) (R_c_2 V)

/-- `v235` of the contents at launch. -/
def R_v235 (V : Valuation τ sig (Elt F)) : Vec F S4x32x256x256 .f32 := r_v235 (R_v179 V) (V (Proc.devRef .tc main_arg10)) (V (Proc.devRef .tc main_arg11))

/-- `v236` of the contents at launch. -/
def R_v236 (V : Valuation τ sig (Elt F)) : Vec F S4x32x255x256 .f32 := r_v236 (R_v179 V) (V (Proc.devRef .tc main_arg10)) (V (Proc.devRef .tc main_arg11))

/-- `c_3` of the contents at launch. -/
def R_c_3 (V : Valuation τ sig (Elt F)) : Vec F S_ .i32 := constantI S_ 32 0#32

/-- `v237` of the contents at launch. -/
def R_v237 (V : Valuation τ sig (Elt F)) : Vec F S4x32x256x256 .f32 := r_v237 (R_v236 V) (R_c_3 V)

/-- `v238` of the contents at launch. -/
def R_v238 (V : Valuation τ sig (Elt F)) : Vec F S4x32x255x256 .f32 := r_v238 (R_v235 V)

/-- `c_4` of the contents at launch. -/
def R_c_4 (V : Valuation τ sig (Elt F)) : Vec F S_ .i32 := constantI S_ 32 0#32

/-- `v239` of the contents at launch. -/
def R_v239 (V : Valuation τ sig (Elt F)) : Vec F S4x32x256x256 .f32 := r_v239 (R_v238 V) (R_c_4 V)

/-- `v240` of the contents at launch. -/
def R_v240 (V : Valuation τ sig (Elt F)) : Vec F S4x32x256x255 .f32 := r_v240 (R_v235 V)

/-- `c_5` of the contents at launch. -/
def R_c_5 (V : Valuation τ sig (Elt F)) : Vec F S_ .i32 := constantI S_ 32 0#32

/-- `v241` of the contents at launch. -/
def R_v241 (V : Valuation τ sig (Elt F)) : Vec F S4x32x256x256 .f32 := r_v241 (R_v240 V) (R_c_5 V)

/-- `v242` of the contents at launch. -/
def R_v242 (V : Valuation τ sig (Elt F)) : Vec F S4x32x256x255 .f32 := r_v242 (R_v235 V)

/-- `c_6` of the contents at launch. -/
def R_c_6 (V : Valuation τ sig (Elt F)) : Vec F S_ .i32 := constantI S_ 32 0#32

/-- `v243` of the contents at launch. -/
def R_v243 (V : Valuation τ sig (Elt F)) : Vec F S4x32x256x256 .f32 := r_v243 (R_v242 V) (R_c_6 V)

/-- `v251` of the contents at launch. -/
def R_v251 (V : Valuation τ sig (Elt F)) : Vec F S4x1x256x256 .f32 := r_v251 (R_v235 V) (R_v237 V) (R_v59 V)

/-- `v259` of the contents at launch. -/
def R_v259 (V : Valuation τ sig (Elt F)) : Vec F S4x1x256x256 .f32 := r_v259 (R_v235 V) (R_v239 V) (R_v59 V)

/-- `v267` of the contents at launch. -/
def R_v267 (V : Valuation τ sig (Elt F)) : Vec F S4x1x256x256 .f32 := r_v267 (R_v235 V) (R_v241 V) (R_v59 V)

/-- `v275` of the contents at launch. -/
def R_v275 (V : Valuation τ sig (Elt F)) : Vec F S4x1x256x256 .f32 := r_v275 (R_v235 V) (R_v243 V) (R_v59 V)

/-- `v278` of the contents at launch. -/
def R_v278 (V : Valuation τ sig (Elt F)) : Vec F S4x1x256x256 .f32 := r_v278 (R_v251 V)

/-- `v281` of the contents at launch. -/
def R_v281 (V : Valuation τ sig (Elt F)) : Vec F S4x1x256x256 .f32 := r_v281 (R_v259 V)

/-- `v284` of the contents at launch. -/
def R_v284 (V : Valuation τ sig (Elt F)) : Vec F S4x1x256x256 .f32 := r_v284 (R_v267 V)

/-- `v287` of the contents at launch. -/
def R_v287 (V : Valuation τ sig (Elt F)) : Vec F S4x1x256x256 .f32 := r_v287 (R_v275 V)

/-- `v290` of the contents at launch. -/
def R_v290 (V : Valuation τ sig (Elt F)) : Vec F S4x1x256x256 .f32 := r_v290 (R_v251 V) (R_v259 V) (R_v267 V) (R_v275 V)

/-- `v291` of the contents at launch. -/
def R_v291 (V : Valuation τ sig (Elt F)) : Vec F S4x5x256x256 .f32 := r_v291 (R_v278 V) (R_v281 V) (R_v284 V) (R_v287 V) (R_v290 V)

/-- `v292` of the contents at launch. -/
def R_v292 (V : Valuation τ sig (Elt F)) : Vec F S4x1x256x256 .f32 := r_v292 (R_v278 V) (R_v281 V) (R_v284 V) (R_v287 V) (R_v290 V)

/-- `v293` of the contents at launch. -/
def R_v293 (V : Valuation τ sig (Elt F)) : Vec F S4x1x256x256 .f32 := r_v293 (R_v278 V) (R_v281 V) (R_v284 V) (R_v287 V) (R_v290 V)

/-- `v294` of the contents at launch. -/
def R_v294 (V : Valuation τ sig (Elt F)) : Vec F S4x1x256x256 .f32 := r_v294 (R_v278 V) (R_v281 V) (R_v284 V) (R_v287 V) (R_v290 V)

/-- `v295` of the contents at launch. -/
def R_v295 (V : Valuation τ sig (Elt F)) : Vec F S4x1x256x256 .f32 := r_v295 (R_v278 V) (R_v281 V) (R_v284 V) (R_v287 V) (R_v290 V)

/-- `v296` of the contents at launch. -/
def R_v296 (V : Valuation τ sig (Elt F)) : Vec F S4x1x256x256 .f32 := r_v296 (R_v278 V) (R_v281 V) (R_v284 V) (R_v287 V) (R_v290 V)

/-- `v305` of the contents at launch. -/
def R_v305 (V : Valuation τ sig (Elt F)) : Vec F S4x1x256x256 .f32 := r_v305 (R_v61 V) (V (Proc.devRef .tc main_arg2)) (V (Proc.devRef .tc main_arg1))

/-- `v309` of the contents at launch. -/
def R_v309 (V : Valuation τ sig (Elt F)) : Vec F S4x1x256x256 .f32 := r_v309 (V (Proc.devRef .tc main_arg1))

/-- `v310` of the contents at launch. -/
def R_v310 (V : Valuation τ sig (Elt F)) : Vec F S4x1x255x256 .f32 := r_v310 (V (Proc.devRef .tc main_arg1))

/-- `c_19` of the contents at launch. -/
def R_c_19 (V : Valuation τ sig (Elt F)) : Vec F S_ .i32 := constantI S_ 32 0#32

/-- `v311` of the contents at launch. -/
def R_v311 (V : Valuation τ sig (Elt F)) : Vec F S4x1x256x256 .f32 := r_v311 (R_v310 V) (R_c_19 V)

/-- `v312` of the contents at launch. -/
def R_v312 (V : Valuation τ sig (Elt F)) : Vec F S4x1x255x256 .f32 := r_v312 (R_v309 V)

/-- `c_20` of the contents at launch. -/
def R_c_20 (V : Valuation τ sig (Elt F)) : Vec F S_ .i32 := constantI S_ 32 0#32

/-- `v313` of the contents at launch. -/
def R_v313 (V : Valuation τ sig (Elt F)) : Vec F S4x1x256x256 .f32 := r_v313 (R_v312 V) (R_c_20 V)

/-- `v314` of the contents at launch. -/
def R_v314 (V : Valuation τ sig (Elt F)) : Vec F S4x1x256x255 .f32 := r_v314 (R_v309 V)

/-- `c_21` of the contents at launch. -/
def R_c_21 (V : Valuation τ sig (Elt F)) : Vec F S_ .i32 := constantI S_ 32 0#32

/-- `v315` of the contents at launch. -/
def R_v315 (V : Valuation τ sig (Elt F)) : Vec F S4x1x256x256 .f32 := r_v315 (R_v314 V) (R_c_21 V)

/-- `v316` of the contents at launch. -/
def R_v316 (V : Valuation τ sig (Elt F)) : Vec F S4x1x256x255 .f32 := r_v316 (R_v309 V)

/-- `c_22` of the contents at launch. -/
def R_c_22 (V : Valuation τ sig (Elt F)) : Vec F S_ .i32 := constantI S_ 32 0#32

/-- `v317` of the contents at launch. -/
def R_v317 (V : Valuation τ sig (Elt F)) : Vec F S4x1x256x256 .f32 := r_v317 (R_v316 V) (R_c_22 V)

/-- `v341` of the contents at launch. -/
def R_v341 (V : Valuation τ sig (Elt F)) : Vec F S4x1x256x256 .f32 := r_v341 (R_v305 V) (R_v296 V) (R_v309 V) (R_v292 V) (R_v311 V) (R_v293 V) (R_v313 V) (R_v294 V) (R_v315 V) (R_v295 V) (R_v317 V) (R_v61 V) (V (Proc.devRef .tc main_arg2))

/-- `v344_0` of the contents at launch. -/
def R_v344_0 (V : Valuation τ sig (Elt F)) : Vec F S4x1x256x256 .f32 := (R_v296 V)

/-- `v344_1` of the contents at launch. -/
def R_v344_1 (V : Valuation τ sig (Elt F)) : Vec F S4x1x256x256 .f32 := (R_v292 V)

/-- `v344_2` of the contents at launch. -/
def R_v344_2 (V : Valuation τ sig (Elt F)) : Vec F S4x1x256x256 .f32 := (R_v293 V)

/-- `v344_3` of the contents at launch. -/
def R_v344_3 (V : Valuation τ sig (Elt F)) : Vec F S4x1x256x256 .f32 := (R_v294 V)

/-- `v344_4` of the contents at launch. -/
def R_v344_4 (V : Valuation τ sig (Elt F)) : Vec F S4x1x256x256 .f32 := (R_v295 V)

/-- `v344_5` of the contents at launch. -/
def R_v344_5 (V : Valuation τ sig (Elt F)) : Vec F S4x1x32x32 .f32 := (V (Proc.devRef .tc main_arg2))

/-- `v344_6` of the contents at launch. -/
def R_v344_6 (V : Valuation τ sig (Elt F)) : Vec F S_ .f32 := (R_v61 V)

/-- `v344_7` of the contents at launch. -/
def R_v344_7 (V : Valuation τ sig (Elt F)) : Vec F S_ .i32 := (constantI S_ 32 0#32)

/-- `v344_8` of the contents at launch. -/
def R_v344_8 (V : Valuation τ sig (Elt F)) : Vec F S_ .i32 := (constantI S_ 32 0#32)

/-- `v344_9` of the contents at launch. -/
def R_v344_9 (V : Valuation τ sig (Elt F)) : Vec F S4x1x256x256 .f32 := (R_v309 V)

/-- `v344_10` of the contents at launch. -/
def R_v344_10 (V : Valuation τ sig (Elt F)) : Vec F S4x1x256x256 .f32 := (R_v341 V)

/-- `v344_11` of the contents at launch. -/
def R_v344_11 (V : Valuation τ sig (Elt F)) : Vec F S4x1x256x256 .f32 := (R_v341 V)

/-- `v344_12` of the contents at launch. -/
def R_v344_12 (V : Valuation τ sig (Elt F)) : Vec F S_ .f32 := r_v344_12 (R_v341 V)

end Cert.ReferenceIdeal.Mine

end
-- ==== Proof.ConvMath.lean ====
/-
  The convolution of an image with zero padding, on integer coordinates, over the extended reals.
-/
module

public import Idealize.ShloMosaic.Lib.Pointwise
public import Idealize.ShloMosaic.Lib.Tactic.IndexArith
public import Idealize.ShloMosaic.Lib.Tactic.CleanTypes
public import Idealize.ShloMosaic.Lib.Tactic.WordOmega

@[expose] public section

noncomputable section

namespace Cert.Mine

/-- An image by channel, row and column. -/
abbrev Img (C : ℕ) := Fin C → Fin 256 → Fin 256 → EReal

/-- The image extended by zero to all integer rows and columns. -/
def ext {C : ℕ} (x : Img C) (c : Fin C) (h w : ℤ) : EReal :=
  if hh : (0 ≤ h ∧ h < 256) ∧ (0 ≤ w ∧ w < 256) then x c ⟨h.toNat, by omega⟩ ⟨w.toNat, by omega⟩ else 0

/-- One tap of the convolution: the channels' sum at an offset. -/
def tap {C O : ℕ} (k : Fin O → Fin C → Fin 3 → Fin 3 → EReal) (x : Img C) (o : Fin O) (h w : ℤ) (dy dx : Fin 3) : EReal :=
  ∑ c : Fin C, ext x c (h + (dy : ℕ) - 1) (w + (dx : ℕ) - 1) * k o c dy dx

/-- The 3×3 convolution at an integer row and column. -/
def conv {C O : ℕ} (k : Fin O → Fin C → Fin 3 → Fin 3 → EReal) (b : Fin O → EReal) (x : Img C) (o : Fin O) (h w : ℤ) : EReal :=
  tap k x o h w 0 0 + tap k x o h w 0 1 + tap k x o h w 0 2 + tap k x o h w 1 0 + tap k x o h w 1 1 + tap k x o h w 1 2
    + tap k x o h w 2 0 + tap k x o h w 2 1 + tap k x o h w 2 2 + b o

/-- The zero extension at a row and a column of the image. -/
theorem ext_fin {C : ℕ} (x : Img C) (c : Fin C) (h w : Fin 256) : ext x c h w = x c h w := by
  unfold ext; rw [dif_pos ⟨⟨by omega, by omega⟩, ⟨by omega, by omega⟩⟩]; rfl

end Cert.Mine

end
-- ==== Proof.RefConv.lean ====
/-
  The reference's convolutions at an index.
-/
module

public import proofs.«01_k».proof.Proof.RefDefs
public import proofs.«01_k».proof.Proof.ConvMath

@[expose] public section

set_option maxRecDepth 16384

noncomputable section

namespace Cert.ReferenceIdeal.Mine

open Cert.ReferenceIdeal Cert.ReferenceIdeal.Gen Cert.Mine
open Idealize.ShloMosaic

/-- The integer zero as a number is zero. -/
theorem sitofp_zero : (FloatOps.sitofp FTy.f32 (0#32 : BitVec 32) : Ideal .f32) = (0 : EReal) := by
  show (((0#32 : BitVec 32).toInt : ℝ) : EReal) = 0
  simp

/-- The padded image of 4 channels is the zero extension. -/
theorem pad4_at (x : Vec Ideal S4x4x256x256 .f32) (n : Fin 4) (c : Fin 4) (h w : Fin 258) :
    r_v1 x (constantI S_ 32 0#32) (ix4 n c h w) = ext (fun c h w => x (ix4 n c h w)) c ((h : ℕ) - 1) ((w : ℕ) - 1) := by
  pointwise [r_v1, ext]
  by_cases hh : (1 ≤ (h : ℕ) ∧ (h : ℕ) - 1 < 256) ∧ 1 ≤ (w : ℕ) ∧ (w : ℕ) - 1 < 256
  · rw [dif_pos hh, dif_pos (by omega)]
    exact congrArg x (congrArg₂ (fun a b => ix4 n c a b) (Fin.ext (by simp)) (Fin.ext (by simp)))
  · rw [dif_neg hh, dif_neg (by omega)]; exact sitofp_zero

/-- The padded image of 32 channels is the zero extension. -/
theorem pad32_at (x : Vec Ideal S4x32x256x256 .f32) (n : Fin 4) (c : Fin 32) (h w : Fin 258) :
    r_v121 x (constantI S_ 32 0#32) (ix4 n c h w) = ext (fun c h w => x (ix4 n c h w)) c ((h : ℕ) - 1) ((w : ℕ) - 1) := by
  pointwise [r_v121, ext]
  by_cases hh : (1 ≤ (h : ℕ) ∧ (h : ℕ) - 1 < 256) ∧ 1 ≤ (w : ℕ) ∧ (w : ℕ) - 1 < 256
  · rw [dif_pos hh, dif_pos (by omega)]
    exact congrArg x (congrArg₂ (fun a b => ix4 n c a b) (Fin.ext (by simp)) (Fin.ext (by simp)))
  · rw [dif_neg hh, dif_neg (by omega)]; exact sitofp_zero

/-- The second padding of the four channels is the first. -/
theorem r_v63_eq (x : Vec Ideal S4x4x256x256 .f32) (v : Vec Ideal S_ .i32) : r_v63 x v = r_v1 x v := rfl
/-- The second padding of the features is the first. -/
theorem r_v179_eq (x : Vec Ideal S4x32x256x256 .f32) (v : Vec Ideal S_ .i32) : r_v179 x v = r_v121 x v := rfl

/-- The variance head is the convolution. -/
theorem conv41_at (x : Vec Ideal S4x4x256x256 .f32) (k : Vec Ideal S1x4x3x3 .f32) (b : Vec Ideal S1 .f32) (n : Fin 4) (o : Fin 1) (h w : Fin 256) :
    r_v57 (r_v1 x (constantI S_ 32 0#32)) k b (ix4 n o h w)
      = conv (fun o c dy dx => k (ix4 o c dy dx)) (fun o => b (ix1 o)) (fun c h w => x (ix4 n c h w)) o h w := by
  pointwise [r_v57]
  simp only [pad4_at]
  have ho : o = 0 := by omega
  rw [ho]
  unfold conv tap
  have e1 : ∀ a : ℕ, ((1 + a : ℕ) : ℤ) - 1 = (a : ℤ) + ((1 : Fin 3) : ℕ) - 1 := fun a => by
    rw [show ((1 : Fin 3) : ℕ) = 1 from rfl]; omega
  have e2 : ∀ a : ℕ, ((2 + a : ℕ) : ℤ) - 1 = (a : ℤ) + ((2 : Fin 3) : ℕ) - 1 := fun a => by
    rw [show ((2 : Fin 3) : ℕ) = 2 from rfl]; omega
  have e0 : ∀ a : ℕ, (a : ℤ) - 1 = (a : ℤ) + ((0 : Fin 3) : ℕ) - 1 := fun a => by
    rw [show ((0 : Fin 3) : ℕ) = 0 from rfl]; omega
  simp only [e1, e2]
  rw [← e0 h, ← e0 w]

/-- The first layer is the convolution. -/
theorem conv432_at (x : Vec Ideal S4x4x256x256 .f32) (k : Vec Ideal S32x4x3x3 .f32) (b : Vec Ideal S32 .f32) (n : Fin 4) (o : Fin 32) (h w : Fin 256) :
    r_v119 (r_v1 x (constantI S_ 32 0#32)) k b (ix4 n o h w)
      = conv (fun o c dy dx => k (ix4 o c dy dx)) (fun o => b (ix1 o)) (fun c h w => x (ix4 n c h w)) o h w := by
  pointwise [r_v119]
  simp only [pad4_at]
  have ho : o = o := rfl
  rw [ho]
  unfold conv tap
  have e1 : ∀ a : ℕ, ((1 + a : ℕ) : ℤ) - 1 = (a : ℤ) + ((1 : Fin 3) : ℕ) - 1 := fun a => by
    rw [show ((1 : Fin 3) : ℕ) = 1 from rfl]; omega
  have e2 : ∀ a : ℕ, ((2 + a : ℕ) : ℤ) - 1 = (a : ℤ) + ((2 : Fin 3) : ℕ) - 1 := fun a => by
    rw [show ((2 : Fin 3) : ℕ) = 2 from rfl]; omega
  have e0 : ∀ a : ℕ, (a : ℤ) - 1 = (a : ℤ) + ((0 : Fin 3) : ℕ) - 1 := fun a => by
    rw [show ((0 : Fin 3) : ℕ) = 0 from rfl]; omega
  simp only [e1, e2]
  rw [← e0 h, ← e0 w]

/-- The second layer is the convolution. -/
theorem conv3232_at (x : Vec Ideal S4x32x256x256 .f32) (k : Vec Ideal S32x32x3x3 .f32) (b : Vec Ideal S32 .f32) (n : Fin 4) (o : Fin 32) (h w : Fin 256) :
    r_v177 (r_v121 x (constantI S_ 32 0#32)) k b (ix4 n o h w)
      = conv (fun o c dy dx => k (ix4 o c dy dx)) (fun o => b (ix1 o)) (fun c h w => x (ix4 n c h w)) o h w := by
  pointwise [r_v177]
  simp only [pad32_at]
  have ho : o = o := rfl
  rw [ho]
  unfold conv tap
  have e1 : ∀ a : ℕ, ((1 + a : ℕ) : ℤ) - 1 = (a : ℤ) + ((1 : Fin 3) : ℕ) - 1 := fun a => by
    rw [show ((1 : Fin 3) : ℕ) = 1 from rfl]; omega
  have e2 : ∀ a : ℕ, ((2 + a : ℕ) : ℤ) - 1 = (a : ℤ) + ((2 : Fin 3) : ℕ) - 1 := fun a => by
    rw [show ((2 : Fin 3) : ℕ) = 2 from rfl]; omega
  have e0 : ∀ a : ℕ, (a : ℤ) - 1 = (a : ℤ) + ((0 : Fin 3) : ℕ) - 1 := fun a => by
    rw [show ((0 : Fin 3) : ℕ) = 0 from rfl]; omega
  simp only [e1, e2]
  rw [← e0 h, ← e0 w]

/-- The third layer is the same function as the second. -/
theorem r_v235_eq (x : Vec Ideal S4x32x258x258 .f32) (k : Vec Ideal S32x32x3x3 .f32) (b : Vec Ideal S32 .f32) :
    r_v235 x k b = r_v177 x k b := rfl

end Cert.ReferenceIdeal.Mine

end
-- ==== Proof.AffMath.lean ====
/-
  The affinity of the features between neighbouring pixels, over the extended reals.
-/
module

public import proofs.«01_k».proof.Proof.ConvMath

@[expose] public section

noncomputable section

namespace Cert.Mine

open Idealize.ShloMosaic

/-- A convolution layer as an image. -/
def layer {C O : ℕ} (k : Fin O → Fin C → Fin 3 → Fin 3 → EReal) (b : Fin O → EReal) (x : Img C) : Img O :=
  fun o h w => conv k b x o h w

/-- The positive part of an image. -/
def relu {C : ℕ} (x : Img C) : Img C := fun c h w => max (x c h w) 0

/-- The squared distance of the features at a pixel and at the pixel displaced by `dh` and `dw`. -/
def dist {C : ℕ} (f : Img C) (h w dh dw : ℤ) : EReal :=
  ∑ c : Fin C, (ext f c h w - ext f c (h + dh) (w + dw)) * (ext f c h w - ext f c (h + dh) (w + dw))

/-- The affinity of a pixel and its displaced neighbour. -/
def aff {C : ℕ} (mu : EReal) (f : Img C) (h w dh dw : ℤ) : EReal := Ideal.exp (Ideal.div (-dist f h w dh dw) mu)

/-- The affinity upwards, zero in the first row. -/
def affU {C : ℕ} (mu : EReal) (f : Img C) (h w : Fin 256) : EReal := if (h : ℕ) = 0 then 0 else aff mu f h w (-1) 0
/-- The affinity downwards, zero in the last row. -/
def affD {C : ℕ} (mu : EReal) (f : Img C) (h w : Fin 256) : EReal := if (h : ℕ) = 255 then 0 else aff mu f h w 1 0
/-- The affinity to the left, zero in the first column. -/
def affL {C : ℕ} (mu : EReal) (f : Img C) (h w : Fin 256) : EReal := if (w : ℕ) = 0 then 0 else aff mu f h w 0 (-1)
/-- The affinity to the right, zero in the last column. -/
def affR {C : ℕ} (mu : EReal) (f : Img C) (h w : Fin 256) : EReal := if (w : ℕ) = 255 then 0 else aff mu f h w 0 1

/-- The five channels: up, down, left, right and their sum. -/
def affCh {C : ℕ} (mu : EReal) (f : Img C) (j : Fin 5) (h w : Fin 256) : EReal :=
  if (j : ℕ) = 0 then affU mu f h w else if (j : ℕ) = 1 then affD mu f h w else if (j : ℕ) = 2 then affL mu f h w
  else if (j : ℕ) = 3 then affR mu f h w else affU mu f h w + affD mu f h w + affL mu f h w + affR mu f h w

end Cert.Mine

end
-- ==== Proof.RefAff.lean ====
/-
  The reference's affinity at an index.
-/
module

public import proofs.«01_k».proof.Proof.RefConv
public import proofs.«01_k».proof.Proof.AffMath
public import Idealize.ShloMosaic.Lib.Routing.OpsSet
public import Idealize.ShloMosaic.Lib.Routing.OpsPair

@[expose] public section

set_option maxRecDepth 16384

noncomputable section

namespace Cert.ReferenceIdeal.Mine

open Cert.ReferenceIdeal Cert.ReferenceIdeal.Gen Cert.Mine
open Idealize.ShloMosaic Idealize.ShloMosaic.Routing

/-- An entry of the zero extension inside the image, by the coordinates' values. -/
theorem ext_of {C : ℕ} (x : Img C) (c : Fin C) (h w : ℤ) (h' w' : Fin 256) (e : h = (h' : ℕ)) (e' : w = (w' : ℕ)) : ext x c h w = x c h' w' := by
  subst e e'; exact ext_fin x c h' w'

/-- The zero extension outside the image. -/
theorem ext_out {C : ℕ} (x : Img C) (c : Fin C) (h w : ℤ) (e : ¬((0 ≤ h ∧ h < 256) ∧ (0 ≤ w ∧ w < 256))) : ext x c h w = 0 := by
  unfold ext; rw [dif_neg e]

/-- The features one row up. -/
theorem nu_at (x : Vec Ideal S4x32x258x258 .f32) (k : Vec Ideal S32x32x3x3 .f32) (b : Vec Ideal S32 .f32) (n : Fin 4) (c : Fin 32) (h w : Fin 256) :
    r_v237 (r_v236 x k b) (constantI S_ 32 0#32) (ix4 n c h w) = ext (fun c h w => r_v235 x k b (ix4 n c h w)) c ((h : ℕ) + (-1)) ((w : ℕ) + 0) := by
  unfold r_v236
  generalize r_v235 x k b = y
  pointwise [r_v237]
  split
  · next q => rw [ext_of (h' := ⟨(h : ℕ) - 1, by omega⟩) (w' := w) (e := by simp; omega) (e' := by simp)]
              all_goals first | rfl | (simp; done) | (congr 1; done) | skip
  · next q => rw [ext_out _ _ _ _ (by omega)]; exact sitofp_zero

/-- The features one row down. -/
theorem nd_at (y : Vec Ideal S4x32x256x256 .f32) (n : Fin 4) (c : Fin 32) (h w : Fin 256) :
    r_v239 (r_v238 y) (constantI S_ 32 0#32) (ix4 n c h w) = ext (fun c h w => y (ix4 n c h w)) c ((h : ℕ) + 1) ((w : ℕ) + 0) := by
  pointwise [r_v239, r_v238]
  split
  · next q => rw [ext_of (h' := ⟨1 + (h : ℕ), by omega⟩) (w' := w) (e := by push_cast; omega) (e' := by simp)]
              all_goals first | rfl | (simp; done) | (congr 1; done) | skip
  · next q => rw [ext_out _ _ _ _ (by omega)]; exact sitofp_zero

/-- The features one column left. -/
theorem nl_at (y : Vec Ideal S4x32x256x256 .f32) (n : Fin 4) (c : Fin 32) (h w : Fin 256) :
    r_v241 (r_v240 y) (constantI S_ 32 0#32) (ix4 n c h w) = ext (fun c h w => y (ix4 n c h w)) c ((h : ℕ) + 0) ((w : ℕ) + (-1)) := by
  pointwise [r_v241, r_v240]
  split
  · next q => rw [ext_of (w' := ⟨(w : ℕ) - 1, by omega⟩) (h' := h) (e' := by simp; omega) (e := by simp)]
              all_goals first | rfl | (simp; done) | (congr 1; done) | skip
  · next q => rw [ext_out _ _ _ _ (by omega)]; exact sitofp_zero

/-- The features one column right. -/
theorem nr_at (y : Vec Ideal S4x32x256x256 .f32) (n : Fin 4) (c : Fin 32) (h w : Fin 256) :
    r_v243 (r_v242 y) (constantI S_ 32 0#32) (ix4 n c h w) = ext (fun c h w => y (ix4 n c h w)) c ((h : ℕ) + 0) ((w : ℕ) + 1) := by
  pointwise [r_v243, r_v242]
  split
  · next q => rw [ext_of (w' := ⟨1 + (w : ℕ), by omega⟩) (h' := h) (e' := by push_cast; omega) (e := by simp)]
              all_goals first | rfl | (simp; done) | (congr 1; done) | skip
  · next q => rw [ext_out _ _ _ _ (by omega)]; exact sitofp_zero

/-- The affinity of the features and a displaced copy of them. -/
theorem aff_at (f g : Vec Ideal S4x32x256x256 .f32) (mu : Vec Ideal S_ .f32) (n : Fin 4) (z : Fin 1) (h w : Fin 256) (dh dw : ℤ)
    (hg : ∀ c, g (ix4 n c h w) = ext (fun c h w => f (ix4 n c h w)) c ((h : ℕ) + dh) ((w : ℕ) + dw)) :
    r_v251 f g mu (ix4 n z h w) = aff (mu ix0) (fun c h w => f (ix4 n c h w)) (h : ℕ) (w : ℕ) dh dw := by
  pointwise [r_v251]
  simp only [hg, aff, Cert.Mine.dist, ext_fin]

/-- The second affinity is the first's function. -/
theorem r_v259_eq (f g : Vec Ideal S4x32x256x256 .f32) (mu : Vec Ideal S_ .f32) : r_v259 f g mu = r_v251 f g mu := rfl
/-- The third affinity is the first's function. -/
theorem r_v267_eq (f g : Vec Ideal S4x32x256x256 .f32) (mu : Vec Ideal S_ .f32) : r_v267 f g mu = r_v251 f g mu := rfl
/-- The fourth affinity is the first's function. -/
theorem r_v275_eq (f g : Vec Ideal S4x32x256x256 .f32) (mu : Vec Ideal S_ .f32) : r_v275 f g mu = r_v251 f g mu := rfl

/-- Where an update of a row lands. -/
theorem lands_row (i : IVec S1 32) (k : S4x1x256.Idx) (n : Fin 4) (z : Fin 1) (h w : Fin 256) :
    scatter_S4x1x256x256_S1_S4x1x256_012_2_2_0.resultIdx? k i = some (ix4 n z h w)
      ↔ ((k 0 : Fin 4) : ℕ) = (n : ℕ) ∧ ((k 2 : Fin 256) : ℕ) = (w : ℕ) ∧ (i (ix1 0)).toInt = ((h : ℕ) : ℤ) := by
  rw [resultIdx?_eq_some]
  have s0 : scatter_S4x1x256x256_S1_S4x1x256_012_2_2_0.start k i 0 = 0 := rfl
  have s1 : scatter_S4x1x256x256_S1_S4x1x256_012_2_2_0.start k i 1 = 0 := rfl
  have s2 : scatter_S4x1x256x256_S1_S4x1x256_012_2_2_0.start k i 2 = (i (ix1 0)).toInt := by
    show (i _).toInt = _
    congr 2; funext a; fin_cases a; rfl
  have s3 : scatter_S4x1x256x256_S1_S4x1x256_012_2_2_0.start k i 3 = 0 := rfl
  have w0 : scatter_S4x1x256x256_S1_S4x1x256_012_2_2_0.window k 0 = ((k 0 : Fin 4) : ℕ) := rfl
  have w1 : scatter_S4x1x256x256_S1_S4x1x256_012_2_2_0.window k 1 = ((k 1 : Fin 1) : ℕ) := rfl
  have w2 : scatter_S4x1x256x256_S1_S4x1x256_012_2_2_0.window k 2 = 0 := rfl
  have w3 : scatter_S4x1x256x256_S1_S4x1x256_012_2_2_0.window k 3 = ((k 2 : Fin 256) : ℕ) := rfl
  have k1 : ((k 1 : Fin 1) : ℕ) < 1 := (k 1 : Fin 1).isLt
  constructor
  · intro q
    have q0 := q 0; have q2 := q 2; have q3 := q 3
    rw [s0, w0] at q0; rw [s2, w2] at q2; rw [s3, w3] at q3
    refine ⟨?_, ?_, ?_⟩
    · have : ((ix4 n z h w : S4x1x256x256.Idx) 0).val = (n : ℕ) := rfl
      omega
    · have : ((ix4 n z h w : S4x1x256x256.Idx) 3).val = (w : ℕ) := rfl
      omega
    · have : ((ix4 n z h w : S4x1x256x256.Idx) 2).val = (h : ℕ) := rfl
      omega
  · rintro ⟨q0, q2, q3⟩ a
    have hz := z.isLt
    fin_cases a
    · show scatter_S4x1x256x256_S1_S4x1x256_012_2_2_0.start k i 0 + (scatter_S4x1x256x256_S1_S4x1x256_012_2_2_0.window k 0 : ℤ) = ((n : ℕ) : ℤ)
      rw [s0, w0]; omega
    · show scatter_S4x1x256x256_S1_S4x1x256_012_2_2_0.start k i 1 + (scatter_S4x1x256x256_S1_S4x1x256_012_2_2_0.window k 1 : ℤ) = ((z : ℕ) : ℤ)
      rw [s1, w1]; omega
    · show scatter_S4x1x256x256_S1_S4x1x256_012_2_2_0.start k i 2 + (scatter_S4x1x256x256_S1_S4x1x256_012_2_2_0.window k 2 : ℤ) = ((h : ℕ) : ℤ)
      rw [s2, w2]; omega
    · show scatter_S4x1x256x256_S1_S4x1x256_012_2_2_0.start k i 3 + (scatter_S4x1x256x256_S1_S4x1x256_012_2_2_0.window k 3 : ℤ) = ((w : ℕ) : ℤ)
      rw [s3, w3]; omega

/-- Setting a row to zero. -/
theorem set_row (x : Vec Ideal S4x1x256x256 .f32) (i : IVec S1 32) (u : Vec Ideal S4x1x256 .f32) (hu : ∀ k, u k = (0 : EReal)) (n : Fin 4) (z : Fin 1) (h w : Fin 256) :
    Host.scatter scatter_S4x1x256x256_S1_S4x1x256_012_2_2_0 (fun _ b => b) x i u (ix4 n z h w)
      = if (i (ix1 0)).toInt = ((h : ℕ) : ℤ) then (0 : EReal) else x (ix4 n z h w) := by
  split
  · next q =>
    exact scatter_set_hit _ x i u _ 0 (fun k _ => hu k) (ix3 n 0 w) ((lands_row i _ n z h w).2 ⟨rfl, rfl, q⟩)
  · next q => exact scatter_set_miss _ x i u _ fun k e => q ((lands_row i k n z h w).1 e).2.2

/-- Where an update of a column lands. -/
theorem lands_col (i : IVec S1 32) (k : S4x1x256.Idx) (n : Fin 4) (z : Fin 1) (h w : Fin 256) :
    scatter_S4x1x256x256_S1_S4x1x256_012_3_3_0.resultIdx? k i = some (ix4 n z h w)
      ↔ ((k 0 : Fin 4) : ℕ) = (n : ℕ) ∧ ((k 2 : Fin 256) : ℕ) = (h : ℕ) ∧ (i (ix1 0)).toInt = ((w : ℕ) : ℤ) := by
  rw [resultIdx?_eq_some]
  have s0 : scatter_S4x1x256x256_S1_S4x1x256_012_3_3_0.start k i 0 = 0 := rfl
  have s1 : scatter_S4x1x256x256_S1_S4x1x256_012_3_3_0.start k i 1 = 0 := rfl
  have s3 : scatter_S4x1x256x256_S1_S4x1x256_012_3_3_0.start k i 3 = (i (ix1 0)).toInt := by
    show (i _).toInt = _
    congr 2; funext a; fin_cases a; rfl
  have s2 : scatter_S4x1x256x256_S1_S4x1x256_012_3_3_0.start k i 2 = 0 := rfl
  have w0 : scatter_S4x1x256x256_S1_S4x1x256_012_3_3_0.window k 0 = ((k 0 : Fin 4) : ℕ) := rfl
  have w1 : scatter_S4x1x256x256_S1_S4x1x256_012_3_3_0.window k 1 = ((k 1 : Fin 1) : ℕ) := rfl
  have w3 : scatter_S4x1x256x256_S1_S4x1x256_012_3_3_0.window k 3 = 0 := rfl
  have w2 : scatter_S4x1x256x256_S1_S4x1x256_012_3_3_0.window k 2 = ((k 2 : Fin 256) : ℕ) := rfl
  have k1 : ((k 1 : Fin 1) : ℕ) < 1 := (k 1 : Fin 1).isLt
  constructor
  · intro q
    have q0 := q 0; have q2 := q 2; have q3 := q 3
    rw [s0, w0] at q0; rw [s2, w2] at q2; rw [s3, w3] at q3
    refine ⟨?_, ?_, ?_⟩
    · have : ((ix4 n z h w : S4x1x256x256.Idx) 0).val = (n : ℕ) := rfl
      omega
    · have : ((ix4 n z h w : S4x1x256x256.Idx) 2).val = (h : ℕ) := rfl
      omega
    · have : ((ix4 n z h w : S4x1x256x256.Idx) 3).val = (w : ℕ) := rfl
      omega
  · rintro ⟨q0, q2, q3⟩ a
    have hz := z.isLt
    fin_cases a
    · show scatter_S4x1x256x256_S1_S4x1x256_012_3_3_0.start k i 0 + (scatter_S4x1x256x256_S1_S4x1x256_012_3_3_0.window k 0 : ℤ) = ((n : ℕ) : ℤ)
      rw [s0, w0]; omega
    · show scatter_S4x1x256x256_S1_S4x1x256_012_3_3_0.start k i 1 + (scatter_S4x1x256x256_S1_S4x1x256_012_3_3_0.window k 1 : ℤ) = ((z : ℕ) : ℤ)
      rw [s1, w1]; omega
    · show scatter_S4x1x256x256_S1_S4x1x256_012_3_3_0.start k i 2 + (scatter_S4x1x256x256_S1_S4x1x256_012_3_3_0.window k 2 : ℤ) = ((h : ℕ) : ℤ)
      rw [s2, w2]; omega
    · show scatter_S4x1x256x256_S1_S4x1x256_012_3_3_0.start k i 3 + (scatter_S4x1x256x256_S1_S4x1x256_012_3_3_0.window k 3 : ℤ) = ((w : ℕ) : ℤ)
      rw [s3, w3]; omega

/-- Setting a column to zero. -/
theorem set_col (x : Vec Ideal S4x1x256x256 .f32) (i : IVec S1 32) (u : Vec Ideal S4x1x256 .f32) (hu : ∀ k, u k = (0 : EReal)) (n : Fin 4) (z : Fin 1) (h w : Fin 256) :
    Host.scatter scatter_S4x1x256x256_S1_S4x1x256_012_3_3_0 (fun _ b => b) x i u (ix4 n z h w)
      = if (i (ix1 0)).toInt = ((w : ℕ) : ℤ) then (0 : EReal) else x (ix4 n z h w) := by
  split
  · next q =>
    exact scatter_set_hit _ x i u _ 0 (fun k _ => hu k) (ix3 n 0 h) ((lands_col i _ n z h w).2 ⟨rfl, rfl, q⟩)
  · next q => exact scatter_set_miss _ x i u _ fun k e => q ((lands_col i k n z h w).1 e).2.2

/-- The zero updates are zero. -/
theorem zero_upd (k : S4x1x256.Idx) :
    (broadcastInDim S4x1x256 ![] bcast_S_S4x1x256 (constant (F := Ideal) S_ .f32 0x00000000#32) : Vec Ideal S4x1x256 .f32) k = (0 : EReal) := by
  idx_vars k
  pointwise []

/-- The reference's five affinity channels at an index, of the features. -/
theorem r_v291_at (a b c d : Vec Ideal S4x1x256x256 .f32) (mu : EReal) (f : Fin 4 → Img 32)
    (ha : ∀ n z h w, a (ix4 n z h w) = aff mu (f n) (h : ℕ) (w : ℕ) (-1) 0)
    (hb : ∀ n z h w, b (ix4 n z h w) = aff mu (f n) (h : ℕ) (w : ℕ) 1 0)
    (hc : ∀ n z h w, c (ix4 n z h w) = aff mu (f n) (h : ℕ) (w : ℕ) 0 (-1))
    (hd : ∀ n z h w, d (ix4 n z h w) = aff mu (f n) (h : ℕ) (w : ℕ) 0 1) (n : Fin 4) (j : Fin 5) (h w : Fin 256) :
    r_v291 (r_v278 a) (r_v281 b) (r_v284 c) (r_v287 d) (r_v290 a b c d) (ix4 n j h w) = affCh mu (f n) j h w := by
  have ea : ∀ n z h w, r_v278 a (ix4 n z h w) = affU mu (f n) h w := fun n z h w => by
    unfold r_v278
    rw [set_row _ _ _ zero_upd, ha]
    have e0 : (0#32 : BitVec 32).toInt = 0 := rfl
    have e1 : (255#32 : BitVec 32).toInt = 255 := rfl
    pointwise [affU]
    simp only [e0, e1]
    split_ifs <;> first | rfl | (exfalso; omega)
  have eb : ∀ n z h w, r_v281 b (ix4 n z h w) = affD mu (f n) h w := fun n z h w => by
    unfold r_v281
    rw [set_row _ _ _ zero_upd, hb]
    have e0 : (0#32 : BitVec 32).toInt = 0 := rfl
    have e1 : (255#32 : BitVec 32).toInt = 255 := rfl
    pointwise [affD]
    simp only [e0, e1]
    split_ifs <;> first | rfl | (exfalso; omega)
  have ec : ∀ n z h w, r_v284 c (ix4 n z h w) = affL mu (f n) h w := fun n z h w => by
    unfold r_v284
    rw [set_col _ _ _ zero_upd, hc]
    have e0 : (0#32 : BitVec 32).toInt = 0 := rfl
    have e1 : (255#32 : BitVec 32).toInt = 255 := rfl
    pointwise [affL]
    simp only [e0, e1]
    split_ifs <;> first | rfl | (exfalso; omega)
  have ed : ∀ n z h w, r_v287 d (ix4 n z h w) = affR mu (f n) h w := fun n z h w => by
    unfold r_v287
    rw [set_col _ _ _ zero_upd, hd]
    have e0 : (0#32 : BitVec 32).toInt = 0 := rfl
    have e1 : (255#32 : BitVec 32).toInt = 255 := rfl
    pointwise [affR]
    simp only [e0, e1]
    split_ifs <;> first | rfl | (exfalso; omega)
  have ee : ∀ n z h w, r_v290 a b c d (ix4 n z h w) = affU mu (f n) h w + affD mu (f n) h w + affL mu (f n) h w + affR mu (f n) h w := fun n z h w => by
    unfold r_v290
    rw [← ea n z, ← eb n z, ← ec n z, ← ed n z]; rfl
  generalize r_v278 a = a' at *
  generalize r_v281 b = b' at *
  generalize r_v284 c = c' at *
  generalize r_v287 d = d' at *
  generalize r_v290 a b c d = e' at *
  pointwise [r_v291, affCh]
  simp only [ea, eb, ec, ed, ee]
  split_ifs <;> first | rfl | (exfalso; omega)

end Cert.ReferenceIdeal.Mine

end
-- ==== Proof.Spec.lean ====
/-
  The variance and the affinity as functions of the arguments.
-/
module

public import proofs.«01_k».proof.Proof.AffMath

@[expose] public section

noncomputable section

namespace Cert.Mine

open Idealize.ShloMosaic

/-- The four-channel image: the guide's three channels and the upsampled source. -/
def img (a0 : Vec Ideal ⟨4, ![4, 3, 256, 256]⟩ .f32) (a3 : Vec Ideal ⟨4, ![4, 1, 256, 256]⟩ .f32) (n : Fin 4) : Img 4 :=
  fun c h w => if hc : (c : ℕ) < 3 then a0 (ix4 n ⟨c, hc⟩ h w) else a3 (ix4 n 0 h w)

/-- A weight array by its four coordinates. -/
def ker {O C : ℕ} (k : Vec Ideal ⟨4, ![O, C, 3, 3]⟩ .f32) : Fin O → Fin C → Fin 3 → Fin 3 → EReal := fun o c dy dx => k (ix4 o c dy dx)

/-- A bias vector by its coordinate. -/
def bia {O : ℕ} (b : Vec Ideal ⟨1, ![O]⟩ .f32) : Fin O → EReal := fun o => b (ix1 o)

/-- The features: three layers. -/
def feat (x : Img 4) (k1 : Fin 32 → Fin 4 → Fin 3 → Fin 3 → EReal) (b1 : Fin 32 → EReal) (k2 : Fin 32 → Fin 32 → Fin 3 → Fin 3 → EReal) (b2 : Fin 32 → EReal)
    (k3 : Fin 32 → Fin 32 → Fin 3 → Fin 3 → EReal) (b3 : Fin 32 → EReal) : Img 32 :=
  layer k3 b3 (relu (layer k2 b2 (relu (layer k1 b1 x))))

end Cert.Mine

end
-- ==== Proof.RefVal.lean ====
/-
  The reference's variance and affinity as functions of its arguments.
-/
module

public import proofs.«01_k».proof.Proof.RefAff
public import proofs.«01_k».proof.Proof.Spec

@[expose] public section

set_option maxRecDepth 16384

noncomputable section

namespace Cert.ReferenceIdeal.Mine

open Cert.ReferenceIdeal Cert.ReferenceIdeal.Gen Cert.Mine
open Idealize.ShloMosaic

/-- The concatenated image. -/
theorem r_v62_at (a0 : Vec Ideal S4x3x256x256 .f32) (a3 : Vec Ideal S4x1x256x256 .f32) (n : Fin 4) (c : Fin 4) (h w : Fin 256) :
    r_v62 a0 a3 (ix4 n c h w) = img a0 a3 n c h w := by
  pointwise [r_v62, img]
  split
  · rfl
  · next q => exact congrArg a3 (congrArg (fun z => ix4 n z h w) (Fin.ext (by simp; omega)))

/-- The positive part at an index. -/
theorem r_v120_at (x : Vec Ideal S4x32x256x256 .f32) (n : Fin 4) (c : Fin 32) (h w : Fin 256) :
    r_v120 x (ix4 n c h w) = max (x (ix4 n c h w)) 0 := by
  pointwise [r_v120]
  try rfl

/-- The second positive part is the first's function. -/
theorem r_v178_eq (x : Vec Ideal S4x32x256x256 .f32) : r_v178 x = r_v120 x := rfl

/-- The reference's features of a launch state. -/
def featR (V : Valuation τ sig (Elt Ideal)) (n : Fin 4) : Img 32 :=
  feat (img (V (Proc.devRef .tc main_arg0)) (V (Proc.devRef .tc main_arg3)) n) (ker (V (Proc.devRef .tc main_arg6))) (bia (V (Proc.devRef .tc main_arg7)))
    (ker (V (Proc.devRef .tc main_arg8))) (bia (V (Proc.devRef .tc main_arg9))) (ker (V (Proc.devRef .tc main_arg10))) (bia (V (Proc.devRef .tc main_arg11)))

/-- The reference's variance at an index. -/
theorem R_v57_at (V : Valuation τ sig (Elt Ideal)) (n : Fin 4) (o : Fin 1) (h w : Fin 256) :
    R_v57 V (ix4 n o h w) = conv (ker (V (Proc.devRef .tc main_arg4))) (bia (V (Proc.devRef .tc main_arg5)))
      (img (V (Proc.devRef .tc main_arg0)) (V (Proc.devRef .tc main_arg3)) n) o (h : ℕ) (w : ℕ) := by
  have e : R_v57 V = r_v57 (r_v1 (R_v62 V) (constantI S_ 32 0#32)) (V (Proc.devRef .tc main_arg4)) (V (Proc.devRef .tc main_arg5)) := rfl
  rw [e, conv41_at]
  congr 1
  funext c h w
  exact r_v62_at _ _ n c h w

/-- The reference's features at an index. -/
theorem R_v235_at (V : Valuation τ sig (Elt Ideal)) (n : Fin 4) (o : Fin 32) (h w : Fin 256) : R_v235 V (ix4 n o h w) = featR V n o h w := by
  have e : R_v235 V = r_v177 (r_v121 (R_v178 V) (constantI S_ 32 0#32)) (V (Proc.devRef .tc main_arg10)) (V (Proc.devRef .tc main_arg11)) := rfl
  have e' : R_v177 V = r_v177 (r_v121 (R_v120 V) (constantI S_ 32 0#32)) (V (Proc.devRef .tc main_arg8)) (V (Proc.devRef .tc main_arg9)) := rfl
  have e'' : R_v119 V = r_v119 (r_v1 (R_v62 V) (constantI S_ 32 0#32)) (V (Proc.devRef .tc main_arg6)) (V (Proc.devRef .tc main_arg7)) := rfl
  have h1 : ∀ c h w, R_v120 V (ix4 n c h w) = relu (layer (ker (V (Proc.devRef .tc main_arg6))) (bia (V (Proc.devRef .tc main_arg7)))
      (img (V (Proc.devRef .tc main_arg0)) (V (Proc.devRef .tc main_arg3)) n)) c h w := fun c h w => by
    refine (r_v120_at (R_v119 V) n c h w).trans ?_
    rw [e'', conv432_at]
    unfold relu layer
    congr 2
    funext c h w
    exact r_v62_at _ _ n c h w
  have h2 : ∀ c h w, R_v178 V (ix4 n c h w) = relu (layer (ker (V (Proc.devRef .tc main_arg8))) (bia (V (Proc.devRef .tc main_arg9)))
      (relu (layer (ker (V (Proc.devRef .tc main_arg6))) (bia (V (Proc.devRef .tc main_arg7)))
      (img (V (Proc.devRef .tc main_arg0)) (V (Proc.devRef .tc main_arg3)) n)))) c h w := fun c h w => by
    refine (r_v120_at (R_v177 V) n c h w).trans ?_
    rw [e', conv3232_at]
    unfold relu layer
    congr 2
    funext c h w
    exact h1 c h w
  rw [e, conv3232_at]
  unfold featR feat layer
  congr 1
  funext c h w
  exact h2 c h w

/-- The width of the kernel as the reference computes it. -/
def muR (V : Valuation τ sig (Elt Ideal)) : EReal := Ideal.exp ((V (Proc.devRef .tc main_arg13) : Vec Ideal S1 .f32) (ix1 0))

/-- The reference's width of the kernel. -/
theorem R_v59_at (V : Valuation τ sig (Elt Ideal)) : R_v59 V ix0 = muR V := by
  unfold R_v59 muR
  generalize (V (Proc.devRef .tc main_arg13) : Vec Ideal S1 .f32) = a
  pointwise [r_v59]

/-- The reference's affinity at an index. -/
theorem R_v291_at (V : Valuation τ sig (Elt Ideal)) (n : Fin 4) (j : Fin 5) (h w : Fin 256) :
    R_v291 V (ix4 n j h w) = affCh (muR V) (featR V n) j h w := by
  have hf : ∀ n, (fun c h w => R_v235 V (ix4 n c h w)) = featR V n := fun n => by funext c h w; exact R_v235_at V n c h w
  have A : ∀ (g : Vec Ideal S4x32x256x256 .f32) (dh dw : ℤ)
      (hg : ∀ n c h w, g (ix4 n c h w) = ext (fun c h w => R_v235 V (ix4 n c h w)) c ((h : ℕ) + dh) ((w : ℕ) + dw)) (n : Fin 4) (z : Fin 1) (h w : Fin 256),
      r_v251 (R_v235 V) g (R_v59 V) (ix4 n z h w) = aff (muR V) (featR V n) (h : ℕ) (w : ℕ) dh dw := fun g dh dw hg n z h w => by
    rw [aff_at (R_v235 V) g (R_v59 V) n z h w dh dw (hg n · h w), R_v59_at, hf]
  exact r_v291_at (R_v251 V) (R_v259 V) (R_v267 V) (R_v275 V) (muR V) (featR V)
    (A (R_v237 V) _ _ fun n c h w => nu_at (R_v179 V) _ _ n c h w)
    (A (R_v239 V) _ _ fun n c h w => nd_at (R_v235 V) n c h w)
    (A (R_v241 V) _ _ fun n c h w => nl_at (R_v235 V) n c h w)
    (A (R_v243 V) _ _ fun n c h w => nr_at (R_v235 V) n c h w) n j h w

end Cert.ReferenceIdeal.Mine

end
-- ==== Proof.RefRead.lean ====
/-
  What each piece of the reference's host operations leaves in the arrays that later pieces read.
-/
module

public import proofs.«01_k».proof.Proof.RefDefs
public import proofs.«01_k».proof.Proof.Gen.ReferenceIdeal.Run

@[expose] public section

set_option maxRecDepth 16384

noncomputable section

namespace Cert.ReferenceIdeal.Mine

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-- A piece of the operations of `hostOps0_20`, in order. -/
abbrev part20_a : List (HloOp τ sig (Elt F)) :=
  ( StableHlo.binary main_v235 main_v237 main_v244 (subf : (⟨S4x32x256x256, .f32⟩ : BufTy).Contents (Elt F) → (⟨S4x32x256x256, .f32⟩ : BufTy).Contents (Elt F) → (⟨S4x32x256x256, .f32⟩ : BufTy).Contents (Elt F))
  :: StableHlo.binary main_v244 main_v244 main_v245 (mulf : (⟨S4x32x256x256, .f32⟩ : BufTy).Contents (Elt F) → (⟨S4x32x256x256, .f32⟩ : BufTy).Contents (Elt F) → (⟨S4x32x256x256, .f32⟩ : BufTy).Contents (Elt F))
  :: StableHlo.nullary main_cst (constant S_ .f32 0x00000000#32)
  :: StableHlo.binary main_v245 main_cst main_v246 ((fun x v => Host.reduceAdd x v reducesTo_S4x32x256x256_S4x256x256_d1 h_S_) : (⟨S4x32x256x256, .f32⟩ : BufTy).Contents (Elt F) → (⟨S_, .f32⟩ : BufTy).Contents (Elt F) → (⟨S4x256x256, .f32⟩ : BufTy).Contents (Elt F))
  :: StableHlo.unary main_v246 main_v247 (broadcastInDim S4x1x256x256 ![0, 2, 3] bcast_S4x256x256_S4x1x256x256_0_2_3 : (⟨S4x256x256, .f32⟩ : BufTy).Contents (Elt F) → (⟨S4x1x256x256, .f32⟩ : BufTy).Contents (Elt F))
  :: StableHlo.unary main_v247 main_v248 (Host.negf : (⟨S4x1x256x256, .f32⟩ : BufTy).Contents (Elt F) → (⟨S4x1x256x256, .f32⟩ : BufTy).Contents (Elt F))
  :: StableHlo.unary main_v59 main_v249 (broadcastInDim S4x1x256x256 ![] bcast_S_S4x1x256x256 : (⟨S_, .f32⟩ : BufTy).Contents (Elt F) → (⟨S4x1x256x256, .f32⟩ : BufTy).Contents (Elt F))
  :: StableHlo.binary main_v248 main_v249 main_v250 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v250 main_v251 (Host.exp : (⟨S4x1x256x256, .f32⟩ : BufTy).Contents (Elt F) → (⟨S4x1x256x256, .f32⟩ : BufTy).Contents (Elt F))
  :: [] )

/-- The references the operations of `part20_a` write, in order. -/
abbrev part20_a_W : List (Ref sig .tc) := [main_v244, main_v245, main_cst, main_v246, main_v247, main_v248, main_v249, main_v250, main_v251]
/-- The operations of `part20_a` write only these. -/
theorem part20_a_writes : (part20_a : List (HloOp τ sig (Elt F))).Forall fun op => op.writes ⊆ (part20_a_W.map (Proc.devRef (τ := τ) .tc)).toFinset :=
  StableHlo.forall_writes_sub_of_map rfl

/-- A piece of the operations of `hostOps0_20`, in order. -/
abbrev part20_b : List (HloOp τ sig (Elt F)) :=
  ( StableHlo.binary main_v235 main_v239 main_v252 (subf : (⟨S4x32x256x256, .f32⟩ : BufTy).Contents (Elt F) → (⟨S4x32x256x256, .f32⟩ : BufTy).Contents (Elt F) → (⟨S4x32x256x256, .f32⟩ : BufTy).Contents (Elt F))
  :: StableHlo.binary main_v252 main_v252 main_v253 (mulf : (⟨S4x32x256x256, .f32⟩ : BufTy).Contents (Elt F) → (⟨S4x32x256x256, .f32⟩ : BufTy).Contents (Elt F) → (⟨S4x32x256x256, .f32⟩ : BufTy).Contents (Elt F))
  :: StableHlo.nullary main_cst_7 (constant S_ .f32 0x00000000#32)
  :: StableHlo.binary main_v253 main_cst_7 main_v254 ((fun x v => Host.reduceAdd x v reducesTo_S4x32x256x256_S4x256x256_d1 h_S_) : (⟨S4x32x256x256, .f32⟩ : BufTy).Contents (Elt F) → (⟨S_, .f32⟩ : BufTy).Contents (Elt F) → (⟨S4x256x256, .f32⟩ : BufTy).Contents (Elt F))
  :: StableHlo.unary main_v254 main_v255 (broadcastInDim S4x1x256x256 ![0, 2, 3] bcast_S4x256x256_S4x1x256x256_0_2_3 : (⟨S4x256x256, .f32⟩ : BufTy).Contents (Elt F) → (⟨S4x1x256x256, .f32⟩ : BufTy).Contents (Elt F))
  :: StableHlo.unary main_v255 main_v256 (Host.negf : (⟨S4x1x256x256, .f32⟩ : BufTy).Contents (Elt F) → (⟨S4x1x256x256, .f32⟩ : BufTy).Contents (Elt F))
  :: StableHlo.unary main_v59 main_v257 (broadcastInDim S4x1x256x256 ![] bcast_S_S4x1x256x256 : (⟨S_, .f32⟩ : BufTy).Contents (Elt F) → (⟨S4x1x256x256, .f32⟩ : BufTy).Contents (Elt F))
  :: StableHlo.binary main_v256 main_v257 main_v258 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v258 main_v259 (Host.exp : (⟨S4x1x256x256, .f32⟩ : BufTy).Contents (Elt F) → (⟨S4x1x256x256, .f32⟩ : BufTy).Contents (Elt F))
  :: [] )

/-- The references the operations of `part20_b` write, in order. -/
abbrev part20_b_W : List (Ref sig .tc) := [main_v252, main_v253, main_cst_7, main_v254, main_v255, main_v256, main_v257, main_v258, main_v259]
/-- The operations of `part20_b` write only these. -/
theorem part20_b_writes : (part20_b : List (HloOp τ sig (Elt F))).Forall fun op => op.writes ⊆ (part20_b_W.map (Proc.devRef (τ := τ) .tc)).toFinset :=
  StableHlo.forall_writes_sub_of_map rfl

/-- A piece of the operations of `hostOps0_20`, in order. -/
abbrev part20_c : List (HloOp τ sig (Elt F)) :=
  ( StableHlo.binary main_v235 main_v241 main_v260 (subf : (⟨S4x32x256x256, .f32⟩ : BufTy).Contents (Elt F) → (⟨S4x32x256x256, .f32⟩ : BufTy).Contents (Elt F) → (⟨S4x32x256x256, .f32⟩ : BufTy).Contents (Elt F))
  :: StableHlo.binary main_v260 main_v260 main_v261 (mulf : (⟨S4x32x256x256, .f32⟩ : BufTy).Contents (Elt F) → (⟨S4x32x256x256, .f32⟩ : BufTy).Contents (Elt F) → (⟨S4x32x256x256, .f32⟩ : BufTy).Contents (Elt F))
  :: StableHlo.nullary main_cst_8 (constant S_ .f32 0x00000000#32)
  :: StableHlo.binary main_v261 main_cst_8 main_v262 ((fun x v => Host.reduceAdd x v reducesTo_S4x32x256x256_S4x256x256_d1 h_S_) : (⟨S4x32x256x256, .f32⟩ : BufTy).Contents (Elt F) → (⟨S_, .f32⟩ : BufTy).Contents (Elt F) → (⟨S4x256x256, .f32⟩ : BufTy).Contents (Elt F))
  :: StableHlo.unary main_v262 main_v263 (broadcastInDim S4x1x256x256 ![0, 2, 3] bcast_S4x256x256_S4x1x256x256_0_2_3 : (⟨S4x256x256, .f32⟩ : BufTy).Contents (Elt F) → (⟨S4x1x256x256, .f32⟩ : BufTy).Contents (Elt F))
  :: StableHlo.unary main_v263 main_v264 (Host.negf : (⟨S4x1x256x256, .f32⟩ : BufTy).Contents (Elt F) → (⟨S4x1x256x256, .f32⟩ : BufTy).Contents (Elt F))
  :: StableHlo.unary main_v59 main_v265 (broadcastInDim S4x1x256x256 ![] bcast_S_S4x1x256x256 : (⟨S_, .f32⟩ : BufTy).Contents (Elt F) → (⟨S4x1x256x256, .f32⟩ : BufTy).Contents (Elt F))
  :: StableHlo.binary main_v264 main_v265 main_v266 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v266 main_v267 (Host.exp : (⟨S4x1x256x256, .f32⟩ : BufTy).Contents (Elt F) → (⟨S4x1x256x256, .f32⟩ : BufTy).Contents (Elt F))
  :: [] )

/-- The references the operations of `part20_c` write, in order. -/
abbrev part20_c_W : List (Ref sig .tc) := [main_v260, main_v261, main_cst_8, main_v262, main_v263, main_v264, main_v265, main_v266, main_v267]
/-- The operations of `part20_c` write only these. -/
theorem part20_c_writes : (part20_c : List (HloOp τ sig (Elt F))).Forall fun op => op.writes ⊆ (part20_c_W.map (Proc.devRef (τ := τ) .tc)).toFinset :=
  StableHlo.forall_writes_sub_of_map rfl

/-- A piece of the operations of `hostOps0_20`, in order. -/
abbrev part20_d : List (HloOp τ sig (Elt F)) :=
  ( StableHlo.binary main_v235 main_v243 main_v268 (subf : (⟨S4x32x256x256, .f32⟩ : BufTy).Contents (Elt F) → (⟨S4x32x256x256, .f32⟩ : BufTy).Contents (Elt F) → (⟨S4x32x256x256, .f32⟩ : BufTy).Contents (Elt F))
  :: StableHlo.binary main_v268 main_v268 main_v269 (mulf : (⟨S4x32x256x256, .f32⟩ : BufTy).Contents (Elt F) → (⟨S4x32x256x256, .f32⟩ : BufTy).Contents (Elt F) → (⟨S4x32x256x256, .f32⟩ : BufTy).Contents (Elt F))
  :: StableHlo.nullary main_cst_9 (constant S_ .f32 0x00000000#32)
  :: StableHlo.binary main_v269 main_cst_9 main_v270 ((fun x v => Host.reduceAdd x v reducesTo_S4x32x256x256_S4x256x256_d1 h_S_) : (⟨S4x32x256x256, .f32⟩ : BufTy).Contents (Elt F) → (⟨S_, .f32⟩ : BufTy).Contents (Elt F) → (⟨S4x256x256, .f32⟩ : BufTy).Contents (Elt F))
  :: StableHlo.unary main_v270 main_v271 (broadcastInDim S4x1x256x256 ![0, 2, 3] bcast_S4x256x256_S4x1x256x256_0_2_3 : (⟨S4x256x256, .f32⟩ : BufTy).Contents (Elt F) → (⟨S4x1x256x256, .f32⟩ : BufTy).Contents (Elt F))
  :: StableHlo.unary main_v271 main_v272 (Host.negf : (⟨S4x1x256x256, .f32⟩ : BufTy).Contents (Elt F) → (⟨S4x1x256x256, .f32⟩ : BufTy).Contents (Elt F))
  :: StableHlo.unary main_v59 main_v273 (broadcastInDim S4x1x256x256 ![] bcast_S_S4x1x256x256 : (⟨S_, .f32⟩ : BufTy).Contents (Elt F) → (⟨S4x1x256x256, .f32⟩ : BufTy).Contents (Elt F))
  :: StableHlo.binary main_v272 main_v273 main_v274 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v274 main_v275 (Host.exp : (⟨S4x1x256x256, .f32⟩ : BufTy).Contents (Elt F) → (⟨S4x1x256x256, .f32⟩ : BufTy).Contents (Elt F))
  :: [] )

/-- The references the operations of `part20_d` write, in order. -/
abbrev part20_d_W : List (Ref sig .tc) := [main_v268, main_v269, main_cst_9, main_v270, main_v271, main_v272, main_v273, main_v274, main_v275]
/-- The operations of `part20_d` write only these. -/
theorem part20_d_writes : (part20_d : List (HloOp τ sig (Elt F))).Forall fun op => op.writes ⊆ (part20_d_W.map (Proc.devRef (τ := τ) .tc)).toFinset :=
  StableHlo.forall_writes_sub_of_map rfl

/-- A piece of the operations of `hostOps0_20`, in order. -/
abbrev part20_e : List (HloOp τ sig (Elt F)) :=
  ( StableHlo.nullary main_c_10 (constantI S_ 32 0#32)
  :: StableHlo.unary main_c_10 main_v276 (broadcastInDim S1 ![] bcast_S_S1 : (⟨S_, .i32⟩ : BufTy).Contents (Elt F) → (⟨S1, .i32⟩ : BufTy).Contents (Elt F))
  :: StableHlo.nullary main_cst_11 (constant S_ .f32 0x00000000#32)
  :: StableHlo.unary main_cst_11 main_v277 (broadcastInDim S4x1x256 ![] bcast_S_S4x1x256 : (⟨S_, .f32⟩ : BufTy).Contents (Elt F) → (⟨S4x1x256, .f32⟩ : BufTy).Contents (Elt F))
  :: StableHlo.ternary main_v251 main_v276 main_v277 main_v278 ((fun x i u => Host.scatter scatter_S4x1x256x256_S1_S4x1x256_012_2_2_0 (fun _ b => b) x i u) : (⟨S4x1x256x256, .f32⟩ : BufTy).Contents (Elt F) → (⟨S1, .i32⟩ : BufTy).Contents (Elt F) → (⟨S4x1x256, .f32⟩ : BufTy).Contents (Elt F) → (⟨S4x1x256x256, .f32⟩ : BufTy).Contents (Elt F))
  :: StableHlo.nullary main_c_12 (constantI S_ 32 255#32)
  :: StableHlo.unary main_c_12 main_v279 (broadcastInDim S1 ![] bcast_S_S1 : (⟨S_, .i32⟩ : BufTy).Contents (Elt F) → (⟨S1, .i32⟩ : BufTy).Contents (Elt F))
  :: StableHlo.nullary main_cst_13 (constant S_ .f32 0x00000000#32)
  :: StableHlo.unary main_cst_13 main_v280 (broadcastInDim S4x1x256 ![] bcast_S_S4x1x256 : (⟨S_, .f32⟩ : BufTy).Contents (Elt F) → (⟨S4x1x256, .f32⟩ : BufTy).Contents (Elt F))
  :: StableHlo.ternary main_v259 main_v279 main_v280 main_v281 ((fun x i u => Host.scatter scatter_S4x1x256x256_S1_S4x1x256_012_2_2_0 (fun _ b => b) x i u) : (⟨S4x1x256x256, .f32⟩ : BufTy).Contents (Elt F) → (⟨S1, .i32⟩ : BufTy).Contents (Elt F) → (⟨S4x1x256, .f32⟩ : BufTy).Contents (Elt F) → (⟨S4x1x256x256, .f32⟩ : BufTy).Contents (Elt F))
  :: StableHlo.nullary main_c_14 (constantI S_ 32 0#32)
  :: StableHlo.unary main_c_14 main_v282 (broadcastInDim S1 ![] bcast_S_S1 : (⟨S_, .i32⟩ : BufTy).Contents (Elt F) → (⟨S1, .i32⟩ : BufTy).Contents (Elt F))
  :: StableHlo.nullary main_cst_15 (constant S_ .f32 0x00000000#32)
  :: StableHlo.unary main_cst_15 main_v283 (broadcastInDim S4x1x256 ![] bcast_S_S4x1x256 : (⟨S_, .f32⟩ : BufTy).Contents (Elt F) → (⟨S4x1x256, .f32⟩ : BufTy).Contents (Elt F))
  :: StableHlo.ternary main_v267 main_v282 main_v283 main_v284 ((fun x i u => Host.scatter scatter_S4x1x256x256_S1_S4x1x256_012_3_3_0 (fun _ b => b) x i u) : (⟨S4x1x256x256, .f32⟩ : BufTy).Contents (Elt F) → (⟨S1, .i32⟩ : BufTy).Contents (Elt F) → (⟨S4x1x256, .f32⟩ : BufTy).Contents (Elt F) → (⟨S4x1x256x256, .f32⟩ : BufTy).Contents (Elt F))
  :: StableHlo.nullary main_c_16 (constantI S_ 32 255#32)
  :: StableHlo.unary main_c_16 main_v285 (broadcastInDim S1 ![] bcast_S_S1 : (⟨S_, .i32⟩ : BufTy).Contents (Elt F) → (⟨S1, .i32⟩ : BufTy).Contents (Elt F))
  :: StableHlo.nullary main_cst_17 (constant S_ .f32 0x00000000#32)
  :: StableHlo.unary main_cst_17 main_v286 (broadcastInDim S4x1x256 ![] bcast_S_S4x1x256 : (⟨S_, .f32⟩ : BufTy).Contents (Elt F) → (⟨S4x1x256, .f32⟩ : BufTy).Contents (Elt F))
  :: StableHlo.ternary main_v275 main_v285 main_v286 main_v287 ((fun x i u => Host.scatter scatter_S4x1x256x256_S1_S4x1x256_012_3_3_0 (fun _ b => b) x i u) : (⟨S4x1x256x256, .f32⟩ : BufTy).Contents (Elt F) → (⟨S1, .i32⟩ : BufTy).Contents (Elt F) → (⟨S4x1x256, .f32⟩ : BufTy).Contents (Elt F) → (⟨S4x1x256x256, .f32⟩ : BufTy).Contents (Elt F))
  :: StableHlo.binary main_v278 main_v281 main_v288 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v288 main_v284 main_v289 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v289 main_v287 main_v290 (addf : (⟨S4x1x256x256, .f32⟩ : BufTy).Contents (Elt F) → (⟨S4x1x256x256, .f32⟩ : BufTy).Contents (Elt F) → (⟨S4x1x256x256, .f32⟩ : BufTy).Contents (Elt F))
  :: [] )

/-- The references the operations of `part20_e` write, in order. -/
abbrev part20_e_W : List (Ref sig .tc) := [main_c_10, main_v276, main_cst_11, main_v277, main_v278, main_c_12, main_v279, main_cst_13, main_v280, main_v281, main_c_14, main_v282, main_cst_15, main_v283, main_v284, main_c_16, main_v285, main_cst_17, main_v286, main_v287, main_v288, main_v289, main_v290]
/-- The operations of `part20_e` write only these. -/
theorem part20_e_writes : (part20_e : List (HloOp τ sig (Elt F))).Forall fun op => op.writes ⊆ (part20_e_W.map (Proc.devRef (τ := τ) .tc)).toFinset :=
  StableHlo.forall_writes_sub_of_map rfl

/-- A piece of the operations of `hostOps0_20`, in order. -/
abbrev part20_f : List (HloOp τ sig (Elt F)) :=
  ( StableHlo.nary ![main_v278, main_v281, main_v284, main_v287, main_v290] main_v291 (fun u => (concatenate S4x5x256x256 1 [⟨S4x1x256x256, (u 0 : (⟨S4x1x256x256, .f32⟩ : BufTy).Contents (Elt F))⟩, ⟨S4x1x256x256, (u 1 : (⟨S4x1x256x256, .f32⟩ : BufTy).Contents (Elt F))⟩, ⟨S4x1x256x256, (u 2 : (⟨S4x1x256x256, .f32⟩ : BufTy).Contents (Elt F))⟩, ⟨S4x1x256x256, (u 3 : (⟨S4x1x256x256, .f32⟩ : BufTy).Contents (Elt F))⟩, ⟨S4x1x256x256, (u 4 : (⟨S4x1x256x256, .f32⟩ : BufTy).Contents (Elt F))⟩] concatenates_S4x1x256x256_S4x1x256x256_S4x1x256x256_S4x1x256x256_S4x1x256x256_S4x5x256x256_d1 : (⟨S4x5x256x256, .f32⟩ : BufTy).Contents (Elt F)))
  :: StableHlo.unary main_v291 main_v292 ((extractStridedSlice S4x1x256x256 ![0, 0, 0, 0] · slices_S4x5x256x256_S4x1x256x256_0_0_0_0) : (⟨S4x5x256x256, .f32⟩ : BufTy).Contents (Elt F) → (⟨S4x1x256x256, .f32⟩ : BufTy).Contents (Elt F))
  :: StableHlo.unary main_v291 main_v293 ((extractStridedSlice S4x1x256x256 ![0, 1, 0, 0] · slices_S4x5x256x256_S4x1x256x256_0_1_0_0) : (⟨S4x5x256x256, .f32⟩ : BufTy).Contents (Elt F) → (⟨S4x1x256x256, .f32⟩ : BufTy).Contents (Elt F))
  :: StableHlo.unary main_v291 main_v294 ((extractStridedSlice S4x1x256x256 ![0, 2, 0, 0] · slices_S4x5x256x256_S4x1x256x256_0_2_0_0) : (⟨S4x5x256x256, .f32⟩ : BufTy).Contents (Elt F) → (⟨S4x1x256x256, .f32⟩ : BufTy).Contents (Elt F))
  :: StableHlo.unary main_v291 main_v295 ((extractStridedSlice S4x1x256x256 ![0, 3, 0, 0] · slices_S4x5x256x256_S4x1x256x256_0_3_0_0) : (⟨S4x5x256x256, .f32⟩ : BufTy).Contents (Elt F) → (⟨S4x1x256x256, .f32⟩ : BufTy).Contents (Elt F))
  :: StableHlo.unary main_v291 main_v296 ((extractStridedSlice S4x1x256x256 ![0, 4, 0, 0] · slices_S4x5x256x256_S4x1x256x256_0_4_0_0) : (⟨S4x5x256x256, .f32⟩ : BufTy).Contents (Elt F) → (⟨S4x1x256x256, .f32⟩ : BufTy).Contents (Elt F))
  :: [] )

/-- The references the operations of `part20_f` write, in order. -/
abbrev part20_f_W : List (Ref sig .tc) := [main_v291, main_v292, main_v293, main_v294, main_v295, main_v296]
/-- The operations of `part20_f` write only these. -/
theorem part20_f_writes : (part20_f : List (HloOp τ sig (Elt F))).Forall fun op => op.writes ⊆ (part20_f_W.map (Proc.devRef (τ := τ) .tc)).toFinset :=
  StableHlo.forall_writes_sub_of_map rfl

/-- A piece of the operations of `hostOps0_20`, in order. -/
abbrev part20_g : List (HloOp τ sig (Elt F)) :=
  ( StableHlo.binary main_arg2 main_arg1 main_v297 (mulf : (⟨S4x1x32x32, .f32⟩ : BufTy).Contents (Elt F) → (⟨S4x1x32x32, .f32⟩ : BufTy).Contents (Elt F) → (⟨S4x1x32x32, .f32⟩ : BufTy).Contents (Elt F))
  :: StableHlo.unary main_v297 main_v298 (broadcastInDim S4x1x32x8x32 ![0, 1, 2, 4] bcast_S4x1x32x32_S4x1x32x8x32_0_1_2_4 : (⟨S4x1x32x32, .f32⟩ : BufTy).Contents (Elt F) → (⟨S4x1x32x8x32, .f32⟩ : BufTy).Contents (Elt F))
  :: StableHlo.reshape main_v298 main_v299 (rfl : (.f32 : EltTy) = .f32) shapeCasts_S4x1x32x8x32_S4x1x256x32
  :: StableHlo.unary main_v299 main_v300 (broadcastInDim S4x1x256x32x8 ![0, 1, 2, 3] bcast_S4x1x256x32_S4x1x256x32x8_0_1_2_3 : (⟨S4x1x256x32, .f32⟩ : BufTy).Contents (Elt F) → (⟨S4x1x256x32x8, .f32⟩ : BufTy).Contents (Elt F))
  :: StableHlo.reshape main_v300 main_v301 (rfl : (.f32 : EltTy) = .f32) shapeCasts_S4x1x256x32x8_S4x1x256x256
  :: StableHlo.nullary main_cst_18 (constant S_ .f32 0x42800000#32)
  :: StableHlo.unary main_cst_18 main_v302 (broadcastInDim S4x1x256x256 ![] bcast_S_S4x1x256x256 : (⟨S_, .f32⟩ : BufTy).Contents (Elt F) → (⟨S4x1x256x256, .f32⟩ : BufTy).Contents (Elt F))
  :: StableHlo.binary main_v301 main_v302 main_v303 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v61 main_v304 (broadcastInDim S4x1x256x256 ![] bcast_S_S4x1x256x256 : (⟨S_, .f32⟩ : BufTy).Contents (Elt F) → (⟨S4x1x256x256, .f32⟩ : BufTy).Contents (Elt F))
  :: StableHlo.binary main_v304 main_v303 main_v305 (mulf : (⟨S4x1x256x256, .f32⟩ : BufTy).Contents (Elt F) → (⟨S4x1x256x256, .f32⟩ : BufTy).Contents (Elt F) → (⟨S4x1x256x256, .f32⟩ : BufTy).Contents (Elt F))
  :: StableHlo.unary main_arg1 main_v306 (broadcastInDim S4x1x32x8x32 ![0, 1, 2, 4] bcast_S4x1x32x32_S4x1x32x8x32_0_1_2_4 : (⟨S4x1x32x32, .f32⟩ : BufTy).Contents (Elt F) → (⟨S4x1x32x8x32, .f32⟩ : BufTy).Contents (Elt F))
  :: StableHlo.reshape main_v306 main_v307 (rfl : (.f32 : EltTy) = .f32) shapeCasts_S4x1x32x8x32_S4x1x256x32
  :: StableHlo.unary main_v307 main_v308 (broadcastInDim S4x1x256x32x8 ![0, 1, 2, 3] bcast_S4x1x256x32_S4x1x256x32x8_0_1_2_3 : (⟨S4x1x256x32, .f32⟩ : BufTy).Contents (Elt F) → (⟨S4x1x256x32x8, .f32⟩ : BufTy).Contents (Elt F))
  :: StableHlo.reshape main_v308 main_v309 (rfl : (.f32 : EltTy) = .f32) shapeCasts_S4x1x256x32x8_S4x1x256x256
  :: StableHlo.unary main_v309 main_v310 ((extractStridedSlice S4x1x255x256 ![0, 0, 0, 0] · slices_S4x1x256x256_S4x1x255x256_0_0_0_0) : (⟨S4x1x256x256, .f32⟩ : BufTy).Contents (Elt F) → (⟨S4x1x255x256, .f32⟩ : BufTy).Contents (Elt F))
  :: StableHlo.nullary main_c_19 (constantI S_ 32 0#32)
  :: [] )

/-- The references the operations of `part20_g` write, in order. -/
abbrev part20_g_W : List (Ref sig .tc) := [main_v297, main_v298, main_v299, main_v300, main_v301, main_cst_18, main_v302, main_v303, main_v304, main_v305, main_v306, main_v307, main_v308, main_v309, main_v310, main_c_19]
/-- The operations of `part20_g` write only these. -/
theorem part20_g_writes : (part20_g : List (HloOp τ sig (Elt F))).Forall fun op => op.writes ⊆ (part20_g_W.map (Proc.devRef (τ := τ) .tc)).toFinset :=
  StableHlo.forall_writes_sub_of_map rfl

/-- A piece of the operations of `hostOps0_28`, in order. -/
abbrev part28_a : List (HloOp τ sig (Elt F)) :=
  ( StableHlo.binary main_v296 main_v309 main_v318 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v292 main_v311 main_v319 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v293 main_v313 main_v320 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v319 main_v320 main_v321 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v294 main_v315 main_v322 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v321 main_v322 main_v323 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v295 main_v317 main_v324 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v323 main_v324 main_v325 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v318 main_v325 main_v326 (subf : (⟨S4x1x256x256, .f32⟩ : BufTy).Contents (Elt F) → (⟨S4x1x256x256, .f32⟩ : BufTy).Contents (Elt F) → (⟨S4x1x256x256, .f32⟩ : BufTy).Contents (Elt F))
  :: StableHlo.reshape main_v309 main_v327 (rfl : (.f32 : EltTy) = .f32) shapeCasts_S4x1x256x256_S4x1x32x8x32x8
  :: StableHlo.nullary main_cst_23 (constant S_ .f32 0x00000000#32)
  :: StableHlo.binary main_v327 main_cst_23 main_v328 ((fun x v => Host.reduceAdd x v reducesTo_S4x1x32x8x32x8_S4x1x32x32_d3_5 h_S_) : (⟨S4x1x32x8x32x8, .f32⟩ : BufTy).Contents (Elt F) → (⟨S_, .f32⟩ : BufTy).Contents (Elt F) → (⟨S4x1x32x32, .f32⟩ : BufTy).Contents (Elt F))
  :: StableHlo.nullary main_cst_24 (constant S_ .f32 0x42800000#32)
  :: StableHlo.unary main_cst_24 main_v329 (broadcastInDim S4x1x32x32 ![] bcast_S_S4x1x32x32 : (⟨S_, .f32⟩ : BufTy).Contents (Elt F) → (⟨S4x1x32x32, .f32⟩ : BufTy).Contents (Elt F))
  :: StableHlo.binary main_v328 main_v329 main_v330 (Host.divf : (⟨S4x1x32x32, .f32⟩ : BufTy).Contents (Elt F) → (⟨S4x1x32x32, .f32⟩ : BufTy).Contents (Elt F) → (⟨S4x1x32x32, .f32⟩ : BufTy).Contents (Elt F))
  :: StableHlo.binary main_arg2 main_v330 main_v331 (mulf : (⟨S4x1x32x32, .f32⟩ : BufTy).Contents (Elt F) → (⟨S4x1x32x32, .f32⟩ : BufTy).Contents (Elt F) → (⟨S4x1x32x32, .f32⟩ : BufTy).Contents (Elt F))
  :: StableHlo.unary main_v331 main_v332 (broadcastInDim S4x1x32x8x32 ![0, 1, 2, 4] bcast_S4x1x32x32_S4x1x32x8x32_0_1_2_4 : (⟨S4x1x32x32, .f32⟩ : BufTy).Contents (Elt F) → (⟨S4x1x32x8x32, .f32⟩ : BufTy).Contents (Elt F))
  :: StableHlo.reshape main_v332 main_v333 (rfl : (.f32 : EltTy) = .f32) shapeCasts_S4x1x32x8x32_S4x1x256x32
  :: StableHlo.unary main_v333 main_v334 (broadcastInDim S4x1x256x32x8 ![0, 1, 2, 3] bcast_S4x1x256x32_S4x1x256x32x8_0_1_2_3 : (⟨S4x1x256x32, .f32⟩ : BufTy).Contents (Elt F) → (⟨S4x1x256x32x8, .f32⟩ : BufTy).Contents (Elt F))
  :: StableHlo.reshape main_v334 main_v335 (rfl : (.f32 : EltTy) = .f32) shapeCasts_S4x1x256x32x8_S4x1x256x256
  :: StableHlo.nullary main_cst_25 (constant S_ .f32 0x42800000#32)
  :: StableHlo.unary main_cst_25 main_v336 (broadcastInDim S4x1x256x256 ![] bcast_S_S4x1x256x256 : (⟨S_, .f32⟩ : BufTy).Contents (Elt F) → (⟨S4x1x256x256, .f32⟩ : BufTy).Contents (Elt F))
  :: StableHlo.binary main_v335 main_v336 main_v337 (Host.divf : (⟨S4x1x256x256, .f32⟩ : BufTy).Contents (Elt F) → (⟨S4x1x256x256, .f32⟩ : BufTy).Contents (Elt F) → (⟨S4x1x256x256, .f32⟩ : BufTy).Contents (Elt F))
  :: StableHlo.unary main_v61 main_v338 (broadcastInDim S4x1x256x256 ![] bcast_S_S4x1x256x256 : (⟨S_, .f32⟩ : BufTy).Contents (Elt F) → (⟨S4x1x256x256, .f32⟩ : BufTy).Contents (Elt F))
  :: StableHlo.binary main_v338 main_v337 main_v339 (mulf : (⟨S4x1x256x256, .f32⟩ : BufTy).Contents (Elt F) → (⟨S4x1x256x256, .f32⟩ : BufTy).Contents (Elt F) → (⟨S4x1x256x256, .f32⟩ : BufTy).Contents (Elt F))
  :: StableHlo.binary main_v326 main_v339 main_v340 (addf : (⟨S4x1x256x256, .f32⟩ : BufTy).Contents (Elt F) → (⟨S4x1x256x256, .f32⟩ : BufTy).Contents (Elt F) → (⟨S4x1x256x256, .f32⟩ : BufTy).Contents (Elt F))
  :: StableHlo.binary main_v305 main_v340 main_v341 (subf : (⟨S4x1x256x256, .f32⟩ : BufTy).Contents (Elt F) → (⟨S4x1x256x256, .f32⟩ : BufTy).Contents (Elt F) → (⟨S4x1x256x256, .f32⟩ : BufTy).Contents (Elt F))
  :: [] )

/-- The references the operations of `part28_a` write, in order. -/
abbrev part28_a_W : List (Ref sig .tc) := [main_v318, main_v319, main_v320, main_v321, main_v322, main_v323, main_v324, main_v325, main_v326, main_v327, main_cst_23, main_v328, main_cst_24, main_v329, main_v330, main_v331, main_v332, main_v333, main_v334, main_v335, main_cst_25, main_v336, main_v337, main_v338, main_v339, main_v340, main_v341]
/-- The operations of `part28_a` write only these. -/
theorem part28_a_writes : (part28_a : List (HloOp τ sig (Elt F))).Forall fun op => op.writes ⊆ (part28_a_W.map (Proc.devRef (τ := τ) .tc)).toFinset :=
  StableHlo.forall_writes_sub_of_map rfl

/-- A piece of the operations of `hostOps0_28`, in order. -/
abbrev part28_b : List (HloOp τ sig (Elt F)) :=
  ( StableHlo.binary main_v341 main_v341 main_v342 (mulf : (⟨S4x1x256x256, .f32⟩ : BufTy).Contents (Elt F) → (⟨S4x1x256x256, .f32⟩ : BufTy).Contents (Elt F) → (⟨S4x1x256x256, .f32⟩ : BufTy).Contents (Elt F))
  :: StableHlo.nullary main_cst_26 (constant S_ .f32 0x00000000#32)
  :: StableHlo.binary main_v342 main_cst_26 main_v343 ((fun x v => Host.reduceAdd x v reducesTo_S4x1x256x256_S_d0_1_2_3 h_S_) : (⟨S4x1x256x256, .f32⟩ : BufTy).Contents (Elt F) → (⟨S_, .f32⟩ : BufTy).Contents (Elt F) → (⟨S_, .f32⟩ : BufTy).Contents (Elt F))
  :: StableHlo.nullary main_c_27 (constantI S_ 32 0#32)
  :: StableHlo.nullary main_c_28 (constantI S_ 32 0#32)
  :: StableHlo.unary main_v296 main_v344_0 id
  :: StableHlo.unary main_v292 main_v344_1 id
  :: StableHlo.unary main_v293 main_v344_2 id
  :: StableHlo.unary main_v294 main_v344_3 id
  :: StableHlo.unary main_v295 main_v344_4 id
  :: StableHlo.unary main_arg2 main_v344_5 id
  :: StableHlo.unary main_v61 main_v344_6 id
  :: StableHlo.unary main_c_28 main_v344_7 id
  :: StableHlo.unary main_c_27 main_v344_8 id
  :: StableHlo.unary main_v309 main_v344_9 id
  :: StableHlo.unary main_v341 main_v344_10 id
  :: StableHlo.unary main_v341 main_v344_11 id
  :: StableHlo.unary main_v343 main_v344_12 id
  :: [] )

/-- The references the operations of `part28_b` write, in order. -/
abbrev part28_b_W : List (Ref sig .tc) := [main_v342, main_cst_26, main_v343, main_c_27, main_c_28, main_v344_0, main_v344_1, main_v344_2, main_v344_3, main_v344_4, main_v344_5, main_v344_6, main_v344_7, main_v344_8, main_v344_9, main_v344_10, main_v344_11, main_v344_12]
/-- The operations of `part28_b` write only these. -/
theorem part28_b_writes : (part28_b : List (HloOp τ sig (Elt F))).Forall fun op => op.writes ⊆ (part28_b_W.map (Proc.devRef (τ := τ) .tc)).toFinset :=
  StableHlo.forall_writes_sub_of_map rfl

/-- The stretch is its pieces one after another. -/
theorem hostOps0_20_split (V : Valuation τ sig (Elt F)) : after hostOps0_20 V = after part20_g (after part20_f (after part20_e (after part20_d (after part20_c (after part20_b (after part20_a V)))))) := rfl

/-- The stretch is its pieces one after another. -/
theorem hostOps0_28_split (V : Valuation τ sig (Elt F)) : after hostOps0_28 V = after part28_b (after part28_a V) := rfl

/-- What `hostOps0` leaves in `v0`. -/
theorem read_v0 (V : Valuation τ sig (Elt F)) : after hostOps0 V (Proc.devRef .tc main_v0) = r_v0 (V (Proc.devRef .tc main_arg0)) (V (Proc.devRef .tc main_arg3)) := by
  simp only [hostOps0]
  after_results_entrywise [cast_eq]

/-- What `hostOps0` leaves in `c`. -/
theorem read_c (V : Valuation τ sig (Elt F)) : after hostOps0 V (Proc.devRef .tc main_c) = constantI S_ 32 0#32 := by
  simp only [hostOps0]
  after_results_entrywise [cast_eq]

/-- What `hostOps0_1` leaves in `v1`. -/
theorem read_v1 (V : Valuation τ sig (Elt F)) : after hostOps0_1 V (Proc.devRef .tc main_v1) = r_v1 (V (Proc.devRef .tc main_v0)) (V (Proc.devRef .tc main_c)) := by
  simp only [hostOps0_1]
  after_results_entrywise [cast_eq]

/-- What `hostOps0_2` leaves in `v57`. -/
theorem read_v57 (V : Valuation τ sig (Elt F)) : after hostOps0_2 V (Proc.devRef .tc main_v57) = r_v57 (V (Proc.devRef .tc main_v1)) (V (Proc.devRef .tc main_arg4)) (V (Proc.devRef .tc main_arg5)) := by
  simp only [hostOps0_2]
  after_results_entrywise [cast_eq]

/-- What `hostOps0_2` leaves in `v59`. -/
theorem read_v59 (V : Valuation τ sig (Elt F)) : after hostOps0_2 V (Proc.devRef .tc main_v59) = r_v59 (V (Proc.devRef .tc main_arg13)) := by
  simp only [hostOps0_2]
  after_results_entrywise [cast_eq]

/-- What `hostOps0_2` leaves in `v61`. -/
theorem read_v61 (V : Valuation τ sig (Elt F)) : after hostOps0_2 V (Proc.devRef .tc main_v61) = r_v61 (V (Proc.devRef .tc main_arg12)) := by
  simp only [hostOps0_2]
  after_results_entrywise [cast_eq]

/-- What `hostOps0_2` leaves in `v62`. -/
theorem read_v62 (V : Valuation τ sig (Elt F)) : after hostOps0_2 V (Proc.devRef .tc main_v62) = r_v62 (V (Proc.devRef .tc main_arg0)) (V (Proc.devRef .tc main_arg3)) := by
  simp only [hostOps0_2]
  after_results_entrywise [cast_eq]

/-- What `hostOps0_2` leaves in `c_0`. -/
theorem read_c_0 (V : Valuation τ sig (Elt F)) : after hostOps0_2 V (Proc.devRef .tc main_c_0) = constantI S_ 32 0#32 := by
  simp only [hostOps0_2]
  after_results_entrywise [cast_eq]

/-- What `hostOps0_3` leaves in `v63`. -/
theorem read_v63 (V : Valuation τ sig (Elt F)) : after hostOps0_3 V (Proc.devRef .tc main_v63) = r_v63 (V (Proc.devRef .tc main_v62)) (V (Proc.devRef .tc main_c_0)) := by
  simp only [hostOps0_3]
  after_results_entrywise [cast_eq]

/-- What `hostOps0_4` leaves in `v119`. -/
theorem read_v119 (V : Valuation τ sig (Elt F)) : after hostOps0_4 V (Proc.devRef .tc main_v119) = r_v119 (V (Proc.devRef .tc main_v63)) (V (Proc.devRef .tc main_arg6)) (V (Proc.devRef .tc main_arg7)) := by
  simp only [hostOps0_4]
  after_results_entrywise [cast_eq]

/-- What `hostOps0_5` leaves in `v120`. -/
theorem read_v120 (V : Valuation τ sig (Elt F)) : after hostOps0_5 V (Proc.devRef .tc main_v120) = r_v120 (V (Proc.devRef .tc main_v119)) := by
  simp only [hostOps0_5]
  after_results_entrywise [cast_eq]

/-- What `hostOps0_6` leaves in `c_1`. -/
theorem read_c_1 (V : Valuation τ sig (Elt F)) : after hostOps0_6 V (Proc.devRef .tc main_c_1) = constantI S_ 32 0#32 := by
  simp only [hostOps0_6]
  after_results_entrywise [cast_eq]

/-- What `hostOps0_7` leaves in `v121`. -/
theorem read_v121 (V : Valuation τ sig (Elt F)) : after hostOps0_7 V (Proc.devRef .tc main_v121) = r_v121 (V (Proc.devRef .tc main_v120)) (V (Proc.devRef .tc main_c_1)) := by
  simp only [hostOps0_7]
  after_results_entrywise [cast_eq]

/-- What `hostOps0_8` leaves in `v177`. -/
theorem read_v177 (V : Valuation τ sig (Elt F)) : after hostOps0_8 V (Proc.devRef .tc main_v177) = r_v177 (V (Proc.devRef .tc main_v121)) (V (Proc.devRef .tc main_arg8)) (V (Proc.devRef .tc main_arg9)) := by
  simp only [hostOps0_8]
  after_results_entrywise [cast_eq]

/-- What `hostOps0_9` leaves in `v178`. -/
theorem read_v178 (V : Valuation τ sig (Elt F)) : after hostOps0_9 V (Proc.devRef .tc main_v178) = r_v178 (V (Proc.devRef .tc main_v177)) := by
  simp only [hostOps0_9]
  after_results_entrywise [cast_eq]

/-- What `hostOps0_10` leaves in `c_2`. -/
theorem read_c_2 (V : Valuation τ sig (Elt F)) : after hostOps0_10 V (Proc.devRef .tc main_c_2) = constantI S_ 32 0#32 := by
  simp only [hostOps0_10]
  after_results_entrywise [cast_eq]

/-- What `hostOps0_11` leaves in `v179`. -/
theorem read_v179 (V : Valuation τ sig (Elt F)) : after hostOps0_11 V (Proc.devRef .tc main_v179) = r_v179 (V (Proc.devRef .tc main_v178)) (V (Proc.devRef .tc main_c_2)) := by
  simp only [hostOps0_11]
  after_results_entrywise [cast_eq]

/-- What `hostOps0_12` leaves in `v235`. -/
theorem read_v235 (V : Valuation τ sig (Elt F)) : after hostOps0_12 V (Proc.devRef .tc main_v235) = r_v235 (V (Proc.devRef .tc main_v179)) (V (Proc.devRef .tc main_arg10)) (V (Proc.devRef .tc main_arg11)) := by
  simp only [hostOps0_12]
  after_results_entrywise [cast_eq]

/-- What `hostOps0_12` leaves in `v236`. -/
theorem read_v236 (V : Valuation τ sig (Elt F)) : after hostOps0_12 V (Proc.devRef .tc main_v236) = r_v236 (V (Proc.devRef .tc main_v179)) (V (Proc.devRef .tc main_arg10)) (V (Proc.devRef .tc main_arg11)) := by
  simp only [hostOps0_12]
  after_results_entrywise [cast_eq]

/-- What `hostOps0_12` leaves in `c_3`. -/
theorem read_c_3 (V : Valuation τ sig (Elt F)) : after hostOps0_12 V (Proc.devRef .tc main_c_3) = constantI S_ 32 0#32 := by
  simp only [hostOps0_12]
  after_results_entrywise [cast_eq]

/-- What `hostOps0_13` leaves in `v237`. -/
theorem read_v237 (V : Valuation τ sig (Elt F)) : after hostOps0_13 V (Proc.devRef .tc main_v237) = r_v237 (V (Proc.devRef .tc main_v236)) (V (Proc.devRef .tc main_c_3)) := by
  simp only [hostOps0_13]
  after_results_entrywise [cast_eq]

/-- What `hostOps0_14` leaves in `v238`. -/
theorem read_v238 (V : Valuation τ sig (Elt F)) : after hostOps0_14 V (Proc.devRef .tc main_v238) = r_v238 (V (Proc.devRef .tc main_v235)) := by
  simp only [hostOps0_14]
  after_results_entrywise [cast_eq]

/-- What `hostOps0_14` leaves in `c_4`. -/
theorem read_c_4 (V : Valuation τ sig (Elt F)) : after hostOps0_14 V (Proc.devRef .tc main_c_4) = constantI S_ 32 0#32 := by
  simp only [hostOps0_14]
  after_results_entrywise [cast_eq]

/-- What `hostOps0_15` leaves in `v239`. -/
theorem read_v239 (V : Valuation τ sig (Elt F)) : after hostOps0_15 V (Proc.devRef .tc main_v239) = r_v239 (V (Proc.devRef .tc main_v238)) (V (Proc.devRef .tc main_c_4)) := by
  simp only [hostOps0_15]
  after_results_entrywise [cast_eq]

/-- What `hostOps0_16` leaves in `v240`. -/
theorem read_v240 (V : Valuation τ sig (Elt F)) : after hostOps0_16 V (Proc.devRef .tc main_v240) = r_v240 (V (Proc.devRef .tc main_v235)) := by
  simp only [hostOps0_16]
  after_results_entrywise [cast_eq]

/-- What `hostOps0_16` leaves in `c_5`. -/
theorem read_c_5 (V : Valuation τ sig (Elt F)) : after hostOps0_16 V (Proc.devRef .tc main_c_5) = constantI S_ 32 0#32 := by
  simp only [hostOps0_16]
  after_results_entrywise [cast_eq]

/-- What `hostOps0_17` leaves in `v241`. -/
theorem read_v241 (V : Valuation τ sig (Elt F)) : after hostOps0_17 V (Proc.devRef .tc main_v241) = r_v241 (V (Proc.devRef .tc main_v240)) (V (Proc.devRef .tc main_c_5)) := by
  simp only [hostOps0_17]
  after_results_entrywise [cast_eq]

/-- What `hostOps0_18` leaves in `v242`. -/
theorem read_v242 (V : Valuation τ sig (Elt F)) : after hostOps0_18 V (Proc.devRef .tc main_v242) = r_v242 (V (Proc.devRef .tc main_v235)) := by
  simp only [hostOps0_18]
  after_results_entrywise [cast_eq]

/-- What `hostOps0_18` leaves in `c_6`. -/
theorem read_c_6 (V : Valuation τ sig (Elt F)) : after hostOps0_18 V (Proc.devRef .tc main_c_6) = constantI S_ 32 0#32 := by
  simp only [hostOps0_18]
  after_results_entrywise [cast_eq]

/-- What `hostOps0_19` leaves in `v243`. -/
theorem read_v243 (V : Valuation τ sig (Elt F)) : after hostOps0_19 V (Proc.devRef .tc main_v243) = r_v243 (V (Proc.devRef .tc main_v242)) (V (Proc.devRef .tc main_c_6)) := by
  simp only [hostOps0_19]
  after_results_entrywise [cast_eq]

/-- What `part20_a` leaves in `v251`. -/
theorem read_v251 (V : Valuation τ sig (Elt F)) : after part20_a V (Proc.devRef .tc main_v251) = r_v251 (V (Proc.devRef .tc main_v235)) (V (Proc.devRef .tc main_v237)) (V (Proc.devRef .tc main_v59)) := by
  simp only [part20_a]
  after_results_entrywise [cast_eq]

/-- What `part20_b` leaves in `v259`. -/
theorem read_v259 (V : Valuation τ sig (Elt F)) : after part20_b V (Proc.devRef .tc main_v259) = r_v259 (V (Proc.devRef .tc main_v235)) (V (Proc.devRef .tc main_v239)) (V (Proc.devRef .tc main_v59)) := by
  simp only [part20_b]
  after_results_entrywise [cast_eq]

/-- What `part20_c` leaves in `v267`. -/
theorem read_v267 (V : Valuation τ sig (Elt F)) : after part20_c V (Proc.devRef .tc main_v267) = r_v267 (V (Proc.devRef .tc main_v235)) (V (Proc.devRef .tc main_v241)) (V (Proc.devRef .tc main_v59)) := by
  simp only [part20_c]
  after_results_entrywise [cast_eq]

/-- What `part20_d` leaves in `v275`. -/
theorem read_v275 (V : Valuation τ sig (Elt F)) : after part20_d V (Proc.devRef .tc main_v275) = r_v275 (V (Proc.devRef .tc main_v235)) (V (Proc.devRef .tc main_v243)) (V (Proc.devRef .tc main_v59)) := by
  simp only [part20_d]
  after_results_entrywise [cast_eq]

/-- What `part20_e` leaves in `v278`. -/
theorem read_v278 (V : Valuation τ sig (Elt F)) : after part20_e V (Proc.devRef .tc main_v278) = r_v278 (V (Proc.devRef .tc main_v251)) := by
  simp only [part20_e]
  after_results_entrywise [cast_eq]

/-- What `part20_e` leaves in `v281`. -/
theorem read_v281 (V : Valuation τ sig (Elt F)) : after part20_e V (Proc.devRef .tc main_v281) = r_v281 (V (Proc.devRef .tc main_v259)) := by
  simp only [part20_e]
  after_results_entrywise [cast_eq]

/-- What `part20_e` leaves in `v284`. -/
theorem read_v284 (V : Valuation τ sig (Elt F)) : after part20_e V (Proc.devRef .tc main_v284) = r_v284 (V (Proc.devRef .tc main_v267)) := by
  simp only [part20_e]
  after_results_entrywise [cast_eq]

/-- What `part20_e` leaves in `v287`. -/
theorem read_v287 (V : Valuation τ sig (Elt F)) : after part20_e V (Proc.devRef .tc main_v287) = r_v287 (V (Proc.devRef .tc main_v275)) := by
  simp only [part20_e]
  after_results_entrywise [cast_eq]

/-- What `part20_e` leaves in `v290`. -/
theorem read_v290 (V : Valuation τ sig (Elt F)) : after part20_e V (Proc.devRef .tc main_v290) = r_v290 (V (Proc.devRef .tc main_v251)) (V (Proc.devRef .tc main_v259)) (V (Proc.devRef .tc main_v267)) (V (Proc.devRef .tc main_v275)) := by
  simp only [part20_e]
  after_results_entrywise [cast_eq]

/-- What `part20_f` leaves in `v291`. -/
theorem read_v291 (V : Valuation τ sig (Elt F)) : after part20_f V (Proc.devRef .tc main_v291) = r_v291 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_f` leaves in `v292`. -/
theorem read_v292 (V : Valuation τ sig (Elt F)) : after part20_f V (Proc.devRef .tc main_v292) = r_v292 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_f` leaves in `v293`. -/
theorem read_v293 (V : Valuation τ sig (Elt F)) : after part20_f V (Proc.devRef .tc main_v293) = r_v293 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_f` leaves in `v294`. -/
theorem read_v294 (V : Valuation τ sig (Elt F)) : after part20_f V (Proc.devRef .tc main_v294) = r_v294 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_f` leaves in `v295`. -/
theorem read_v295 (V : Valuation τ sig (Elt F)) : after part20_f V (Proc.devRef .tc main_v295) = r_v295 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_f` leaves in `v296`. -/
theorem read_v296 (V : Valuation τ sig (Elt F)) : after part20_f V (Proc.devRef .tc main_v296) = r_v296 (V (Proc.devRef .tc main_v278)) (V (Proc.devRef .tc main_v281)) (V (Proc.devRef .tc main_v284)) (V (Proc.devRef .tc main_v287)) (V (Proc.devRef .tc main_v290)) := by
  simp only [part20_f]
  after_results_entrywise [cast_eq]

/-- What `part20_g` leaves in `v305`. -/
theorem read_v305 (V : Valuation τ sig (Elt F)) : after part20_g V (Proc.devRef .tc main_v305) = r_v305 (V (Proc.devRef .tc main_v61)) (V (Proc.devRef .tc main_arg2)) (V (Proc.devRef .tc main_arg1)) := by
  simp only [part20_g]
  after_results_entrywise [cast_eq]

/-- What `part20_g` leaves in `v309`. -/
theorem read_v309 (V : Valuation τ sig (Elt F)) : after part20_g V (Proc.devRef .tc main_v309) = r_v309 (V (Proc.devRef .tc main_arg1)) := by
  simp only [part20_g]
  after_results_entrywise [cast_eq]

/-- What `part20_g` leaves in `v310`. -/
theorem read_v310 (V : Valuation τ sig (Elt F)) : after part20_g V (Proc.devRef .tc main_v310) = r_v310 (V (Proc.devRef .tc main_arg1)) := by
  simp only [part20_g]
  after_results_entrywise [cast_eq]

/-- What `part20_g` leaves in `c_19`. -/
theorem read_c_19 (V : Valuation τ sig (Elt F)) : after part20_g V (Proc.devRef .tc main_c_19) = constantI S_ 32 0#32 := by
  simp only [part20_g]
  after_results_entrywise [cast_eq]

/-- What `hostOps0_21` leaves in `v311`. -/
theorem read_v311 (V : Valuation τ sig (Elt F)) : after hostOps0_21 V (Proc.devRef .tc main_v311) = r_v311 (V (Proc.devRef .tc main_v310)) (V (Proc.devRef .tc main_c_19)) := by
  simp only [hostOps0_21]
  after_results_entrywise [cast_eq]

/-- What `hostOps0_22` leaves in `v312`. -/
theorem read_v312 (V : Valuation τ sig (Elt F)) : after hostOps0_22 V (Proc.devRef .tc main_v312) = r_v312 (V (Proc.devRef .tc main_v309)) := by
  simp only [hostOps0_22]
  after_results_entrywise [cast_eq]

/-- What `hostOps0_22` leaves in `c_20`. -/
theorem read_c_20 (V : Valuation τ sig (Elt F)) : after hostOps0_22 V (Proc.devRef .tc main_c_20) = constantI S_ 32 0#32 := by
  simp only [hostOps0_22]
  after_results_entrywise [cast_eq]

/-- What `hostOps0_23` leaves in `v313`. -/
theorem read_v313 (V : Valuation τ sig (Elt F)) : after hostOps0_23 V (Proc.devRef .tc main_v313) = r_v313 (V (Proc.devRef .tc main_v312)) (V (Proc.devRef .tc main_c_20)) := by
  simp only [hostOps0_23]
  after_results_entrywise [cast_eq]

/-- What `hostOps0_24` leaves in `v314`. -/
theorem read_v314 (V : Valuation τ sig (Elt F)) : after hostOps0_24 V (Proc.devRef .tc main_v314) = r_v314 (V (Proc.devRef .tc main_v309)) := by
  simp only [hostOps0_24]
  after_results_entrywise [cast_eq]

/-- What `hostOps0_24` leaves in `c_21`. -/
theorem read_c_21 (V : Valuation τ sig (Elt F)) : after hostOps0_24 V (Proc.devRef .tc main_c_21) = constantI S_ 32 0#32 := by
  simp only [hostOps0_24]
  after_results_entrywise [cast_eq]

/-- What `hostOps0_25` leaves in `v315`. -/
theorem read_v315 (V : Valuation τ sig (Elt F)) : after hostOps0_25 V (Proc.devRef .tc main_v315) = r_v315 (V (Proc.devRef .tc main_v314)) (V (Proc.devRef .tc main_c_21)) := by
  simp only [hostOps0_25]
  after_results_entrywise [cast_eq]

/-- What `hostOps0_26` leaves in `v316`. -/
theorem read_v316 (V : Valuation τ sig (Elt F)) : after hostOps0_26 V (Proc.devRef .tc main_v316) = r_v316 (V (Proc.devRef .tc main_v309)) := by
  simp only [hostOps0_26]
  after_results_entrywise [cast_eq]

/-- What `hostOps0_26` leaves in `c_22`. -/
theorem read_c_22 (V : Valuation τ sig (Elt F)) : after hostOps0_26 V (Proc.devRef .tc main_c_22) = constantI S_ 32 0#32 := by
  simp only [hostOps0_26]
  after_results_entrywise [cast_eq]

/-- What `hostOps0_27` leaves in `v317`. -/
theorem read_v317 (V : Valuation τ sig (Elt F)) : after hostOps0_27 V (Proc.devRef .tc main_v317) = r_v317 (V (Proc.devRef .tc main_v316)) (V (Proc.devRef .tc main_c_22)) := by
  simp only [hostOps0_27]
  after_results_entrywise [cast_eq]

/-- What `part28_a` leaves in `v341`. -/
theorem read_v341 (V : Valuation τ sig (Elt F)) : after part28_a V (Proc.devRef .tc main_v341) = r_v341 (V (Proc.devRef .tc main_v305)) (V (Proc.devRef .tc main_v296)) (V (Proc.devRef .tc main_v309)) (V (Proc.devRef .tc main_v292)) (V (Proc.devRef .tc main_v311)) (V (Proc.devRef .tc main_v293)) (V (Proc.devRef .tc main_v313)) (V (Proc.devRef .tc main_v294)) (V (Proc.devRef .tc main_v315)) (V (Proc.devRef .tc main_v295)) (V (Proc.devRef .tc main_v317)) (V (Proc.devRef .tc main_v61)) (V (Proc.devRef .tc main_arg2)) := by
  simp only [part28_a]
  after_results_entrywise [cast_eq]

/-- What `part28_b` leaves in `v344_0`. -/
theorem read_v344_0 (V : Valuation τ sig (Elt F)) : after part28_b V (Proc.devRef .tc main_v344_0) = (V (Proc.devRef .tc main_v296)) := by
  simp only [part28_b]
  after_results_entrywise [cast_eq]

/-- What `part28_b` leaves in `v344_1`. -/
theorem read_v344_1 (V : Valuation τ sig (Elt F)) : after part28_b V (Proc.devRef .tc main_v344_1) = (V (Proc.devRef .tc main_v292)) := by
  simp only [part28_b]
  after_results_entrywise [cast_eq]

/-- What `part28_b` leaves in `v344_2`. -/
theorem read_v344_2 (V : Valuation τ sig (Elt F)) : after part28_b V (Proc.devRef .tc main_v344_2) = (V (Proc.devRef .tc main_v293)) := by
  simp only [part28_b]
  after_results_entrywise [cast_eq]

/-- What `part28_b` leaves in `v344_3`. -/
theorem read_v344_3 (V : Valuation τ sig (Elt F)) : after part28_b V (Proc.devRef .tc main_v344_3) = (V (Proc.devRef .tc main_v294)) := by
  simp only [part28_b]
  after_results_entrywise [cast_eq]

/-- What `part28_b` leaves in `v344_4`. -/
theorem read_v344_4 (V : Valuation τ sig (Elt F)) : after part28_b V (Proc.devRef .tc main_v344_4) = (V (Proc.devRef .tc main_v295)) := by
  simp only [part28_b]
  after_results_entrywise [cast_eq]

/-- What `part28_b` leaves in `v344_5`. -/
theorem read_v344_5 (V : Valuation τ sig (Elt F)) : after part28_b V (Proc.devRef .tc main_v344_5) = (V (Proc.devRef .tc main_arg2)) := by
  simp only [part28_b]
  after_results_entrywise [cast_eq]

/-- What `part28_b` leaves in `v344_6`. -/
theorem read_v344_6 (V : Valuation τ sig (Elt F)) : after part28_b V (Proc.devRef .tc main_v344_6) = (V (Proc.devRef .tc main_v61)) := by
  simp only [part28_b]
  after_results_entrywise [cast_eq]

/-- What `part28_b` leaves in `v344_7`. -/
theorem read_v344_7 (V : Valuation τ sig (Elt F)) : after part28_b V (Proc.devRef .tc main_v344_7) = (constantI S_ 32 0#32) := by
  simp only [part28_b]
  after_results_entrywise [cast_eq]

/-- What `part28_b` leaves in `v344_8`. -/
theorem read_v344_8 (V : Valuation τ sig (Elt F)) : after part28_b V (Proc.devRef .tc main_v344_8) = (constantI S_ 32 0#32) := by
  simp only [part28_b]
  after_results_entrywise [cast_eq]

/-- What `part28_b` leaves in `v344_9`. -/
theorem read_v344_9 (V : Valuation τ sig (Elt F)) : after part28_b V (Proc.devRef .tc main_v344_9) = (V (Proc.devRef .tc main_v309)) := by
  simp only [part28_b]
  after_results_entrywise [cast_eq]

/-- What `part28_b` leaves in `v344_10`. -/
theorem read_v344_10 (V : Valuation τ sig (Elt F)) : after part28_b V (Proc.devRef .tc main_v344_10) = (V (Proc.devRef .tc main_v341)) := by
  simp only [part28_b]
  after_results_entrywise [cast_eq]

/-- What `part28_b` leaves in `v344_11`. -/
theorem read_v344_11 (V : Valuation τ sig (Elt F)) : after part28_b V (Proc.devRef .tc main_v344_11) = (V (Proc.devRef .tc main_v341)) := by
  simp only [part28_b]
  after_results_entrywise [cast_eq]

/-- What `part28_b` leaves in `v344_12`. -/
theorem read_v344_12 (V : Valuation τ sig (Elt F)) : after part28_b V (Proc.devRef .tc main_v344_12) = r_v344_12 (V (Proc.devRef .tc main_v341)) := by
  simp only [part28_b]
  after_results_entrywise [cast_eq]

end Cert.ReferenceIdeal.Mine

end
-- ==== Proof.RefChain.lean ====
/-
  The reference's contents at the loop's entry, of the contents at launch.
-/
module

public import proofs.«01_k».proof.Proof.RefRead

@[expose] public section

set_option maxRecDepth 16384

noncomputable section

namespace Cert.ReferenceIdeal.Mine

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-- The contents at launch. -/
def U0 (V : Valuation τ sig (Elt F)) : Valuation τ sig (Elt F) := V

/-- The contents after the first 1 pieces. -/
def U1 (V : Valuation τ sig (Elt F)) : Valuation τ sig (Elt F) := after hostOps0 (U0 V)
/-- A buffer piece 1 does not write keeps its contents. -/
theorem keep1 (V : Valuation τ sig (Elt F)) (r : Ref sig .tc) (h : r ∉ hostOps0_W) : U1 V (Proc.devRef .tc r) = U0 V (Proc.devRef .tc r) :=
  after_of_writes_sub hostOps0 _ hostOps0_writes h

/-- The contents after the first 2 pieces. -/
def U2 (V : Valuation τ sig (Elt F)) : Valuation τ sig (Elt F) := after hostOps0_1 (U1 V)
/-- A buffer piece 2 does not write keeps its contents. -/
theorem keep2 (V : Valuation τ sig (Elt F)) (r : Ref sig .tc) (h : r ∉ hostOps0_1_W) : U2 V (Proc.devRef .tc r) = U1 V (Proc.devRef .tc r) :=
  after_of_writes_sub hostOps0_1 _ hostOps0_1_writes h

/-- The contents after the first 3 pieces. -/
def U3 (V : Valuation τ sig (Elt F)) : Valuation τ sig (Elt F) := after hostOps0_2 (U2 V)
/-- A buffer piece 3 does not write keeps its contents. -/
theorem keep3 (V : Valuation τ sig (Elt F)) (r : Ref sig .tc) (h : r ∉ hostOps0_2_W) : U3 V (Proc.devRef .tc r) = U2 V (Proc.devRef .tc r) :=
  after_of_writes_sub hostOps0_2 _ hostOps0_2_writes h

/-- The contents after the first 4 pieces. -/
def U4 (V : Valuation τ sig (Elt F)) : Valuation τ sig (Elt F) := after hostOps0_3 (U3 V)
/-- A buffer piece 4 does not write keeps its contents. -/
theorem keep4 (V : Valuation τ sig (Elt F)) (r : Ref sig .tc) (h : r ∉ hostOps0_3_W) : U4 V (Proc.devRef .tc r) = U3 V (Proc.devRef .tc r) :=
  after_of_writes_sub hostOps0_3 _ hostOps0_3_writes h

/-- The contents after the first 5 pieces. -/
def U5 (V : Valuation τ sig (Elt F)) : Valuation τ sig (Elt F) := after hostOps0_4 (U4 V)
/-- A buffer piece 5 does not write keeps its contents. -/
theorem keep5 (V : Valuation τ sig (Elt F)) (r : Ref sig .tc) (h : r ∉ hostOps0_4_W) : U5 V (Proc.devRef .tc r) = U4 V (Proc.devRef .tc r) :=
  after_of_writes_sub hostOps0_4 _ hostOps0_4_writes h

/-- The contents after the first 6 pieces. -/
def U6 (V : Valuation τ sig (Elt F)) : Valuation τ sig (Elt F) := after hostOps0_5 (U5 V)
/-- A buffer piece 6 does not write keeps its contents. -/
theorem keep6 (V : Valuation τ sig (Elt F)) (r : Ref sig .tc) (h : r ∉ hostOps0_5_W) : U6 V (Proc.devRef .tc r) = U5 V (Proc.devRef .tc r) :=
  after_of_writes_sub hostOps0_5 _ hostOps0_5_writes h

/-- The contents after the first 7 pieces. -/
def U7 (V : Valuation τ sig (Elt F)) : Valuation τ sig (Elt F) := after hostOps0_6 (U6 V)
/-- A buffer piece 7 does not write keeps its contents. -/
theorem keep7 (V : Valuation τ sig (Elt F)) (r : Ref sig .tc) (h : r ∉ hostOps0_6_W) : U7 V (Proc.devRef .tc r) = U6 V (Proc.devRef .tc r) :=
  after_of_writes_sub hostOps0_6 _ hostOps0_6_writes h

/-- The contents after the first 8 pieces. -/
def U8 (V : Valuation τ sig (Elt F)) : Valuation τ sig (Elt F) := after hostOps0_7 (U7 V)
/-- A buffer piece 8 does not write keeps its contents. -/
theorem keep8 (V : Valuation τ sig (Elt F)) (r : Ref sig .tc) (h : r ∉ hostOps0_7_W) : U8 V (Proc.devRef .tc r) = U7 V (Proc.devRef .tc r) :=
  after_of_writes_sub hostOps0_7 _ hostOps0_7_writes h

/-- The contents after the first 9 pieces. -/
def U9 (V : Valuation τ sig (Elt F)) : Valuation τ sig (Elt F) := after hostOps0_8 (U8 V)
/-- A buffer piece 9 does not write keeps its contents. -/
theorem keep9 (V : Valuation τ sig (Elt F)) (r : Ref sig .tc) (h : r ∉ hostOps0_8_W) : U9 V (Proc.devRef .tc r) = U8 V (Proc.devRef .tc r) :=
  after_of_writes_sub hostOps0_8 _ hostOps0_8_writes h

/-- The contents after the first 10 pieces. -/
def U10 (V : Valuation τ sig (Elt F)) : Valuation τ sig (Elt F) := after hostOps0_9 (U9 V)
/-- A buffer piece 10 does not write keeps its contents. -/
theorem keep10 (V : Valuation τ sig (Elt F)) (r : Ref sig .tc) (h : r ∉ hostOps0_9_W) : U10 V (Proc.devRef .tc r) = U9 V (Proc.devRef .tc r) :=
  after_of_writes_sub hostOps0_9 _ hostOps0_9_writes h

/-- The contents after the first 11 pieces. -/
def U11 (V : Valuation τ sig (Elt F)) : Valuation τ sig (Elt F) := after hostOps0_10 (U10 V)
/-- A buffer piece 11 does not write keeps its contents. -/
theorem keep11 (V : Valuation τ sig (Elt F)) (r : Ref sig .tc) (h : r ∉ hostOps0_10_W) : U11 V (Proc.devRef .tc r) = U10 V (Proc.devRef .tc r) :=
  after_of_writes_sub hostOps0_10 _ hostOps0_10_writes h

/-- The contents after the first 12 pieces. -/
def U12 (V : Valuation τ sig (Elt F)) : Valuation τ sig (Elt F) := after hostOps0_11 (U11 V)
/-- A buffer piece 12 does not write keeps its contents. -/
theorem keep12 (V : Valuation τ sig (Elt F)) (r : Ref sig .tc) (h : r ∉ hostOps0_11_W) : U12 V (Proc.devRef .tc r) = U11 V (Proc.devRef .tc r) :=
  after_of_writes_sub hostOps0_11 _ hostOps0_11_writes h

/-- The contents after the first 13 pieces. -/
def U13 (V : Valuation τ sig (Elt F)) : Valuation τ sig (Elt F) := after hostOps0_12 (U12 V)
/-- A buffer piece 13 does not write keeps its contents. -/
theorem keep13 (V : Valuation τ sig (Elt F)) (r : Ref sig .tc) (h : r ∉ hostOps0_12_W) : U13 V (Proc.devRef .tc r) = U12 V (Proc.devRef .tc r) :=
  after_of_writes_sub hostOps0_12 _ hostOps0_12_writes h

/-- The contents after the first 14 pieces. -/
def U14 (V : Valuation τ sig (Elt F)) : Valuation τ sig (Elt F) := after hostOps0_13 (U13 V)
/-- A buffer piece 14 does not write keeps its contents. -/
theorem keep14 (V : Valuation τ sig (Elt F)) (r : Ref sig .tc) (h : r ∉ hostOps0_13_W) : U14 V (Proc.devRef .tc r) = U13 V (Proc.devRef .tc r) :=
  after_of_writes_sub hostOps0_13 _ hostOps0_13_writes h

/-- The contents after the first 15 pieces. -/
def U15 (V : Valuation τ sig (Elt F)) : Valuation τ sig (Elt F) := after hostOps0_14 (U14 V)
/-- A buffer piece 15 does not write keeps its contents. -/
theorem keep15 (V : Valuation τ sig (Elt F)) (r : Ref sig .tc) (h : r ∉ hostOps0_14_W) : U15 V (Proc.devRef .tc r) = U14 V (Proc.devRef .tc r) :=
  after_of_writes_sub hostOps0_14 _ hostOps0_14_writes h

/-- The contents after the first 16 pieces. -/
def U16 (V : Valuation τ sig (Elt F)) : Valuation τ sig (Elt F) := after hostOps0_15 (U15 V)
/-- A buffer piece 16 does not write keeps its contents. -/
theorem keep16 (V : Valuation τ sig (Elt F)) (r : Ref sig .tc) (h : r ∉ hostOps0_15_W) : U16 V (Proc.devRef .tc r) = U15 V (Proc.devRef .tc r) :=
  after_of_writes_sub hostOps0_15 _ hostOps0_15_writes h

/-- The contents after the first 17 pieces. -/
def U17 (V : Valuation τ sig (Elt F)) : Valuation τ sig (Elt F) := after hostOps0_16 (U16 V)
/-- A buffer piece 17 does not write keeps its contents. -/
theorem keep17 (V : Valuation τ sig (Elt F)) (r : Ref sig .tc) (h : r ∉ hostOps0_16_W) : U17 V (Proc.devRef .tc r) = U16 V (Proc.devRef .tc r) :=
  after_of_writes_sub hostOps0_16 _ hostOps0_16_writes h

/-- The contents after the first 18 pieces. -/
def U18 (V : Valuation τ sig (Elt F)) : Valuation τ sig (Elt F) := after hostOps0_17 (U17 V)
/-- A buffer piece 18 does not write keeps its contents. -/
theorem keep18 (V : Valuation τ sig (Elt F)) (r : Ref sig .tc) (h : r ∉ hostOps0_17_W) : U18 V (Proc.devRef .tc r) = U17 V (Proc.devRef .tc r) :=
  after_of_writes_sub hostOps0_17 _ hostOps0_17_writes h

/-- The contents after the first 19 pieces. -/
def U19 (V : Valuation τ sig (Elt F)) : Valuation τ sig (Elt F) := after hostOps0_18 (U18 V)
/-- A buffer piece 19 does not write keeps its contents. -/
theorem keep19 (V : Valuation τ sig (Elt F)) (r : Ref sig .tc) (h : r ∉ hostOps0_18_W) : U19 V (Proc.devRef .tc r) = U18 V (Proc.devRef .tc r) :=
  after_of_writes_sub hostOps0_18 _ hostOps0_18_writes h

/-- The contents after the first 20 pieces. -/
def U20 (V : Valuation τ sig (Elt F)) : Valuation τ sig (Elt F) := after hostOps0_19 (U19 V)
/-- A buffer piece 20 does not write keeps its contents. -/
theorem keep20 (V : Valuation τ sig (Elt F)) (r : Ref sig .tc) (h : r ∉ hostOps0_19_W) : U20 V (Proc.devRef .tc r) = U19 V (Proc.devRef .tc r) :=
  after_of_writes_sub hostOps0_19 _ hostOps0_19_writes h

/-- The contents after the first 21 pieces. -/
def U21 (V : Valuation τ sig (Elt F)) : Valuation τ sig (Elt F) := after part20_a (U20 V)
/-- A buffer piece 21 does not write keeps its contents. -/
theorem keep21 (V : Valuation τ sig (Elt F)) (r : Ref sig .tc) (h : r ∉ part20_a_W) : U21 V (Proc.devRef .tc r) = U20 V (Proc.devRef .tc r) :=
  after_of_writes_sub part20_a _ part20_a_writes h

/-- The contents after the first 22 pieces. -/
def U22 (V : Valuation τ sig (Elt F)) : Valuation τ sig (Elt F) := after part20_b (U21 V)
/-- A buffer piece 22 does not write keeps its contents. -/
theorem keep22 (V : Valuation τ sig (Elt F)) (r : Ref sig .tc) (h : r ∉ part20_b_W) : U22 V (Proc.devRef .tc r) = U21 V (Proc.devRef .tc r) :=
  after_of_writes_sub part20_b _ part20_b_writes h

/-- The contents after the first 23 pieces. -/
def U23 (V : Valuation τ sig (Elt F)) : Valuation τ sig (Elt F) := after part20_c (U22 V)
/-- A buffer piece 23 does not write keeps its contents. -/
theorem keep23 (V : Valuation τ sig (Elt F)) (r : Ref sig .tc) (h : r ∉ part20_c_W) : U23 V (Proc.devRef .tc r) = U22 V (Proc.devRef .tc r) :=
  after_of_writes_sub part20_c _ part20_c_writes h

/-- The contents after the first 24 pieces. -/
def U24 (V : Valuation τ sig (Elt F)) : Valuation τ sig (Elt F) := after part20_d (U23 V)
/-- A buffer piece 24 does not write keeps its contents. -/
theorem keep24 (V : Valuation τ sig (Elt F)) (r : Ref sig .tc) (h : r ∉ part20_d_W) : U24 V (Proc.devRef .tc r) = U23 V (Proc.devRef .tc r) :=
  after_of_writes_sub part20_d _ part20_d_writes h

/-- The contents after the first 25 pieces. -/
def U25 (V : Valuation τ sig (Elt F)) : Valuation τ sig (Elt F) := after part20_e (U24 V)
/-- A buffer piece 25 does not write keeps its contents. -/
theorem keep25 (V : Valuation τ sig (Elt F)) (r : Ref sig .tc) (h : r ∉ part20_e_W) : U25 V (Proc.devRef .tc r) = U24 V (Proc.devRef .tc r) :=
  after_of_writes_sub part20_e _ part20_e_writes h

/-- The contents after the first 26 pieces. -/
def U26 (V : Valuation τ sig (Elt F)) : Valuation τ sig (Elt F) := after part20_f (U25 V)
/-- A buffer piece 26 does not write keeps its contents. -/
theorem keep26 (V : Valuation τ sig (Elt F)) (r : Ref sig .tc) (h : r ∉ part20_f_W) : U26 V (Proc.devRef .tc r) = U25 V (Proc.devRef .tc r) :=
  after_of_writes_sub part20_f _ part20_f_writes h

/-- The contents after the first 27 pieces. -/
def U27 (V : Valuation τ sig (Elt F)) : Valuation τ sig (Elt F) := after part20_g (U26 V)
/-- A buffer piece 27 does not write keeps its contents. -/
theorem keep27 (V : Valuation τ sig (Elt F)) (r : Ref sig .tc) (h : r ∉ part20_g_W) : U27 V (Proc.devRef .tc r) = U26 V (Proc.devRef .tc r) :=
  after_of_writes_sub part20_g _ part20_g_writes h

/-- The contents after the first 28 pieces. -/
def U28 (V : Valuation τ sig (Elt F)) : Valuation τ sig (Elt F) := after hostOps0_21 (U27 V)
/-- A buffer piece 28 does not write keeps its contents. -/
theorem keep28 (V : Valuation τ sig (Elt F)) (r : Ref sig .tc) (h : r ∉ hostOps0_21_W) : U28 V (Proc.devRef .tc r) = U27 V (Proc.devRef .tc r) :=
  after_of_writes_sub hostOps0_21 _ hostOps0_21_writes h

/-- The contents after the first 29 pieces. -/
def U29 (V : Valuation τ sig (Elt F)) : Valuation τ sig (Elt F) := after hostOps0_22 (U28 V)
/-- A buffer piece 29 does not write keeps its contents. -/
theorem keep29 (V : Valuation τ sig (Elt F)) (r : Ref sig .tc) (h : r ∉ hostOps0_22_W) : U29 V (Proc.devRef .tc r) = U28 V (Proc.devRef .tc r) :=
  after_of_writes_sub hostOps0_22 _ hostOps0_22_writes h

/-- The contents after the first 30 pieces. -/
def U30 (V : Valuation τ sig (Elt F)) : Valuation τ sig (Elt F) := after hostOps0_23 (U29 V)
/-- A buffer piece 30 does not write keeps its contents. -/
theorem keep30 (V : Valuation τ sig (Elt F)) (r : Ref sig .tc) (h : r ∉ hostOps0_23_W) : U30 V (Proc.devRef .tc r) = U29 V (Proc.devRef .tc r) :=
  after_of_writes_sub hostOps0_23 _ hostOps0_23_writes h

/-- The contents after the first 31 pieces. -/
def U31 (V : Valuation τ sig (Elt F)) : Valuation τ sig (Elt F) := after hostOps0_24 (U30 V)
/-- A buffer piece 31 does not write keeps its contents. -/
theorem keep31 (V : Valuation τ sig (Elt F)) (r : Ref sig .tc) (h : r ∉ hostOps0_24_W) : U31 V (Proc.devRef .tc r) = U30 V (Proc.devRef .tc r) :=
  after_of_writes_sub hostOps0_24 _ hostOps0_24_writes h

/-- The contents after the first 32 pieces. -/
def U32 (V : Valuation τ sig (Elt F)) : Valuation τ sig (Elt F) := after hostOps0_25 (U31 V)
/-- A buffer piece 32 does not write keeps its contents. -/
theorem keep32 (V : Valuation τ sig (Elt F)) (r : Ref sig .tc) (h : r ∉ hostOps0_25_W) : U32 V (Proc.devRef .tc r) = U31 V (Proc.devRef .tc r) :=
  after_of_writes_sub hostOps0_25 _ hostOps0_25_writes h

/-- The contents after the first 33 pieces. -/
def U33 (V : Valuation τ sig (Elt F)) : Valuation τ sig (Elt F) := after hostOps0_26 (U32 V)
/-- A buffer piece 33 does not write keeps its contents. -/
theorem keep33 (V : Valuation τ sig (Elt F)) (r : Ref sig .tc) (h : r ∉ hostOps0_26_W) : U33 V (Proc.devRef .tc r) = U32 V (Proc.devRef .tc r) :=
  after_of_writes_sub hostOps0_26 _ hostOps0_26_writes h

/-- The contents after the first 34 pieces. -/
def U34 (V : Valuation τ sig (Elt F)) : Valuation τ sig (Elt F) := after hostOps0_27 (U33 V)
/-- A buffer piece 34 does not write keeps its contents. -/
theorem keep34 (V : Valuation τ sig (Elt F)) (r : Ref sig .tc) (h : r ∉ hostOps0_27_W) : U34 V (Proc.devRef .tc r) = U33 V (Proc.devRef .tc r) :=
  after_of_writes_sub hostOps0_27 _ hostOps0_27_writes h

/-- The contents after the first 35 pieces. -/
def U35 (V : Valuation τ sig (Elt F)) : Valuation τ sig (Elt F) := after part28_a (U34 V)
/-- A buffer piece 35 does not write keeps its contents. -/
theorem keep35 (V : Valuation τ sig (Elt F)) (r : Ref sig .tc) (h : r ∉ part28_a_W) : U35 V (Proc.devRef .tc r) = U34 V (Proc.devRef .tc r) :=
  after_of_writes_sub part28_a _ part28_a_writes h

/-- The contents after the first 36 pieces. -/
def U36 (V : Valuation τ sig (Elt F)) : Valuation τ sig (Elt F) := after part28_b (U35 V)
/-- A buffer piece 36 does not write keeps its contents. -/
theorem keep36 (V : Valuation τ sig (Elt F)) (r : Ref sig .tc) (h : r ∉ part28_b_W) : U36 V (Proc.devRef .tc r) = U35 V (Proc.devRef .tc r) :=
  after_of_writes_sub part28_b _ part28_b_writes h

/-- The value of this buffer after that many pieces. -/
theorem at_arg0_0 (V : Valuation τ sig (Elt F)) : U0 V (Proc.devRef .tc main_arg0) = V (Proc.devRef .tc main_arg0) := rfl

/-- The value of this buffer after that many pieces. -/
theorem at_arg1_0 (V : Valuation τ sig (Elt F)) : U0 V (Proc.devRef .tc main_arg1) = V (Proc.devRef .tc main_arg1) := rfl

/-- The value of this buffer after that many pieces. -/
theorem at_arg10_0 (V : Valuation τ sig (Elt F)) : U0 V (Proc.devRef .tc main_arg10) = V (Proc.devRef .tc main_arg10) := rfl

/-- The value of this buffer after that many pieces. -/
theorem at_arg11_0 (V : Valuation τ sig (Elt F)) : U0 V (Proc.devRef .tc main_arg11) = V (Proc.devRef .tc main_arg11) := rfl

/-- The value of this buffer after that many pieces. -/
theorem at_arg12_0 (V : Valuation τ sig (Elt F)) : U0 V (Proc.devRef .tc main_arg12) = V (Proc.devRef .tc main_arg12) := rfl

/-- The value of this buffer after that many pieces. -/
theorem at_arg13_0 (V : Valuation τ sig (Elt F)) : U0 V (Proc.devRef .tc main_arg13) = V (Proc.devRef .tc main_arg13) := rfl

/-- The value of this buffer after that many pieces. -/
theorem at_arg2_0 (V : Valuation τ sig (Elt F)) : U0 V (Proc.devRef .tc main_arg2) = V (Proc.devRef .tc main_arg2) := rfl

/-- The value of this buffer after that many pieces. -/
theorem at_arg3_0 (V : Valuation τ sig (Elt F)) : U0 V (Proc.devRef .tc main_arg3) = V (Proc.devRef .tc main_arg3) := rfl

/-- The value of this buffer after that many pieces. -/
theorem at_arg4_0 (V : Valuation τ sig (Elt F)) : U0 V (Proc.devRef .tc main_arg4) = V (Proc.devRef .tc main_arg4) := rfl

/-- The value of this buffer after that many pieces. -/
theorem at_arg5_0 (V : Valuation τ sig (Elt F)) : U0 V (Proc.devRef .tc main_arg5) = V (Proc.devRef .tc main_arg5) := rfl

/-- The value of this buffer after that many pieces. -/
theorem at_arg6_0 (V : Valuation τ sig (Elt F)) : U0 V (Proc.devRef .tc main_arg6) = V (Proc.devRef .tc main_arg6) := rfl

/-- The value of this buffer after that many pieces. -/
theorem at_arg7_0 (V : Valuation τ sig (Elt F)) : U0 V (Proc.devRef .tc main_arg7) = V (Proc.devRef .tc main_arg7) := rfl

/-- The value of this buffer after that many pieces. -/
theorem at_arg8_0 (V : Valuation τ sig (Elt F)) : U0 V (Proc.devRef .tc main_arg8) = V (Proc.devRef .tc main_arg8) := rfl

/-- The value of this buffer after that many pieces. -/
theorem at_arg9_0 (V : Valuation τ sig (Elt F)) : U0 V (Proc.devRef .tc main_arg9) = V (Proc.devRef .tc main_arg9) := rfl

/-- The value of this buffer after that many pieces. -/
theorem at_c_1 (V : Valuation τ sig (Elt F)) : U1 V (Proc.devRef .tc main_c) = R_c V := by
  refine (read_c (U0 V)).trans ?_
  rfl

/-- The value of this buffer after that many pieces. -/
theorem at_v0_1 (V : Valuation τ sig (Elt F)) : U1 V (Proc.devRef .tc main_v0) = R_v0 V := by
  refine (read_v0 (U0 V)).trans ?_
  rw [at_arg0_0 V, at_arg3_0 V]
  rfl

/-- The value of this buffer after that many pieces. -/
theorem at_arg0_1 (V : Valuation τ sig (Elt F)) : U1 V (Proc.devRef .tc main_arg0) = V (Proc.devRef .tc main_arg0) :=
  (keep1 V main_arg0 (by decide)).trans (at_arg0_0 V)

/-- The value of this buffer after that many pieces. -/
theorem at_arg1_1 (V : Valuation τ sig (Elt F)) : U1 V (Proc.devRef .tc main_arg1) = V (Proc.devRef .tc main_arg1) :=
  (keep1 V main_arg1 (by decide)).trans (at_arg1_0 V)

/-- The value of this buffer after that many pieces. -/
theorem at_arg10_1 (V : Valuation τ sig (Elt F)) : U1 V (Proc.devRef .tc main_arg10) = V (Proc.devRef .tc main_arg10) :=
  (keep1 V main_arg10 (by decide)).trans (at_arg10_0 V)

/-- The value of this buffer after that many pieces. -/
theorem at_arg11_1 (V : Valuation τ sig (Elt F)) : U1 V (Proc.devRef .tc main_arg11) = V (Proc.devRef .tc main_arg11) :=
  (keep1 V main_arg11 (by decide)).trans (at_arg11_0 V)

/-- The value of this buffer after that many pieces. -/
theorem at_arg12_1 (V : Valuation τ sig (Elt F)) : U1 V (Proc.devRef .tc main_arg12) = V (Proc.devRef .tc main_arg12) :=
  (keep1 V main_arg12 (by decide)).trans (at_arg12_0 V)

/-- The value of this buffer after that many pieces. -/
theorem at_arg13_1 (V : Valuation τ sig (Elt F)) : U1 V (Proc.devRef .tc main_arg13) = V (Proc.devRef .tc main_arg13) :=
  (keep1 V main_arg13 (by decide)).trans (at_arg13_0 V)

/-- The value of this buffer after that many pieces. -/
theorem at_arg2_1 (V : Valuation τ sig (Elt F)) : U1 V (Proc.devRef .tc main_arg2) = V (Proc.devRef .tc main_arg2) :=
  (keep1 V main_arg2 (by decide)).trans (at_arg2_0 V)

/-- The value of this buffer after that many pieces. -/
theorem at_arg3_1 (V : Valuation τ sig (Elt F)) : U1 V (Proc.devRef .tc main_arg3) = V (Proc.devRef .tc main_arg3) :=
  (keep1 V main_arg3 (by decide)).trans (at_arg3_0 V)

/-- The value of this buffer after that many pieces. -/
theorem at_arg4_1 (V : Valuation τ sig (Elt F)) : U1 V (Proc.devRef .tc main_arg4) = V (Proc.devRef .tc main_arg4) :=
  (keep1 V main_arg4 (by decide)).trans (at_arg4_0 V)

/-- The value of this buffer after that many pieces. -/
theorem at_arg5_1 (V : Valuation τ sig (Elt F)) : U1 V (Proc.devRef .tc main_arg5) = V (Proc.devRef .tc main_arg5) :=
  (keep1 V main_arg5 (by decide)).trans (at_arg5_0 V)

/-- The value of this buffer after that many pieces. -/
theorem at_arg6_1 (V : Valuation τ sig (Elt F)) : U1 V (Proc.devRef .tc main_arg6) = V (Proc.devRef .tc main_arg6) :=
  (keep1 V main_arg6 (by decide)).trans (at_arg6_0 V)

/-- The value of this buffer after that many pieces. -/
theorem at_arg7_1 (V : Valuation τ sig (Elt F)) : U1 V (Proc.devRef .tc main_arg7) = V (Proc.devRef .tc main_arg7) :=
  (keep1 V main_arg7 (by decide)).trans (at_arg7_0 V)

/-- The value of this buffer after that many pieces. -/
theorem at_arg8_1 (V : Valuation τ sig (Elt F)) : U1 V (Proc.devRef .tc main_arg8) = V (Proc.devRef .tc main_arg8) :=
  (keep1 V main_arg8 (by decide)).trans (at_arg8_0 V)

/-- The value of this buffer after that many pieces. -/
theorem at_arg9_1 (V : Valuation τ sig (Elt F)) : U1 V (Proc.devRef .tc main_arg9) = V (Proc.devRef .tc main_arg9) :=
  (keep1 V main_arg9 (by decide)).trans (at_arg9_0 V)

/-- The value of this buffer after that many pieces. -/
theorem at_v1_2 (V : Valuation τ sig (Elt F)) : U2 V (Proc.devRef .tc main_v1) = R_v1 V := by
  refine (read_v1 (U1 V)).trans ?_
  rw [at_v0_1 V, at_c_1 V]
  rfl

/-- The value of this buffer after that many pieces. -/
theorem at_arg0_2 (V : Valuation τ sig (Elt F)) : U2 V (Proc.devRef .tc main_arg0) = V (Proc.devRef .tc main_arg0) :=
  (keep2 V main_arg0 (by decide)).trans (at_arg0_1 V)

/-- The value of this buffer after that many pieces. -/
theorem at_arg1_2 (V : Valuation τ sig (Elt F)) : U2 V (Proc.devRef .tc main_arg1) = V (Proc.devRef .tc main_arg1) :=
  (keep2 V main_arg1 (by decide)).trans (at_arg1_1 V)

/-- The value of this buffer after that many pieces. -/
theorem at_arg10_2 (V : Valuation τ sig (Elt F)) : U2 V (Proc.devRef .tc main_arg10) = V (Proc.devRef .tc main_arg10) :=
  (keep2 V main_arg10 (by decide)).trans (at_arg10_1 V)

/-- The value of this buffer after that many pieces. -/
theorem at_arg11_2 (V : Valuation τ sig (Elt F)) : U2 V (Proc.devRef .tc main_arg11) = V (Proc.devRef .tc main_arg11) :=
  (keep2 V main_arg11 (by decide)).trans (at_arg11_1 V)

/-- The value of this buffer after that many pieces. -/
theorem at_arg12_2 (V : Valuation τ sig (Elt F)) : U2 V (Proc.devRef .tc main_arg12) = V (Proc.devRef .tc main_arg12) :=
  (keep2 V main_arg12 (by decide)).trans (at_arg12_1 V)

/-- The value of this buffer after that many pieces. -/
theorem at_arg13_2 (V : Valuation τ sig (Elt F)) : U2 V (Proc.devRef .tc main_arg13) = V (Proc.devRef .tc main_arg13) :=
  (keep2 V main_arg13 (by decide)).trans (at_arg13_1 V)

/-- The value of this buffer after that many pieces. -/
theorem at_arg2_2 (V : Valuation τ sig (Elt F)) : U2 V (Proc.devRef .tc main_arg2) = V (Proc.devRef .tc main_arg2) :=
  (keep2 V main_arg2 (by decide)).trans (at_arg2_1 V)

/-- The value of this buffer after that many pieces. -/
theorem at_arg3_2 (V : Valuation τ sig (Elt F)) : U2 V (Proc.devRef .tc main_arg3) = V (Proc.devRef .tc main_arg3) :=
  (keep2 V main_arg3 (by decide)).trans (at_arg3_1 V)

/-- The value of this buffer after that many pieces. -/
theorem at_arg4_2 (V : Valuation τ sig (Elt F)) : U2 V (Proc.devRef .tc main_arg4) = V (Proc.devRef .tc main_arg4) :=
  (keep2 V main_arg4 (by decide)).trans (at_arg4_1 V)

/-- The value of this buffer after that many pieces. -/
theorem at_arg5_2 (V : Valuation τ sig (Elt F)) : U2 V (Proc.devRef .tc main_arg5) = V (Proc.devRef .tc main_arg5) :=
  (keep2 V main_arg5 (by decide)).trans (at_arg5_1 V)

/-- The value of this buffer after that many pieces. -/
theorem at_arg6_2 (V : Valuation τ sig (Elt F)) : U2 V (Proc.devRef .tc main_arg6) = V (Proc.devRef .tc main_arg6) :=
  (keep2 V main_arg6 (by decide)).trans (at_arg6_1 V)

/-- The value of this buffer after that many pieces. -/
theorem at_arg7_2 (V : Valuation τ sig (Elt F)) : U2 V (Proc.devRef .tc main_arg7) = V (Proc.devRef .tc main_arg7) :=
  (keep2 V main_arg7 (by decide)).trans (at_arg7_1 V)

/-- The value of this buffer after that many pieces. -/
theorem at_arg8_2 (V : Valuation τ sig (Elt F)) : U2 V (Proc.devRef .tc main_arg8) = V (Proc.devRef .tc main_arg8) :=
  (keep2 V main_arg8 (by decide)).trans (at_arg8_1 V)

/-- The value of this buffer after that many pieces. -/
theorem at_arg9_2 (V : Valuation τ sig (Elt F)) : U2 V (Proc.devRef .tc main_arg9) = V (Proc.devRef .tc main_arg9) :=
  (keep2 V main_arg9 (by decide)).trans (at_arg9_1 V)

/-- The value of this buffer after that many pieces. -/
theorem at_c_0_3 (V : Valuation τ sig (Elt F)) : U3 V (Proc.devRef .tc main_c_0) = R_c_0 V := by
  refine (read_c_0 (U2 V)).trans ?_
  rfl

/-- The value of this buffer after that many pieces. -/
theorem at_v57_3 (V : Valuation τ sig (Elt F)) : U3 V (Proc.devRef .tc main_v57) = R_v57 V := by
  refine (read_v57 (U2 V)).trans ?_
  rw [at_v1_2 V, at_arg4_2 V, at_arg5_2 V]
  rfl

/-- The value of this buffer after that many pieces. -/
theorem at_v59_3 (V : Valuation τ sig (Elt F)) : U3 V (Proc.devRef .tc main_v59) = R_v59 V := by
  refine (read_v59 (U2 V)).trans ?_
  rw [at_arg13_2 V]
  rfl

/-- The value of this buffer after that many pieces. -/
theorem at_v61_3 (V : Valuation τ sig (Elt F)) : U3 V (Proc.devRef .tc main_v61) = R_v61 V := by
  refine (read_v61 (U2 V)).trans ?_
  rw [at_arg12_2 V]
  rfl

/-- The value of this buffer after that many pieces. -/
theorem at_v62_3 (V : Valuation τ sig (Elt F)) : U3 V (Proc.devRef .tc main_v62) = R_v62 V := by
  refine (read_v62 (U2 V)).trans ?_
  rw [at_arg0_2 V, at_arg3_2 V]
  rfl

/-- The value of this buffer after that many pieces. -/
theorem at_arg1_3 (V : Valuation τ sig (Elt F)) : U3 V (Proc.devRef .tc main_arg1) = V (Proc.devRef .tc main_arg1) :=
  (keep3 V main_arg1 (by decide)).trans (at_arg1_2 V)

/-- The value of this buffer after that many pieces. -/
theorem at_arg10_3 (V : Valuation τ sig (Elt F)) : U3 V (Proc.devRef .tc main_arg10) = V (Proc.devRef .tc main_arg10) :=
  (keep3 V main_arg10 (by decide)).trans (at_arg10_2 V)

/-- The value of this buffer after that many pieces. -/
theorem at_arg11_3 (V : Valuation τ sig (Elt F)) : U3 V (Proc.devRef .tc main_arg11) = V (Proc.devRef .tc main_arg11) :=
  (keep3 V main_arg11 (by decide)).trans (at_arg11_2 V)

/-- The value of this buffer after that many pieces. -/
theorem at_arg2_3 (V : Valuation τ sig (Elt F)) : U3 V (Proc.devRef .tc main_arg2) = V (Proc.devRef .tc main_arg2) :=
  (keep3 V main_arg2 (by decide)).trans (at_arg2_2 V)

/-- The value of this buffer after that many pieces. -/
theorem at_arg6_3 (V : Valuation τ sig (Elt F)) : U3 V (Proc.devRef .tc main_arg6) = V (Proc.devRef .tc main_arg6) :=
  (keep3 V main_arg6 (by decide)).trans (at_arg6_2 V)

/-- The value of this buffer after that many pieces. -/
theorem at_arg7_3 (V : Valuation τ sig (Elt F)) : U3 V (Proc.devRef .tc main_arg7) = V (Proc.devRef .tc main_arg7) :=
  (keep3 V main_arg7 (by decide)).trans (at_arg7_2 V)

/-- The value of this buffer after that many pieces. -/
theorem at_arg8_3 (V : Valuation τ sig (Elt F)) : U3 V (Proc.devRef .tc main_arg8) = V (Proc.devRef .tc main_arg8) :=
  (keep3 V main_arg8 (by decide)).trans (at_arg8_2 V)

/-- The value of this buffer after that many pieces. -/
theorem at_arg9_3 (V : Valuation τ sig (Elt F)) : U3 V (Proc.devRef .tc main_arg9) = V (Proc.devRef .tc main_arg9) :=
  (keep3 V main_arg9 (by decide)).trans (at_arg9_2 V)

/-- The value of this buffer after that many pieces. -/
theorem at_v63_4 (V : Valuation τ sig (Elt F)) : U4 V (Proc.devRef .tc main_v63) = R_v63 V := by
  refine (read_v63 (U3 V)).trans ?_
  rw [at_v62_3 V, at_c_0_3 V]
  rfl

/-- The value of this buffer after that many pieces. -/
theorem at_arg1_4 (V : Valuation τ sig (Elt F)) : U4 V (Proc.devRef .tc main_arg1) = V (Proc.devRef .tc main_arg1) :=
  (keep4 V main_arg1 (by decide)).trans (at_arg1_3 V)

/-- The value of this buffer after that many pieces. -/
theorem at_arg10_4 (V : Valuation τ sig (Elt F)) : U4 V (Proc.devRef .tc main_arg10) = V (Proc.devRef .tc main_arg10) :=
  (keep4 V main_arg10 (by decide)).trans (at_arg10_3 V)

/-- The value of this buffer after that many pieces. -/
theorem at_arg11_4 (V : Valuation τ sig (Elt F)) : U4 V (Proc.devRef .tc main_arg11) = V (Proc.devRef .tc main_arg11) :=
  (keep4 V main_arg11 (by decide)).trans (at_arg11_3 V)

/-- The value of this buffer after that many pieces. -/
theorem at_arg2_4 (V : Valuation τ sig (Elt F)) : U4 V (Proc.devRef .tc main_arg2) = V (Proc.devRef .tc main_arg2) :=
  (keep4 V main_arg2 (by decide)).trans (at_arg2_3 V)

/-- The value of this buffer after that many pieces. -/
theorem at_arg6_4 (V : Valuation τ sig (Elt F)) : U4 V (Proc.devRef .tc main_arg6) = V (Proc.devRef .tc main_arg6) :=
  (keep4 V main_arg6 (by decide)).trans (at_arg6_3 V)

/-- The value of this buffer after that many pieces. -/
theorem at_arg7_4 (V : Valuation τ sig (Elt F)) : U4 V (Proc.devRef .tc main_arg7) = V (Proc.devRef .tc main_arg7) :=
  (keep4 V main_arg7 (by decide)).trans (at_arg7_3 V)

/-- The value of this buffer after that many pieces. -/
theorem at_arg8_4 (V : Valuation τ sig (Elt F)) : U4 V (Proc.devRef .tc main_arg8) = V (Proc.devRef .tc main_arg8) :=
  (keep4 V main_arg8 (by decide)).trans (at_arg8_3 V)

/-- The value of this buffer after that many pieces. -/
theorem at_arg9_4 (V : Valuation τ sig (Elt F)) : U4 V (Proc.devRef .tc main_arg9) = V (Proc.devRef .tc main_arg9) :=
  (keep4 V main_arg9 (by decide)).trans (at_arg9_3 V)

/-- The value of this buffer after that many pieces. -/
theorem at_v57_4 (V : Valuation τ sig (Elt F)) : U4 V (Proc.devRef .tc main_v57) = R_v57 V :=
  (keep4 V main_v57 (by decide)).trans (at_v57_3 V)

/-- The value of this buffer after that many pieces. -/
theorem at_v59_4 (V : Valuation τ sig (Elt F)) : U4 V (Proc.devRef .tc main_v59) = R_v59 V :=
  (keep4 V main_v59 (by decide)).trans (at_v59_3 V)

/-- The value of this buffer after that many pieces. -/
theorem at_v61_4 (V : Valuation τ sig (Elt F)) : U4 V (Proc.devRef .tc main_v61) = R_v61 V :=
  (keep4 V main_v61 (by decide)).trans (at_v61_3 V)

/-- The value of this buffer after that many pieces. -/
theorem at_v119_5 (V : Valuation τ sig (Elt F)) : U5 V (Proc.devRef .tc main_v119) = R_v119 V := by
  refine (read_v119 (U4 V)).trans ?_
  rw [at_v63_4 V, at_arg6_4 V, at_arg7_4 V]
  rfl

/-- The value of this buffer after that many pieces. -/
theorem at_arg1_5 (V : Valuation τ sig (Elt F)) : U5 V (Proc.devRef .tc main_arg1) = V (Proc.devRef .tc main_arg1) :=
  (keep5 V main_arg1 (by decide)).trans (at_arg1_4 V)

/-- The value of this buffer after that many pieces. -/
theorem at_arg10_5 (V : Valuation τ sig (Elt F)) : U5 V (Proc.devRef .tc main_arg10) = V (Proc.devRef .tc main_arg10) :=
  (keep5 V main_arg10 (by decide)).trans (at_arg10_4 V)

/-- The value of this buffer after that many pieces. -/
theorem at_arg11_5 (V : Valuation τ sig (Elt F)) : U5 V (Proc.devRef .tc main_arg11) = V (Proc.devRef .tc main_arg11) :=
  (keep5 V main_arg11 (by decide)).trans (at_arg11_4 V)

/-- The value of this buffer after that many pieces. -/
theorem at_arg2_5 (V : Valuation τ sig (Elt F)) : U5 V (Proc.devRef .tc main_arg2) = V (Proc.devRef .tc main_arg2) :=
  (keep5 V main_arg2 (by decide)).trans (at_arg2_4 V)

/-- The value of this buffer after that many pieces. -/
theorem at_arg8_5 (V : Valuation τ sig (Elt F)) : U5 V (Proc.devRef .tc main_arg8) = V (Proc.devRef .tc main_arg8) :=
  (keep5 V main_arg8 (by decide)).trans (at_arg8_4 V)

/-- The value of this buffer after that many pieces. -/
theorem at_arg9_5 (V : Valuation τ sig (Elt F)) : U5 V (Proc.devRef .tc main_arg9) = V (Proc.devRef .tc main_arg9) :=
  (keep5 V main_arg9 (by decide)).trans (at_arg9_4 V)

/-- The value of this buffer after that many pieces. -/
theorem at_v57_5 (V : Valuation τ sig (Elt F)) : U5 V (Proc.devRef .tc main_v57) = R_v57 V :=
  (keep5 V main_v57 (by decide)).trans (at_v57_4 V)

/-- The value of this buffer after that many pieces. -/
theorem at_v59_5 (V : Valuation τ sig (Elt F)) : U5 V (Proc.devRef .tc main_v59) = R_v59 V :=
  (keep5 V main_v59 (by decide)).trans (at_v59_4 V)

/-- The value of this buffer after that many pieces. -/
theorem at_v61_5 (V : Valuation τ sig (Elt F)) : U5 V (Proc.devRef .tc main_v61) = R_v61 V :=
  (keep5 V main_v61 (by decide)).trans (at_v61_4 V)

/-- The value of this buffer after that many pieces. -/
theorem at_v120_6 (V : Valuation τ sig (Elt F)) : U6 V (Proc.devRef .tc main_v120) = R_v120 V := by
  refine (read_v120 (U5 V)).trans ?_
  rw [at_v119_5 V]
  rfl

/-- The value of this buffer after that many pieces. -/
theorem at_arg1_6 (V : Valuation τ sig (Elt F)) : U6 V (Proc.devRef .tc main_arg1) = V (Proc.devRef .tc main_arg1) :=
  (keep6 V main_arg1 (by decide)).trans (at_arg1_5 V)

/-- The value of this buffer after that many pieces. -/
theorem at_arg10_6 (V : Valuation τ sig (Elt F)) : U6 V (Proc.devRef .tc main_arg10) = V (Proc.devRef .tc main_arg10) :=
  (keep6 V main_arg10 (by decide)).trans (at_arg10_5 V)

/-- The value of this buffer after that many pieces. -/
theorem at_arg11_6 (V : Valuation τ sig (Elt F)) : U6 V (Proc.devRef .tc main_arg11) = V (Proc.devRef .tc main_arg11) :=
  (keep6 V main_arg11 (by decide)).trans (at_arg11_5 V)

/-- The value of this buffer after that many pieces. -/
theorem at_arg2_6 (V : Valuation τ sig (Elt F)) : U6 V (Proc.devRef .tc main_arg2) = V (Proc.devRef .tc main_arg2) :=
  (keep6 V main_arg2 (by decide)).trans (at_arg2_5 V)

/-- The value of this buffer after that many pieces. -/
theorem at_arg8_6 (V : Valuation τ sig (Elt F)) : U6 V (Proc.devRef .tc main_arg8) = V (Proc.devRef .tc main_arg8) :=
  (keep6 V main_arg8 (by decide)).trans (at_arg8_5 V)

/-- The value of this buffer after that many pieces. -/
theorem at_arg9_6 (V : Valuation τ sig (Elt F)) : U6 V (Proc.devRef .tc main_arg9) = V (Proc.devRef .tc main_arg9) :=
  (keep6 V main_arg9 (by decide)).trans (at_arg9_5 V)

/-- The value of this buffer after that many pieces. -/
theorem at_v57_6 (V : Valuation τ sig (Elt F)) : U6 V (Proc.devRef .tc main_v57) = R_v57 V :=
  (keep6 V main_v57 (by decide)).trans (at_v57_5 V)

/-- The value of this buffer after that many pieces. -/
theorem at_v59_6 (V : Valuation τ sig (Elt F)) : U6 V (Proc.devRef .tc main_v59) = R_v59 V :=
  (keep6 V main_v59 (by decide)).trans (at_v59_5 V)

/-- The value of this buffer after that many pieces. -/
theorem at_v61_6 (V : Valuation τ sig (Elt F)) : U6 V (Proc.devRef .tc main_v61) = R_v61 V :=
  (keep6 V main_v61 (by decide)).trans (at_v61_5 V)

/-- The value of this buffer after that many pieces. -/
theorem at_c_1_7 (V : Valuation τ sig (Elt F)) : U7 V (Proc.devRef .tc main_c_1) = R_c_1 V := by
  refine (read_c_1 (U6 V)).trans ?_
  rfl

/-- The value of this buffer after that many pieces. -/
theorem at_arg1_7 (V : Valuation τ sig (Elt F)) : U7 V (Proc.devRef .tc main_arg1) = V (Proc.devRef .tc main_arg1) :=
  (keep7 V main_arg1 (by decide)).trans (at_arg1_6 V)

/-- The value of this buffer after that many pieces. -/
theorem at_arg10_7 (V : Valuation τ sig (Elt F)) : U7 V (Proc.devRef .tc main_arg10) = V (Proc.devRef .tc main_arg10) :=
  (keep7 V main_arg10 (by decide)).trans (at_arg10_6 V)

/-- The value of this buffer after that many pieces. -/
theorem at_arg11_7 (V : Valuation τ sig (Elt F)) : U7 V (Proc.devRef .tc main_arg11) = V (Proc.devRef .tc main_arg11) :=
  (keep7 V main_arg11 (by decide)).trans (at_arg11_6 V)

/-- The value of this buffer after that many pieces. -/
theorem at_arg2_7 (V : Valuation τ sig (Elt F)) : U7 V (Proc.devRef .tc main_arg2) = V (Proc.devRef .tc main_arg2) :=
  (keep7 V main_arg2 (by decide)).trans (at_arg2_6 V)

/-- The value of this buffer after that many pieces. -/
theorem at_arg8_7 (V : Valuation τ sig (Elt F)) : U7 V (Proc.devRef .tc main_arg8) = V (Proc.devRef .tc main_arg8) :=
  (keep7 V main_arg8 (by decide)).trans (at_arg8_6 V)

/-- The value of this buffer after that many pieces. -/
theorem at_arg9_7 (V : Valuation τ sig (Elt F)) : U7 V (Proc.devRef .tc main_arg9) = V (Proc.devRef .tc main_arg9) :=
  (keep7 V main_arg9 (by decide)).trans (at_arg9_6 V)

/-- The value of this buffer after that many pieces. -/
theorem at_v120_7 (V : Valuation τ sig (Elt F)) : U7 V (Proc.devRef .tc main_v120) = R_v120 V :=
  (keep7 V main_v120 (by decide)).trans (at_v120_6 V)

/-- The value of this buffer after that many pieces. -/
theorem at_v57_7 (V : Valuation τ sig (Elt F)) : U7 V (Proc.devRef .tc main_v57) = R_v57 V :=
  (keep7 V main_v57 (by decide)).trans (at_v57_6 V)

/-- The value of this buffer after that many pieces. -/
theorem at_v59_7 (V : Valuation τ sig (Elt F)) : U7 V (Proc.devRef .tc main_v59) = R_v59 V :=
  (keep7 V main_v59 (by decide)).trans (at_v59_6 V)

/-- The value of this buffer after that many pieces. -/
theorem at_v61_7 (V : Valuation τ sig (Elt F)) : U7 V (Proc.devRef .tc main_v61) = R_v61 V :=
  (keep7 V main_v61 (by decide)).trans (at_v61_6 V)

/-- The value of this buffer after that many pieces. -/
theorem at_v121_8 (V : Valuation τ sig (Elt F)) : U8 V (Proc.devRef .tc main_v121) = R_v121 V := by
  refine (read_v121 (U7 V)).trans ?_
  rw [at_v120_7 V, at_c_1_7 V]
  rfl

/-- The value of this buffer after that many pieces. -/
theorem at_arg1_8 (V : Valuation τ sig (Elt F)) : U8 V (Proc.devRef .tc main_arg1) = V (Proc.devRef .tc main_arg1) :=
  (keep8 V main_arg1 (by decide)).trans (at_arg1_7 V)

/-- The value of this buffer after that many pieces. -/
theorem at_arg10_8 (V : Valuation τ sig (Elt F)) : U8 V (Proc.devRef .tc main_arg10) = V (Proc.devRef .tc main_arg10) :=
  (keep8 V main_arg10 (by decide)).trans (at_arg10_7 V)

/-- The value of this buffer after that many pieces. -/
theorem at_arg11_8 (V : Valuation τ sig (Elt F)) : U8 V (Proc.devRef .tc main_arg11) = V (Proc.devRef .tc main_arg11) :=
  (keep8 V main_arg11 (by decide)).trans (at_arg11_7 V)

/-- The value of this buffer after that many pieces. -/
theorem at_arg2_8 (V : Valuation τ sig (Elt F)) : U8 V (Proc.devRef .tc main_arg2) = V (Proc.devRef .tc main_arg2) :=
  (keep8 V main_arg2 (by decide)).trans (at_arg2_7 V)

/-- The value of this buffer after that many pieces. -/
theorem at_arg8_8 (V : Valuation τ sig (Elt F)) : U8 V (Proc.devRef .tc main_arg8) = V (Proc.devRef .tc main_arg8) :=
  (keep8 V main_arg8 (by decide)).trans (at_arg8_7 V)

/-- The value of this buffer after that many pieces. -/
theorem at_arg9_8 (V : Valuation τ sig (Elt F)) : U8 V (Proc.devRef .tc main_arg9) = V (Proc.devRef .tc main_arg9) :=
  (keep8 V main_arg9 (by decide)).trans (at_arg9_7 V)

/-- The value of this buffer after that many pieces. -/
theorem at_v57_8 (V : Valuation τ sig (Elt F)) : U8 V (Proc.devRef .tc main_v57) = R_v57 V :=
  (keep8 V main_v57 (by decide)).trans (at_v57_7 V)

/-- The value of this buffer after that many pieces. -/
theorem at_v59_8 (V : Valuation τ sig (Elt F)) : U8 V (Proc.devRef .tc main_v59) = R_v59 V :=
  (keep8 V main_v59 (by decide)).trans (at_v59_7 V)

/-- The value of this buffer after that many pieces. -/
theorem at_v61_8 (V : Valuation τ sig (Elt F)) : U8 V (Proc.devRef .tc main_v61) = R_v61 V :=
  (keep8 V main_v61 (by decide)).trans (at_v61_7 V)

/-- The value of this buffer after that many pieces. -/
theorem at_v177_9 (V : Valuation τ sig (Elt F)) : U9 V (Proc.devRef .tc main_v177) = R_v177 V := by
  refine (read_v177 (U8 V)).trans ?_
  rw [at_v121_8 V, at_arg8_8 V, at_arg9_8 V]
  rfl

/-- The value of this buffer after that many pieces. -/
theorem at_arg1_9 (V : Valuation τ sig (Elt F)) : U9 V (Proc.devRef .tc main_arg1) = V (Proc.devRef .tc main_arg1) :=
  (keep9 V main_arg1 (by decide)).trans (at_arg1_8 V)

/-- The value of this buffer after that many pieces. -/
theorem at_arg10_9 (V : Valuation τ sig (Elt F)) : U9 V (Proc.devRef .tc main_arg10) = V (Proc.devRef .tc main_arg10) :=
  (keep9 V main_arg10 (by decide)).trans (at_arg10_8 V)

/-- The value of this buffer after that many pieces. -/
theorem at_arg11_9 (V : Valuation τ sig (Elt F)) : U9 V (Proc.devRef .tc main_arg11) = V (Proc.devRef .tc main_arg11) :=
  (keep9 V main_arg11 (by decide)).trans (at_arg11_8 V)

/-- The value of this buffer after that many pieces. -/
theorem at_arg2_9 (V : Valuation τ sig (Elt F)) : U9 V (Proc.devRef .tc main_arg2) = V (Proc.devRef .tc main_arg2) :=
  (keep9 V main_arg2 (by decide)).trans (at_arg2_8 V)

/-- The value of this buffer after that many pieces. -/
theorem at_v57_9 (V : Valuation τ sig (Elt F)) : U9 V (Proc.devRef .tc main_v57) = R_v57 V :=
  (keep9 V main_v57 (by decide)).trans (at_v57_8 V)

/-- The value of this buffer after that many pieces. -/
theorem at_v59_9 (V : Valuation τ sig (Elt F)) : U9 V (Proc.devRef .tc main_v59) = R_v59 V :=
  (keep9 V main_v59 (by decide)).trans (at_v59_8 V)

/-- The value of this buffer after that many pieces. -/
theorem at_v61_9 (V : Valuation τ sig (Elt F)) : U9 V (Proc.devRef .tc main_v61) = R_v61 V :=
  (keep9 V main_v61 (by decide)).trans (at_v61_8 V)

/-- The value of this buffer after that many pieces. -/
theorem at_v178_10 (V : Valuation τ sig (Elt F)) : U10 V (Proc.devRef .tc main_v178) = R_v178 V := by
  refine (read_v178 (U9 V)).trans ?_
  rw [at_v177_9 V]
  rfl

/-- The value of this buffer after that many pieces. -/
theorem at_arg1_10 (V : Valuation τ sig (Elt F)) : U10 V (Proc.devRef .tc main_arg1) = V (Proc.devRef .tc main_arg1) :=
  (keep10 V main_arg1 (by decide)).trans (at_arg1_9 V)

/-- The value of this buffer after that many pieces. -/
theorem at_arg10_10 (V : Valuation τ sig (Elt F)) : U10 V (Proc.devRef .tc main_arg10) = V (Proc.devRef .tc main_arg10) :=
  (keep10 V main_arg10 (by decide)).trans (at_arg10_9 V)

/-- The value of this buffer after that many pieces. -/
theorem at_arg11_10 (V : Valuation τ sig (Elt F)) : U10 V (Proc.devRef .tc main_arg11) = V (Proc.devRef .tc main_arg11) :=
  (keep10 V main_arg11 (by decide)).trans (at_arg11_9 V)

/-- The value of this buffer after that many pieces. -/
theorem at_arg2_10 (V : Valuation τ sig (Elt F)) : U10 V (Proc.devRef .tc main_arg2) = V (Proc.devRef .tc main_arg2) :=
  (keep10 V main_arg2 (by decide)).trans (at_arg2_9 V)

/-- The value of this buffer after that many pieces. -/
theorem at_v57_10 (V : Valuation τ sig (Elt F)) : U10 V (Proc.devRef .tc main_v57) = R_v57 V :=
  (keep10 V main_v57 (by decide)).trans (at_v57_9 V)

/-- The value of this buffer after that many pieces. -/
theorem at_v59_10 (V : Valuation τ sig (Elt F)) : U10 V (Proc.devRef .tc main_v59) = R_v59 V :=
  (keep10 V main_v59 (by decide)).trans (at_v59_9 V)

/-- The value of this buffer after that many pieces. -/
theorem at_v61_10 (V : Valuation τ sig (Elt F)) : U10 V (Proc.devRef .tc main_v61) = R_v61 V :=
  (keep10 V main_v61 (by decide)).trans (at_v61_9 V)

/-- The value of this buffer after that many pieces. -/
theorem at_c_2_11 (V : Valuation τ sig (Elt F)) : U11 V (Proc.devRef .tc main_c_2) = R_c_2 V := by
  refine (read_c_2 (U10 V)).trans ?_
  rfl

/-- The value of this buffer after that many pieces. -/
theorem at_arg1_11 (V : Valuation τ sig (Elt F)) : U11 V (Proc.devRef .tc main_arg1) = V (Proc.devRef .tc main_arg1) :=
  (keep11 V main_arg1 (by decide)).trans (at_arg1_10 V)

/-- The value of this buffer after that many pieces. -/
theorem at_arg10_11 (V : Valuation τ sig (Elt F)) : U11 V (Proc.devRef .tc main_arg10) = V (Proc.devRef .tc main_arg10) :=
  (keep11 V main_arg10 (by decide)).trans (at_arg10_10 V)

/-- The value of this buffer after that many pieces. -/
theorem at_arg11_11 (V : Valuation τ sig (Elt F)) : U11 V (Proc.devRef .tc main_arg11) = V (Proc.devRef .tc main_arg11) :=
  (keep11 V main_arg11 (by decide)).trans (at_arg11_10 V)

/-- The value of this buffer after that many pieces. -/
theorem at_arg2_11 (V : Valuation τ sig (Elt F)) : U11 V (Proc.devRef .tc main_arg2) = V (Proc.devRef .tc main_arg2) :=
  (keep11 V main_arg2 (by decide)).trans (at_arg2_10 V)

/-- The value of this buffer after that many pieces. -/
theorem at_v178_11 (V : Valuation τ sig (Elt F)) : U11 V (Proc.devRef .tc main_v178) = R_v178 V :=
  (keep11 V main_v178 (by decide)).trans (at_v178_10 V)

/-- The value of this buffer after that many pieces. -/
theorem at_v57_11 (V : Valuation τ sig (Elt F)) : U11 V (Proc.devRef .tc main_v57) = R_v57 V :=
  (keep11 V main_v57 (by decide)).trans (at_v57_10 V)

/-- The value of this buffer after that many pieces. -/
theorem at_v59_11 (V : Valuation τ sig (Elt F)) : U11 V (Proc.devRef .tc main_v59) = R_v59 V :=
  (keep11 V main_v59 (by decide)).trans (at_v59_10 V)

/-- The value of this buffer after that many pieces. -/
theorem at_v61_11 (V : Valuation τ sig (Elt F)) : U11 V (Proc.devRef .tc main_v61) = R_v61 V :=
  (keep11 V main_v61 (by decide)).trans (at_v61_10 V)

/-- The value of this buffer after that many pieces. -/
theorem at_v179_12 (V : Valuation τ sig (Elt F)) : U12 V (Proc.devRef .tc main_v179) = R_v179 V := by
  refine (read_v179 (U11 V)).trans ?_
  rw [at_v178_11 V, at_c_2_11 V]
  rfl

/-- The value of this buffer after that many pieces. -/
theorem at_arg1_12 (V : Valuation τ sig (Elt F)) : U12 V (Proc.devRef .tc main_arg1) = V (Proc.devRef .tc main_arg1) :=
  (keep12 V main_arg1 (by decide)).trans (at_arg1_11 V)

/-- The value of this buffer after that many pieces. -/
theorem at_arg10_12 (V : Valuation τ sig (Elt F)) : U12 V (Proc.devRef .tc main_arg10) = V (Proc.devRef .tc main_arg10) :=
  (keep12 V main_arg10 (by decide)).trans (at_arg10_11 V)

/-- The value of this buffer after that many pieces. -/
theorem at_arg11_12 (V : Valuation τ sig (Elt F)) : U12 V (Proc.devRef .tc main_arg11) = V (Proc.devRef .tc main_arg11) :=
  (keep12 V main_arg11 (by decide)).trans (at_arg11_11 V)

/-- The value of this buffer after that many pieces. -/
theorem at_arg2_12 (V : Valuation τ sig (Elt F)) : U12 V (Proc.devRef .tc main_arg2) = V (Proc.devRef .tc main_arg2) :=
  (keep12 V main_arg2 (by decide)).trans (at_arg2_11 V)

/-- The value of this buffer after that many pieces. -/
theorem at_v57_12 (V : Valuation τ sig (Elt F)) : U12 V (Proc.devRef .tc main_v57) = R_v57 V :=
  (keep12 V main_v57 (by decide)).trans (at_v57_11 V)

/-- The value of this buffer after that many pieces. -/
theorem at_v59_12 (V : Valuation τ sig (Elt F)) : U12 V (Proc.devRef .tc main_v59) = R_v59 V :=
  (keep12 V main_v59 (by decide)).trans (at_v59_11 V)

/-- The value of this buffer after that many pieces. -/
theorem at_v61_12 (V : Valuation τ sig (Elt F)) : U12 V (Proc.devRef .tc main_v61) = R_v61 V :=
  (keep12 V main_v61 (by decide)).trans (at_v61_11 V)

/-- The value of this buffer after that many pieces. -/
theorem at_c_3_13 (V : Valuation τ sig (Elt F)) : U13 V (Proc.devRef .tc main_c_3) = R_c_3 V := by
  refine (read_c_3 (U12 V)).trans ?_
  rfl

/-- The value of this buffer after that many pieces. -/
theorem at_v235_13 (V : Valuation τ sig (Elt F)) : U13 V (Proc.devRef .tc main_v235) = R_v235 V := by
  refine (read_v235 (U12 V)).trans ?_
  rw [at_v179_12 V, at_arg10_12 V, at_arg11_12 V]
  rfl

/-- The value of this buffer after that many pieces. -/
theorem at_v236_13 (V : Valuation τ sig (Elt F)) : U13 V (Proc.devRef .tc main_v236) = R_v236 V := by
  refine (read_v236 (U12 V)).trans ?_
  rw [at_v179_12 V, at_arg10_12 V, at_arg11_12 V]
  rfl

/-- The value of this buffer after that many pieces. -/
theorem at_arg1_13 (V : Valuation τ sig (Elt F)) : U13 V (Proc.devRef .tc main_arg1) = V (Proc.devRef .tc main_arg1) :=
  (keep13 V main_arg1 (by decide)).trans (at_arg1_12 V)

/-- The value of this buffer after that many pieces. -/
theorem at_arg2_13 (V : Valuation τ sig (Elt F)) : U13 V (Proc.devRef .tc main_arg2) = V (Proc.devRef .tc main_arg2) :=
  (keep13 V main_arg2 (by decide)).trans (at_arg2_12 V)

/-- The value of this buffer after that many pieces. -/
theorem at_v57_13 (V : Valuation τ sig (Elt F)) : U13 V (Proc.devRef .tc main_v57) = R_v57 V :=
  (keep13 V main_v57 (by decide)).trans (at_v57_12 V)

/-- The value of this buffer after that many pieces. -/
theorem at_v59_13 (V : Valuation τ sig (Elt F)) : U13 V (Proc.devRef .tc main_v59) = R_v59 V :=
  (keep13 V main_v59 (by decide)).trans (at_v59_12 V)

/-- The value of this buffer after that many pieces. -/
theorem at_v61_13 (V : Valuation τ sig (Elt F)) : U13 V (Proc.devRef .tc main_v61) = R_v61 V :=
  (keep13 V main_v61 (by decide)).trans (at_v61_12 V)

/-- The value of this buffer after that many pieces. -/
theorem at_v237_14 (V : Valuation τ sig (Elt F)) : U14 V (Proc.devRef .tc main_v237) = R_v237 V := by
  refine (read_v237 (U13 V)).trans ?_
  rw [at_v236_13 V, at_c_3_13 V]
  rfl

/-- The value of this buffer after that many pieces. -/
theorem at_arg1_14 (V : Valuation τ sig (Elt F)) : U14 V (Proc.devRef .tc main_arg1) = V (Proc.devRef .tc main_arg1) :=
  (keep14 V main_arg1 (by decide)).trans (at_arg1_13 V)

/-- The value of this buffer after that many pieces. -/
theorem at_arg2_14 (V : Valuation τ sig (Elt F)) : U14 V (Proc.devRef .tc main_arg2) = V (Proc.devRef .tc main_arg2) :=
  (keep14 V main_arg2 (by decide)).trans (at_arg2_13 V)

/-- The value of this buffer after that many pieces. -/
theorem at_v235_14 (V : Valuation τ sig (Elt F)) : U14 V (Proc.devRef .tc main_v235) = R_v235 V :=
  (keep14 V main_v235 (by decide)).trans (at_v235_13 V)

/-- The value of this buffer after that many pieces. -/
theorem at_v57_14 (V : Valuation τ sig (Elt F)) : U14 V (Proc.devRef .tc main_v57) = R_v57 V :=
  (keep14 V main_v57 (by decide)).trans (at_v57_13 V)

/-- The value of this buffer after that many pieces. -/
theorem at_v59_14 (V : Valuation τ sig (Elt F)) : U14 V (Proc.devRef .tc main_v59) = R_v59 V :=
  (keep14 V main_v59 (by decide)).trans (at_v59_13 V)

/-- The value of this buffer after that many pieces. -/
theorem at_v61_14 (V : Valuation τ sig (Elt F)) : U14 V (Proc.devRef .tc main_v61) = R_v61 V :=
  (keep14 V main_v61 (by decide)).trans (at_v61_13 V)

/-- The value of this buffer after that many pieces. -/
theorem at_c_4_15 (V : Valuation τ sig (Elt F)) : U15 V (Proc.devRef .tc main_c_4) = R_c_4 V := by
  refine (read_c_4 (U14 V)).trans ?_
  rfl

/-- The value of this buffer after that many pieces. -/
theorem at_v238_15 (V : Valuation τ sig (Elt F)) : U15 V (Proc.devRef .tc main_v238) = R_v238 V := by
  refine (read_v238 (U14 V)).trans ?_
  rw [at_v235_14 V]
  rfl

/-- The value of this buffer after that many pieces. -/
theorem at_arg1_15 (V : Valuation τ sig (Elt F)) : U15 V (Proc.devRef .tc main_arg1) = V (Proc.devRef .tc main_arg1) :=
  (keep15 V main_arg1 (by decide)).trans (at_arg1_14 V)

/-- The value of this buffer after that many pieces. -/
theorem at_arg2_15 (V : Valuation τ sig (Elt F)) : U15 V (Proc.devRef .tc main_arg2) = V (Proc.devRef .tc main_arg2) :=
  (keep15 V main_arg2 (by decide)).trans (at_arg2_14 V)

/-- The value of this buffer after that many pieces. -/
theorem at_v235_15 (V : Valuation τ sig (Elt F)) : U15 V (Proc.devRef .tc main_v235) = R_v235 V :=
  (keep15 V main_v235 (by decide)).trans (at_v235_14 V)

/-- The value of this buffer after that many pieces. -/
theorem at_v237_15 (V : Valuation τ sig (Elt F)) : U15 V (Proc.devRef .tc main_v237) = R_v237 V :=
  (keep15 V main_v237 (by decide)).trans (at_v237_14 V)

/-- The value of this buffer after that many pieces. -/
theorem at_v57_15 (V : Valuation τ sig (Elt F)) : U15 V (Proc.devRef .tc main_v57) = R_v57 V :=
  (keep15 V main_v57 (by decide)).trans (at_v57_14 V)

/-- The value of this buffer after that many pieces. -/
theorem at_v59_15 (V : Valuation τ sig (Elt F)) : U15 V (Proc.devRef .tc main_v59) = R_v59 V :=
  (keep15 V main_v59 (by decide)).trans (at_v59_14 V)

/-- The value of this buffer after that many pieces. -/
theorem at_v61_15 (V : Valuation τ sig (Elt F)) : U15 V (Proc.devRef .tc main_v61) = R_v61 V :=
  (keep15 V main_v61 (by decide)).trans (at_v61_14 V)

/-- The value of this buffer after that many pieces. -/
theorem at_v239_16 (V : Valuation τ sig (Elt F)) : U16 V (Proc.devRef .tc main_v239) = R_v239 V := by
  refine (read_v239 (U15 V)).trans ?_
  rw [at_v238_15 V, at_c_4_15 V]
  rfl

/-- The value of this buffer after that many pieces. -/
theorem at_arg1_16 (V : Valuation τ sig (Elt F)) : U16 V (Proc.devRef .tc main_arg1) = V (Proc.devRef .tc main_arg1) :=
  (keep16 V main_arg1 (by decide)).trans (at_arg1_15 V)

/-- The value of this buffer after that many pieces. -/
theorem at_arg2_16 (V : Valuation τ sig (Elt F)) : U16 V (Proc.devRef .tc main_arg2) = V (Proc.devRef .tc main_arg2) :=
  (keep16 V main_arg2 (by decide)).trans (at_arg2_15 V)

/-- The value of this buffer after that many pieces. -/
theorem at_v235_16 (V : Valuation τ sig (Elt F)) : U16 V (Proc.devRef .tc main_v235) = R_v235 V :=
  (keep16 V main_v235 (by decide)).trans (at_v235_15 V)

/-- The value of this buffer after that many pieces. -/
theorem at_v237_16 (V : Valuation τ sig (Elt F)) : U16 V (Proc.devRef .tc main_v237) = R_v237 V :=
  (keep16 V main_v237 (by decide)).trans (at_v237_15 V)

/-- The value of this buffer after that many pieces. -/
theorem at_v57_16 (V : Valuation τ sig (Elt F)) : U16 V (Proc.devRef .tc main_v57) = R_v57 V :=
  (keep16 V main_v57 (by decide)).trans (at_v57_15 V)

/-- The value of this buffer after that many pieces. -/
theorem at_v59_16 (V : Valuation τ sig (Elt F)) : U16 V (Proc.devRef .tc main_v59) = R_v59 V :=
  (keep16 V main_v59 (by decide)).trans (at_v59_15 V)

/-- The value of this buffer after that many pieces. -/
theorem at_v61_16 (V : Valuation τ sig (Elt F)) : U16 V (Proc.devRef .tc main_v61) = R_v61 V :=
  (keep16 V main_v61 (by decide)).trans (at_v61_15 V)

/-- The value of this buffer after that many pieces. -/
theorem at_c_5_17 (V : Valuation τ sig (Elt F)) : U17 V (Proc.devRef .tc main_c_5) = R_c_5 V := by
  refine (read_c_5 (U16 V)).trans ?_
  rfl

/-- The value of this buffer after that many pieces. -/
theorem at_v240_17 (V : Valuation τ sig (Elt F)) : U17 V (Proc.devRef .tc main_v240) = R_v240 V := by
  refine (read_v240 (U16 V)).trans ?_
  rw [at_v235_16 V]
  rfl

/-- The value of this buffer after that many pieces. -/
theorem at_arg1_17 (V : Valuation τ sig (Elt F)) : U17 V (Proc.devRef .tc main_arg1) = V (Proc.devRef .tc main_arg1) :=
  (keep17 V main_arg1 (by decide)).trans (at_arg1_16 V)

/-- The value of this buffer after that many pieces. -/
theorem at_arg2_17 (V : Valuation τ sig (Elt F)) : U17 V (Proc.devRef .tc main_arg2) = V (Proc.devRef .tc main_arg2) :=
  (keep17 V main_arg2 (by decide)).trans (at_arg2_16 V)

/-- The value of this buffer after that many pieces. -/
theorem at_v235_17 (V : Valuation τ sig (Elt F)) : U17 V (Proc.devRef .tc main_v235) = R_v235 V :=
  (keep17 V main_v235 (by decide)).trans (at_v235_16 V)

/-- The value of this buffer after that many pieces. -/
theorem at_v237_17 (V : Valuation τ sig (Elt F)) : U17 V (Proc.devRef .tc main_v237) = R_v237 V :=
  (keep17 V main_v237 (by decide)).trans (at_v237_16 V)

/-- The value of this buffer after that many pieces. -/
theorem at_v239_17 (V : Valuation τ sig (Elt F)) : U17 V (Proc.devRef .tc main_v239) = R_v239 V :=
  (keep17 V main_v239 (by decide)).trans (at_v239_16 V)

/-- The value of this buffer after that many pieces. -/
theorem at_v57_17 (V : Valuation τ sig (Elt F)) : U17 V (Proc.devRef .tc main_v57) = R_v57 V :=
  (keep17 V main_v57 (by decide)).trans (at_v57_16 V)

/-- The value of this buffer after that many pieces. -/
theorem at_v59_17 (V : Valuation τ sig (Elt F)) : U17 V (Proc.devRef .tc main_v59) = R_v59 V :=
  (keep17 V main_v59 (by decide)).trans (at_v59_16 V)

/-- The value of this buffer after that many pieces. -/
theorem at_v61_17 (V : Valuation τ sig (Elt F)) : U17 V (Proc.devRef .tc main_v61) = R_v61 V :=
  (keep17 V main_v61 (by decide)).trans (at_v61_16 V)

/-- The value of this buffer after that many pieces. -/
theorem at_v241_18 (V : Valuation τ sig (Elt F)) : U18 V (Proc.devRef .tc main_v241) = R_v241 V := by
  refine (read_v241 (U17 V)).trans ?_
  rw [at_v240_17 V, at_c_5_17 V]
  rfl

/-- The value of this buffer after that many pieces. -/
theorem at_arg1_18 (V : Valuation τ sig (Elt F)) : U18 V (Proc.devRef .tc main_arg1) = V (Proc.devRef .tc main_arg1) :=
  (keep18 V main_arg1 (by decide)).trans (at_arg1_17 V)

/-- The value of this buffer after that many pieces. -/
theorem at_arg2_18 (V : Valuation τ sig (Elt F)) : U18 V (Proc.devRef .tc main_arg2) = V (Proc.devRef .tc main_arg2) :=
  (keep18 V main_arg2 (by decide)).trans (at_arg2_17 V)

/-- The value of this buffer after that many pieces. -/
theorem at_v235_18 (V : Valuation τ sig (Elt F)) : U18 V (Proc.devRef .tc main_v235) = R_v235 V :=
  (keep18 V main_v235 (by decide)).trans (at_v235_17 V)

/-- The value of this buffer after that many pieces. -/
theorem at_v237_18 (V : Valuation τ sig (Elt F)) : U18 V (Proc.devRef .tc main_v237) = R_v237 V :=
  (keep18 V main_v237 (by decide)).trans (at_v237_17 V)

/-- The value of this buffer after that many pieces. -/
theorem at_v239_18 (V : Valuation τ sig (Elt F)) : U18 V (Proc.devRef .tc main_v239) = R_v239 V :=
  (keep18 V main_v239 (by decide)).trans (at_v239_17 V)

/-- The value of this buffer after that many pieces. -/
theorem at_v57_18 (V : Valuation τ sig (Elt F)) : U18 V (Proc.devRef .tc main_v57) = R_v57 V :=
  (keep18 V main_v57 (by decide)).trans (at_v57_17 V)

/-- The value of this buffer after that many pieces. -/
theorem at_v59_18 (V : Valuation τ sig (Elt F)) : U18 V (Proc.devRef .tc main_v59) = R_v59 V :=
  (keep18 V main_v59 (by decide)).trans (at_v59_17 V)

/-- The value of this buffer after that many pieces. -/
theorem at_v61_18 (V : Valuation τ sig (Elt F)) : U18 V (Proc.devRef .tc main_v61) = R_v61 V :=
  (keep18 V main_v61 (by decide)).trans (at_v61_17 V)

/-- The value of this buffer after that many pieces. -/
theorem at_c_6_19 (V : Valuation τ sig (Elt F)) : U19 V (Proc.devRef .tc main_c_6) = R_c_6 V := by
  refine (read_c_6 (U18 V)).trans ?_
  rfl

/-- The value of this buffer after that many pieces. -/
theorem at_v242_19 (V : Valuation τ sig (Elt F)) : U19 V (Proc.devRef .tc main_v242) = R_v242 V := by
  refine (read_v242 (U18 V)).trans ?_
  rw [at_v235_18 V]
  rfl

/-- The value of this buffer after that many pieces. -/
theorem at_arg1_19 (V : Valuation τ sig (Elt F)) : U19 V (Proc.devRef .tc main_arg1) = V (Proc.devRef .tc main_arg1) :=
  (keep19 V main_arg1 (by decide)).trans (at_arg1_18 V)

/-- The value of this buffer after that many pieces. -/
theorem at_arg2_19 (V : Valuation τ sig (Elt F)) : U19 V (Proc.devRef .tc main_arg2) = V (Proc.devRef .tc main_arg2) :=
  (keep19 V main_arg2 (by decide)).trans (at_arg2_18 V)

/-- The value of this buffer after that many pieces. -/
theorem at_v235_19 (V : Valuation τ sig (Elt F)) : U19 V (Proc.devRef .tc main_v235) = R_v235 V :=
  (keep19 V main_v235 (by decide)).trans (at_v235_18 V)

/-- The value of this buffer after that many pieces. -/
theorem at_v237_19 (V : Valuation τ sig (Elt F)) : U19 V (Proc.devRef .tc main_v237) = R_v237 V :=
  (keep19 V main_v237 (by decide)).trans (at_v237_18 V)

/-- The value of this buffer after that many pieces. -/
theorem at_v239_19 (V : Valuation τ sig (Elt F)) : U19 V (Proc.devRef .tc main_v239) = R_v239 V :=
  (keep19 V main_v239 (by decide)).trans (at_v239_18 V)

/-- The value of this buffer after that many pieces. -/
theorem at_v241_19 (V : Valuation τ sig (Elt F)) : U19 V (Proc.devRef .tc main_v241) = R_v241 V :=
  (keep19 V main_v241 (by decide)).trans (at_v241_18 V)

/-- The value of this buffer after that many pieces. -/
theorem at_v57_19 (V : Valuation τ sig (Elt F)) : U19 V (Proc.devRef .tc main_v57) = R_v57 V :=
  (keep19 V main_v57 (by decide)).trans (at_v57_18 V)

/-- The value of this buffer after that many pieces. -/
theorem at_v59_19 (V : Valuation τ sig (Elt F)) : U19 V (Proc.devRef .tc main_v59) = R_v59 V :=
  (keep19 V main_v59 (by decide)).trans (at_v59_18 V)

/-- The value of this buffer after that many pieces. -/
theorem at_v61_19 (V : Valuation τ sig (Elt F)) : U19 V (Proc.devRef .tc main_v61) = R_v61 V :=
  (keep19 V main_v61 (by decide)).trans (at_v61_18 V)

/-- The value of this buffer after that many pieces. -/
theorem at_v243_20 (V : Valuation τ sig (Elt F)) : U20 V (Proc.devRef .tc main_v243) = R_v243 V := by
  refine (read_v243 (U19 V)).trans ?_
  rw [at_v242_19 V, at_c_6_19 V]
  rfl

/-- The value of this buffer after that many pieces. -/
theorem at_arg1_20 (V : Valuation τ sig (Elt F)) : U20 V (Proc.devRef .tc main_arg1) = V (Proc.devRef .tc main_arg1) :=
  (keep20 V main_arg1 (by decide)).trans (at_arg1_19 V)

/-- The value of this buffer after that many pieces. -/
theorem at_arg2_20 (V : Valuation τ sig (Elt F)) : U20 V (Proc.devRef .tc main_arg2) = V (Proc.devRef .tc main_arg2) :=
  (keep20 V main_arg2 (by decide)).trans (at_arg2_19 V)

/-- The value of this buffer after that many pieces. -/
theorem at_v235_20 (V : Valuation τ sig (Elt F)) : U20 V (Proc.devRef .tc main_v235) = R_v235 V :=
  (keep20 V main_v235 (by decide)).trans (at_v235_19 V)

/-- The value of this buffer after that many pieces. -/
theorem at_v237_20 (V : Valuation τ sig (Elt F)) : U20 V (Proc.devRef .tc main_v237) = R_v237 V :=
  (keep20 V main_v237 (by decide)).trans (at_v237_19 V)

/-- The value of this buffer after that many pieces. -/
theorem at_v239_20 (V : Valuation τ sig (Elt F)) : U20 V (Proc.devRef .tc main_v239) = R_v239 V :=
  (keep20 V main_v239 (by decide)).trans (at_v239_19 V)

/-- The value of this buffer after that many pieces. -/
theorem at_v241_20 (V : Valuation τ sig (Elt F)) : U20 V (Proc.devRef .tc main_v241) = R_v241 V :=
  (keep20 V main_v241 (by decide)).trans (at_v241_19 V)

/-- The value of this buffer after that many pieces. -/
theorem at_v57_20 (V : Valuation τ sig (Elt F)) : U20 V (Proc.devRef .tc main_v57) = R_v57 V :=
  (keep20 V main_v57 (by decide)).trans (at_v57_19 V)

/-- The value of this buffer after that many pieces. -/
theorem at_v59_20 (V : Valuation τ sig (Elt F)) : U20 V (Proc.devRef .tc main_v59) = R_v59 V :=
  (keep20 V main_v59 (by decide)).trans (at_v59_19 V)

/-- The value of this buffer after that many pieces. -/
theorem at_v61_20 (V : Valuation τ sig (Elt F)) : U20 V (Proc.devRef .tc main_v61) = R_v61 V :=
  (keep20 V main_v61 (by decide)).trans (at_v61_19 V)

/-- The value of this buffer after that many pieces. -/
theorem at_v251_21 (V : Valuation τ sig (Elt F)) : U21 V (Proc.devRef .tc main_v251) = R_v251 V := by
  refine (read_v251 (U20 V)).trans ?_
  rw [at_v235_20 V, at_v237_20 V, at_v59_20 V]
  rfl

/-- The value of this buffer after that many pieces. -/
theorem at_arg1_21 (V : Valuation τ sig (Elt F)) : U21 V (Proc.devRef .tc main_arg1) = V (Proc.devRef .tc main_arg1) :=
  (keep21 V main_arg1 (by decide)).trans (at_arg1_20 V)

/-- The value of this buffer after that many pieces. -/
theorem at_arg2_21 (V : Valuation τ sig (Elt F)) : U21 V (Proc.devRef .tc main_arg2) = V (Proc.devRef .tc main_arg2) :=
  (keep21 V main_arg2 (by decide)).trans (at_arg2_20 V)

/-- The value of this buffer after that many pieces. -/
theorem at_v235_21 (V : Valuation τ sig (Elt F)) : U21 V (Proc.devRef .tc main_v235) = R_v235 V :=
  (keep21 V main_v235 (by decide)).trans (at_v235_20 V)

/-- The value of this buffer after that many pieces. -/
theorem at_v239_21 (V : Valuation τ sig (Elt F)) : U21 V (Proc.devRef .tc main_v239) = R_v239 V :=
  (keep21 V main_v239 (by decide)).trans (at_v239_20 V)

/-- The value of this buffer after that many pieces. -/
theorem at_v241_21 (V : Valuation τ sig (Elt F)) : U21 V (Proc.devRef .tc main_v241) = R_v241 V :=
  (keep21 V main_v241 (by decide)).trans (at_v241_20 V)

/-- The value of this buffer after that many pieces. -/
theorem at_v243_21 (V : Valuation τ sig (Elt F)) : U21 V (Proc.devRef .tc main_v243) = R_v243 V :=
  (keep21 V main_v243 (by decide)).trans (at_v243_20 V)

/-- The value of this buffer after that many pieces. -/
theorem at_v57_21 (V : Valuation τ sig (Elt F)) : U21 V (Proc.devRef .tc main_v57) = R_v57 V :=
  (keep21 V main_v57 (by decide)).trans (at_v57_20 V)

/-- The value of this buffer after that many pieces. -/
theorem at_v59_21 (V : Valuation τ sig (Elt F)) : U21 V (Proc.devRef .tc main_v59) = R_v59 V :=
  (keep21 V main_v59 (by decide)).trans (at_v59_20 V)

/-- The value of this buffer after that many pieces. -/
theorem at_v61_21 (V : Valuation τ sig (Elt F)) : U21 V (Proc.devRef .tc main_v61) = R_v61 V :=
  (keep21 V main_v61 (by decide)).trans (at_v61_20 V)

/-- The value of this buffer after that many pieces. -/
theorem at_v259_22 (V : Valuation τ sig (Elt F)) : U22 V (Proc.devRef .tc main_v259) = R_v259 V := by
  refine (read_v259 (U21 V)).trans ?_
  rw [at_v235_21 V, at_v239_21 V, at_v59_21 V]
  rfl

/-- The value of this buffer after that many pieces. -/
theorem at_arg1_22 (V : Valuation τ sig (Elt F)) : U22 V (Proc.devRef .tc main_arg1) = V (Proc.devRef .tc main_arg1) :=
  (keep22 V main_arg1 (by decide)).trans (at_arg1_21 V)

/-- The value of this buffer after that many pieces. -/
theorem at_arg2_22 (V : Valuation τ sig (Elt F)) : U22 V (Proc.devRef .tc main_arg2) = V (Proc.devRef .tc main_arg2) :=
  (keep22 V main_arg2 (by decide)).trans (at_arg2_21 V)

/-- The value of this buffer after that many pieces. -/
theorem at_v235_22 (V : Valuation τ sig (Elt F)) : U22 V (Proc.devRef .tc main_v235) = R_v235 V :=
  (keep22 V main_v235 (by decide)).trans (at_v235_21 V)

/-- The value of this buffer after that many pieces. -/
theorem at_v241_22 (V : Valuation τ sig (Elt F)) : U22 V (Proc.devRef .tc main_v241) = R_v241 V :=
  (keep22 V main_v241 (by decide)).trans (at_v241_21 V)

/-- The value of this buffer after that many pieces. -/
theorem at_v243_22 (V : Valuation τ sig (Elt F)) : U22 V (Proc.devRef .tc main_v243) = R_v243 V :=
  (keep22 V main_v243 (by decide)).trans (at_v243_21 V)

/-- The value of this buffer after that many pieces. -/
theorem at_v251_22 (V : Valuation τ sig (Elt F)) : U22 V (Proc.devRef .tc main_v251) = R_v251 V :=
  (keep22 V main_v251 (by decide)).trans (at_v251_21 V)

/-- The value of this buffer after that many pieces. -/
theorem at_v57_22 (V : Valuation τ sig (Elt F)) : U22 V (Proc.devRef .tc main_v57) = R_v57 V :=
  (keep22 V main_v57 (by decide)).trans (at_v57_21 V)

/-- The value of this buffer after that many pieces. -/
theorem at_v59_22 (V : Valuation τ sig (Elt F)) : U22 V (Proc.devRef .tc main_v59) = R_v59 V :=
  (keep22 V main_v59 (by decide)).trans (at_v59_21 V)

/-- The value of this buffer after that many pieces. -/
theorem at_v61_22 (V : Valuation τ sig (Elt F)) : U22 V (Proc.devRef .tc main_v61) = R_v61 V :=
  (keep22 V main_v61 (by decide)).trans (at_v61_21 V)

/-- The value of this buffer after that many pieces. -/
theorem at_v267_23 (V : Valuation τ sig (Elt F)) : U23 V (Proc.devRef .tc main_v267) = R_v267 V := by
  refine (read_v267 (U22 V)).trans ?_
  rw [at_v235_22 V, at_v241_22 V, at_v59_22 V]
  rfl

/-- The value of this buffer after that many pieces. -/
theorem at_arg1_23 (V : Valuation τ sig (Elt F)) : U23 V (Proc.devRef .tc main_arg1) = V (Proc.devRef .tc main_arg1) :=
  (keep23 V main_arg1 (by decide)).trans (at_arg1_22 V)

/-- The value of this buffer after that many pieces. -/
theorem at_arg2_23 (V : Valuation τ sig (Elt F)) : U23 V (Proc.devRef .tc main_arg2) = V (Proc.devRef .tc main_arg2) :=
  (keep23 V main_arg2 (by decide)).trans (at_arg2_22 V)

/-- The value of this buffer after that many pieces. -/
theorem at_v235_23 (V : Valuation τ sig (Elt F)) : U23 V (Proc.devRef .tc main_v235) = R_v235 V :=
  (keep23 V main_v235 (by decide)).trans (at_v235_22 V)

/-- The value of this buffer after that many pieces. -/
theorem at_v243_23 (V : Valuation τ sig (Elt F)) : U23 V (Proc.devRef .tc main_v243) = R_v243 V :=
  (keep23 V main_v243 (by decide)).trans (at_v243_22 V)

/-- The value of this buffer after that many pieces. -/
theorem at_v251_23 (V : Valuation τ sig (Elt F)) : U23 V (Proc.devRef .tc main_v251) = R_v251 V :=
  (keep23 V main_v251 (by decide)).trans (at_v251_22 V)

/-- The value of this buffer after that many pieces. -/
theorem at_v259_23 (V : Valuation τ sig (Elt F)) : U23 V (Proc.devRef .tc main_v259) = R_v259 V :=
  (keep23 V main_v259 (by decide)).trans (at_v259_22 V)

/-- The value of this buffer after that many pieces. -/
theorem at_v57_23 (V : Valuation τ sig (Elt F)) : U23 V (Proc.devRef .tc main_v57) = R_v57 V :=
  (keep23 V main_v57 (by decide)).trans (at_v57_22 V)

/-- The value of this buffer after that many pieces. -/
theorem at_v59_23 (V : Valuation τ sig (Elt F)) : U23 V (Proc.devRef .tc main_v59) = R_v59 V :=
  (keep23 V main_v59 (by decide)).trans (at_v59_22 V)

/-- The value of this buffer after that many pieces. -/
theorem at_v61_23 (V : Valuation τ sig (Elt F)) : U23 V (Proc.devRef .tc main_v61) = R_v61 V :=
  (keep23 V main_v61 (by decide)).trans (at_v61_22 V)

/-- The value of this buffer after that many pieces. -/
theorem at_v275_24 (V : Valuation τ sig (Elt F)) : U24 V (Proc.devRef .tc main_v275) = R_v275 V := by
  refine (read_v275 (U23 V)).trans ?_
  rw [at_v235_23 V, at_v243_23 V, at_v59_23 V]
  rfl

/-- The value of this buffer after that many pieces. -/
theorem at_arg1_24 (V : Valuation τ sig (Elt F)) : U24 V (Proc.devRef .tc main_arg1) = V (Proc.devRef .tc main_arg1) :=
  (keep24 V main_arg1 (by decide)).trans (at_arg1_23 V)

/-- The value of this buffer after that many pieces. -/
theorem at_arg2_24 (V : Valuation τ sig (Elt F)) : U24 V (Proc.devRef .tc main_arg2) = V (Proc.devRef .tc main_arg2) :=
  (keep24 V main_arg2 (by decide)).trans (at_arg2_23 V)

/-- The value of this buffer after that many pieces. -/
theorem at_v251_24 (V : Valuation τ sig (Elt F)) : U24 V (Proc.devRef .tc main_v251) = R_v251 V :=
  (keep24 V main_v251 (by decide)).trans (at_v251_23 V)

/-- The value of this buffer after that many pieces. -/
theorem at_v259_24 (V : Valuation τ sig (Elt F)) : U24 V (Proc.devRef .tc main_v259) = R_v259 V :=
  (keep24 V main_v259 (by decide)).trans (at_v259_23 V)

/-- The value of this buffer after that many pieces. -/
theorem at_v267_24 (V : Valuation τ sig (Elt F)) : U24 V (Proc.devRef .tc main_v267) = R_v267 V :=
  (keep24 V main_v267 (by decide)).trans (at_v267_23 V)

/-- The value of this buffer after that many pieces. -/
theorem at_v57_24 (V : Valuation τ sig (Elt F)) : U24 V (Proc.devRef .tc main_v57) = R_v57 V :=
  (keep24 V main_v57 (by decide)).trans (at_v57_23 V)

/-- The value of this buffer after that many pieces. -/
theorem at_v61_24 (V : Valuation τ sig (Elt F)) : U24 V (Proc.devRef .tc main_v61) = R_v61 V :=
  (keep24 V main_v61 (by decide)).trans (at_v61_23 V)

/-- The value of this buffer after that many pieces. -/
theorem at_v278_25 (V : Valuation τ sig (Elt F)) : U25 V (Proc.devRef .tc main_v278) = R_v278 V := by
  refine (read_v278 (U24 V)).trans ?_
  rw [at_v251_24 V]
  rfl

/-- The value of this buffer after that many pieces. -/
theorem at_v281_25 (V : Valuation τ sig (Elt F)) : U25 V (Proc.devRef .tc main_v281) = R_v281 V := by
  refine (read_v281 (U24 V)).trans ?_
  rw [at_v259_24 V]
  rfl

/-- The value of this buffer after that many pieces. -/
theorem at_v284_25 (V : Valuation τ sig (Elt F)) : U25 V (Proc.devRef .tc main_v284) = R_v284 V := by
  refine (read_v284 (U24 V)).trans ?_
  rw [at_v267_24 V]
  rfl

/-- The value of this buffer after that many pieces. -/
theorem at_v287_25 (V : Valuation τ sig (Elt F)) : U25 V (Proc.devRef .tc main_v287) = R_v287 V := by
  refine (read_v287 (U24 V)).trans ?_
  rw [at_v275_24 V]
  rfl

/-- The value of this buffer after that many pieces. -/
theorem at_v290_25 (V : Valuation τ sig (Elt F)) : U25 V (Proc.devRef .tc main_v290) = R_v290 V := by
  refine (read_v290 (U24 V)).trans ?_
  rw [at_v251_24 V, at_v259_24 V, at_v267_24 V, at_v275_24 V]
  rfl

/-- The value of this buffer after that many pieces. -/
theorem at_arg1_25 (V : Valuation τ sig (Elt F)) : U25 V (Proc.devRef .tc main_arg1) = V (Proc.devRef .tc main_arg1) :=
  (keep25 V main_arg1 (by decide)).trans (at_arg1_24 V)

/-- The value of this buffer after that many pieces. -/
theorem at_arg2_25 (V : Valuation τ sig (Elt F)) : U25 V (Proc.devRef .tc main_arg2) = V (Proc.devRef .tc main_arg2) :=
  (keep25 V main_arg2 (by decide)).trans (at_arg2_24 V)

/-- The value of this buffer after that many pieces. -/
theorem at_v57_25 (V : Valuation τ sig (Elt F)) : U25 V (Proc.devRef .tc main_v57) = R_v57 V :=
  (keep25 V main_v57 (by decide)).trans (at_v57_24 V)

/-- The value of this buffer after that many pieces. -/
theorem at_v61_25 (V : Valuation τ sig (Elt F)) : U25 V (Proc.devRef .tc main_v61) = R_v61 V :=
  (keep25 V main_v61 (by decide)).trans (at_v61_24 V)

/-- The value of this buffer after that many pieces. -/
theorem at_v291_26 (V : Valuation τ sig (Elt F)) : U26 V (Proc.devRef .tc main_v291) = R_v291 V := by
  refine (read_v291 (U25 V)).trans ?_
  rw [at_v278_25 V, at_v281_25 V, at_v284_25 V, at_v287_25 V, at_v290_25 V]
  rfl

/-- The value of this buffer after that many pieces. -/
theorem at_v292_26 (V : Valuation τ sig (Elt F)) : U26 V (Proc.devRef .tc main_v292) = R_v292 V := by
  refine (read_v292 (U25 V)).trans ?_
  rw [at_v278_25 V, at_v281_25 V, at_v284_25 V, at_v287_25 V, at_v290_25 V]
  rfl

/-- The value of this buffer after that many pieces. -/
theorem at_v293_26 (V : Valuation τ sig (Elt F)) : U26 V (Proc.devRef .tc main_v293) = R_v293 V := by
  refine (read_v293 (U25 V)).trans ?_
  rw [at_v278_25 V, at_v281_25 V, at_v284_25 V, at_v287_25 V, at_v290_25 V]
  rfl

/-- The value of this buffer after that many pieces. -/
theorem at_v294_26 (V : Valuation τ sig (Elt F)) : U26 V (Proc.devRef .tc main_v294) = R_v294 V := by
  refine (read_v294 (U25 V)).trans ?_
  rw [at_v278_25 V, at_v281_25 V, at_v284_25 V, at_v287_25 V, at_v290_25 V]
  rfl

/-- The value of this buffer after that many pieces. -/
theorem at_v295_26 (V : Valuation τ sig (Elt F)) : U26 V (Proc.devRef .tc main_v295) = R_v295 V := by
  refine (read_v295 (U25 V)).trans ?_
  rw [at_v278_25 V, at_v281_25 V, at_v284_25 V, at_v287_25 V, at_v290_25 V]
  rfl

/-- The value of this buffer after that many pieces. -/
theorem at_v296_26 (V : Valuation τ sig (Elt F)) : U26 V (Proc.devRef .tc main_v296) = R_v296 V := by
  refine (read_v296 (U25 V)).trans ?_
  rw [at_v278_25 V, at_v281_25 V, at_v284_25 V, at_v287_25 V, at_v290_25 V]
  rfl

/-- The value of this buffer after that many pieces. -/
theorem at_arg1_26 (V : Valuation τ sig (Elt F)) : U26 V (Proc.devRef .tc main_arg1) = V (Proc.devRef .tc main_arg1) :=
  (keep26 V main_arg1 (by decide)).trans (at_arg1_25 V)

/-- The value of this buffer after that many pieces. -/
theorem at_arg2_26 (V : Valuation τ sig (Elt F)) : U26 V (Proc.devRef .tc main_arg2) = V (Proc.devRef .tc main_arg2) :=
  (keep26 V main_arg2 (by decide)).trans (at_arg2_25 V)

/-- The value of this buffer after that many pieces. -/
theorem at_v57_26 (V : Valuation τ sig (Elt F)) : U26 V (Proc.devRef .tc main_v57) = R_v57 V :=
  (keep26 V main_v57 (by decide)).trans (at_v57_25 V)

/-- The value of this buffer after that many pieces. -/
theorem at_v61_26 (V : Valuation τ sig (Elt F)) : U26 V (Proc.devRef .tc main_v61) = R_v61 V :=
  (keep26 V main_v61 (by decide)).trans (at_v61_25 V)

/-- The value of this buffer after that many pieces. -/
theorem at_c_19_27 (V : Valuation τ sig (Elt F)) : U27 V (Proc.devRef .tc main_c_19) = R_c_19 V := by
  refine (read_c_19 (U26 V)).trans ?_
  rfl

/-- The value of this buffer after that many pieces. -/
theorem at_v305_27 (V : Valuation τ sig (Elt F)) : U27 V (Proc.devRef .tc main_v305) = R_v305 V := by
  refine (read_v305 (U26 V)).trans ?_
  rw [at_v61_26 V, at_arg2_26 V, at_arg1_26 V]
  rfl

/-- The value of this buffer after that many pieces. -/
theorem at_v309_27 (V : Valuation τ sig (Elt F)) : U27 V (Proc.devRef .tc main_v309) = R_v309 V := by
  refine (read_v309 (U26 V)).trans ?_
  rw [at_arg1_26 V]
  rfl

/-- The value of this buffer after that many pieces. -/
theorem at_v310_27 (V : Valuation τ sig (Elt F)) : U27 V (Proc.devRef .tc main_v310) = R_v310 V := by
  refine (read_v310 (U26 V)).trans ?_
  rw [at_arg1_26 V]
  rfl

/-- The value of this buffer after that many pieces. -/
theorem at_arg2_27 (V : Valuation τ sig (Elt F)) : U27 V (Proc.devRef .tc main_arg2) = V (Proc.devRef .tc main_arg2) :=
  (keep27 V main_arg2 (by decide)).trans (at_arg2_26 V)

/-- The value of this buffer after that many pieces. -/
theorem at_v291_27 (V : Valuation τ sig (Elt F)) : U27 V (Proc.devRef .tc main_v291) = R_v291 V :=
  (keep27 V main_v291 (by decide)).trans (at_v291_26 V)

/-- The value of this buffer after that many pieces. -/
theorem at_v292_27 (V : Valuation τ sig (Elt F)) : U27 V (Proc.devRef .tc main_v292) = R_v292 V :=
  (keep27 V main_v292 (by decide)).trans (at_v292_26 V)

/-- The value of this buffer after that many pieces. -/
theorem at_v293_27 (V : Valuation τ sig (Elt F)) : U27 V (Proc.devRef .tc main_v293) = R_v293 V :=
  (keep27 V main_v293 (by decide)).trans (at_v293_26 V)

/-- The value of this buffer after that many pieces. -/
theorem at_v294_27 (V : Valuation τ sig (Elt F)) : U27 V (Proc.devRef .tc main_v294) = R_v294 V :=
  (keep27 V main_v294 (by decide)).trans (at_v294_26 V)

/-- The value of this buffer after that many pieces. -/
theorem at_v295_27 (V : Valuation τ sig (Elt F)) : U27 V (Proc.devRef .tc main_v295) = R_v295 V :=
  (keep27 V main_v295 (by decide)).trans (at_v295_26 V)

/-- The value of this buffer after that many pieces. -/
theorem at_v296_27 (V : Valuation τ sig (Elt F)) : U27 V (Proc.devRef .tc main_v296) = R_v296 V :=
  (keep27 V main_v296 (by decide)).trans (at_v296_26 V)

/-- The value of this buffer after that many pieces. -/
theorem at_v57_27 (V : Valuation τ sig (Elt F)) : U27 V (Proc.devRef .tc main_v57) = R_v57 V :=
  (keep27 V main_v57 (by decide)).trans (at_v57_26 V)

/-- The value of this buffer after that many pieces. -/
theorem at_v61_27 (V : Valuation τ sig (Elt F)) : U27 V (Proc.devRef .tc main_v61) = R_v61 V :=
  (keep27 V main_v61 (by decide)).trans (at_v61_26 V)

/-- The value of this buffer after that many pieces. -/
theorem at_v311_28 (V : Valuation τ sig (Elt F)) : U28 V (Proc.devRef .tc main_v311) = R_v311 V := by
  refine (read_v311 (U27 V)).trans ?_
  rw [at_v310_27 V, at_c_19_27 V]
  rfl

/-- The value of this buffer after that many pieces. -/
theorem at_arg2_28 (V : Valuation τ sig (Elt F)) : U28 V (Proc.devRef .tc main_arg2) = V (Proc.devRef .tc main_arg2) :=
  (keep28 V main_arg2 (by decide)).trans (at_arg2_27 V)

/-- The value of this buffer after that many pieces. -/
theorem at_v291_28 (V : Valuation τ sig (Elt F)) : U28 V (Proc.devRef .tc main_v291) = R_v291 V :=
  (keep28 V main_v291 (by decide)).trans (at_v291_27 V)

/-- The value of this buffer after that many pieces. -/
theorem at_v292_28 (V : Valuation τ sig (Elt F)) : U28 V (Proc.devRef .tc main_v292) = R_v292 V :=
  (keep28 V main_v292 (by decide)).trans (at_v292_27 V)

/-- The value of this buffer after that many pieces. -/
theorem at_v293_28 (V : Valuation τ sig (Elt F)) : U28 V (Proc.devRef .tc main_v293) = R_v293 V :=
  (keep28 V main_v293 (by decide)).trans (at_v293_27 V)

/-- The value of this buffer after that many pieces. -/
theorem at_v294_28 (V : Valuation τ sig (Elt F)) : U28 V (Proc.devRef .tc main_v294) = R_v294 V :=
  (keep28 V main_v294 (by decide)).trans (at_v294_27 V)

/-- The value of this buffer after that many pieces. -/
theorem at_v295_28 (V : Valuation τ sig (Elt F)) : U28 V (Proc.devRef .tc main_v295) = R_v295 V :=
  (keep28 V main_v295 (by decide)).trans (at_v295_27 V)

/-- The value of this buffer after that many pieces. -/
theorem at_v296_28 (V : Valuation τ sig (Elt F)) : U28 V (Proc.devRef .tc main_v296) = R_v296 V :=
  (keep28 V main_v296 (by decide)).trans (at_v296_27 V)

/-- The value of this buffer after that many pieces. -/
theorem at_v305_28 (V : Valuation τ sig (Elt F)) : U28 V (Proc.devRef .tc main_v305) = R_v305 V :=
  (keep28 V main_v305 (by decide)).trans (at_v305_27 V)

/-- The value of this buffer after that many pieces. -/
theorem at_v309_28 (V : Valuation τ sig (Elt F)) : U28 V (Proc.devRef .tc main_v309) = R_v309 V :=
  (keep28 V main_v309 (by decide)).trans (at_v309_27 V)

/-- The value of this buffer after that many pieces. -/
theorem at_v57_28 (V : Valuation τ sig (Elt F)) : U28 V (Proc.devRef .tc main_v57) = R_v57 V :=
  (keep28 V main_v57 (by decide)).trans (at_v57_27 V)

/-- The value of this buffer after that many pieces. -/
theorem at_v61_28 (V : Valuation τ sig (Elt F)) : U28 V (Proc.devRef .tc main_v61) = R_v61 V :=
  (keep28 V main_v61 (by decide)).trans (at_v61_27 V)

/-- The value of this buffer after that many pieces. -/
theorem at_c_20_29 (V : Valuation τ sig (Elt F)) : U29 V (Proc.devRef .tc main_c_20) = R_c_20 V := by
  refine (read_c_20 (U28 V)).trans ?_
  rfl

/-- The value of this buffer after that many pieces. -/
theorem at_v312_29 (V : Valuation τ sig (Elt F)) : U29 V (Proc.devRef .tc main_v312) = R_v312 V := by
  refine (read_v312 (U28 V)).trans ?_
  rw [at_v309_28 V]
  rfl

/-- The value of this buffer after that many pieces. -/
theorem at_arg2_29 (V : Valuation τ sig (Elt F)) : U29 V (Proc.devRef .tc main_arg2) = V (Proc.devRef .tc main_arg2) :=
  (keep29 V main_arg2 (by decide)).trans (at_arg2_28 V)

/-- The value of this buffer after that many pieces. -/
theorem at_v291_29 (V : Valuation τ sig (Elt F)) : U29 V (Proc.devRef .tc main_v291) = R_v291 V :=
  (keep29 V main_v291 (by decide)).trans (at_v291_28 V)

/-- The value of this buffer after that many pieces. -/
theorem at_v292_29 (V : Valuation τ sig (Elt F)) : U29 V (Proc.devRef .tc main_v292) = R_v292 V :=
  (keep29 V main_v292 (by decide)).trans (at_v292_28 V)

/-- The value of this buffer after that many pieces. -/
theorem at_v293_29 (V : Valuation τ sig (Elt F)) : U29 V (Proc.devRef .tc main_v293) = R_v293 V :=
  (keep29 V main_v293 (by decide)).trans (at_v293_28 V)

/-- The value of this buffer after that many pieces. -/
theorem at_v294_29 (V : Valuation τ sig (Elt F)) : U29 V (Proc.devRef .tc main_v294) = R_v294 V :=
  (keep29 V main_v294 (by decide)).trans (at_v294_28 V)

/-- The value of this buffer after that many pieces. -/
theorem at_v295_29 (V : Valuation τ sig (Elt F)) : U29 V (Proc.devRef .tc main_v295) = R_v295 V :=
  (keep29 V main_v295 (by decide)).trans (at_v295_28 V)

/-- The value of this buffer after that many pieces. -/
theorem at_v296_29 (V : Valuation τ sig (Elt F)) : U29 V (Proc.devRef .tc main_v296) = R_v296 V :=
  (keep29 V main_v296 (by decide)).trans (at_v296_28 V)

/-- The value of this buffer after that many pieces. -/
theorem at_v305_29 (V : Valuation τ sig (Elt F)) : U29 V (Proc.devRef .tc main_v305) = R_v305 V :=
  (keep29 V main_v305 (by decide)).trans (at_v305_28 V)

/-- The value of this buffer after that many pieces. -/
theorem at_v309_29 (V : Valuation τ sig (Elt F)) : U29 V (Proc.devRef .tc main_v309) = R_v309 V :=
  (keep29 V main_v309 (by decide)).trans (at_v309_28 V)

/-- The value of this buffer after that many pieces. -/
theorem at_v311_29 (V : Valuation τ sig (Elt F)) : U29 V (Proc.devRef .tc main_v311) = R_v311 V :=
  (keep29 V main_v311 (by decide)).trans (at_v311_28 V)

/-- The value of this buffer after that many pieces. -/
theorem at_v57_29 (V : Valuation τ sig (Elt F)) : U29 V (Proc.devRef .tc main_v57) = R_v57 V :=
  (keep29 V main_v57 (by decide)).trans (at_v57_28 V)

/-- The value of this buffer after that many pieces. -/
theorem at_v61_29 (V : Valuation τ sig (Elt F)) : U29 V (Proc.devRef .tc main_v61) = R_v61 V :=
  (keep29 V main_v61 (by decide)).trans (at_v61_28 V)

/-- The value of this buffer after that many pieces. -/
theorem at_v313_30 (V : Valuation τ sig (Elt F)) : U30 V (Proc.devRef .tc main_v313) = R_v313 V := by
  refine (read_v313 (U29 V)).trans ?_
  rw [at_v312_29 V, at_c_20_29 V]
  rfl

/-- The value of this buffer after that many pieces. -/
theorem at_arg2_30 (V : Valuation τ sig (Elt F)) : U30 V (Proc.devRef .tc main_arg2) = V (Proc.devRef .tc main_arg2) :=
  (keep30 V main_arg2 (by decide)).trans (at_arg2_29 V)

/-- The value of this buffer after that many pieces. -/
theorem at_v291_30 (V : Valuation τ sig (Elt F)) : U30 V (Proc.devRef .tc main_v291) = R_v291 V :=
  (keep30 V main_v291 (by decide)).trans (at_v291_29 V)

/-- The value of this buffer after that many pieces. -/
theorem at_v292_30 (V : Valuation τ sig (Elt F)) : U30 V (Proc.devRef .tc main_v292) = R_v292 V :=
  (keep30 V main_v292 (by decide)).trans (at_v292_29 V)

/-- The value of this buffer after that many pieces. -/
theorem at_v293_30 (V : Valuation τ sig (Elt F)) : U30 V (Proc.devRef .tc main_v293) = R_v293 V :=
  (keep30 V main_v293 (by decide)).trans (at_v293_29 V)

/-- The value of this buffer after that many pieces. -/
theorem at_v294_30 (V : Valuation τ sig (Elt F)) : U30 V (Proc.devRef .tc main_v294) = R_v294 V :=
  (keep30 V main_v294 (by decide)).trans (at_v294_29 V)

/-- The value of this buffer after that many pieces. -/
theorem at_v295_30 (V : Valuation τ sig (Elt F)) : U30 V (Proc.devRef .tc main_v295) = R_v295 V :=
  (keep30 V main_v295 (by decide)).trans (at_v295_29 V)

/-- The value of this buffer after that many pieces. -/
theorem at_v296_30 (V : Valuation τ sig (Elt F)) : U30 V (Proc.devRef .tc main_v296) = R_v296 V :=
  (keep30 V main_v296 (by decide)).trans (at_v296_29 V)

/-- The value of this buffer after that many pieces. -/
theorem at_v305_30 (V : Valuation τ sig (Elt F)) : U30 V (Proc.devRef .tc main_v305) = R_v305 V :=
  (keep30 V main_v305 (by decide)).trans (at_v305_29 V)

/-- The value of this buffer after that many pieces. -/
theorem at_v309_30 (V : Valuation τ sig (Elt F)) : U30 V (Proc.devRef .tc main_v309) = R_v309 V :=
  (keep30 V main_v309 (by decide)).trans (at_v309_29 V)

/-- The value of this buffer after that many pieces. -/
theorem at_v311_30 (V : Valuation τ sig (Elt F)) : U30 V (Proc.devRef .tc main_v311) = R_v311 V :=
  (keep30 V main_v311 (by decide)).trans (at_v311_29 V)

/-- The value of this buffer after that many pieces. -/
theorem at_v57_30 (V : Valuation τ sig (Elt F)) : U30 V (Proc.devRef .tc main_v57) = R_v57 V :=
  (keep30 V main_v57 (by decide)).trans (at_v57_29 V)

/-- The value of this buffer after that many pieces. -/
theorem at_v61_30 (V : Valuation τ sig (Elt F)) : U30 V (Proc.devRef .tc main_v61) = R_v61 V :=
  (keep30 V main_v61 (by decide)).trans (at_v61_29 V)

/-- The value of this buffer after that many pieces. -/
theorem at_c_21_31 (V : Valuation τ sig (Elt F)) : U31 V (Proc.devRef .tc main_c_21) = R_c_21 V := by
  refine (read_c_21 (U30 V)).trans ?_
  rfl

/-- The value of this buffer after that many pieces. -/
theorem at_v314_31 (V : Valuation τ sig (Elt F)) : U31 V (Proc.devRef .tc main_v314) = R_v314 V := by
  refine (read_v314 (U30 V)).trans ?_
  rw [at_v309_30 V]
  rfl

/-- The value of this buffer after that many pieces. -/
theorem at_arg2_31 (V : Valuation τ sig (Elt F)) : U31 V (Proc.devRef .tc main_arg2) = V (Proc.devRef .tc main_arg2) :=
  (keep31 V main_arg2 (by decide)).trans (at_arg2_30 V)

/-- The value of this buffer after that many pieces. -/
theorem at_v291_31 (V : Valuation τ sig (Elt F)) : U31 V (Proc.devRef .tc main_v291) = R_v291 V :=
  (keep31 V main_v291 (by decide)).trans (at_v291_30 V)

/-- The value of this buffer after that many pieces. -/
theorem at_v292_31 (V : Valuation τ sig (Elt F)) : U31 V (Proc.devRef .tc main_v292) = R_v292 V :=
  (keep31 V main_v292 (by decide)).trans (at_v292_30 V)

/-- The value of this buffer after that many pieces. -/
theorem at_v293_31 (V : Valuation τ sig (Elt F)) : U31 V (Proc.devRef .tc main_v293) = R_v293 V :=
  (keep31 V main_v293 (by decide)).trans (at_v293_30 V)

/-- The value of this buffer after that many pieces. -/
theorem at_v294_31 (V : Valuation τ sig (Elt F)) : U31 V (Proc.devRef .tc main_v294) = R_v294 V :=
  (keep31 V main_v294 (by decide)).trans (at_v294_30 V)

/-- The value of this buffer after that many pieces. -/
theorem at_v295_31 (V : Valuation τ sig (Elt F)) : U31 V (Proc.devRef .tc main_v295) = R_v295 V :=
  (keep31 V main_v295 (by decide)).trans (at_v295_30 V)

/-- The value of this buffer after that many pieces. -/
theorem at_v296_31 (V : Valuation τ sig (Elt F)) : U31 V (Proc.devRef .tc main_v296) = R_v296 V :=
  (keep31 V main_v296 (by decide)).trans (at_v296_30 V)

/-- The value of this buffer after that many pieces. -/
theorem at_v305_31 (V : Valuation τ sig (Elt F)) : U31 V (Proc.devRef .tc main_v305) = R_v305 V :=
  (keep31 V main_v305 (by decide)).trans (at_v305_30 V)

/-- The value of this buffer after that many pieces. -/
theorem at_v309_31 (V : Valuation τ sig (Elt F)) : U31 V (Proc.devRef .tc main_v309) = R_v309 V :=
  (keep31 V main_v309 (by decide)).trans (at_v309_30 V)

/-- The value of this buffer after that many pieces. -/
theorem at_v311_31 (V : Valuation τ sig (Elt F)) : U31 V (Proc.devRef .tc main_v311) = R_v311 V :=
  (keep31 V main_v311 (by decide)).trans (at_v311_30 V)

/-- The value of this buffer after that many pieces. -/
theorem at_v313_31 (V : Valuation τ sig (Elt F)) : U31 V (Proc.devRef .tc main_v313) = R_v313 V :=
  (keep31 V main_v313 (by decide)).trans (at_v313_30 V)

/-- The value of this buffer after that many pieces. -/
theorem at_v57_31 (V : Valuation τ sig (Elt F)) : U31 V (Proc.devRef .tc main_v57) = R_v57 V :=
  (keep31 V main_v57 (by decide)).trans (at_v57_30 V)

/-- The value of this buffer after that many pieces. -/
theorem at_v61_31 (V : Valuation τ sig (Elt F)) : U31 V (Proc.devRef .tc main_v61) = R_v61 V :=
  (keep31 V main_v61 (by decide)).trans (at_v61_30 V)

/-- The value of this buffer after that many pieces. -/
theorem at_v315_32 (V : Valuation τ sig (Elt F)) : U32 V (Proc.devRef .tc main_v315) = R_v315 V := by
  refine (read_v315 (U31 V)).trans ?_
  rw [at_v314_31 V, at_c_21_31 V]
  rfl

/-- The value of this buffer after that many pieces. -/
theorem at_arg2_32 (V : Valuation τ sig (Elt F)) : U32 V (Proc.devRef .tc main_arg2) = V (Proc.devRef .tc main_arg2) :=
  (keep32 V main_arg2 (by decide)).trans (at_arg2_31 V)

/-- The value of this buffer after that many pieces. -/
theorem at_v291_32 (V : Valuation τ sig (Elt F)) : U32 V (Proc.devRef .tc main_v291) = R_v291 V :=
  (keep32 V main_v291 (by decide)).trans (at_v291_31 V)

/-- The value of this buffer after that many pieces. -/
theorem at_v292_32 (V : Valuation τ sig (Elt F)) : U32 V (Proc.devRef .tc main_v292) = R_v292 V :=
  (keep32 V main_v292 (by decide)).trans (at_v292_31 V)

/-- The value of this buffer after that many pieces. -/
theorem at_v293_32 (V : Valuation τ sig (Elt F)) : U32 V (Proc.devRef .tc main_v293) = R_v293 V :=
  (keep32 V main_v293 (by decide)).trans (at_v293_31 V)

/-- The value of this buffer after that many pieces. -/
theorem at_v294_32 (V : Valuation τ sig (Elt F)) : U32 V (Proc.devRef .tc main_v294) = R_v294 V :=
  (keep32 V main_v294 (by decide)).trans (at_v294_31 V)

/-- The value of this buffer after that many pieces. -/
theorem at_v295_32 (V : Valuation τ sig (Elt F)) : U32 V (Proc.devRef .tc main_v295) = R_v295 V :=
  (keep32 V main_v295 (by decide)).trans (at_v295_31 V)

/-- The value of this buffer after that many pieces. -/
theorem at_v296_32 (V : Valuation τ sig (Elt F)) : U32 V (Proc.devRef .tc main_v296) = R_v296 V :=
  (keep32 V main_v296 (by decide)).trans (at_v296_31 V)

/-- The value of this buffer after that many pieces. -/
theorem at_v305_32 (V : Valuation τ sig (Elt F)) : U32 V (Proc.devRef .tc main_v305) = R_v305 V :=
  (keep32 V main_v305 (by decide)).trans (at_v305_31 V)

/-- The value of this buffer after that many pieces. -/
theorem at_v309_32 (V : Valuation τ sig (Elt F)) : U32 V (Proc.devRef .tc main_v309) = R_v309 V :=
  (keep32 V main_v309 (by decide)).trans (at_v309_31 V)

/-- The value of this buffer after that many pieces. -/
theorem at_v311_32 (V : Valuation τ sig (Elt F)) : U32 V (Proc.devRef .tc main_v311) = R_v311 V :=
  (keep32 V main_v311 (by decide)).trans (at_v311_31 V)

/-- The value of this buffer after that many pieces. -/
theorem at_v313_32 (V : Valuation τ sig (Elt F)) : U32 V (Proc.devRef .tc main_v313) = R_v313 V :=
  (keep32 V main_v313 (by decide)).trans (at_v313_31 V)

/-- The value of this buffer after that many pieces. -/
theorem at_v57_32 (V : Valuation τ sig (Elt F)) : U32 V (Proc.devRef .tc main_v57) = R_v57 V :=
  (keep32 V main_v57 (by decide)).trans (at_v57_31 V)

/-- The value of this buffer after that many pieces. -/
theorem at_v61_32 (V : Valuation τ sig (Elt F)) : U32 V (Proc.devRef .tc main_v61) = R_v61 V :=
  (keep32 V main_v61 (by decide)).trans (at_v61_31 V)

/-- The value of this buffer after that many pieces. -/
theorem at_c_22_33 (V : Valuation τ sig (Elt F)) : U33 V (Proc.devRef .tc main_c_22) = R_c_22 V := by
  refine (read_c_22 (U32 V)).trans ?_
  rfl

/-- The value of this buffer after that many pieces. -/
theorem at_v316_33 (V : Valuation τ sig (Elt F)) : U33 V (Proc.devRef .tc main_v316) = R_v316 V := by
  refine (read_v316 (U32 V)).trans ?_
  rw [at_v309_32 V]
  rfl

/-- The value of this buffer after that many pieces. -/
theorem at_arg2_33 (V : Valuation τ sig (Elt F)) : U33 V (Proc.devRef .tc main_arg2) = V (Proc.devRef .tc main_arg2) :=
  (keep33 V main_arg2 (by decide)).trans (at_arg2_32 V)

/-- The value of this buffer after that many pieces. -/
theorem at_v291_33 (V : Valuation τ sig (Elt F)) : U33 V (Proc.devRef .tc main_v291) = R_v291 V :=
  (keep33 V main_v291 (by decide)).trans (at_v291_32 V)

/-- The value of this buffer after that many pieces. -/
theorem at_v292_33 (V : Valuation τ sig (Elt F)) : U33 V (Proc.devRef .tc main_v292) = R_v292 V :=
  (keep33 V main_v292 (by decide)).trans (at_v292_32 V)

/-- The value of this buffer after that many pieces. -/
theorem at_v293_33 (V : Valuation τ sig (Elt F)) : U33 V (Proc.devRef .tc main_v293) = R_v293 V :=
  (keep33 V main_v293 (by decide)).trans (at_v293_32 V)

/-- The value of this buffer after that many pieces. -/
theorem at_v294_33 (V : Valuation τ sig (Elt F)) : U33 V (Proc.devRef .tc main_v294) = R_v294 V :=
  (keep33 V main_v294 (by decide)).trans (at_v294_32 V)

/-- The value of this buffer after that many pieces. -/
theorem at_v295_33 (V : Valuation τ sig (Elt F)) : U33 V (Proc.devRef .tc main_v295) = R_v295 V :=
  (keep33 V main_v295 (by decide)).trans (at_v295_32 V)

/-- The value of this buffer after that many pieces. -/
theorem at_v296_33 (V : Valuation τ sig (Elt F)) : U33 V (Proc.devRef .tc main_v296) = R_v296 V :=
  (keep33 V main_v296 (by decide)).trans (at_v296_32 V)

/-- The value of this buffer after that many pieces. -/
theorem at_v305_33 (V : Valuation τ sig (Elt F)) : U33 V (Proc.devRef .tc main_v305) = R_v305 V :=
  (keep33 V main_v305 (by decide)).trans (at_v305_32 V)

/-- The value of this buffer after that many pieces. -/
theorem at_v309_33 (V : Valuation τ sig (Elt F)) : U33 V (Proc.devRef .tc main_v309) = R_v309 V :=
  (keep33 V main_v309 (by decide)).trans (at_v309_32 V)

/-- The value of this buffer after that many pieces. -/
theorem at_v311_33 (V : Valuation τ sig (Elt F)) : U33 V (Proc.devRef .tc main_v311) = R_v311 V :=
  (keep33 V main_v311 (by decide)).trans (at_v311_32 V)

/-- The value of this buffer after that many pieces. -/
theorem at_v313_33 (V : Valuation τ sig (Elt F)) : U33 V (Proc.devRef .tc main_v313) = R_v313 V :=
  (keep33 V main_v313 (by decide)).trans (at_v313_32 V)

/-- The value of this buffer after that many pieces. -/
theorem at_v315_33 (V : Valuation τ sig (Elt F)) : U33 V (Proc.devRef .tc main_v315) = R_v315 V :=
  (keep33 V main_v315 (by decide)).trans (at_v315_32 V)

/-- The value of this buffer after that many pieces. -/
theorem at_v57_33 (V : Valuation τ sig (Elt F)) : U33 V (Proc.devRef .tc main_v57) = R_v57 V :=
  (keep33 V main_v57 (by decide)).trans (at_v57_32 V)

/-- The value of this buffer after that many pieces. -/
theorem at_v61_33 (V : Valuation τ sig (Elt F)) : U33 V (Proc.devRef .tc main_v61) = R_v61 V :=
  (keep33 V main_v61 (by decide)).trans (at_v61_32 V)

/-- The value of this buffer after that many pieces. -/
theorem at_v317_34 (V : Valuation τ sig (Elt F)) : U34 V (Proc.devRef .tc main_v317) = R_v317 V := by
  refine (read_v317 (U33 V)).trans ?_
  rw [at_v316_33 V, at_c_22_33 V]
  rfl

/-- The value of this buffer after that many pieces. -/
theorem at_arg2_34 (V : Valuation τ sig (Elt F)) : U34 V (Proc.devRef .tc main_arg2) = V (Proc.devRef .tc main_arg2) :=
  (keep34 V main_arg2 (by decide)).trans (at_arg2_33 V)

/-- The value of this buffer after that many pieces. -/
theorem at_v291_34 (V : Valuation τ sig (Elt F)) : U34 V (Proc.devRef .tc main_v291) = R_v291 V :=
  (keep34 V main_v291 (by decide)).trans (at_v291_33 V)

/-- The value of this buffer after that many pieces. -/
theorem at_v292_34 (V : Valuation τ sig (Elt F)) : U34 V (Proc.devRef .tc main_v292) = R_v292 V :=
  (keep34 V main_v292 (by decide)).trans (at_v292_33 V)

/-- The value of this buffer after that many pieces. -/
theorem at_v293_34 (V : Valuation τ sig (Elt F)) : U34 V (Proc.devRef .tc main_v293) = R_v293 V :=
  (keep34 V main_v293 (by decide)).trans (at_v293_33 V)

/-- The value of this buffer after that many pieces. -/
theorem at_v294_34 (V : Valuation τ sig (Elt F)) : U34 V (Proc.devRef .tc main_v294) = R_v294 V :=
  (keep34 V main_v294 (by decide)).trans (at_v294_33 V)

/-- The value of this buffer after that many pieces. -/
theorem at_v295_34 (V : Valuation τ sig (Elt F)) : U34 V (Proc.devRef .tc main_v295) = R_v295 V :=
  (keep34 V main_v295 (by decide)).trans (at_v295_33 V)

/-- The value of this buffer after that many pieces. -/
theorem at_v296_34 (V : Valuation τ sig (Elt F)) : U34 V (Proc.devRef .tc main_v296) = R_v296 V :=
  (keep34 V main_v296 (by decide)).trans (at_v296_33 V)

/-- The value of this buffer after that many pieces. -/
theorem at_v305_34 (V : Valuation τ sig (Elt F)) : U34 V (Proc.devRef .tc main_v305) = R_v305 V :=
  (keep34 V main_v305 (by decide)).trans (at_v305_33 V)

/-- The value of this buffer after that many pieces. -/
theorem at_v309_34 (V : Valuation τ sig (Elt F)) : U34 V (Proc.devRef .tc main_v309) = R_v309 V :=
  (keep34 V main_v309 (by decide)).trans (at_v309_33 V)

/-- The value of this buffer after that many pieces. -/
theorem at_v311_34 (V : Valuation τ sig (Elt F)) : U34 V (Proc.devRef .tc main_v311) = R_v311 V :=
  (keep34 V main_v311 (by decide)).trans (at_v311_33 V)

/-- The value of this buffer after that many pieces. -/
theorem at_v313_34 (V : Valuation τ sig (Elt F)) : U34 V (Proc.devRef .tc main_v313) = R_v313 V :=
  (keep34 V main_v313 (by decide)).trans (at_v313_33 V)

/-- The value of this buffer after that many pieces. -/
theorem at_v315_34 (V : Valuation τ sig (Elt F)) : U34 V (Proc.devRef .tc main_v315) = R_v315 V :=
  (keep34 V main_v315 (by decide)).trans (at_v315_33 V)

/-- The value of this buffer after that many pieces. -/
theorem at_v57_34 (V : Valuation τ sig (Elt F)) : U34 V (Proc.devRef .tc main_v57) = R_v57 V :=
  (keep34 V main_v57 (by decide)).trans (at_v57_33 V)

/-- The value of this buffer after that many pieces. -/
theorem at_v61_34 (V : Valuation τ sig (Elt F)) : U34 V (Proc.devRef .tc main_v61) = R_v61 V :=
  (keep34 V main_v61 (by decide)).trans (at_v61_33 V)

/-- The value of this buffer after that many pieces. -/
theorem at_v341_35 (V : Valuation τ sig (Elt F)) : U35 V (Proc.devRef .tc main_v341) = R_v341 V := by
  refine (read_v341 (U34 V)).trans ?_
  rw [at_v305_34 V, at_v296_34 V, at_v309_34 V, at_v292_34 V, at_v311_34 V, at_v293_34 V, at_v313_34 V, at_v294_34 V, at_v315_34 V, at_v295_34 V, at_v317_34 V, at_v61_34 V, at_arg2_34 V]
  rfl

/-- The value of this buffer after that many pieces. -/
theorem at_arg2_35 (V : Valuation τ sig (Elt F)) : U35 V (Proc.devRef .tc main_arg2) = V (Proc.devRef .tc main_arg2) :=
  (keep35 V main_arg2 (by decide)).trans (at_arg2_34 V)

/-- The value of this buffer after that many pieces. -/
theorem at_v291_35 (V : Valuation τ sig (Elt F)) : U35 V (Proc.devRef .tc main_v291) = R_v291 V :=
  (keep35 V main_v291 (by decide)).trans (at_v291_34 V)

/-- The value of this buffer after that many pieces. -/
theorem at_v292_35 (V : Valuation τ sig (Elt F)) : U35 V (Proc.devRef .tc main_v292) = R_v292 V :=
  (keep35 V main_v292 (by decide)).trans (at_v292_34 V)

/-- The value of this buffer after that many pieces. -/
theorem at_v293_35 (V : Valuation τ sig (Elt F)) : U35 V (Proc.devRef .tc main_v293) = R_v293 V :=
  (keep35 V main_v293 (by decide)).trans (at_v293_34 V)

/-- The value of this buffer after that many pieces. -/
theorem at_v294_35 (V : Valuation τ sig (Elt F)) : U35 V (Proc.devRef .tc main_v294) = R_v294 V :=
  (keep35 V main_v294 (by decide)).trans (at_v294_34 V)

/-- The value of this buffer after that many pieces. -/
theorem at_v295_35 (V : Valuation τ sig (Elt F)) : U35 V (Proc.devRef .tc main_v295) = R_v295 V :=
  (keep35 V main_v295 (by decide)).trans (at_v295_34 V)

/-- The value of this buffer after that many pieces. -/
theorem at_v296_35 (V : Valuation τ sig (Elt F)) : U35 V (Proc.devRef .tc main_v296) = R_v296 V :=
  (keep35 V main_v296 (by decide)).trans (at_v296_34 V)

/-- The value of this buffer after that many pieces. -/
theorem at_v309_35 (V : Valuation τ sig (Elt F)) : U35 V (Proc.devRef .tc main_v309) = R_v309 V :=
  (keep35 V main_v309 (by decide)).trans (at_v309_34 V)

/-- The value of this buffer after that many pieces. -/
theorem at_v57_35 (V : Valuation τ sig (Elt F)) : U35 V (Proc.devRef .tc main_v57) = R_v57 V :=
  (keep35 V main_v57 (by decide)).trans (at_v57_34 V)

/-- The value of this buffer after that many pieces. -/
theorem at_v61_35 (V : Valuation τ sig (Elt F)) : U35 V (Proc.devRef .tc main_v61) = R_v61 V :=
  (keep35 V main_v61 (by decide)).trans (at_v61_34 V)

/-- The value of this buffer after that many pieces. -/
theorem at_v344_0_36 (V : Valuation τ sig (Elt F)) : U36 V (Proc.devRef .tc main_v344_0) = R_v344_0 V := by
  refine (read_v344_0 (U35 V)).trans ?_
  rw [at_v296_35 V]
  rfl

/-- The value of this buffer after that many pieces. -/
theorem at_v344_1_36 (V : Valuation τ sig (Elt F)) : U36 V (Proc.devRef .tc main_v344_1) = R_v344_1 V := by
  refine (read_v344_1 (U35 V)).trans ?_
  rw [at_v292_35 V]
  rfl

/-- The value of this buffer after that many pieces. -/
theorem at_v344_10_36 (V : Valuation τ sig (Elt F)) : U36 V (Proc.devRef .tc main_v344_10) = R_v344_10 V := by
  refine (read_v344_10 (U35 V)).trans ?_
  rw [at_v341_35 V]
  rfl

/-- The value of this buffer after that many pieces. -/
theorem at_v344_11_36 (V : Valuation τ sig (Elt F)) : U36 V (Proc.devRef .tc main_v344_11) = R_v344_11 V := by
  refine (read_v344_11 (U35 V)).trans ?_
  rw [at_v341_35 V]
  rfl

/-- The value of this buffer after that many pieces. -/
theorem at_v344_12_36 (V : Valuation τ sig (Elt F)) : U36 V (Proc.devRef .tc main_v344_12) = R_v344_12 V := by
  refine (read_v344_12 (U35 V)).trans ?_
  rw [at_v341_35 V]
  rfl

/-- The value of this buffer after that many pieces. -/
theorem at_v344_2_36 (V : Valuation τ sig (Elt F)) : U36 V (Proc.devRef .tc main_v344_2) = R_v344_2 V := by
  refine (read_v344_2 (U35 V)).trans ?_
  rw [at_v293_35 V]
  rfl

/-- The value of this buffer after that many pieces. -/
theorem at_v344_3_36 (V : Valuation τ sig (Elt F)) : U36 V (Proc.devRef .tc main_v344_3) = R_v344_3 V := by
  refine (read_v344_3 (U35 V)).trans ?_
  rw [at_v294_35 V]
  rfl

/-- The value of this buffer after that many pieces. -/
theorem at_v344_4_36 (V : Valuation τ sig (Elt F)) : U36 V (Proc.devRef .tc main_v344_4) = R_v344_4 V := by
  refine (read_v344_4 (U35 V)).trans ?_
  rw [at_v295_35 V]
  rfl

/-- The value of this buffer after that many pieces. -/
theorem at_v344_5_36 (V : Valuation τ sig (Elt F)) : U36 V (Proc.devRef .tc main_v344_5) = R_v344_5 V := by
  refine (read_v344_5 (U35 V)).trans ?_
  rw [at_arg2_35 V]
  rfl

/-- The value of this buffer after that many pieces. -/
theorem at_v344_6_36 (V : Valuation τ sig (Elt F)) : U36 V (Proc.devRef .tc main_v344_6) = R_v344_6 V := by
  refine (read_v344_6 (U35 V)).trans ?_
  rw [at_v61_35 V]
  rfl

/-- The value of this buffer after that many pieces. -/
theorem at_v344_7_36 (V : Valuation τ sig (Elt F)) : U36 V (Proc.devRef .tc main_v344_7) = R_v344_7 V := by
  refine (read_v344_7 (U35 V)).trans ?_
  rfl

/-- The value of this buffer after that many pieces. -/
theorem at_v344_8_36 (V : Valuation τ sig (Elt F)) : U36 V (Proc.devRef .tc main_v344_8) = R_v344_8 V := by
  refine (read_v344_8 (U35 V)).trans ?_
  rfl

/-- The value of this buffer after that many pieces. -/
theorem at_v344_9_36 (V : Valuation τ sig (Elt F)) : U36 V (Proc.devRef .tc main_v344_9) = R_v344_9 V := by
  refine (read_v344_9 (U35 V)).trans ?_
  rw [at_v309_35 V]
  rfl

/-- The value of this buffer after that many pieces. -/
theorem at_v291_36 (V : Valuation τ sig (Elt F)) : U36 V (Proc.devRef .tc main_v291) = R_v291 V :=
  (keep36 V main_v291 (by decide)).trans (at_v291_35 V)

/-- The value of this buffer after that many pieces. -/
theorem at_v57_36 (V : Valuation τ sig (Elt F)) : U36 V (Proc.devRef .tc main_v57) = R_v57 V :=
  (keep36 V main_v57 (by decide)).trans (at_v57_35 V)

/-- The contents at the loop's entry are the contents after all pieces. -/
theorem entry_eq (m : (ℓ : Loc nD τ sig) → Buf (Elt F) ℓ) (c : Dev nD) : entryContents preI m c = U36 (launchContents m c) := rfl

end Cert.ReferenceIdeal.Mine

end
-- ==== Proof.CgMath.lean ====
/-
  The conjugate-gradient iteration on the four images as extended-real fields, and the sums its block averages need.
-/
module

public import proofs.«01_k».proof.Proof.Spec

@[expose] public section

noncomputable section

namespace Cert.Mine

open Idealize.ShloMosaic

/-- A field on the fine grid of the four images. -/
abbrev Fld : Type := Fin 4 → Fin 256 → Fin 256 → EReal
/-- A field on the coarse grid of the four images. -/
abbrev Low : Type := Fin 4 → Fin 32 → Fin 32 → EReal

/-- The coarse row of a fine row. -/
def low (h : Fin 256) : Fin 32 := ⟨(h : ℕ) / 8, by omega⟩
/-- The fine rows of a coarse row. -/
def hi (i : Fin 32) (a : Fin 8) : Fin 256 := ⟨8 * (i : ℕ) + (a : ℕ), by omega⟩

/-- A coarse row is the coarse row of each of its fine rows. -/
theorem low_hi (i : Fin 32) (a : Fin 8) : low (hi i a) = i := Fin.ext (by show (8 * (i : ℕ) + (a : ℕ)) / 8 = (i : ℕ); omega)

/-- One eighth. -/
def e8 : EReal := ((1 / 8 : ℝ) : EReal)
/-- One sixty-fourth. -/
def e64 : EReal := ((1 / 64 : ℝ) : EReal)

/-- An eighth of an eighth. -/
theorem e8_mul_e8 : e8 * e8 = e64 := by
  unfold e8 e64; rw [← EReal.coe_mul]; norm_num

/-- A quotient by sixty-four is a product with a sixty-fourth. -/
theorem div_64 (x : EReal) : Ideal.div x ((64 : ℝ) : EReal) = x * e64 := by
  unfold Ideal.div
  rw [if_neg (by rw [← EReal.coe_zero, EReal.coe_eq_coe_iff]; norm_num)]
  refine congrArg (x * ·) ?_
  rw [← EReal.coe_inv]
  unfold e64
  norm_num

/-- Sixty-four sixty-fourths. -/
theorem mul_64_e64 (x : EReal) : ((64 : ℝ) : EReal) * (x * e64) = x := by
  rw [mul_comm x e64, ← mul_assoc]
  unfold e64
  rw [← EReal.coe_mul]
  norm_num

/-- A product with a nonnegative real goes into a sum. -/
theorem coe_mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum over the fine rows, by coarse rows. -/
theorem sum_fine {M : Type*} [AddCommMonoid M] (f : Fin 256 → M) : ∑ x, f x = ∑ i : Fin 32, ∑ a : Fin 8, f (hi i a) := by
  rw [← Fintype.sum_prod_type' (f := fun i a => f (hi i a))]
  symm
  refine Fintype.sum_equiv (finProdFinEquiv (m := 32) (n := 8)) _ _ fun p => ?_
  refine congrArg f (Fin.ext ?_)
  show 8 * (p.1 : ℕ) + (p.2 : ℕ) = (p.2 : ℕ) + 8 * (p.1 : ℕ)
  omega

/-- The upsampling weight. -/
def eW (h : Fin 256) (j : Fin 32) : EReal := if low h = j then e8 else 0

/-- A sum against the upsampling weights on the left. -/
theorem sum_eW_mul (h : Fin 256) (f : Fin 32 → EReal) : ∑ j, eW h j * f j = e8 * f (low h) := by
  unfold eW
  simp [ite_mul]

/-- A sum against the upsampling weights on the right. -/
theorem sum_mul_eW (h : Fin 256) (f : Fin 32 → EReal) : ∑ j, f j * eW h j = f (low h) * e8 := by
  unfold eW
  simp [mul_ite]

/-- A sum of the fine rows against the weights of a coarse row. -/
theorem sum_eW_fine (j : Fin 32) (f : Fin 256 → EReal) : ∑ a, eW a j * f a = e8 * ∑ a : Fin 8, f (hi j a) := by
  rw [sum_fine]
  unfold eW
  simp only [low_hi, ite_mul, zero_mul]
  rw [show (e8 * ∑ a : Fin 8, f (hi j a)) = ∑ a : Fin 8, e8 * f (hi j a) from coe_mul_sum _ _ (by norm_num) _]
  rw [Finset.sum_eq_single j]
  · simp
  · intro b _ hb
    simp [hb]
  · simp

/-- The block sum of a field. -/
def blk (P : Fin 256 → Fin 256 → EReal) (i j : Fin 32) : EReal := ∑ a : Fin 8, ∑ b : Fin 8, P (hi i a) (hi j b)

/-- The weights take a field to its block averages. -/
theorem down_eq (P : Fin 256 → Fin 256 → EReal) (j k : Fin 32) : ∑ a, eW a j * ∑ b, P a b * eW b k = blk P j k * e64 := by
  have h : ∀ a, ∑ b, P a b * eW b k = e8 * ∑ b : Fin 8, P a (hi k b) := fun a => by
    rw [← sum_eW_fine]
    exact Finset.sum_congr rfl fun b _ => mul_comm _ _
  simp only [h]
  rw [sum_eW_fine, show (∑ a : Fin 8, e8 * ∑ b : Fin 8, P (hi j a) (hi k b)) = e8 * blk P j k from (coe_mul_sum _ _ (by norm_num) _).symm,
    ← mul_assoc, e8_mul_e8, mul_comm]

/-- The weights take a coarse field to the fine grid, over sixty-four. -/
theorem up_eq (Q : Fin 32 → Fin 32 → EReal) (h w : Fin 256) : ∑ j, eW h j * ∑ k, Q j k * eW w k = Q (low h) (low w) * e64 := by
  simp only [sum_mul_eW]
  rw [sum_eW_mul, mul_comm (Q _ _) e8, ← mul_assoc, e8_mul_e8, mul_comm]

/-- The linear system: the fidelity weight, the affinities, the degree, and the mask. -/
structure Coef where
  /-- The fidelity weight. -/
  lam : EReal
  /-- The affinity with the row above. -/
  wu : Fld
  /-- The affinity with the row below. -/
  wd : Fld
  /-- The affinity with the column before. -/
  wl : Fld
  /-- The affinity with the column after. -/
  wr : Fld
  /-- The degree. -/
  deg : Fld
  /-- The mask. -/
  msk : Low

/-- The operator's Laplacian part. -/
def lap (c : Coef) (P : Fld) : Fld := fun n h w =>
  c.deg n h w * P n h w - (((c.wu n h w * (if hh : (h : ℕ) < 1 then 0 else P n ⟨(h : ℕ) - 1, by omega⟩ w)
    + c.wd n h w * (if hh : (h : ℕ) < 255 then P n ⟨1 + (h : ℕ), by omega⟩ w else 0))
    + c.wl n h w * (if hh : (w : ℕ) < 1 then 0 else P n h ⟨(w : ℕ) - 1, by omega⟩))
    + c.wr n h w * (if hh : (w : ℕ) < 255 then P n h ⟨1 + (w : ℕ), by omega⟩ else 0))

/-- The operator. -/
def opA (c : Coef) (P : Fld) : Fld := fun n h w => lap c P n h w + c.lam * ((c.msk n (low h) (low w) * (blk (P n) (low h) (low w) * e64)) * e64)

/-- The right-hand side, of the coarse source. -/
def rhs (c : Coef) (s : Low) : Fld := fun n h w => c.lam * ((c.msk n (low h) (low w) * s n (low h) (low w)) * e64)

/-- The initial solution, of the coarse source. -/
def ini (s : Low) : Fld := fun n h w => s n (low h) (low w)

/-- The initial residual. -/
def res (c : Coef) (s : Low) : Fld := fun n h w => rhs c s n h w - opA c (ini s) n h w

/-- The sum of a field. -/
def tot (P : Fld) : EReal := ∑ n, ∑ h, ∑ w, P n h w

/-- The guard added to the denominators. -/
def eps : EReal := Ideal.ofBits .f32 0x2B8CBCCC#32

/-- The iteration's state: the squared residual, the solution, the residual, the direction. -/
abbrev Cgs : Type := EReal × Fld × Fld × Fld

/-- The step length. -/
def alpha (c : Coef) (s : Cgs) : EReal := Ideal.div s.1 (tot (fun n h w => s.2.2.2 n h w * opA c s.2.2.2 n h w) + eps)
/-- The next residual. -/
def nextR (c : Coef) (s : Cgs) : Fld := fun n h w => s.2.2.1 n h w - alpha c s * opA c s.2.2.2 n h w
/-- The next squared residual. -/
def nextS (c : Coef) (s : Cgs) : EReal := tot fun n h w => nextR c s n h w * nextR c s n h w
/-- One iteration. -/
def cgStep (c : Coef) (s : Cgs) : Cgs :=
  (nextS c s, fun n h w => s.2.1 n h w + alpha c s * s.2.2.2 n h w, nextR c s,
    fun n h w => nextR c s n h w + Ideal.div (nextS c s) (s.1 + eps) * s.2.2.2 n h w)

/-- The state before the first iteration. -/
def cgInit (c : Coef) (s : Low) : Cgs := (tot fun n h w => res c s n h w * res c s n h w, ini s, res c s, res c s)

/-- The solution after thirty iterations. -/
def cgSol (c : Coef) (s : Low) : Fld := ((cgStep c)^[30] (cgInit c s)).2.1

end Cert.Mine

end
-- ==== Proof.RefCg.lean ====
/-
  The reference's iteration at a point, in the extended reals.
-/
module

public import proofs.«01_k».proof.Proof.RefVal
public import proofs.«01_k».proof.Proof.RefChain
public import proofs.«01_k».proof.Proof.CgMath
import Idealize.ShloMosaic.Lib.KernelVsHost

@[expose] public section

set_option maxRecDepth 16384

noncomputable section

namespace Cert.ReferenceIdeal.Mine

open Cert.ReferenceIdeal Cert.ReferenceIdeal.Gen Cert.ReferenceIdeal.Value Cert.Mine
open Idealize.ShloMosaic Idealize.ShloMosaic.TcCoe Idealize.ShloMosaic.StableHlo Idealize.ShloMosaic.Pointwise

/-- The reference's operator on arrays. -/
def rA (deg wu wd wl wr : FVec Ideal S4x1x256x256 .f32) (msk : FVec Ideal S4x1x32x32 .f32) (lam : FVec Ideal S_ .f32) (p : FVec Ideal S4x1x256x256 .f32) : FVec Ideal S4x1x256x256 .f32 :=
  addf (subf (mulf deg p) (addf (addf (addf (mulf wu (pad S4x1x256x256 ![0, 0, 1, 0] ![0, 0, 0, 0] ![0, 0, 0, 0] (extractStridedSlice S4x1x255x256 ![0, 0, 0, 0] p slices_S4x1x256x256_S4x1x255x256_0_0_0_0) (sitofp .f32 (constantI S_ 32 0#32)) pads_S4x1x255x256_S4x1x256x256_000_000_100_000 h_S_)) (mulf wd (pad S4x1x256x256 ![0, 0, 0, 0] ![0, 0, 1, 0] ![0, 0, 0, 0] (extractStridedSlice S4x1x255x256 ![0, 0, 1, 0] p slices_S4x1x256x256_S4x1x255x256_0_0_1_0) (sitofp .f32 (constantI S_ 32 0#32)) pads_S4x1x255x256_S4x1x256x256_000_000_010_000 h_S_))) (mulf wl (pad S4x1x256x256 ![0, 0, 0, 1] ![0, 0, 0, 0] ![0, 0, 0, 0] (extractStridedSlice S4x1x256x255 ![0, 0, 0, 0] p slices_S4x1x256x256_S4x1x256x255_0_0_0_0) (sitofp .f32 (constantI S_ 32 0#32)) pads_S4x1x256x255_S4x1x256x256_000_000_000_100 h_S_))) (mulf wr (pad S4x1x256x256 ![0, 0, 0, 0] ![0, 0, 0, 1] ![0, 0, 0, 0] (extractStridedSlice S4x1x256x255 ![0, 0, 0, 1] p slices_S4x1x256x256_S4x1x256x255_0_0_0_1) (sitofp .f32 (constantI S_ 32 0#32)) pads_S4x1x256x255_S4x1x256x256_000_000_000_010 h_S_)))) (mulf (broadcastInDim S4x1x256x256 ![] bcast_S_S4x1x256x256 lam) (Host.divf (shapeCast S4x1x256x256 (broadcastInDim S4x1x256x32x8 ![0, 1, 2, 3] bcast_S4x1x256x32_S4x1x256x32x8_0_1_2_3 (shapeCast S4x1x256x32 (broadcastInDim S4x1x32x8x32 ![0, 1, 2, 4] bcast_S4x1x32x32_S4x1x32x8x32_0_1_2_4 (mulf msk (Host.divf (Host.reduceAdd (shapeCast S4x1x32x8x32x8 p shapeCasts_S4x1x256x256_S4x1x32x8x32x8) (constant S_ .f32 0x00000000#32) reducesTo_S4x1x32x8x32x8_S4x1x32x32_d3_5 h_S_) (broadcastInDim S4x1x32x32 ![] bcast_S_S4x1x32x32 (constant S_ .f32 0x42800000#32))))) shapeCasts_S4x1x32x8x32_S4x1x256x32)) shapeCasts_S4x1x256x32x8_S4x1x256x256) (broadcastInDim S4x1x256x256 ![] bcast_S_S4x1x256x256 (constant S_ .f32 0x42800000#32))))

/-- A reference array as a field. -/
def fld4 (X : FVec Ideal S4x1x256x256 .f32) : Fld := fun n h w => X (ix4 n 0 h w)
/-- A coarse reference array as a coarse field. -/
def low4 (X : FVec Ideal S4x1x32x32 .f32) : Low := fun n h w => X (ix4 n 0 h w)

/-- The loop body's operator. -/
theorem v376_eq (V : Valuation τ sig (Elt Ideal)) : res_main_while0b_v376 V = rA (V (Proc.devRef .tc main_v344_0)) (V (Proc.devRef .tc main_v344_1)) (V (Proc.devRef .tc main_v344_2)) (V (Proc.devRef .tc main_v344_3)) (V (Proc.devRef .tc main_v344_4)) (V (Proc.devRef .tc main_v344_5)) (V (Proc.devRef .tc main_v344_6)) (V (Proc.devRef .tc main_v344_11)) := rfl

/-- The initial residual. -/
theorem v341_eq (V : Valuation τ sig (Elt Ideal)) : R_v341 V = (subf (R_v305 V) (rA (R_v296 V) (R_v292 V) (R_v293 V) (R_v294 V) (R_v295 V) (V (Proc.devRef .tc main_arg2)) (R_v61 V) (R_v309 V)) : FVec Ideal S4x1x256x256 .f32) := rfl

/-- The sum over a block's two fine coordinates. -/
theorem blk_red (X : FVec Ideal S4x1x32x8x32x8 .f32) (n : Fin 4) (i j : Fin 32) (v : EReal) :
    Ideal.hostReduceAdd reducesTo_S4x1x32x8x32x8_S4x1x32x32_d3_5 X v (ix4 n 0 i j) = v + ∑ a : Fin 8, ∑ b : Fin 8, X (ix6 n 0 i a j b) := by
  refine congrArg (v + ·) ?_
  rw [← Fintype.sum_prod_type' (f := fun a b => X (ix6 n 0 i a j b))]
  have e := Finset.sum_filter_eq_sum_of_fiber (fun x => reducesTo_S4x1x32x8x32x8_S4x1x32x32_d3_5.drop x = ix4 n 0 i j) (fun p : Fin 8 × Fin 8 => (ix6 n 0 i p.1 j p.2 : S4x1x32x8x32x8.Idx))
    (fun _ _ e => Prod.ext (congrFun e 3) (congrFun e 5)) (fun x => ?_) X
  · exact e
  · constructor
    · intro e
      refine ⟨(x 3, x 5), ?_⟩
      funext a
      apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨p, rfl⟩
      funext b
      apply Fin.ext
      match b with
      | ⟨0, _⟩ => rfl
      | ⟨1, _⟩ => rfl
      | ⟨2, _⟩ => rfl
      | ⟨3, _⟩ => rfl

/-- The reference's block sum at a coarse index. -/
theorem blk_at (p : FVec Ideal S4x1x256x256 .f32) (n : Fin 4) (i j : Fin 32) :
    Ideal.hostReduceAdd reducesTo_S4x1x32x8x32x8_S4x1x32x32_d3_5 (shapeCast S4x1x32x8x32x8 p shapeCasts_S4x1x256x256_S4x1x32x8x32x8) 0 (ix4 n 0 i j) = blk (fld4 p n) i j := by
  rw [blk_red, zero_add]
  unfold blk
  refine Finset.sum_congr rfl fun a _ => Finset.sum_congr rfl fun b _ => ?_
  unfold fld4
  pointwise []
  refine congrArg p (congrArg₂ (ix4 n 0) (Fin.ext ?_) (Fin.ext ?_))
  · show _ = 8 * (i : ℕ) + (a : ℕ)
    simp
    omega
  · show _ = 8 * (j : ℕ) + (b : ℕ)
    simp
    omega

/-- The zero a shift pads with. -/
theorem pad_zero : (FloatOps.sitofp FTy.f32 0#32 : Ideal .f32) = (0 : EReal) := by
  show (((0#32 : BitVec 32).toInt : ℝ) : EReal) = 0
  simp

/-- The reference's word sixty-four. -/
theorem ofBits_64 : Ideal.ofBits .f32 0x42800000#32 = ((64 : ℝ) : EReal) := by
  simp [Ideal.ofBits, Ideal.ieee, -EReal.coe_mul, -EReal.coe_neg]
  norm_num

/-- Two guarded values with opposite guards. -/
theorem dite_opp {P Q : Prop} [Decidable P] [Decidable Q] (hpq : P ↔ ¬ Q) (a : P → EReal) (z : EReal) (b : ¬ Q → EReal) (hab : ∀ h h', a h = b h') :
    (if h : P then a h else z) = (if h : Q then z else b h) := by
  by_cases q : Q
  · rw [dif_neg (fun p => hpq.mp p q), dif_pos q]
  · rw [dif_pos (hpq.mpr q), dif_neg q]; exact hab _ _

section

variable (deg wu wd wl wr : FVec Ideal S4x1x256x256 .f32) (msk : FVec Ideal S4x1x32x32 .f32) (lam : FVec Ideal S_ .f32)

/-- The system the reference's arrays describe. -/
def rCoef : Coef := ⟨lam ix0, fld4 wu, fld4 wd, fld4 wl, fld4 wr, fld4 deg, low4 msk⟩

/-- The reference's operator at a point. -/
theorem rA_at (p : FVec Ideal S4x1x256x256 .f32) (n : Fin 4) (h w : Fin 256) :
    rA deg wu wd wl wr msk lam p (ix4 n 0 h w) = opA (rCoef deg wu wd wl wr msk lam) (fld4 p) n h w := by
  have hb := blk_at p n (low h) (low w)
  unfold opA
  rw [← hb, ← div_64, ← div_64, ← ofBits_64]
  have hl : lap (rCoef deg wu wd wl wr msk lam) (fld4 p) n h w = deg (ix4 n 0 h w) * p (ix4 n 0 h w) -
        ((((wu (ix4 n 0 h w) *
                if h_1 : 1 ≤ (h : ℕ) ∧ (h : ℕ) - 1 < 255 then p (ix4 n 0 ⟨(h : ℕ) - 1, by omega⟩ w) else FloatOps.sitofp FTy.f32 0#32) +
              wd (ix4 n 0 h w) * if h_1 : (h : ℕ) < 255 then p (ix4 n 0 ⟨1 + (h : ℕ), by omega⟩ w) else FloatOps.sitofp FTy.f32 0#32) +
            wl (ix4 n 0 h w) *
              if h_1 : 1 ≤ (w : ℕ) ∧ (w : ℕ) - 1 < 255 then p (ix4 n 0 h ⟨(w : ℕ) - 1, by omega⟩) else FloatOps.sitofp FTy.f32 0#32) +
          wr (ix4 n 0 h w) * if h_1 : (w : ℕ) < 255 then p (ix4 n 0 h ⟨1 + (w : ℕ), by omega⟩) else FloatOps.sitofp FTy.f32 0#32) := by
    unfold lap
    have hh := h.isLt
    have hw := w.isLt
    rw [pad_zero]
    rw [dite_opp (Q := (h : ℕ) < 1) (by omega) (fun _ => p (ix4 n 0 ⟨(h : ℕ) - 1, by omega⟩ w)) 0 (fun _ => p (ix4 n 0 ⟨(h : ℕ) - 1, by omega⟩ w)) (fun _ _ => rfl)]
    rw [dite_opp (Q := (w : ℕ) < 1) (by omega) (fun _ => p (ix4 n 0 h ⟨(w : ℕ) - 1, by omega⟩)) 0 (fun _ => p (ix4 n 0 h ⟨(w : ℕ) - 1, by omega⟩)) (fun _ _ => rfl)]
    rfl
  rw [hl]
  pointwise [rA]
  rfl

/-- The operator, as fields. -/
theorem fld_rA (p : FVec Ideal S4x1x256x256 .f32) : fld4 (rA deg wu wd wl wr msk lam p) = opA (rCoef deg wu wd wl wr msk lam) (fld4 p) :=
  funext fun n => funext fun h => funext fun w => rA_at deg wu wd wl wr msk lam p n h w

end

/-- The sum over a whole array is the field's. -/
theorem sum4 (R : FVec Ideal S4x1x256x256 .f32) : (Host.reduceAdd R (constant S_ .f32 0x00000000#32) reducesTo_S4x1x256x256_S_d0_1_2_3 h_S_ : FVec Ideal S_ .f32) ix0 = tot (fld4 R) := by
  have e : (Host.reduceAdd R (constant S_ .f32 0x00000000#32) reducesTo_S4x1x256x256_S_d0_1_2_3 h_S_ : FVec Ideal S_ .f32) ix0 = Ideal.hostReduceAdd reducesTo_S4x1x256x256_S_d0_1_2_3 R 0 ix0 := by
    show Ideal.hostReduceAdd reducesTo_S4x1x256x256_S_d0_1_2_3 R (Ideal.ofBits .f32 0x00000000#32) ix0 = _
    rw [Ideal.ofBits_zero_f32]
  rw [e, Ideal.hostReduceAdd_total _ (by decide), zero_add, sum_idx4]
  simp only [Fin.sum_univ_one]
  rfl

section

variable (V : Valuation τ sig (Elt Ideal))

/-- The carried buffers as arrays. -/
abbrev C0 : FVec Ideal S4x1x256x256 .f32 := V (Proc.devRef .tc main_v344_0)
/-- The affinity with the row above. -/
abbrev C1 : FVec Ideal S4x1x256x256 .f32 := V (Proc.devRef .tc main_v344_1)
/-- The affinity with the row below. -/
abbrev C2 : FVec Ideal S4x1x256x256 .f32 := V (Proc.devRef .tc main_v344_2)
/-- The affinity with the column before. -/
abbrev C3 : FVec Ideal S4x1x256x256 .f32 := V (Proc.devRef .tc main_v344_3)
/-- The affinity with the column after. -/
abbrev C4 : FVec Ideal S4x1x256x256 .f32 := V (Proc.devRef .tc main_v344_4)
/-- The mask. -/
abbrev C5 : FVec Ideal S4x1x32x32 .f32 := V (Proc.devRef .tc main_v344_5)
/-- The fidelity weight. -/
abbrev C6 : FVec Ideal S_ .f32 := V (Proc.devRef .tc main_v344_6)
/-- The solution. -/
abbrev C9 : FVec Ideal S4x1x256x256 .f32 := V (Proc.devRef .tc main_v344_9)
/-- The residual. -/
abbrev C10 : FVec Ideal S4x1x256x256 .f32 := V (Proc.devRef .tc main_v344_10)
/-- The direction. -/
abbrev C11 : FVec Ideal S4x1x256x256 .f32 := V (Proc.devRef .tc main_v344_11)
/-- The squared residual. -/
abbrev C12 : FVec Ideal S_ .f32 := V (Proc.devRef .tc main_v344_12)

/-- The system in the carried buffers. -/
def coefV : Coef := rCoef (C0 V) (C1 V) (C2 V) (C3 V) (C4 V) (C5 V) (C6 V)

/-- The state in the carried buffers. -/
def stV : Cgs := (C12 V ix0, fld4 (C9 V), fld4 (C10 V), fld4 (C11 V))

/-- The operator at the direction. -/
def bA : FVec Ideal S4x1x256x256 .f32 := res_main_while0b_v376 V
/-- The step length. -/
def bAl : FVec Ideal S_ .f32 := res_main_while0b_v380 V
/-- The next residual. -/
def bR : FVec Ideal S4x1x256x256 .f32 := res_main_while0b_v386 V
/-- The next squared residual. -/
def bS : FVec Ideal S_ .f32 := res_main_while0b_v388 V

/-- The operator at the direction, as fields. -/
theorem bA_fld : fld4 (bA V) = opA (coefV V) (fld4 (C11 V)) := fld_rA (C0 V) (C1 V) (C2 V) (C3 V) (C4 V) (C5 V) (C6 V) (C11 V)

/-- The step length. -/
theorem bAl_at : bAl V ix0 = alpha (coefV V) (stV V) := by
  have e : bAl V ix0 = Ideal.div (C12 V ix0) ((Host.reduceAdd (mulf (C11 V) (bA V)) (constant S_ .f32 0x00000000#32) reducesTo_S4x1x256x256_S_d0_1_2_3 h_S_ : FVec Ideal S_ .f32) ix0 + eps) := rfl
  rw [e, sum4]
  unfold alpha
  refine congrArg (fun z : Fld => Ideal.div (C12 V ix0) (tot z + eps)) ?_
  have h := bA_fld V
  funext n a b
  exact congrArg (C11 V (ix4 n 0 a b) * ·) (congrFun (congrFun (congrFun h n) a) b)

/-- The next residual, as fields. -/
theorem bR_fld : fld4 (bR V) = nextR (coefV V) (stV V) := by
  funext n h w
  have e : fld4 (bR V) n h w = C10 V (ix4 n 0 h w) - bAl V ix0 * bA V (ix4 n 0 h w) := by
    have e1 : bR V = (subf (C10 V) (mulf (broadcastInDim S4x1x256x256 ![] bcast_S_S4x1x256x256 (bAl V)) (bA V)) : FVec Ideal S4x1x256x256 .f32) := rfl
    rw [e1]
    unfold fld4
    generalize bAl V = al
    generalize bA V = A
    generalize C10 V = R
    pointwise []
    try rfl
  rw [e, bAl_at]
  exact congrArg (fun z => C10 V (ix4 n 0 h w) - alpha (coefV V) (stV V) * z) (congrFun (congrFun (congrFun (bA_fld V) n) h) w)

/-- The next squared residual. -/
theorem bS_at : bS V ix0 = nextS (coefV V) (stV V) := by
  have e : bS V ix0 = (Host.reduceAdd (mulf (bR V) (bR V)) (constant S_ .f32 0x00000000#32) reducesTo_S4x1x256x256_S_d0_1_2_3 h_S_ : FVec Ideal S_ .f32) ix0 := rfl
  rw [e, sum4]
  unfold nextS
  rw [← bR_fld]
  rfl

/-- The loop keeps the system. -/
theorem coefV_step : coefV (STEP V) = coefV V := by
  unfold coefV C0 C1 C2 C3 C4 C5 C6
  rw [STEP_main_v344_0, STEP_main_v344_1, STEP_main_v344_2, STEP_main_v344_3, STEP_main_v344_4, STEP_main_v344_5, STEP_main_v344_6]

/-- One trip is one iteration. -/
theorem stV_step : stV (STEP V) = cgStep (coefV V) (stV V) := by
  unfold stV C9 C10 C11 C12
  rw [STEP_main_v344_9, STEP_main_v344_10, STEP_main_v344_11, STEP_main_v344_12]
  refine Prod.ext (bS_at V) (Prod.ext ?_ (Prod.ext (bR_fld V) ?_))
  · funext n h w
    have e : fld4 (step_main_v344_9 V) n h w = C9 V (ix4 n 0 h w) + bAl V ix0 * C11 V (ix4 n 0 h w) := by
      have e1 : step_main_v344_9 V = (addf (C9 V) (mulf (broadcastInDim S4x1x256x256 ![] bcast_S_S4x1x256x256 (bAl V)) (C11 V)) : FVec Ideal S4x1x256x256 .f32) := rfl
      rw [e1]
      unfold fld4
      generalize bAl V = al
      generalize C9 V = A
      generalize C11 V = R
      pointwise []
      try rfl
    rw [bAl_at] at e
    exact e
  · funext n h w
    have e : fld4 (step_main_v344_11 V) n h w = fld4 (bR V) n h w + Ideal.div (bS V ix0) (C12 V ix0 + eps) * C11 V (ix4 n 0 h w) := by
      have e1 : step_main_v344_11 V = (addf (bR V) (mulf (broadcastInDim S4x1x256x256 ![] bcast_S_S4x1x256x256 (Host.divf (bS V) (addf (C12 V) (constant S_ .f32 0x2B8CBCCC#32)))) (C11 V)) : FVec Ideal S4x1x256x256 .f32) := rfl
      rw [e1]
      unfold fld4 eps
      generalize bS V = al
      generalize bR V = A
      generalize C11 V = R
      generalize C12 V = rs
      pointwise []
      try rfl
    rw [bS_at, bR_fld] at e
    exact e

/-- The trips iterate. -/
theorem stV_iter : ∀ k, stV (STEP^[k] V) = (cgStep (coefV V))^[k] (stV V) ∧ coefV (STEP^[k] V) = coefV V
  | 0 => ⟨rfl, rfl⟩
  | k + 1 => by
    obtain ⟨h1, h2⟩ := stV_iter k
    rw [Function.iterate_succ_apply', Function.iterate_succ_apply', stV_step, coefV_step, h1, h2]
    exact ⟨rfl, rfl⟩

end

/-- The system of a launch state. -/
def coefInit (V : Valuation τ sig (Elt Ideal)) : Coef := rCoef (R_v296 V) (R_v292 V) (R_v293 V) (R_v294 V) (R_v295 V) (V (Proc.devRef .tc main_arg2)) (R_v61 V)

/-- Slices of the affinity array at its channels. -/
theorem aff_slice (V : Valuation τ sig (Elt Ideal)) : coefInit V = ⟨Ideal.exp ((V (Proc.devRef .tc main_arg12) : FVec Ideal S1 .f32) (ix1 0)), fun n h w => affCh (muR V) (featR V n) 0 h w, fun n h w => affCh (muR V) (featR V n) 1 h w,
    fun n h w => affCh (muR V) (featR V n) 2 h w, fun n h w => affCh (muR V) (featR V n) 3 h w, fun n h w => affCh (muR V) (featR V n) 4 h w, fun n h w => (V (Proc.devRef .tc main_arg2) : FVec Ideal S4x1x32x32 .f32) (ix4 n 0 h w)⟩ := by
  have s0 : fld4 (R_v292 V) = fun n h w => affCh (muR V) (featR V n) 0 h w := by
    funext n h w
    rw [← R_v291_at V n 0 h w]
    show (extractStridedSlice S4x1x256x256 ![0, 0, 0, 0] (R_v291 V) slices_S4x5x256x256_S4x1x256x256_0_0_0_0 : FVec Ideal S4x1x256x256 .f32) (ix4 n 0 h w) = _
    generalize R_v291 V = g
    pointwise []
    try rfl
  have s1 : fld4 (R_v293 V) = fun n h w => affCh (muR V) (featR V n) 1 h w := by
    funext n h w
    rw [← R_v291_at V n 1 h w]
    show (extractStridedSlice S4x1x256x256 ![0, 1, 0, 0] (R_v291 V) slices_S4x5x256x256_S4x1x256x256_0_1_0_0 : FVec Ideal S4x1x256x256 .f32) (ix4 n 0 h w) = _
    generalize R_v291 V = g
    pointwise []
    try rfl
  have s2 : fld4 (R_v294 V) = fun n h w => affCh (muR V) (featR V n) 2 h w := by
    funext n h w
    rw [← R_v291_at V n 2 h w]
    show (extractStridedSlice S4x1x256x256 ![0, 2, 0, 0] (R_v291 V) slices_S4x5x256x256_S4x1x256x256_0_2_0_0 : FVec Ideal S4x1x256x256 .f32) (ix4 n 0 h w) = _
    generalize R_v291 V = g
    pointwise []
    try rfl
  have s3 : fld4 (R_v295 V) = fun n h w => affCh (muR V) (featR V n) 3 h w := by
    funext n h w
    rw [← R_v291_at V n 3 h w]
    show (extractStridedSlice S4x1x256x256 ![0, 3, 0, 0] (R_v291 V) slices_S4x5x256x256_S4x1x256x256_0_3_0_0 : FVec Ideal S4x1x256x256 .f32) (ix4 n 0 h w) = _
    generalize R_v291 V = g
    pointwise []
    try rfl
  have s4 : fld4 (R_v296 V) = fun n h w => affCh (muR V) (featR V n) 4 h w := by
    funext n h w
    rw [← R_v291_at V n 4 h w]
    show (extractStridedSlice S4x1x256x256 ![0, 4, 0, 0] (R_v291 V) slices_S4x5x256x256_S4x1x256x256_0_4_0_0 : FVec Ideal S4x1x256x256 .f32) (ix4 n 0 h w) = _
    generalize R_v291 V = g
    pointwise []
    try rfl
  have s5 : R_v61 V ix0 = Ideal.exp ((V (Proc.devRef .tc main_arg12) : FVec Ideal S1 .f32) (ix1 0)) := by
    unfold R_v61
    generalize V (Proc.devRef .tc main_arg12) = g
    pointwise [r_v61]
    try rfl
  unfold coefInit rCoef
  rw [s0, s1, s2, s3, s4, s5]
  rfl

/-- The initial guess as a field: the source repeated over each block. -/
theorem ini_fld (V : Valuation τ sig (Elt Ideal)) : fld4 (R_v309 V) = ini (low4 (V (Proc.devRef .tc main_arg1))) := by
  funext n h w
  unfold R_v309
  generalize V (Proc.devRef .tc main_arg1) = g
  unfold fld4 ini low4
  pointwise [r_v309]
  try rfl

/-- The right-hand side as a field. -/
theorem rhs_fld (V : Valuation τ sig (Elt Ideal)) : fld4 (R_v305 V) = rhs (coefInit V) (low4 (V (Proc.devRef .tc main_arg1))) := by
  funext n h w
  unfold rhs
  rw [← div_64, ← ofBits_64]
  unfold R_v305 coefInit rCoef
  generalize V (Proc.devRef .tc main_arg1) = g
  generalize V (Proc.devRef .tc main_arg2) = k
  generalize R_v61 V = l
  unfold fld4 low4
  pointwise [r_v305]
  try rfl

/-- A difference of arrays, as fields. -/
theorem fld_sub (X Y : FVec Ideal S4x1x256x256 .f32) : fld4 (subf X Y) = fun n h w => fld4 X n h w - fld4 Y n h w := rfl

/-- The initial squared residual. -/
theorem sum_sq (X : FVec Ideal S4x1x256x256 .f32) : (r_v344_12 (F := Ideal) X : FVec Ideal S_ .f32) ix0 = tot (fun n h w => fld4 X n h w * fld4 X n h w) := by
  unfold r_v344_12
  rw [sum4]
  rfl

/-- The loop starts at the initial state. -/
theorem st_init (V : Valuation τ sig (Elt Ideal)) : coefV (U36 V) = coefInit V ∧ stV (U36 V) = cgInit (coefInit V) (low4 (V (Proc.devRef .tc main_arg1))) := by
  constructor
  · unfold coefV C0 C1 C2 C3 C4 C5 C6
    rw [at_v344_0_36, at_v344_1_36, at_v344_2_36, at_v344_3_36, at_v344_4_36, at_v344_5_36, at_v344_6_36]
    rfl
  · have hr : fld4 (R_v341 V) = res (coefInit V) (low4 (V (Proc.devRef .tc main_arg1))) := by
      rw [v341_eq]
      have h1 := fld_rA (R_v296 V) (R_v292 V) (R_v293 V) (R_v294 V) (R_v295 V) (V (Proc.devRef .tc main_arg2)) (R_v61 V) (R_v309 V)
      have h2 := rhs_fld V
      have h3 := ini_fld V
      rw [h3] at h1
      rw [fld_sub, h1, h2]
      rfl
    have hs : (r_v344_12 (F := Ideal) (R_v341 V) : FVec Ideal S_ .f32) ix0 = tot (fun n h w => fld4 (R_v341 V) n h w * fld4 (R_v341 V) n h w) := by
      exact sum_sq (R_v341 V)
    unfold stV C9 C10 C11 C12
    rw [at_v344_9_36, at_v344_10_36, at_v344_11_36, at_v344_12_36]
    refine Prod.ext ?_ (Prod.ext (ini_fld V) (Prod.ext hr hr))
    refine hs.trans ?_
    rw [hr]
    rfl

end Cert.ReferenceIdeal.Mine

end
-- ==== Proof.RefEnd.lean ====
/-
  The reference's run: what the thirty trips leave in the results, and the arguments kept.
-/
module

public import proofs.«01_k».proof.Proof.RefCg
import Idealize.ShloMosaic.Lib.Quiescent

@[expose] public section

set_option maxRecDepth 16384

noncomputable section

namespace Cert.ReferenceIdeal.Mine

open Cert.ReferenceIdeal Cert.ReferenceIdeal.Gen Cert.ReferenceIdeal.Value Cert.Mine
open Idealize.ShloMosaic Idealize.ShloMosaic.TcCoe Idealize.ShloMosaic.StableHlo Idealize.ShloMosaic.Pointwise Idealize.SL.Sem

section

variable {F : FTy → Type} [FloatOps F]

/-- Every buffer the loop's condition and body write. -/
def loopW : List (Ref sig .tc) :=
  condOps_W ++ (while0Ops0_W ++ (while0Ops0_1_W ++ (while0Ops0_2_W ++ (while0Ops0_3_W ++ (while0Ops0_4_W ++ (while0Ops0_5_W ++ (while0Ops0_6_W ++ (while0Ops0_7_W ++ while0Ops0_8_W))))))))

/-- A trip keeps a buffer the loop does not write. -/
theorem trip_keep (X : Valuation τ sig (Elt F)) (r : Ref sig .tc) (h : r ∉ loopW) : afterL bodyI (after condOps X) (Proc.devRef .tc r) = X (Proc.devRef .tc r) := by
  simp only [loopW, List.mem_append, not_or] at h
  obtain ⟨hc, h0, h1, h2, h3, h4, h5, h6, h7, h8⟩ := h
  exact (after_of_writes_sub while0Ops0_8 _ while0Ops0_8_writes h8).trans <| (after_of_writes_sub while0Ops0_7 _ while0Ops0_7_writes h7).trans <|
    (after_of_writes_sub while0Ops0_6 _ while0Ops0_6_writes h6).trans <| (after_of_writes_sub while0Ops0_5 _ while0Ops0_5_writes h5).trans <|
    (after_of_writes_sub while0Ops0_4 _ while0Ops0_4_writes h4).trans <| (after_of_writes_sub while0Ops0_3 _ while0Ops0_3_writes h3).trans <|
    (after_of_writes_sub while0Ops0_2 _ while0Ops0_2_writes h2).trans <| (after_of_writes_sub while0Ops0_1 _ while0Ops0_1_writes h1).trans <|
    (after_of_writes_sub while0Ops0 _ while0Ops0_writes h0).trans (after_of_writes_sub condOps X condOps_writes hc)

variable (m : (ℓ : Loc nD τ sig) → Buf (Elt F) ℓ)

/-- The trips keep a buffer the loop does not write. -/
theorem atK_keep (c : Dev nD) (r : Ref sig .tc) (h : r ∉ loopW) : ∀ k, atK m k c (Proc.devRef .tc r) = entryContents preI m c (Proc.devRef .tc r)
  | 0 => rfl
  | k + 1 => (trip_keep (atK m k c) r h).trans (atK_keep c r h k)

/-- A buffer the loop does not write ends as it entered. -/
theorem fin_keep (c : Dev nD) (r : Ref sig .tc) (h : r ∉ loopW) : finalContents condOps preI bodyI postI 30 m c (Proc.devRef .tc r) = U36 (launchContents m c) (Proc.devRef .tc r) := by
  have hc : r ∉ condOps_W := fun e => h (by unfold loopW; exact List.mem_append_left _ e)
  rw [← entry_eq]
  exact (after_of_writes_sub condOps (atK m 30 c) condOps_writes hc).trans (atK_keep m c r h 30)

/-- Every buffer the stretches before the loop write. -/
def preW : List (Ref sig .tc) :=
  hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W ++ (hostOps0_11_W ++ (hostOps0_12_W ++ (hostOps0_13_W ++ (hostOps0_14_W ++ (hostOps0_15_W ++ (hostOps0_16_W ++ (hostOps0_17_W ++ (hostOps0_18_W ++ (hostOps0_19_W ++ (part20_a_W ++ (part20_b_W ++ (part20_c_W ++ (part20_d_W ++ (part20_e_W ++ (part20_f_W ++ (part20_g_W ++ (hostOps0_21_W ++ (hostOps0_22_W ++ (hostOps0_23_W ++ (hostOps0_24_W ++ (hostOps0_25_W ++ (hostOps0_26_W ++ (hostOps0_27_W ++ (part28_a_W ++ (part28_b_W)))))))))))))))))))))))))))))))))))

/-- The stretches before the loop keep a buffer they do not write. -/
theorem pre_keep (V : Valuation τ sig (Elt F)) (r : Ref sig .tc) (h : r ∉ preW) : U36 V (Proc.devRef .tc r) = V (Proc.devRef .tc r) := by
  simp only [preW, List.mem_append, not_or] at h
  obtain ⟨h1, h2, h3, h4, h5, h6, h7, h8, h9, h10, h11, h12, h13, h14, h15, h16, h17, h18, h19, h20, h21, h22, h23, h24, h25, h26, h27, h28, h29, h30, h31, h32, h33, h34, h35, h36⟩ := h
  exact (keep36 V r h36).trans <| (keep35 V r h35).trans <| (keep34 V r h34).trans <| (keep33 V r h33).trans <| (keep32 V r h32).trans <| (keep31 V r h31).trans <| (keep30 V r h30).trans <| (keep29 V r h29).trans <| (keep28 V r h28).trans <| (keep27 V r h27).trans <| (keep26 V r h26).trans <| (keep25 V r h25).trans <| (keep24 V r h24).trans <| (keep23 V r h23).trans <| (keep22 V r h22).trans <| (keep21 V r h21).trans <| (keep20 V r h20).trans <| (keep19 V r h19).trans <| (keep18 V r h18).trans <| (keep17 V r h17).trans <| (keep16 V r h16).trans <| (keep15 V r h15).trans <| (keep14 V r h14).trans <| (keep13 V r h13).trans <| (keep12 V r h12).trans <| (keep11 V r h11).trans <| (keep10 V r h10).trans <| (keep9 V r h9).trans <| (keep8 V r h8).trans <| (keep7 V r h7).trans <| (keep6 V r h6).trans <| (keep5 V r h5).trans <| (keep4 V r h4).trans <| (keep3 V r h3).trans <| (keep2 V r h2).trans <| (keep1 V r h1).trans rfl

/-- A buffer nothing writes ends as it was launched. -/
theorem arg_keep (c : Dev nD) (r : Ref sig .tc) (h : r ∉ loopW) (h' : r ∉ preW) :
    finalContents condOps preI bodyI postI 30 m c (Proc.devRef .tc r) = m ((c.tc : Thread nD τ).loc r) :=
  (fin_keep m c r h).trans (pre_keep (launchContents m c) r h')

end

section

variable (m : (ℓ : Loc nD τ sig) → Buf (Elt Ideal) ℓ) (ρ : Dev nD → PrngReg)

/-- The variance result is kept by the loop. -/
theorem end_v57 (c : Dev nD) : finalContents condOps preI bodyI postI 30 m c (Proc.devRef .tc main_v57) = R_v57 (launchContents m c) :=
  (fin_keep m c main_v57 (by decide +kernel)).trans (at_v57_36 _)

/-- The affinity result is kept by the loop. -/
theorem end_v291 (c : Dev nD) : finalContents condOps preI bodyI postI 30 m c (Proc.devRef .tc main_v291) = R_v291 (launchContents m c) :=
  (fin_keep m c main_v291 (by decide +kernel)).trans (at_v291_36 _)

/-- The solution result is the iteration's after thirty trips. -/
theorem end_v344_9 (c : Dev nD) (n : Fin 4) (h w : Fin 256) :
    (finalContents condOps preI bodyI postI 30 m c (Proc.devRef .tc main_v344_9) : FVec Ideal S4x1x256x256 .f32) (ix4 n 0 h w)
      = cgSol (coefInit (launchContents m c)) (low4 (launchContents m c (Proc.devRef .tc main_arg1))) n h w := by
  have e1 : finalContents condOps preI bodyI postI 30 m c (Proc.devRef .tc main_v344_9) = STEP^[30] (U36 (launchContents m c)) (Proc.devRef .tc main_v344_9) := by
    have e2 := (cond_keeps (atK m 30 c) main_v344_9 (by decide)).trans (atK_agree m c 30 main_v344_9 (by decide))
    rw [entry_eq] at e2
    exact e2
  rw [e1]
  generalize launchContents m c = V
  obtain ⟨i1, i2⟩ := st_init V
  have s := (stV_iter (U36 V) 30).1
  rw [i1, i2] at s
  exact congrFun (congrFun (congrFun (congrArg (fun z : Cgs => z.2.1) s) n) h) w

/-- The reference's run: its three results and its arguments. -/
theorem run : θ_run (defs (F := Ideal)) (onTc (τ := τ) (main (F := Ideal))) ⟨m, fun _ => 0, ρ⟩ (fun r => (∀ c : Dev nD,
      r.2.mem ((c.tc : Thread nD τ).loc main_v344_9) = finalContents condOps preI bodyI postI 30 m c (Proc.devRef .tc main_v344_9)
      ∧ r.2.mem ((c.tc : Thread nD τ).loc main_v57) = R_v57 (launchContents m c)
      ∧ r.2.mem ((c.tc : Thread nD τ).loc main_v291) = R_v291 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run (defs (F := Ideal)) _ _).mono (fun r hr => ⟨fun c => ⟨hr c main_v344_9 rfl, (hr c main_v57 rfl).trans (end_v57 m c), (hr c main_v291 rfl).trans (end_v291 m c),
    (hr c main_arg0 rfl).trans (arg_keep m c main_arg0 (by decide +kernel) (by decide +kernel)),
    (hr c main_arg1 rfl).trans (arg_keep m c main_arg1 (by decide +kernel) (by decide +kernel)),
    (hr c main_arg2 rfl).trans (arg_keep m c main_arg2 (by decide +kernel) (by decide +kernel)),
    (hr c main_arg3 rfl).trans (arg_keep m c main_arg3 (by decide +kernel) (by decide +kernel)),
    (hr c main_arg4 rfl).trans (arg_keep m c main_arg4 (by decide +kernel) (by decide +kernel)),
    (hr c main_arg5 rfl).trans (arg_keep m c main_arg5 (by decide +kernel) (by decide +kernel)),
    (hr c main_arg6 rfl).trans (arg_keep m c main_arg6 (by decide +kernel) (by decide +kernel)),
    (hr c main_arg7 rfl).trans (arg_keep m c main_arg7 (by decide +kernel) (by decide +kernel)),
    (hr c main_arg8 rfl).trans (arg_keep m c main_arg8 (by decide +kernel) (by decide +kernel)),
    (hr c main_arg9 rfl).trans (arg_keep m c main_arg9 (by decide +kernel) (by decide +kernel)),
    (hr c main_arg10 rfl).trans (arg_keep m c main_arg10 (by decide +kernel) (by decide +kernel)),
    (hr c main_arg11 rfl).trans (arg_keep m c main_arg11 (by decide +kernel) (by decide +kernel)),
    (hr c main_arg12 rfl).trans (arg_keep m c main_arg12 (by decide +kernel) (by decide +kernel)),
    (hr c main_arg13 rfl).trans (arg_keep m c main_arg13 (by decide +kernel) (by decide +kernel))⟩,
    Idealize.ShloMosaic.sem_eq_zero_of_no_sems (by decide) r.2⟩) (run_fold m ρ)

end

end Cert.ReferenceIdeal.Mine

end
-- ==== Proof.KRun0.lean ====
/-
  The first region's output blocks as the payloads of the input blocks.
-/
module

public import proofs.«01_k».proof.Proof.Gen.KernelIdeal.Frame
public import Idealize.ShloMosaic.Lib.Pipeline.ValueKit

@[expose] public section

set_option maxRecDepth 16384

noncomputable section

namespace Cert.KernelIdeal.Mine

open Cert.KernelIdeal Cert.KernelIdeal.Gen
open Idealize.ShloMosaic

variable {F : FTy → Type} [FloatOps F]

/-- The mask of the window's rows in the image, of the strip's word. -/
def B60 (s : BitVec 32) : IVec S1x18432 1 :=
  k0_pay9 s (iota .tc S1x18432 32 [1] iota_S1x18432_d1_w32) 256#32 k0_pay7 k0_pay8 1#32 0#1

/-- A slice of the first layer's weights. -/
def w40 (x : Vec F S3x40x12 .f32) (dy : Fin 3) : Vec F S1x40x12 .f32 :=
  match dy with
  | 0 => View.ld x (Rect.unit ![0, 0, 0] ![1, 40, 12] inb_S3x40x12_S1x40x12_0_0_0)
  | 1 => View.ld x (Rect.unit ![1, 0, 0] ![1, 40, 12] inb_S3x40x12_S1x40x12_1_0_0)
  | 2 => View.ld x (Rect.unit ![2, 0, 0] ![1, 40, 12] inb_S3x40x12_S1x40x12_2_0_0)

/-- A slice of a later layer's weights. -/
def w32 (x : Vec F S3x32x96 .f32) (dy : Fin 3) : Vec F S1x32x96 .f32 :=
  match dy with
  | 0 => View.ld x (Rect.unit ![0, 0, 0] ![1, 32, 96] inb_S3x32x96_S1x32x96_0_0_0)
  | 1 => View.ld x (Rect.unit ![1, 0, 0] ![1, 32, 96] inb_S3x32x96_S1x32x96_1_0_0)
  | 2 => View.ld x (Rect.unit ![2, 0, 0] ![1, 32, 96] inb_S3x32x96_S1x32x96_2_0_0)

/-- The gathered columns of the image window. -/
def Bxc (v4 : Vec F S1x4x18432 .f32) : FVec F S12x18432 .f32 := k0_pay10 (k0_pay3 v4) k0_pay5 k0_pay6

/-- The first layer's upper taps. -/
def Bz0 (v4 : Vec F S1x4x18432 .f32) (x2 : Vec F S3x40x12 .f32) : FVec F S40x18432 .f32 := k0_pay11 (k0_pay3 v4) k0_pay5 k0_pay6 (w40 x2 0)

/-- The first layer before the positive part. -/
def By1 (v4 : Vec F S1x4x18432 .f32) (x2 : Vec F S3x40x12 .f32) (x3 : Vec F S40x1 .f32) : FVec F S40x18432 .f32 :=
  k0_pay13 (Bxc v4) (Bz0 v4 x2) (k0_pay12 (w40 x2 1)) (constant S40x18432 .f32 0x00000000#32) (w40 x2 2) x3

/-- The gathered columns of the first layer. -/
def Bx1 (s : BitVec 32) (v4 : Vec F S1x4x18432 .f32) (x2 : Vec F S3x40x12 .f32) (x3 : Vec F S40x1 .f32) : FVec F S96x18432 .f32 :=
  k0_pay15 k0_pay5 k0_pay6 (B60 s) (Bxc v4) (Bz0 v4 x2) (k0_pay12 (w40 x2 1)) (constant S40x18432 .f32 0x00000000#32) (w40 x2 2) x3

/-- The second layer. -/
def Bx2 (s : BitVec 32) (xc : FVec F S96x18432 .f32) (x4 : Vec F S3x32x96 .f32) (x5 : Vec F S32x1 .f32) : FVec F S32x18432 .f32 :=
  k0_pay16 (B60 s) xc (w32 x4 0) (w32 x4 1) (w32 x4 2) x5

/-- The second layer's left neighbours. -/
def Bx2l (s : BitVec 32) (xc : FVec F S96x18432 .f32) (x4 : Vec F S3x32x96 .f32) (x5 : Vec F S32x1 .f32) : FVec F S32x18432 .f32 :=
  k0_pay17 k0_pay5 (B60 s) xc (w32 x4 0) (w32 x4 1) (w32 x4 2) x5

/-- The second layer's right neighbours. -/
def Bx2r (s : BitVec 32) (xc : FVec F S96x18432 .f32) (x4 : Vec F S3x32x96 .f32) (x5 : Vec F S32x1 .f32) : FVec F S32x18432 .f32 :=
  k0_pay18 (B60 s) xc (w32 x4 0) (w32 x4 1) (w32 x4 2) x5

/-- The features on the window. -/
def Bf (a b c : FVec F S32x18432 .f32) (x6 : Vec F S3x32x96 .f32) (x7 : Vec F S32x1 .f32) : FVec F S32x18432 .f32 :=
  k0_pay20 a b c (Scalar.ofBits .f32 0x00000000#32) (k0_pay19 k0_pay6) (w32 x6 0) (w32 x6 1) (w32 x6 2) x7

/-- The features on the strip. -/
def Bfc (a b c : FVec F S32x18432 .f32) (x6 : Vec F S3x32x96 .f32) (x7 : Vec F S32x1 .f32) : FVec F S32x16384 .f32 :=
  k0_pay21 a b c (Scalar.ofBits .f32 0x00000000#32) (k0_pay19 k0_pay6) (w32 x6 0) (w32 x6 1) (w32 x6 2) x7

/-- The features one row up. -/
def Bfu (a b c : FVec F S32x18432 .f32) (x6 : Vec F S3x32x96 .f32) (x7 : Vec F S32x1 .f32) : FVec F S32x16384 .f32 :=
  k0_pay22 a b c (Scalar.ofBits .f32 0x00000000#32) (k0_pay19 k0_pay6) (w32 x6 0) (w32 x6 1) (w32 x6 2) x7

/-- The features one row down. -/
def Bfd (a b c : FVec F S32x18432 .f32) (x6 : Vec F S3x32x96 .f32) (x7 : Vec F S32x1 .f32) : FVec F S32x16384 .f32 :=
  k0_pay23 a b c (Scalar.ofBits .f32 0x00000000#32) (k0_pay19 k0_pay6) (w32 x6 0) (w32 x6 1) (w32 x6 2) x7

/-- The features one column left. -/
def Bfl (a b c : FVec F S32x18432 .f32) (x6 : Vec F S3x32x96 .f32) (x7 : Vec F S32x1 .f32) : FVec F S32x16384 .f32 :=
  k0_pay27 (k0_pay24 a b c (Scalar.ofBits .f32 0x00000000#32) (k0_pay19 k0_pay6) (w32 x6 0) (w32 x6 1) (w32 x6 2) x7) (k0_pay25 k0_pay5) k0_pay26

/-- The features one column right. -/
def Bfr (a b c : FVec F S32x18432 .f32) (x6 : Vec F S3x32x96 .f32) (x7 : Vec F S32x1 .f32) : FVec F S32x16384 .f32 :=
  k0_pay28 k0_pay6 (Bf a b c x6 x7)

/-- The affinity block of the features. -/
def Baff (s : BitVec 32) (v1 : F .f32) (a b c : FVec F S32x18432 .f32) (x6 : Vec F S3x32x96 .f32) (x7 : Vec F S32x1 .f32) : FVec F S1x5x16384 .f32 :=
  k0_pay1 v1 (Bfc a b c x6 x7) (Bfl a b c x6 x7) (Bfr a b c x6 x7) k0_pay30 (k0_pay31 s v1 (Bfc a b c x6 x7) (Bfu a b c x6 x7)) (k0_pay32 s)
    (k0_pay33 (Bfc a b c x6 x7) (Bfd a b c x6 x7))

/-- The window of the image block that a strip reads. -/
def Bwin (i : grid0.Coords) (x1 : Vec F S1x4x67584 .f32) : Vec F S1x4x18432 .f32 :=
  View.ld x1 (Rect.unit (k0_off1 i) ![1, 4, 18432] (k0_off1_inb i))

/-- The word of the kernel's width that the body reads. -/
def Bmu (x0 : Vec F S1x1 .f32) : F .f32 := View.ld x0 (Rect.unit ![0, 0] ![1, 1] inb_S1x1_S1x1_0_0) (Shape.Idx.first (by decide))

/-- It is the array's one entry. -/
theorem Bmu_eq (x0 : Vec F S1x1 .f32) : Bmu x0 = x0 (ix2 0 0) := by
  unfold Bmu
  show x0 _ = x0 _
  congr 1
  funext a
  fin_cases a <;> rfl

/-- The first output's block is the first channel of the first layer on the strip. -/
theorem out8_eq (V : (c : Dev nD) → (b : Ref sig .tc) → Buf (Elt F) (c.tc.loc b)) (c : Dev nD) (t : Fin cfg0.N) :
    (outsAt0 V c t).1 = shapeCast S1x1x16384 (extractStridedSlice S1x16384 ![0, 1024] (By1 (Bwin (grid0.coords t) (iblk0 V c 1 t)) (iblk0 V c 2 t) (iblk0 V c 3 t)) slices_S40x18432_o0_1024_S1x16384) shapeCasts_S1x16384_S1x1x16384 := by
  unfold outsAt0 out0_A_8
  frame_out
  rfl

/-- The second output's block is the affinity block. -/
theorem out9_eq (V : (c : Dev nD) → (b : Ref sig .tc) → Buf (Elt F) (c.tc.loc b)) (c : Dev nD) (t : Fin cfg0.N) :
    (outsAt0 V c t).2 =
      let s : BitVec 32 := BitVec.ofNat 32 ((grid0.coords t 1).val)
      let v4 := Bwin (grid0.coords t) (iblk0 V c 1 t)
      let xc := Bx1 s v4 (iblk0 V c 2 t) (iblk0 V c 3 t)
      Baff s (k0_pay2 (Bmu (iblk0 V c 0 t))) (Bx2 s xc (iblk0 V c 4 t) (iblk0 V c 5 t))
        (Bx2l s xc (iblk0 V c 4 t) (iblk0 V c 5 t)) (Bx2r s xc (iblk0 V c 4 t) (iblk0 V c 5 t)) (iblk0 V c 6 t) (iblk0 V c 7 t) := by
  unfold outsAt0 out0_A_9
  frame_out
  intros
  refine congr (congr (congr (congr (congr (congr (congr (congrArg k0_pay1 ?_) ?_) ?_) ?_) ?_) ?_) ?_) ?_
  · rfl
  · rfl
  · rfl
  · rfl
  · rfl
  · rfl
  · rfl
  · rfl

end Cert.KernelIdeal.Mine

end
-- ==== Proof.KWin.lean ====
/-
  The convolution of an image computed on a window of rows laid out flat, over the extended reals.
-/
module

public import proofs.«01_k».proof.Proof.Spec

@[expose] public section

noncomputable section

namespace Cert.Mine

open Idealize.ShloMosaic

/-- The entry to the left in the row, zero in the first column. -/
def shl {C : ℕ} (X : Fin C → ℕ → EReal) (c : Fin C) (q : ℕ) : EReal := if q % 256 = 0 then 0 else X c (q - 1)
/-- The entry to the right in the row, zero in the last column. -/
def shr {C : ℕ} (X : Fin C → ℕ → EReal) (c : Fin C) (q : ℕ) : EReal := if q % 256 = 255 then 0 else X c (q + 1)

/-- One row of taps at a flat position. -/
def zrow {C O : ℕ} (k : Fin O → Fin C → Fin 3 → Fin 3 → EReal) (X : Fin C → ℕ → EReal) (dy : Fin 3) (o : Fin O) (q : ℕ) : EReal :=
  (∑ c, k o c dy 0 * shl X c q) + (∑ c, k o c dy 1 * X c q) + ∑ c, k o c dy 2 * shr X c q

/-- The convolution at a flat position. -/
def wconv {C O : ℕ} (k : Fin O → Fin C → Fin 3 → Fin 3 → EReal) (b : Fin O → EReal) (X : Fin C → ℕ → EReal) (o : Fin O) (p : ℕ) : EReal :=
  zrow k X 0 o (p - 256) + zrow k X 1 o p + zrow k X 2 o (p + 256) + b o

/-- A flat window agrees with an image on rows `lo` to `hi`, the window's first row being the image's row `base`. -/
def Agrees {C : ℕ} (X : Fin C → ℕ → EReal) (x : Img C) (base : ℤ) (lo hi : ℕ) : Prop :=
  ∀ c q, lo ≤ q / 256 → q / 256 ≤ hi → X c q = ext x c (base + (q / 256 : ℕ)) ((q % 256 : ℕ) : ℤ)

/-- The zero extension left of the image. -/
theorem ext_left {C : ℕ} (x : Img C) (c : Fin C) (h w : ℤ) (hw : w < 0) : ext x c h w = 0 := by
  unfold ext; rw [dif_neg (by omega)]
/-- The zero extension right of the image. -/
theorem ext_right {C : ℕ} (x : Img C) (c : Fin C) (h w : ℤ) (hw : 255 < w) : ext x c h w = 0 := by
  unfold ext; rw [dif_neg (by omega)]

/-- A row of taps on an agreeing window. -/
theorem zrow_eq {C O : ℕ} (k : Fin O → Fin C → Fin 3 → Fin 3 → EReal) (X : Fin C → ℕ → EReal) (x : Img C) (base : ℤ) (lo hi : ℕ) (H : Agrees X x base lo hi)
    (dy : Fin 3) (o : Fin O) (q : ℕ) (h1 : lo ≤ q / 256) (h2 : q / 256 ≤ hi) (h : ℤ) (w : ℤ) (hh : h + (dy : ℕ) - 1 = base + (q / 256 : ℕ)) (hw : w = (q % 256 : ℕ)) :
    zrow k X dy o q = tap k x o h w dy 0 + tap k x o h w dy 1 + tap k x o h w dy 2 := by
  have e0 : ∀ c, shl X c q = ext x c (h + (dy : ℕ) - 1) (w + ((0 : Fin 3) : ℕ) - 1) := fun c => by
    unfold shl
    rw [hh]
    split
    · next e => rw [ext_left]; rw [hw, e]; decide
    · next e =>
      rw [H c (q - 1) (by omega) (by omega)]
      congr 1
      · omega
      · rw [hw]; show _ = _ + (0 : ℤ) - 1; omega
  have e1 : ∀ c, X c q = ext x c (h + (dy : ℕ) - 1) (w + ((1 : Fin 3) : ℕ) - 1) := fun c => by
    rw [hh, H c q h1 h2]
    congr 1
    rw [hw]; show _ = _ + (1 : ℤ) - 1; omega
  have e2 : ∀ c, shr X c q = ext x c (h + (dy : ℕ) - 1) (w + ((2 : Fin 3) : ℕ) - 1) := fun c => by
    unfold shr
    rw [hh]
    split
    · next e => rw [ext_right]; rw [hw, e]; decide
    · next e =>
      rw [H c (q + 1) (by omega) (by omega)]
      congr 1
      · omega
      · rw [hw]; show _ = _ + (2 : ℤ) - 1; omega
  unfold zrow tap
  simp only [e0, e1, e2, mul_comm]

/-- The convolution on an agreeing window is the image's convolution, one row in from each end. -/
theorem wconv_eq {C O : ℕ} (k : Fin O → Fin C → Fin 3 → Fin 3 → EReal) (b : Fin O → EReal) (X : Fin C → ℕ → EReal) (x : Img C) (base : ℤ) (lo hi : ℕ)
    (H : Agrees X x base lo hi) (o : Fin O) (p : ℕ) (h1 : lo + 1 ≤ p / 256) (h2 : p / 256 + 1 ≤ hi) :
    wconv k b X o p = conv k b x o (base + (p / 256 : ℕ)) ((p % 256 : ℕ) : ℤ) := by
  unfold wconv
  rw [zrow_eq k X x base lo hi H 0 o (p - 256) (by omega) (by omega) (base + (p / 256 : ℕ)) ((p % 256 : ℕ) : ℤ) (by
        show _ + (0 : ℤ) - 1 = _; omega) (by omega),
    zrow_eq k X x base lo hi H 1 o p (by omega) (by omega) (base + (p / 256 : ℕ)) ((p % 256 : ℕ) : ℤ) (by
        show _ + (1 : ℤ) - 1 = _; omega) (by omega),
    zrow_eq k X x base lo hi H 2 o (p + 256) (by omega) (by omega) (base + (p / 256 : ℕ)) ((p % 256 : ℕ) : ℤ) (by
        show _ + (2 : ℤ) - 1 = _; omega) (by omega)]
  unfold conv
  simp only [add_assoc]

/-- The masked positive part of a layer agrees with the layer's image, one row in from each end. -/
theorem agrees_relu {C O : ℕ} (k : Fin O → Fin C → Fin 3 → Fin 3 → EReal) (b : Fin O → EReal) (X : Fin C → ℕ → EReal) (x : Img C) (base : ℤ) (lo hi : ℕ)
    (H : Agrees X x base lo hi) (Y : Fin O → ℕ → EReal)
    (hY : ∀ o p, lo + 1 ≤ p / 256 → p / 256 + 1 ≤ hi →
      Y o p = if 0 ≤ base + (p / 256 : ℕ) ∧ base + (p / 256 : ℕ) < 256 then max (wconv k b X o p) 0 else 0) :
    Agrees Y (relu (layer k b x)) base (lo + 1) (hi - 1) := by
  intro o p h1 h2
  rw [hY o p h1 (by omega)]
  unfold ext
  split
  · next q =>
    rw [dif_pos ⟨q, by omega, by omega⟩, wconv_eq k b X x base lo hi H o p h1 (by omega)]
    unfold relu layer
    congr 2
    · show _ = (((base + (p / 256 : ℕ)).toNat : ℕ) : ℤ); omega
  · next q => rw [dif_neg (by omega)]

end Cert.Mine

end
-- ==== Proof.KWords.lean ====
/-
  The kernel's integer masks at a position.
-/
module

public import proofs.«01_k».proof.Proof.Gen.KernelIdeal.Skeleton
public import proofs.«01_k».proof.Proof.KWin
public import Idealize.ShloMosaic.Lib.Routing.Words

@[expose] public section

set_option maxRecDepth 16384

noncomputable section

namespace Cert.KernelIdeal.Mine

open Cert.KernelIdeal Cert.KernelIdeal.Gen Cert.Mine
open Idealize.ShloMosaic Idealize.ShloMosaic.WordCmp

/-- A selection by a decided bit. -/
theorem sel_dec {α : Type} (P : Prop) [Decidable P] (a b : α) : Scalar.select (BitVec.ofBool (decide P)) a b = if P then a else b := by
  by_cases h : P
  · rw [if_pos h, decide_eq_true h]; rfl
  · rw [if_neg h, decide_eq_false h]; rfl

/-- A small word is nonnegative. -/
theorem not_slt_zero (a : ℕ) (ha : a < 2 ^ 31) : IntOp.cmpi .slt (BitVec.ofNat 32 a) 0#32 = 0#1 := by
  rw [show (0#32 : BitVec 32) = BitVec.ofNat 32 0 from rfl, cmpi_slt_ofNat (w := 32) ha (by decide)]
  simp

/-- Equality of small words. -/
theorem eq_word (a b : ℕ) (ha : a < 2 ^ 31) (hb : b < 2 ^ 31) : IntOp.cmpi .eq (BitVec.ofNat 32 a) (BitVec.ofNat 32 b) = BitVec.ofBool (decide (a = b)) := by
  rw [cmpi_eq_ofNat (w := 32) (by omega) (by omega)]

/-- The column of a position, as the kernel computes it. -/
theorem col_word (p : ℕ) (hp : p < 2 ^ 31) :
    Scalar.select
        (IntOp.andi
          (IntOp.xori
            (IntOp.cmpi CmpIPredicate.slt
              (IntOp.remsi ArithUnit.vector (BitVec.ofNat 32 p)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 p)
              (Scalar.select (Scalar.cmpi CmpIPredicate.eq 256#32 0#32) 1#32 256#32))
            0#32))
        (IntOp.addi
          (IntOp.remsi ArithUnit.vector (BitVec.ofNat 32 p)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 p)
          (Scalar.select (Scalar.cmpi CmpIPredicate.eq 256#32 0#32) 1#32 256#32)) = BitVec.ofNat 32 (p % 256) := by
  have e : Scalar.select (Scalar.cmpi CmpIPredicate.eq 256#32 0#32) 1#32 256#32 = BitVec.ofNat 32 256 := by decide
  have e' : Scalar.cmpi CmpIPredicate.slt (BitVec.ofNat 32 256) 0#32 = 0#1 := by decide
  rw [e, Routing.remsi_word .vector hp (by decide) (by decide), not_slt_zero _ (by omega), e']
  have e2 : ∀ y : BitVec 1, IntOp.andi (IntOp.xori 0#1 0#1) y = 0#1 := by decide
  rw [e2]
  rfl

/-- The column of a window's position. -/
theorem pay4_at (z : Fin 1) (p : Fin 18432) : k0_pay4 (ix2 z p) = BitVec.ofNat 32 ((p : ℕ) % 256) := by
  pointwise [k0_pay4]
  exact col_word p (by omega)

/-- The column of a strip's position. -/
theorem pay30_at (z : Fin 1) (p : Fin 16384) : k0_pay30 (ix2 z p) = BitVec.ofNat 32 ((p : ℕ) % 256) := by
  pointwise [k0_pay30]
  exact col_word p (by omega)

/-- The first column's mask. -/
theorem pay5_at (z : Fin 1) (p : Fin 18432) : k0_pay5 (ix2 z p) = BitVec.ofBool (decide ((p : ℕ) % 256 = 0)) := by
  show IntOp.cmpi .eq (k0_pay4 (ix2 z p)) 0#32 = _
  rw [pay4_at]
  exact eq_word _ 0 (by omega) (by decide)

/-- The last column's mask. -/
theorem pay6_at (z : Fin 1) (p : Fin 18432) : k0_pay6 (ix2 z p) = BitVec.ofBool (decide ((p : ℕ) % 256 = 255)) := by
  show IntOp.cmpi .eq (k0_pay4 (ix2 z p)) 255#32 = _
  rw [pay4_at]
  exact eq_word _ 255 (by omega) (by decide)

/-- The mask of the window's rows that lie in the image. -/
theorem pay9_at (s : Fin 4) (z : Fin 1) (p : Fin 18432) :
    k0_pay9 (BitVec.ofNat 32 s) (iota .tc S1x18432 32 [1] iota_S1x18432_d1_w32) 256#32 k0_pay7 k0_pay8 1#32 0#1 (ix2 z p)
      = BitVec.ofBool (decide (0 ≤ (64 * (s : ℕ) - 4 : ℤ) + ((p : ℕ) / 256 : ℕ) ∧ (64 * (s : ℕ) - 4 : ℤ) + ((p : ℕ) / 256 : ℕ) < 256)) := by
  pointwise [k0_pay9, k0_pay7, k0_pay8]
  have hp := p.isLt
  have hs := s.isLt
  have e3 : ∀ t : BitVec 32, Scalar.select (IntOp.andi
      (IntOp.cmpi CmpIPredicate.ne
        (IntOp.subi (BitVec.setWidth 32 (IntOp.cmpi CmpIPredicate.sgt (BitVec.ofNat 32 (p : ℕ)) 0#32))
          (BitVec.setWidth 32 (IntOp.cmpi CmpIPredicate.slt (BitVec.ofNat 32 (p : ℕ)) 0#32)))
        (Scalar.subi (1#32) (Scalar.extui 0#1)))
      (IntOp.cmpi CmpIPredicate.ne (IntOp.remsi ArithUnit.vector (BitVec.ofNat 32 (p : ℕ)) 256#32) 0#32)) (IntOp.subi t 1#32) t = t := fun t => by
    rw [not_slt_zero _ (by omega)]
    by_cases h0 : (p : ℕ) = 0
    · rw [h0]
      have : IntOp.cmpi CmpIPredicate.ne (IntOp.remsi ArithUnit.vector (BitVec.ofNat 32 0) 256#32) 0#32 = 0#1 := by
        rw [show (256#32 : BitVec 32) = BitVec.ofNat 32 256 from rfl, Routing.remsi_word .vector (by decide) (by decide) (by decide)]; decide
      rw [this]
      have e2 : ∀ y : BitVec 1, IntOp.andi y 0#1 = 0#1 := by decide
      rw [e2]; rfl
    · have : IntOp.cmpi CmpIPredicate.sgt (BitVec.ofNat 32 (p : ℕ)) 0#32 = 1#1 := by
        rw [show (0#32 : BitVec 32) = BitVec.ofNat 32 0 from rfl, cmpi_sgt_ofNat (w := 32) (by omega) (by decide)]
        rw [decide_eq_true (by omega : 0 < (p : ℕ))]; rfl
      rw [this]
      have e1 : IntOp.cmpi CmpIPredicate.ne (IntOp.subi (BitVec.setWidth 32 1#1) (BitVec.setWidth 32 0#1))
        (Scalar.subi (1#32) (Scalar.extui 0#1)) = 0#1 := by decide
      rw [e1]
      have e2 : ∀ y : BitVec 1, IntOp.andi 0#1 y = 0#1 := by decide
      rw [e2]; rfl
  rw [e3, show (256#32 : BitVec 32) = BitVec.ofNat 32 256 from rfl, Routing.divsi_word .vector (by omega) (by decide) (by decide)]
  have hq : (p : ℕ) / 256 < 72 := by omega
  generalize (p : ℕ) / 256 = q at hq ⊢
  have key : ∀ s : Fin 4, ∀ q : Fin 72, IntOp.andi
      (IntOp.cmpi CmpIPredicate.sge (IntOp.subi (IntOp.addi (BitVec.ofNat 32 (q : ℕ)) (Scalar.muli (BitVec.ofNat 32 (s : ℕ)) 64#32)) 4#32) 0#32)
      (IntOp.cmpi CmpIPredicate.slt (IntOp.subi (IntOp.addi (BitVec.ofNat 32 (q : ℕ)) (Scalar.muli (BitVec.ofNat 32 (s : ℕ)) 64#32)) 4#32) (BitVec.ofNat 32 256))
      = BitVec.ofBool (decide (0 ≤ (64 * (s : ℕ) - 4 : ℤ) + ((q : ℕ) : ℤ) ∧ (64 * (s : ℕ) - 4 : ℤ) + ((q : ℕ) : ℤ) < 256)) := by decide +kernel
  exact key s ⟨q, hq⟩

/-- The strip's flat position in the image. -/
theorem pay29_at (s : Fin 4) (z : Fin 1) (p : Fin 16384) : k0_pay29 (BitVec.ofNat 32 s) (ix2 z p) = BitVec.ofNat 32 ((p : ℕ) + 16384 * (s : ℕ)) := by
  pointwise [k0_pay29]
  have e : Scalar.muli (BitVec.ofNat 32 (s : ℕ)) 16384#32 = BitVec.ofNat 32 (16384 * (s : ℕ)) := by
    revert s; decide +kernel
  rw [e]
  show BitVec.ofNat 32 _ + BitVec.ofNat 32 _ = _
  rw [BitVec.ofNat_add]

/-- The last row's mask. -/
theorem pay32_at (s : Fin 4) (z : Fin 1) (p : Fin 16384) :
    k0_pay32 (BitVec.ofNat 32 s) (ix2 z p) = BitVec.ofBool (decide (65280 ≤ (p : ℕ) + 16384 * (s : ℕ))) := by
  show IntOp.cmpi .sge (k0_pay29 (BitVec.ofNat 32 s) (ix2 z p)) (BitVec.ofNat 32 65280) = _
  rw [pay29_at, cmpi_sge_ofNat (w := 32) (by omega) (by decide)]

end Cert.KernelIdeal.Mine

end
-- ==== Proof.KConv.lean ====
/-
  The first region's convolutions at a position of the window.
-/
module

public import proofs.«01_k».proof.Proof.KRun0
public import proofs.«01_k».proof.Proof.KWords

@[expose] public section

set_option maxRecDepth 16384

noncomputable section

namespace Cert.KernelIdeal.Mine

open Cert.KernelIdeal Cert.KernelIdeal.Gen Cert.Mine
open Idealize.ShloMosaic

/-- A flat window by channel and position, zero past its end. -/
def at2 {C : ℕ} (a : FVec Ideal ⟨2, ![C, 18432]⟩ .f32) (c : Fin C) (q : ℕ) : EReal := if h : q < 18432 then a (ix2 c ⟨q, h⟩) else 0

/-- A sum over three blocks of channels. -/
theorem sum3 {C : ℕ} (g : Fin (C + C + C) → EReal) :
    ∑ x, g x = (∑ c : Fin C, g ⟨c, by omega⟩) + (∑ c : Fin C, g ⟨C + c, by omega⟩) + ∑ c : Fin C, g ⟨C + C + c, by omega⟩ := by
  rw [Fin.sum_univ_add, Fin.sum_univ_add]
  rfl

/-- The first layer's weights by output, input and offsets. -/
def k40 (x : FVec Ideal S3x40x12 .f32) : Fin 40 → Fin 4 → Fin 3 → Fin 3 → EReal := fun o c dy dx => x (ix3 dy o ⟨4 * (dx : ℕ) + c, by omega⟩)

/-- A later layer's weights by output, input and offsets. -/
def k32 (x : FVec Ideal S3x32x96 .f32) : Fin 32 → Fin 32 → Fin 3 → Fin 3 → EReal := fun o c dy dx => x (ix3 dy o ⟨32 * (dx : ℕ) + c, by omega⟩)

/-- A bias column by its row. -/
def bcol {O : ℕ} (b : FVec Ideal ⟨2, ![O, 1]⟩ .f32) : Fin O → EReal := fun o => b (ix2 o 0)

/-- A slice of the first layer's weights at an index. -/
theorem w40_at (x : FVec Ideal S3x40x12 .f32) (dy : Fin 3) (z : Fin 1) (o : Fin 40) (k : Fin 12) : w40 (F := Ideal) x dy (ix3 z o k) = x (ix3 dy o k) := by
  have hz : z = 0 := by omega
  subst hz
  fin_cases dy <;>
  · show x _ = x _
    congr 1
    funext a
    fin_cases a <;> exact Fin.ext (by simp [Rect.unit]; try rfl)

/-- A slice of a later layer's weights at an index. -/
theorem w32_at (x : FVec Ideal S3x32x96 .f32) (dy : Fin 3) (z : Fin 1) (o : Fin 32) (k : Fin 96) : w32 (F := Ideal) x dy (ix3 z o k) = x (ix3 dy o k) := by
  have hz : z = 0 := by omega
  subst hz
  fin_cases dy <;>
  · show x _ = x _
    congr 1
    funext a
    fin_cases a <;> exact Fin.ext (by simp [Rect.unit]; try rfl)

/-- The gathered columns: left neighbours, the window, right neighbours. -/
def catF {C : ℕ} (X : Fin C → ℕ → EReal) (x : Fin (C + C + C)) (q : ℕ) : EReal :=
  if h : (x : ℕ) < C then shl X ⟨x, h⟩ q else if h' : (x : ℕ) < C + C then X ⟨x - C, by omega⟩ q else shr X ⟨x - C - C, by omega⟩ q

/-- The product of a weight row with the gathered columns is a row of taps. -/
theorem sum_cat {C : ℕ} (X : Fin C → ℕ → EReal) (l : Fin (C + C + C) → EReal) (q : ℕ) :
    ∑ x, l x * catF X x q = (∑ c : Fin C, l ⟨c, by omega⟩ * shl X c q) + (∑ c : Fin C, l ⟨C + c, by omega⟩ * X c q) + ∑ c : Fin C, l ⟨C + C + c, by omega⟩ * shr X c q := by
  rw [sum3]
  refine congrArg₂ (· + ·) (congrArg₂ (· + ·) ?_ ?_) ?_ <;> refine Finset.sum_congr rfl fun c _ => ?_ <;> unfold catF
  · simp
  · simp
  · have h1 : ¬ (C + C + (c : ℕ) < C) := by omega
    have h2 : ¬ (C + C + (c : ℕ) < C + C) := by omega
    simp only [h1, h2, dif_neg, not_false_eq_true]
    congr 2
    exact Fin.ext (by simp only []; omega)

/-- A window's entry. -/
theorem at2_fin {C : ℕ} (v : FVec Ideal ⟨2, ![C, 18432]⟩ .f32) (c : Fin C) (p : Fin 18432) : at2 v c p = v (ix2 c p) := dif_pos p.isLt

/-- The kernel's left neighbour. -/
theorem left_at {C : ℕ} (v : FVec Ideal ⟨2, ![C, 18432]⟩ .f32) (c : Fin C) (p : Fin 18432) (hq : ¬ (p : ℕ) < 1 → (p : ℕ) - 1 < 18432) :
    (if (p : ℕ) % 256 = 0 then 0 else if h : (p : ℕ) < 1 then 0 else v (ix2 c ⟨p - 1, hq h⟩)) = shl (at2 v) c p := by
  unfold shl
  refine if_ctx_congr Iff.rfl (fun _ => rfl) fun h => ?_
  rw [dif_neg (by omega)]
  exact (at2_fin v c ⟨p - 1, by omega⟩).symm

/-- The kernel's right neighbour. -/
theorem right_at {C : ℕ} (v : FVec Ideal ⟨2, ![C, 18432]⟩ .f32) (c : Fin C) (p : Fin 18432) (hq : (p : ℕ) < 18431 → 1 + (p : ℕ) < 18432) :
    (if (p : ℕ) % 256 = 255 then 0 else if h : (p : ℕ) < 18431 then v (ix2 c ⟨1 + p, hq h⟩) else 0) = shr (at2 v) c p := by
  have hp := p.isLt
  unfold shr
  refine if_ctx_congr Iff.rfl (fun _ => rfl) fun h => ?_
  rw [dif_pos (by omega), Nat.add_comm (p : ℕ) 1]
  exact (at2_fin v c ⟨1 + p, by omega⟩).symm

/-- The left neighbour, its entries by position. -/
theorem left_at' {C : ℕ} (v : FVec Ideal ⟨2, ![C, 18432]⟩ .f32) (c : Fin C) (p : Fin 18432) :
    (if (p : ℕ) % 256 = 0 then 0 else if h : (p : ℕ) < 1 then 0 else at2 v c (p - 1)) = shl (at2 v) c p := by
  unfold shl
  refine if_ctx_congr Iff.rfl (fun _ => rfl) fun h => ?_
  rw [dif_neg (by omega)]

/-- The right neighbour, its entries by position. -/
theorem right_at' {C : ℕ} (v : FVec Ideal ⟨2, ![C, 18432]⟩ .f32) (c : Fin C) (p : Fin 18432) :
    (if (p : ℕ) % 256 = 255 then 0 else if h : (p : ℕ) < 18431 then at2 v c (1 + p) else 0) = shr (at2 v) c p := by
  have hp := p.isLt
  unfold shr
  refine if_ctx_congr Iff.rfl (fun _ => rfl) fun h => ?_
  rw [dif_pos (by omega), Nat.add_comm (p : ℕ) 1]

/-- Three cases of a row. -/
theorem cat_cases {C : ℕ} (X : Fin C → ℕ → EReal) (x : Fin (C + C + C)) (q : ℕ) (h2 : ¬ (x : ℕ) < C → (x : ℕ) - C < C → (x : ℕ) - C < C)
    (h3 : ¬ (x : ℕ) < C → ¬ (x : ℕ) - C < C → (x : ℕ) - C - C < C) :
    (if h : (x : ℕ) < C then shl X ⟨x, h⟩ q else if h' : (x : ℕ) - C < C then X ⟨x - C, h2 h h'⟩ q else shr X ⟨x - C - C, h3 h h'⟩ q) = catF X x q := by
  unfold catF
  by_cases a : (x : ℕ) < C
  · rw [dif_pos a, dif_pos a]
  · rw [dif_neg a, dif_neg a]
    by_cases b : (x : ℕ) - C < C
    · rw [dif_pos b, dif_pos (by omega)]
    · rw [dif_neg b, dif_neg (by omega)]

/-- The gathered columns of the image window. -/
theorem Bxc_at (v4 : FVec Ideal S1x4x18432 .f32) (x : Fin 12) (p : Fin 18432) :
    Bxc (F := Ideal) v4 (ix2 x p) = catF (at2 (k0_pay3 (F := Ideal) v4)) x p := by
  have hx := x.isLt
  have hp := p.isLt
  unfold Bxc
  generalize k0_pay3 (F := Ideal) v4 = v5
  pointwise [k0_pay10]
  simp only [pay5_at, pay6_at, sel_dec, ← at2_fin v5]
  refine Eq.trans ?_ (cat_cases (C := 4) (at2 v5) x p (by omega) (by omega))
  exact dite_congr rfl (fun h => left_at' v5 ⟨x, h⟩ p) fun _ => dite_congr rfl (fun _ => rfl) fun _ => right_at' v5 ⟨(x : ℕ) - 4 - 4, by omega⟩ p

/-- One row of taps as the product of weights with the gathered columns. -/
theorem zrow_cat {C O : ℕ} (k : Fin O → Fin C → Fin 3 → Fin 3 → EReal) (X : Fin C → ℕ → EReal) (dy : Fin 3) (o : Fin O) (l : Fin (C + C + C) → EReal)
    (hl : ∀ (c : Fin C) (dx : Fin 3) (h : C * (dx : ℕ) + c < C + C + C), l ⟨C * (dx : ℕ) + c, h⟩ = k o c dy dx) (q q' : ℕ) (hq : q = q') :
    ∑ x, l x * catF X x q = zrow k X dy o q' := by
  subst hq
  rw [sum_cat]
  unfold zrow
  refine congrArg₂ (· + ·) (congrArg₂ (· + ·) ?_ ?_) ?_ <;> refine Finset.sum_congr rfl fun c _ => ?_ <;> refine congrArg₂ (· * ·) ?_ rfl
  · rw [← hl c 0 (by simp; omega)]
    exact congrArg l (Fin.ext (by simp))
  · rw [← hl c 1 (by simp; omega)]
    exact congrArg l (Fin.ext (by simp))
  · rw [← hl c 2 (by simp; omega)]
    exact congrArg l (Fin.ext (by simp; omega))

/-- The first layer before the positive part. -/
theorem By1_at (v4 : FVec Ideal S1x4x18432 .f32) (x2 : FVec Ideal S3x40x12 .f32) (x3 : FVec Ideal S40x1 .f32) (o : Fin 40) (p : Fin 18432)
    (h1 : 256 ≤ (p : ℕ)) (h2 : (p : ℕ) < 18176) :
    By1 (F := Ideal) v4 x2 x3 (ix2 o p) = wconv (k40 x2) (bcol x3) (at2 (k0_pay3 (F := Ideal) v4)) o p := by
  unfold By1 Bz0
  have e : k0_pay10 (F := Ideal) (k0_pay3 v4) k0_pay5 k0_pay6 = Bxc v4 := rfl
  pointwise [k0_pay13, k0_pay11, k0_pay12]
  refine congrArg₂ (· + ·) (congrArg₂ (· + ·) (congrArg₂ (· + ·) ((dif_neg (by omega)).trans ?_) ?_) ((dif_pos (by omega)).trans ?_)) rfl
  · simp only [e, Bxc_at, w40_at]
    exact zrow_cat (k40 x2) _ 0 o (fun x => x2 (ix3 0 o x)) (fun c dx h => rfl) _ _ rfl
  · simp only [Bxc_at, w40_at]
    exact zrow_cat (k40 x2) _ 1 o (fun x => x2 (ix3 1 o x)) (fun c dx h => rfl) _ _ rfl
  · simp only [Bxc_at, w40_at]
    exact zrow_cat (k40 x2) _ 2 o (fun x => x2 (ix3 2 o x)) (fun c dx h => rfl) _ _ (Nat.add_comm 256 p)

/-- The mask of rows at a position. -/
def InImg (s : Fin 4) (q : ℕ) : Prop := 0 ≤ (64 * (s : ℕ) - 4 : ℤ) + (q / 256 : ℕ) ∧ (64 * (s : ℕ) - 4 : ℤ) + (q / 256 : ℕ) < 256

/-- It is decided. -/
instance (s : Fin 4) (q : ℕ) : Decidable (InImg s q) := by unfold InImg; infer_instance

/-- The kernel's mask of rows. -/
theorem B60_at (s : Fin 4) (z : Fin 1) (p : Fin 18432) : B60 (BitVec.ofNat 32 s) (ix2 z p) = BitVec.ofBool (decide (InImg s p)) := by
  unfold B60
  rw [pay9_at]
  rfl

/-- The row of the joint first layer that holds a channel of the network. -/
def up1 (c : Fin 32) : Fin 40 := ⟨1 + c, by omega⟩

/-- The masked positive part of the joint layer's network channels. -/
def Y1m (s : Fin 4) (y : FVec Ideal S40x18432 .f32) : FVec Ideal S32x18432 .f32 :=
  fun j => if InImg s (j 1 : Fin 18432) then max (y (ix2 (up1 (j 0)) (j 1 : Fin 18432))) 0 else 0

/-- At an index. -/
theorem Y1m_at (s : Fin 4) (y : FVec Ideal S40x18432 .f32) (c : Fin 32) (p : Fin 18432) : Y1m s y (ix2 c p) = if InImg s p then max (y (ix2 (up1 c) p)) 0 else 0 := rfl

/-- The masking, the positive part and the gathering of columns at an index. -/
theorem pay15_at (s : Fin 4) (v75 : FVec Ideal S12x18432 .f32) (v78 : FVec Ideal S40x18432 .f32) (v80 : FVec Ideal S40x12 .f32) (c26 : FVec Ideal S40x18432 .f32)
    (v82 : FVec Ideal S1x40x12 .f32) (v93 : FVec Ideal S40x1 .f32) (y : FVec Ideal S40x18432 .f32) (hy : k0_pay13 (F := Ideal) v75 v78 v80 c26 v82 v93 = y) (x : Fin 96) (p : Fin 18432) :
    k0_pay15 (F := Ideal) k0_pay5 k0_pay6 (B60 (BitVec.ofNat 32 s)) v75 v78 v80 c26 v82 v93 (ix2 x p) = catF (at2 (Y1m s y)) x p := by
  have hx := x.isLt
  have hp := p.isLt
  unfold k0_pay15
  rw [hy]
  clear hy
  have hv : select (broadcastTo S32x18432 (shapeCast S1x18432 (B60 (BitVec.ofNat 32 s)) shapeCasts_S1x18432_S1x18432) broadcasts_S1x18432_S32x18432)
      (maximumf (F := Ideal) (extractStridedSlice S32x18432 ![1, 0] y slices_S40x18432_o1_0_S32x18432) (broadcast S32x18432 (Scalar.ofBits (F := Ideal) .f32 0x00000000#32)))
      (broadcast S32x18432 (Scalar.ofBits (F := Ideal) .f32 0x00000000#32)) = Y1m s y := by
    funext j
    idx_vars j
    rw [Y1m_at]
    pointwise []
    rw [B60_at, sel_dec]
    rfl
  rw [hv]
  generalize Y1m s y = v
  pointwise []
  simp only [pay5_at, pay6_at, sel_dec, ← at2_fin v]
  refine Eq.trans ?_ (cat_cases (C := 32) (at2 v) x p (by omega) (by omega))
  exact dite_congr rfl (fun h => left_at' v ⟨x, h⟩ p) fun _ => dite_congr rfl (fun _ => rfl) fun _ => right_at' v ⟨(x : ℕ) - 32 - 32, by omega⟩ p

/-- The gathered columns of the first layer. -/
theorem Bx1_at (s : Fin 4) (v4 : FVec Ideal S1x4x18432 .f32) (x2 : FVec Ideal S3x40x12 .f32) (x3 : FVec Ideal S40x1 .f32) (x : Fin 96) (p : Fin 18432) :
    Bx1 (F := Ideal) (BitVec.ofNat 32 s) v4 x2 x3 (ix2 x p) = catF (at2 (Y1m s (By1 (F := Ideal) v4 x2 x3))) x p :=
  pay15_at s _ _ _ _ _ _ _ rfl x p

/-- The second layer at an index. -/
theorem Bx2_at (s : Fin 4) (xc : FVec Ideal S96x18432 .f32) (X : Fin 32 → ℕ → EReal) (hX : ∀ (x : Fin 96) (p : Fin 18432), xc (ix2 x p) = catF X x p)
    (x4 : FVec Ideal S3x32x96 .f32) (x5 : FVec Ideal S32x1 .f32) (o : Fin 32) (p : Fin 18432) (h1 : 256 ≤ (p : ℕ)) (h2 : (p : ℕ) < 18176) :
    Bx2 (F := Ideal) (BitVec.ofNat 32 s) xc x4 x5 (ix2 o p) = if InImg s p then max (wconv (k32 x4) (bcol x5) X o p) 0 else 0 := by
  unfold Bx2
  pointwise [k0_pay16]
  rw [B60_at, sel_dec]
  refine if_congr Iff.rfl (congrArg (max · 0) ?_) rfl
  refine congrArg₂ (· + ·) (congrArg₂ (· + ·) (congrArg₂ (· + ·) ((dif_neg (by omega)).trans ?_) ?_) ((dif_pos (by omega)).trans ?_)) rfl
  · simp only [hX, w32_at]
    exact zrow_cat (k32 x4) _ 0 o (fun x => x4 (ix3 0 o x)) (fun c dx h => rfl) _ _ rfl
  · simp only [hX, w32_at]
    exact zrow_cat (k32 x4) _ 1 o (fun x => x4 (ix3 1 o x)) (fun c dx h => rfl) _ _ rfl
  · simp only [hX, w32_at]
    exact zrow_cat (k32 x4) _ 2 o (fun x => x4 (ix3 2 o x)) (fun c dx h => rfl) _ _ (Nat.add_comm 256 p)

/-- The features before cropping, from the second layer and its neighbours. -/
theorem pay20_at (a b c : FVec Ideal S32x18432 .f32) (X : Fin 32 → ℕ → EReal) (ha : ∀ (i : Fin 32) (p : Fin 18432), a (ix2 i p) = X i p)
    (hb : ∀ (i : Fin 32) (p : Fin 18432), b (ix2 i p) = shl X i p) (hc : ∀ (i : Fin 32) (p : Fin 18432), (if (p : ℕ) % 256 = 255 then 0 else c (ix2 i p)) = shr X i p)
    (x6 : FVec Ideal S3x32x96 .f32) (x7 : FVec Ideal S32x1 .f32) (o : Fin 32) (p : Fin 18432) (h1 : 256 ≤ (p : ℕ)) (h2 : (p : ℕ) < 18176) :
    Bf (F := Ideal) a b c x6 x7 (ix2 o p) = wconv (k32 x6) (bcol x7) X o p := by
  unfold Bf
  have hX : ∀ (x : Fin 96) (p : Fin 18432), concatenate S96x18432 0 [⟨S32x18432, b⟩, ⟨S32x18432, a⟩, ⟨S32x18432, select (broadcastTo S32x18432 (k0_pay19 k0_pay6) broadcasts_S1x18432_S32x18432)
      (broadcast S32x18432 (Scalar.ofBits (F := Ideal) .f32 0x00000000#32)) c⟩] concatenates_S32x18432_S32x18432_S32x18432_S96x18432_d0 (ix2 x p) = catF X x p := fun x p => by
    have hx := x.isLt
    pointwise [k0_pay19]
    simp only [pay6_at, sel_dec, ha, hb, hc]
    exact cat_cases (C := 32) X x p (by omega) (by omega)
  unfold k0_pay20
  generalize concatenate S96x18432 0 _ _ = xc at *
  pointwise []
  refine congrArg₂ (· + ·) (congrArg₂ (· + ·) (congrArg₂ (· + ·) ((dif_neg (by omega)).trans ?_) ?_) ((dif_pos (by omega)).trans ?_)) rfl
  · simp only [hX, w32_at]
    exact zrow_cat (k32 x6) _ 0 o (fun x => x6 (ix3 0 o x)) (fun c dx h => rfl) _ _ rfl
  · simp only [hX, w32_at]
    exact zrow_cat (k32 x6) _ 1 o (fun x => x6 (ix3 1 o x)) (fun c dx h => rfl) _ _ rfl
  · simp only [hX, w32_at]
    exact zrow_cat (k32 x6) _ 2 o (fun x => x6 (ix3 2 o x)) (fun c dx h => rfl) _ _ (Nat.add_comm 256 p)

/-- The second layer's left neighbours. -/
theorem Bx2l_at (w : BitVec 32) (xc : FVec Ideal S96x18432 .f32) (x4 : FVec Ideal S3x32x96 .f32) (x5 : FVec Ideal S32x1 .f32) (o : Fin 32) (p : Fin 18432) :
    Bx2l (F := Ideal) w xc x4 x5 (ix2 o p) = shl (at2 (Bx2 (F := Ideal) w xc x4 x5)) o p := by
  have hp := p.isLt
  have e : k0_pay16 (F := Ideal) (B60 w) xc (w32 x4 0) (w32 x4 1) (w32 x4 2) x5 = Bx2 w xc x4 x5 := rfl
  unfold Bx2l k0_pay17
  rw [e]
  generalize Bx2 (F := Ideal) w xc x4 x5 = y
  pointwise []
  simp only [pay5_at, sel_dec, left_at]

/-- The second layer's right neighbours, once masked. -/
theorem Bx2r_at (w : BitVec 32) (xc : FVec Ideal S96x18432 .f32) (x4 : FVec Ideal S3x32x96 .f32) (x5 : FVec Ideal S32x1 .f32) (o : Fin 32) (p : Fin 18432) :
    (if (p : ℕ) % 256 = 255 then 0 else Bx2r (F := Ideal) w xc x4 x5 (ix2 o p)) = shr (at2 (Bx2 (F := Ideal) w xc x4 x5)) o p := by
  have hp := p.isLt
  have e : k0_pay16 (F := Ideal) (B60 w) xc (w32 x4 0) (w32 x4 1) (w32 x4 2) x5 = Bx2 w xc x4 x5 := rfl
  unfold Bx2r k0_pay18
  rw [e]
  generalize Bx2 (F := Ideal) w xc x4 x5 = y
  rw [← right_at y o p (by omega)]
  refine if_congr Iff.rfl rfl ?_
  pointwise []

end Cert.KernelIdeal.Mine

end
-- ==== Proof.KAff.lean ====
/-
  The first region's affinities at a position of the strip.
-/
module

public import proofs.«01_k».proof.Proof.KConv
public import proofs.«01_k».proof.Proof.AffMath
public import proofs.«01_k».proof.Proof.Spec
import Idealize.ShloMosaic.Lib.IdealHost

@[expose] public section

set_option maxRecDepth 16384

noncomputable section

namespace Cert.KernelIdeal.Mine

open Cert.KernelIdeal Cert.KernelIdeal.Gen Cert.Mine
open Idealize.ShloMosaic
open Idealize.ShloMosaic.WordCmp

section
variable (a b c : FVec Ideal S32x18432 .f32) (x6 : FVec Ideal S3x32x96 .f32) (x7 : FVec Ideal S32x1 .f32)

/-- The features on the strip. -/
theorem Bfc_at (o : Fin 32) (p : Fin 16384) : Bfc (F := Ideal) a b c x6 x7 (ix2 o p) = at2 (Bf (F := Ideal) a b c x6 x7) o (1024 + p) := by
  have e : k0_pay20 (F := Ideal) a b c (Scalar.ofBits .f32 0x00000000#32) (k0_pay19 k0_pay6) (w32 x6 0) (w32 x6 1) (w32 x6 2) x7 = Bf a b c x6 x7 := rfl
  unfold Bfc k0_pay21
  rw [e]
  generalize Bf (F := Ideal) a b c x6 x7 = y
  pointwise []
  exact (at2_fin y o ⟨1024 + p, by omega⟩).symm

/-- The features one row up. -/
theorem Bfu_at (o : Fin 32) (p : Fin 16384) : Bfu (F := Ideal) a b c x6 x7 (ix2 o p) = at2 (Bf (F := Ideal) a b c x6 x7) o (768 + p) := by
  have e : k0_pay20 (F := Ideal) a b c (Scalar.ofBits .f32 0x00000000#32) (k0_pay19 k0_pay6) (w32 x6 0) (w32 x6 1) (w32 x6 2) x7 = Bf a b c x6 x7 := rfl
  unfold Bfu k0_pay22
  rw [e]
  generalize Bf (F := Ideal) a b c x6 x7 = y
  pointwise []
  refine (dif_neg (by omega)).trans ((at2_fin y o ⟨1024 + p - 256, by omega⟩).symm.trans ?_)
  exact congrArg (at2 y o) (by show 1024 + (p : ℕ) - 256 = _; omega)

/-- The features one row down. -/
theorem Bfd_at (o : Fin 32) (p : Fin 16384) : Bfd (F := Ideal) a b c x6 x7 (ix2 o p) = at2 (Bf (F := Ideal) a b c x6 x7) o (1280 + p) := by
  have e : k0_pay20 (F := Ideal) a b c (Scalar.ofBits .f32 0x00000000#32) (k0_pay19 k0_pay6) (w32 x6 0) (w32 x6 1) (w32 x6 2) x7 = Bf a b c x6 x7 := rfl
  unfold Bfd k0_pay23
  rw [e]
  generalize Bf (F := Ideal) a b c x6 x7 = y
  pointwise []
  refine (dif_pos (by omega)).trans ((at2_fin y o ⟨256 + (1024 + p), by omega⟩).symm.trans ?_)
  exact congrArg (at2 y o) (by show 256 + (1024 + (p : ℕ)) = _; omega)

/-- The features one column left. -/
theorem Bfl_at (o : Fin 32) (p : Fin 16384) : Bfl (F := Ideal) a b c x6 x7 (ix2 o p) = shl (at2 (Bf (F := Ideal) a b c x6 x7)) o (1024 + p) := by
  have e : k0_pay20 (F := Ideal) a b c (Scalar.ofBits .f32 0x00000000#32) (k0_pay19 k0_pay6) (w32 x6 0) (w32 x6 1) (w32 x6 2) x7 = Bf a b c x6 x7 := rfl
  unfold Bfl k0_pay24
  rw [e]
  generalize Bf (F := Ideal) a b c x6 x7 = y
  pointwise [k0_pay27, k0_pay25, k0_pay26]
  simp only [pay5_at, sel_dec]
  exact left_at y o ⟨1024 + p, by omega⟩ (fun h => by show 1024 + (p : ℕ) - 1 < _; omega)

/-- The features one column right. -/
theorem Bfr_at (o : Fin 32) (p : Fin 16384) : Bfr (F := Ideal) a b c x6 x7 (ix2 o p) = shr (at2 (Bf (F := Ideal) a b c x6 x7)) o (1024 + p) := by
  unfold Bfr
  generalize Bf (F := Ideal) a b c x6 x7 = y
  pointwise [k0_pay28]
  simp only [pay6_at, sel_dec]
  exact right_at y o ⟨1024 + p, by omega⟩ (fun h => by show 1 + (1024 + (p : ℕ)) < _; have : 1024 + (p : ℕ) < 18431 := h; omega)

end

/-- A squared distance on the strip. -/
def sq (a b : FVec Ideal S32x16384 .f32) (p : Fin 16384) : EReal := ∑ x : Fin 32, (a (ix2 x p) - b (ix2 x p)) * (a (ix2 x p) - b (ix2 x p))

/-- The affinity block at an index, from the squared distances. -/
theorem pay1_at (s : Fin 4) (v1 : EReal) (fc fu fd fl fr : FVec Ideal S32x16384 .f32) (z : Fin 1) (j : Fin 5) (p : Fin 16384) (U D L R : EReal)
    (hU : (if (p : ℕ) + 16384 * (s : ℕ) < 256 then 0 else Ideal.exp (sq fc fu p * v1)) = U)
    (hD : (if 65280 ≤ (p : ℕ) + 16384 * (s : ℕ) then 0 else Ideal.exp (sq fc fd p * v1)) = D)
    (hL : (if (p : ℕ) % 256 = 0 then 0 else Ideal.exp (sq fc fl p * v1)) = L)
    (hR : (if (p : ℕ) % 256 = 255 then 0 else Ideal.exp (sq fc fr p * v1)) = R) :
    k0_pay1 (F := Ideal) v1 fc fl fr k0_pay30 (k0_pay31 (BitVec.ofNat 32 s) v1 fc fu) (k0_pay32 (BitVec.ofNat 32 s)) (k0_pay33 fc fd) (ix3 z j p) =
      if (j : ℕ) = 0 then U else if (j : ℕ) = 1 then D else if (j : ℕ) = 2 then L else if (j : ℕ) = 3 then R else U + D + L + R := by
  have hp := p.isLt
  have e0 : IntOp.cmpi .slt (BitVec.ofNat 32 ((p : ℕ) + 16384 * (s : ℕ))) 256#32 = BitVec.ofBool (decide ((p : ℕ) + 16384 * (s : ℕ) < 256)) := by
    rw [show (256#32 : BitVec 32) = BitVec.ofNat 32 256 from rfl, cmpi_slt_ofNat (w := 32) (by omega) (by decide)]
  have e1 : IntOp.cmpi .eq (BitVec.ofNat 32 ((p : ℕ) % 256)) 0#32 = BitVec.ofBool (decide ((p : ℕ) % 256 = 0)) := eq_word _ 0 (by omega) (by decide)
  have e2 : IntOp.cmpi .eq (BitVec.ofNat 32 ((p : ℕ) % 256)) 255#32 = BitVec.ofBool (decide ((p : ℕ) % 256 = 255)) := eq_word _ 255 (by omega) (by decide)
  pointwise [k0_pay1, k0_pay31, k0_pay33]
  simp only [pay29_at, pay30_at, pay32_at, e0, e1, e2, sel_dec]
  unfold sq at hU hD hL hR
  fin_cases j
  · exact hU
  · exact hD
  · exact hL
  · exact hR
  · exact congrArg₂ (· + ·) (congrArg₂ (· + ·) (congrArg₂ (· + ·) hU hD) hL) hR

/-- The word of minus one. -/
theorem neg_one_word : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]
  norm_num

/-- The exponent of an affinity. -/
theorem exp_eq (d mu : EReal) (hmu : mu ≠ 0) : d * k0_pay2 (F := Ideal) mu = Ideal.div (-d) mu := by
  have e : k0_pay2 (F := Ideal) mu = Ideal.div (-1) mu := by
    show Ideal.div (Ideal.ofBits .f32 0xBF800000#32) mu = _
    rw [neg_one_word]
  rw [e]
  unfold Ideal.div
  rw [if_neg hmu, if_neg hmu, ← mul_assoc, mul_neg_one]

/-- The affinity block of features that agree with an image's. -/
theorem Baff_at (s : Fin 4) (mu : EReal) (hmu : mu ≠ 0) (a b c : FVec Ideal S32x18432 .f32) (x6 : FVec Ideal S3x32x96 .f32) (x7 : FVec Ideal S32x1 .f32) (F : Img 32)
    (hf : ∀ (o : Fin 32) (q : ℕ), 3 ≤ q / 256 → q / 256 ≤ 68 → InImg s q → at2 (Bf (F := Ideal) a b c x6 x7) o q = ext F o ((64 * (s : ℕ) - 4 : ℤ) + (q / 256 : ℕ)) ((q % 256 : ℕ) : ℤ))
    (z : Fin 1) (j : Fin 5) (p : Fin 16384) (h w : Fin 256) (hhw : 256 * (h : ℕ) + w = 16384 * (s : ℕ) + p) :
    Baff (F := Ideal) (BitVec.ofNat 32 s) (k0_pay2 (F := Ideal) mu) a b c x6 x7 (ix3 z j p) = affCh mu F j h w := by
  have hp := p.isLt
  have hw := w.isLt
  have hh := h.isLt
  have hs := s.isLt
  have key : ∀ (fx : FVec Ideal S32x16384 .f32) (dh dw : ℤ), (∀ o : Fin 32, fx (ix2 o p) = ext F o (h + dh) (w + dw)) →
      Ideal.exp (sq (Bfc (F := Ideal) a b c x6 x7) fx p * k0_pay2 (F := Ideal) mu) = aff mu F h w dh dw := fun fx dh dw hx => by
    unfold aff Cert.Mine.dist sq
    rw [exp_eq _ _ hmu]
    congr 3
    refine Finset.sum_congr rfl fun o _ => ?_
    rw [hx, Bfc_at, hf o (1024 + p) (by omega) (by omega) (by unfold InImg; omega)]
    have e1 : (64 * (s : ℕ) - 4 : ℤ) + ((1024 + (p : ℕ)) / 256 : ℕ) = (h : ℕ) := by omega
    have e2 : (((1024 + (p : ℕ)) % 256 : ℕ) : ℤ) = (w : ℕ) := by omega
    rw [e1, e2]
  unfold Baff affCh
  refine pay1_at s _ _ _ _ _ _ z j p _ _ _ _ ?_ ?_ ?_ ?_
  · unfold affU
    refine if_ctx_congr (by omega) (fun _ => rfl) fun hn => key _ _ _ fun o => ?_
    rw [Bfu_at, hf o (768 + p) (by omega) (by omega) (by unfold InImg; omega)]
    congr 1 <;> omega
  · unfold affD
    refine if_ctx_congr (by omega) (fun _ => rfl) fun hn => key _ _ _ fun o => ?_
    rw [Bfd_at, hf o (1280 + p) (by omega) (by omega) (by unfold InImg; omega)]
    congr 1 <;> omega
  · unfold affL
    refine if_ctx_congr (by omega) (fun _ => rfl) fun hn => key _ _ _ fun o => ?_
    rw [Bfl_at]
    unfold shl
    rw [if_neg (by omega), hf o (1024 + p - 1) (by omega) (by omega) (by unfold InImg; omega)]
    congr 1 <;> omega
  · unfold affR
    refine if_ctx_congr (by omega) (fun _ => rfl) fun hn => key _ _ _ fun o => ?_
    rw [Bfr_at]
    unfold shr
    rw [if_neg (by omega), hf o (1024 + p + 1) (by omega) (by omega) (by unfold InImg; omega)]
    congr 1 <;> omega

/-- The network's layer of the joint first layer. -/
def kf1 (x2 : FVec Ideal S3x40x12 .f32) : Fin 32 → Fin 4 → Fin 3 → Fin 3 → EReal := fun o => k40 x2 (up1 o)
/-- Its bias. -/
def bf1 (x3 : FVec Ideal S40x1 .f32) : Fin 32 → EReal := fun o => bcol x3 (up1 o)

/-- The features of the strip agree with the image's features. -/
theorem feats (s : Fin 4) (v4 : FVec Ideal S1x4x18432 .f32) (x2 : FVec Ideal S3x40x12 .f32) (x3 : FVec Ideal S40x1 .f32) (x4 : FVec Ideal S3x32x96 .f32) (x5 : FVec Ideal S32x1 .f32)
    (x6 : FVec Ideal S3x32x96 .f32) (x7 : FVec Ideal S32x1 .f32) (x : Img 4) (H : Agrees (at2 (k0_pay3 (F := Ideal) v4)) x (64 * (s : ℕ) - 4 : ℤ) 0 71)
    (o : Fin 32) (q : ℕ) (h1 : 3 ≤ q / 256) (h2 : q / 256 ≤ 68) (hq : InImg s q) :
    at2 (Bf (F := Ideal) (Bx2 (F := Ideal) (BitVec.ofNat 32 s) (Bx1 (F := Ideal) (BitVec.ofNat 32 s) v4 x2 x3) x4 x5) (Bx2l (F := Ideal) (BitVec.ofNat 32 s) (Bx1 (F := Ideal) (BitVec.ofNat 32 s) v4 x2 x3) x4 x5)
        (Bx2r (F := Ideal) (BitVec.ofNat 32 s) (Bx1 (F := Ideal) (BitVec.ofNat 32 s) v4 x2 x3) x4 x5) x6 x7) o q
      = ext (layer (k32 x6) (bcol x7) (relu (layer (k32 x4) (bcol x5) (relu (layer (kf1 x2) (bf1 x3) x))))) o ((64 * (s : ℕ) - 4 : ℤ) + (q / 256 : ℕ)) ((q % 256 : ℕ) : ℤ) := by
  have A1 : Agrees (at2 (Y1m s (By1 (F := Ideal) v4 x2 x3))) (relu (layer (kf1 x2) (bf1 x3) x)) (64 * (s : ℕ) - 4 : ℤ) (0 + 1) (71 - 1) :=
    agrees_relu _ _ _ _ _ 0 71 H _ fun o p a b => by
      have hp : p < 18432 := by omega
      rw [at2_fin _ o ⟨p, hp⟩, Y1m_at, By1_at _ _ _ _ _ (by show 256 ≤ p; omega) (by show p < 18176; omega)]
      rfl
  have A2 : Agrees (at2 (Bx2 (F := Ideal) (BitVec.ofNat 32 s) (Bx1 (F := Ideal) (BitVec.ofNat 32 s) v4 x2 x3) x4 x5)) (relu (layer (k32 x4) (bcol x5) (relu (layer (kf1 x2) (bf1 x3) x))))
      (64 * (s : ℕ) - 4 : ℤ) (0 + 1 + 1) (71 - 1 - 1) :=
    agrees_relu _ _ _ _ _ _ _ A1 _ fun o p a b => by
      have hp : p < 18432 := by omega
      rw [at2_fin _ o ⟨p, hp⟩, Bx2_at s _ _ (Bx1_at s v4 x2 x3) _ _ _ _ (by show 256 ≤ p; omega) (by show p < 18176; omega)]
      rfl
  have hp : q < 18432 := by omega
  rw [at2_fin _ o ⟨q, hp⟩, pay20_at _ _ _ (at2 (Bx2 (F := Ideal) (BitVec.ofNat 32 s) (Bx1 (F := Ideal) (BitVec.ofNat 32 s) v4 x2 x3) x4 x5)) (fun i p => (at2_fin _ i p).symm)
    (Bx2l_at _ _ _ _) (Bx2r_at _ _ _ _) _ _ _ _ (by show 256 ≤ q; omega) (by show q < 18176; omega), wconv_eq _ _ _ _ _ _ _ A2 o q (by omega) (by omega)]
  unfold InImg at hq
  unfold ext
  rw [dif_pos ⟨hq, by omega, by omega⟩]
  unfold layer
  congr 1
  · show _ = (((_ : ℤ).toNat : ℕ) : ℤ); omega

end Cert.KernelIdeal.Mine

end
-- ==== Proof.KHost.lean ====
/-
  What the kernel program's host operations leave for the first region, at an index.
-/
module

public import proofs.«01_k».proof.Proof.KAff
public import proofs.«01_k».proof.Proof.Gen.KernelIdeal.Frame
public import Idealize.ShloMosaic.Lib.StableHlo.RunClose

@[expose] public section

set_option maxRecDepth 16384

noncomputable section

namespace Cert.KernelIdeal.Mine

open Cert.KernelIdeal Cert.KernelIdeal.Gen Cert.Mine
open Idealize.ShloMosaic Idealize.ShloMosaic.TcCoe Idealize.ShloMosaic.Tactic Idealize.ShloMosaic.StableHlo
open Idealize.SL Idealize.SL.Sem

section
variable {F : FTy → Type} [FloatOps F]
variable (m : (ℓ : Loc nD τ sig) → Buf (Elt F) ℓ) (ρ : Dev nD → PrngReg) (c : Dev nD)

/-- What `hostOps0` leaves in `v0`. -/
theorem k_v0 (V : Valuation τ sig (Elt F)) : after hostOps0 V (Proc.devRef .tc main_v0) = concatenate S4x4x256x256 1 [⟨S4x3x256x256, (V (Proc.devRef .tc main_arg0))⟩, ⟨S4x1x256x256, (V (Proc.devRef .tc main_arg3))⟩] concatenates_S4x3x256x256_S4x1x256x256_S4x4x256x256_d1 := by
  simp only [hostOps0]
  after_results_entrywise [cast_eq]

/-- What `hostOps0` leaves in `c`. -/
theorem k_c (V : Valuation τ sig (Elt F)) : after hostOps0 V (Proc.devRef .tc main_c) = constantI S_ 32 0#32 := by
  simp only [hostOps0]
  after_results_entrywise [cast_eq]

/-- What `hostOps0_1` leaves in `v1`. -/
theorem k_v1 (V : Valuation τ sig (Elt F)) : after hostOps0_1 V (Proc.devRef .tc main_v1) = pad S4x4x264x256 ![0, 0, 4, 0] ![0, 0, 4, 0] ![0, 0, 0, 0] (V (Proc.devRef .tc main_v0)) (sitofp .f32 (V (Proc.devRef .tc main_c))) pads_S4x4x256x256_S4x4x264x256_000_000_440_000 h_S_ := by
  simp only [hostOps0_1]
  after_results_entrywise [cast_eq]

/-- What `hostOps0_2` leaves in `v2`. -/
theorem k_v2 (V : Valuation τ sig (Elt F)) : after hostOps0_2 V (Proc.devRef .tc main_v2) = shapeCast S4x4x67584 (V (Proc.devRef .tc main_v1)) shapeCasts_S4x4x264x256_S4x4x67584 := by
  simp only [hostOps0_2]
  after_results_entrywise [cast_eq]

/-- What `hostOps0_2` leaves in `v3`. -/
theorem k_v3 (V : Valuation τ sig (Elt F)) : after hostOps0_2 V (Proc.devRef .tc main_v3) = concatenate S33x4x3x3 0 [⟨S1x4x3x3, (V (Proc.devRef .tc main_arg4))⟩, ⟨S32x4x3x3, (V (Proc.devRef .tc main_arg6))⟩] concatenates_S1x4x3x3_S32x4x3x3_S33x4x3x3_d0 := by
  simp only [hostOps0_2]
  after_results_entrywise [cast_eq]

/-- What `hostOps0_2` leaves in `c_0`. -/
theorem k_c0 (V : Valuation τ sig (Elt F)) : after hostOps0_2 V (Proc.devRef .tc main_c_0) = constantI S_ 32 0#32 := by
  simp only [hostOps0_2]
  after_results_entrywise [cast_eq]

/-- What `hostOps0_3` leaves in `v4`. -/
theorem k_v4 (V : Valuation τ sig (Elt F)) : after hostOps0_3 V (Proc.devRef .tc main_v4) = pad S40x4x3x3 ![0, 0, 0, 0] ![7, 0, 0, 0] ![0, 0, 0, 0] (V (Proc.devRef .tc main_v3)) (sitofp .f32 (V (Proc.devRef .tc main_c_0))) pads_S33x4x3x3_S40x4x3x3_070_000_000_000 h_S_ := by
  simp only [hostOps0_3]
  after_results_entrywise [cast_eq]

/-- What `hostOps0_4` leaves in `v6`. -/
theorem k_v6 (V : Valuation τ sig (Elt F)) : after hostOps0_4 V (Proc.devRef .tc main_v6) = shapeCast S3x40x12 (transpose S3x40x3x4 [2, 0, 3, 1] (V (Proc.devRef .tc main_v4)) transposes_S40x4x3x3_S3x40x3x4_2_0_3_1) shapeCasts_S3x40x3x4_S3x40x12 := by
  simp only [hostOps0_4]
  after_results_entrywise [cast_eq]

/-- What `hostOps0_4` leaves in `v9`. -/
theorem k_v9 (V : Valuation τ sig (Elt F)) : after hostOps0_4 V (Proc.devRef .tc main_v9) = shapeCast S40x1 (concatenate S40 0 [⟨S1, (V (Proc.devRef .tc main_arg5))⟩, ⟨S32, (V (Proc.devRef .tc main_arg7))⟩, ⟨S7, broadcastInDim S7 ![] bcast_S_S7 (constant S_ .f32 0x00000000#32)⟩] concatenates_S1_S32_S7_S40_d0) shapeCasts_S40_S40x1 := by
  simp only [hostOps0_4]
  after_results_entrywise [cast_eq]

/-- What `hostOps0_4` leaves in `v11`. -/
theorem k_v11 (V : Valuation τ sig (Elt F)) : after hostOps0_4 V (Proc.devRef .tc main_v11) = shapeCast S3x32x96 (transpose S3x32x3x32 [2, 0, 3, 1] (V (Proc.devRef .tc main_arg8)) transposes_S32x32x3x3_S3x32x3x32_2_0_3_1) shapeCasts_S3x32x3x32_S3x32x96 := by
  simp only [hostOps0_4]
  after_results_entrywise [cast_eq]

/-- What `hostOps0_4` leaves in `v13`. -/
theorem k_v13 (V : Valuation τ sig (Elt F)) : after hostOps0_4 V (Proc.devRef .tc main_v13) = shapeCast S3x32x96 (transpose S3x32x3x32 [2, 0, 3, 1] (V (Proc.devRef .tc main_arg10)) transposes_S32x32x3x3_S3x32x3x32_2_0_3_1) shapeCasts_S3x32x3x32_S3x32x96 := by
  simp only [hostOps0_4]
  after_results_entrywise [cast_eq]

/-- What `hostOps0_4` leaves in `v14`. -/
theorem k_v14 (V : Valuation τ sig (Elt F)) : after hostOps0_4 V (Proc.devRef .tc main_v14) = shapeCast S32x1 (V (Proc.devRef .tc main_arg9)) shapeCasts_S32_S32x1 := by
  simp only [hostOps0_4]
  after_results_entrywise [cast_eq]

/-- What `hostOps0_4` leaves in `v15`. -/
theorem k_v15 (V : Valuation τ sig (Elt F)) : after hostOps0_4 V (Proc.devRef .tc main_v15) = shapeCast S32x1 (V (Proc.devRef .tc main_arg11)) shapeCasts_S32_S32x1 := by
  simp only [hostOps0_4]
  after_results_entrywise [cast_eq]

/-- What `hostOps0_4` leaves in `v17`. -/
theorem k_v17 (V : Valuation τ sig (Elt F)) : after hostOps0_4 V (Proc.devRef .tc main_v17) = shapeCast S1x1 (Host.exp (V (Proc.devRef .tc main_arg13))) shapeCasts_S1_S1x1 := by
  simp only [hostOps0_4]
  after_results_entrywise [cast_eq]

/-- What `hostOps0_4` leaves in `v19`. -/
theorem k_v19 (V : Valuation τ sig (Elt F)) : after hostOps0_4 V (Proc.devRef .tc main_v19) = shapeCast S1x1 (Host.exp (V (Proc.devRef .tc main_arg12))) shapeCasts_S1_S1x1 := by
  simp only [hostOps0_4]
  after_results_entrywise [cast_eq]

/-- What `hostOps1` leaves in `v21`. -/
theorem k_v21 (V : Valuation τ sig (Elt F)) : after hostOps1 V (Proc.devRef .tc main_v21) = shapeCast S4x1x256x256 (V (Proc.devRef .tc main_v20_0)) shapeCasts_S4x1x65536_S4x1x256x256 := by
  simp only [hostOps1]
  after_results_entrywise [cast_eq]

/-- What `hostOps1` leaves in `v22`. -/
theorem k_v22 (V : Valuation τ sig (Elt F)) : after hostOps1 V (Proc.devRef .tc main_v22) = shapeCast S4x5x256x256 (V (Proc.devRef .tc main_v20_1)) shapeCasts_S4x5x65536_S4x5x256x256 := by
  simp only [hostOps1]
  after_results_entrywise [cast_eq]

/-- What `hostOps1` leaves in `v23`. -/
theorem k_v23 (V : Valuation τ sig (Elt F)) : after hostOps1 V (Proc.devRef .tc main_v23) = shapeCast S4x32x32 (V (Proc.devRef .tc main_arg1)) shapeCasts_S4x1x32x32_S4x32x32 := by
  simp only [hostOps1]
  after_results_entrywise [cast_eq]

/-- What `hostOps1` leaves in `v24`. -/
theorem k_v24 (V : Valuation τ sig (Elt F)) : after hostOps1 V (Proc.devRef .tc main_v24) = shapeCast S4x32x32 (V (Proc.devRef .tc main_arg2)) shapeCasts_S4x1x32x32_S4x32x32 := by
  simp only [hostOps1]
  after_results_entrywise [cast_eq]

/-- What `hostOps2` leaves in `v26`. -/
theorem k_v26 (V : Valuation τ sig (Elt F)) : after hostOps2 V (Proc.devRef .tc main_v26) = shapeCast S4x1x256x256 (V (Proc.devRef .tc main_v25)) shapeCasts_S4x256x256_S4x1x256x256 := by
  simp only [hostOps2]
  after_results_entrywise [cast_eq]

end

end Cert.KernelIdeal.Mine

end
-- ==== Proof.KPre.lean ====
/-
  The first region's operands at an index, over the arguments.
-/
module

public import proofs.«01_k».proof.Proof.KHost
import Idealize.ShloMosaic.Lib.Pipeline.ValueKit

@[expose] public section

set_option maxRecDepth 16384

noncomputable section

namespace Cert.KernelIdeal.Mine

open Cert.KernelIdeal Cert.KernelIdeal.Gen Cert.Mine
open Idealize.ShloMosaic Idealize.ShloMosaic.TcCoe

variable (m : (ℓ : Loc nD τ sig) → Buf (Elt Ideal) ℓ) (ρ : Dev nD → PrngReg) (c : Dev nD)

/-- An argument of the kernel program. -/
abbrev A0 : FVec Ideal S4x3x256x256 .f32 := m ((c : Thread nD τ).loc main_arg0)
/-- An argument of the kernel program. -/
abbrev A1 : FVec Ideal S4x1x32x32 .f32 := m ((c : Thread nD τ).loc main_arg1)
/-- An argument of the kernel program. -/
abbrev A2 : FVec Ideal S4x1x32x32 .f32 := m ((c : Thread nD τ).loc main_arg2)
/-- An argument of the kernel program. -/
abbrev A3 : FVec Ideal S4x1x256x256 .f32 := m ((c : Thread nD τ).loc main_arg3)
/-- An argument of the kernel program. -/
abbrev A4 : FVec Ideal S1x4x3x3 .f32 := m ((c : Thread nD τ).loc main_arg4)
/-- An argument of the kernel program. -/
abbrev A5 : FVec Ideal S1 .f32 := m ((c : Thread nD τ).loc main_arg5)
/-- An argument of the kernel program. -/
abbrev A6 : FVec Ideal S32x4x3x3 .f32 := m ((c : Thread nD τ).loc main_arg6)
/-- An argument of the kernel program. -/
abbrev A7 : FVec Ideal S32 .f32 := m ((c : Thread nD τ).loc main_arg7)
/-- An argument of the kernel program. -/
abbrev A8 : FVec Ideal S32x32x3x3 .f32 := m ((c : Thread nD τ).loc main_arg8)
/-- An argument of the kernel program. -/
abbrev A9 : FVec Ideal S32 .f32 := m ((c : Thread nD τ).loc main_arg9)
/-- An argument of the kernel program. -/
abbrev A10 : FVec Ideal S32x32x3x3 .f32 := m ((c : Thread nD τ).loc main_arg10)
/-- An argument of the kernel program. -/
abbrev A11 : FVec Ideal S32 .f32 := m ((c : Thread nD τ).loc main_arg11)
/-- An argument of the kernel program. -/
abbrev A12 : FVec Ideal S1 .f32 := m ((c : Thread nD τ).loc main_arg12)
/-- An argument of the kernel program. -/
abbrev A13 : FVec Ideal S1 .f32 := m ((c : Thread nD τ).loc main_arg13)

/-- The first region's image, rows padded. -/
def Kimg : FVec Ideal S4x4x67584 .f32 := W5 m ρ c (Proc.devRef .tc main_v2)
/-- The first region's joint first-layer weights. -/
def Kw1 : FVec Ideal S3x40x12 .f32 := W5 m ρ c (Proc.devRef .tc main_v6)
/-- Its bias. -/
def Kb1 : FVec Ideal S40x1 .f32 := W5 m ρ c (Proc.devRef .tc main_v9)
/-- The second layer's weights. -/
def Kw2 : FVec Ideal S3x32x96 .f32 := W5 m ρ c (Proc.devRef .tc main_v11)
/-- Its bias. -/
def Kb2 : FVec Ideal S32x1 .f32 := W5 m ρ c (Proc.devRef .tc main_v14)
/-- The third layer's weights. -/
def Kw3 : FVec Ideal S3x32x96 .f32 := W5 m ρ c (Proc.devRef .tc main_v13)
/-- Its bias. -/
def Kb3 : FVec Ideal S32x1 .f32 := W5 m ρ c (Proc.devRef .tc main_v15)
/-- The affinity's width. -/
def Kmu : FVec Ideal S1x1 .f32 := W5 m ρ c (Proc.devRef .tc main_v17)
/-- The fidelity's weight. -/
def Klam : FVec Ideal S1x1 .f32 := W5 m ρ c (Proc.devRef .tc main_v19)

/-- The padded image over the arguments. -/
theorem Kimg_eq : Kimg m ρ c = shapeCast S4x4x67584 (pad S4x4x264x256 ![0, 0, 4, 0] ![0, 0, 4, 0] ![0, 0, 0, 0] (concatenate S4x4x256x256 1 [⟨S4x3x256x256, A0 m c⟩, ⟨S4x1x256x256, A3 m c⟩] concatenates_S4x3x256x256_S4x1x256x256_S4x4x256x256_d1) (sitofp .f32 (constantI S_ 32 0#32)) pads_S4x4x256x256_S4x4x264x256_000_000_440_000 h_S_) shapeCasts_S4x4x264x256_S4x4x67584 := by
  unfold Kimg
  have e0 : W1 m ρ c (Proc.devRef .tc main_v0) = _ := k_v0 (W0 m ρ c)
  have e1 : W1 m ρ c (Proc.devRef .tc main_c) = _ := k_c (W0 m ρ c)
  have e2 : W2 m ρ c (Proc.devRef .tc main_v1) = _ := k_v1 (W1 m ρ c)
  have e3 : W3 m ρ c (Proc.devRef .tc main_v2) = _ := k_v2 (W2 m ρ c)
  rw [W5_of m ρ c main_v2 (by decide), W4_of m ρ c main_v2 (by decide), e3, e2, e0, e1]

/-- The joint first-layer weights over the arguments. -/
theorem Kw1_eq : Kw1 m ρ c = shapeCast S3x40x12 (transpose S3x40x3x4 [2, 0, 3, 1] (pad S40x4x3x3 ![0, 0, 0, 0] ![7, 0, 0, 0] ![0, 0, 0, 0] (concatenate S33x4x3x3 0 [⟨S1x4x3x3, A4 m c⟩, ⟨S32x4x3x3, A6 m c⟩] concatenates_S1x4x3x3_S32x4x3x3_S33x4x3x3_d0) (sitofp .f32 (constantI S_ 32 0#32)) pads_S33x4x3x3_S40x4x3x3_070_000_000_000 h_S_) transposes_S40x4x3x3_S3x40x3x4_2_0_3_1) shapeCasts_S3x40x3x4_S3x40x12 := by
  unfold Kw1
  have e0 : W3 m ρ c (Proc.devRef .tc main_v3) = _ := k_v3 (W2 m ρ c)
  have e1 : W3 m ρ c (Proc.devRef .tc main_c_0) = _ := k_c0 (W2 m ρ c)
  have e2 : W4 m ρ c (Proc.devRef .tc main_v4) = _ := k_v4 (W3 m ρ c)
  have e3 : W5 m ρ c (Proc.devRef .tc main_v6) = _ := k_v6 (W4 m ρ c)
  rw [e3, e2, e0, e1, W2_args m ρ c main_arg4 (by decide), W2_args m ρ c main_arg6 (by decide)]

/-- The joint first-layer bias over the arguments. -/
theorem Kb1_eq : Kb1 m ρ c = shapeCast S40x1 (concatenate S40 0 [⟨S1, A5 m c⟩, ⟨S32, A7 m c⟩, ⟨S7, broadcastInDim S7 ![] bcast_S_S7 (constant S_ .f32 0x00000000#32)⟩] concatenates_S1_S32_S7_S40_d0) shapeCasts_S40_S40x1 := by
  unfold Kb1
  have e3 : W5 m ρ c (Proc.devRef .tc main_v9) = _ := k_v9 (W4 m ρ c)
  rw [e3, W4_args m ρ c main_arg5 (by decide), W4_args m ρ c main_arg7 (by decide)]

/-- The second layer's weights over the arguments. -/
theorem Kw2_eq : Kw2 m ρ c = shapeCast S3x32x96 (transpose S3x32x3x32 [2, 0, 3, 1] (A8 m c) transposes_S32x32x3x3_S3x32x3x32_2_0_3_1) shapeCasts_S3x32x3x32_S3x32x96 := by
  have e3 : W5 m ρ c (Proc.devRef .tc main_v11) = _ := k_v11 (W4 m ρ c)
  unfold Kw2
  rw [e3, W4_args m ρ c main_arg8 (by decide)]

/-- The third layer's weights over the arguments. -/
theorem Kw3_eq : Kw3 m ρ c = shapeCast S3x32x96 (transpose S3x32x3x32 [2, 0, 3, 1] (A10 m c) transposes_S32x32x3x3_S3x32x3x32_2_0_3_1) shapeCasts_S3x32x3x32_S3x32x96 := by
  have e3 : W5 m ρ c (Proc.devRef .tc main_v13) = _ := k_v13 (W4 m ρ c)
  unfold Kw3
  rw [e3, W4_args m ρ c main_arg10 (by decide)]

/-- The second layer's bias over the arguments. -/
theorem Kb2_eq : Kb2 m ρ c = shapeCast S32x1 (A9 m c) shapeCasts_S32_S32x1 := by
  have e3 : W5 m ρ c (Proc.devRef .tc main_v14) = _ := k_v14 (W4 m ρ c)
  unfold Kb2
  rw [e3, W4_args m ρ c main_arg9 (by decide)]

/-- The third layer's bias over the arguments. -/
theorem Kb3_eq : Kb3 m ρ c = shapeCast S32x1 (A11 m c) shapeCasts_S32_S32x1 := by
  have e3 : W5 m ρ c (Proc.devRef .tc main_v15) = _ := k_v15 (W4 m ρ c)
  unfold Kb3
  rw [e3, W4_args m ρ c main_arg11 (by decide)]

/-- The affinity's width over the arguments. -/
theorem Kmu_eq : Kmu m ρ c = shapeCast S1x1 (Host.exp (A13 m c)) shapeCasts_S1_S1x1 := by
  have e3 : W5 m ρ c (Proc.devRef .tc main_v17) = _ := k_v17 (W4 m ρ c)
  unfold Kmu
  rw [e3, W4_args m ρ c main_arg13 (by decide)]

/-- The fidelity's weight over the arguments. -/
theorem Klam_eq : Klam m ρ c = shapeCast S1x1 (Host.exp (A12 m c)) shapeCasts_S1_S1x1 := by
  have e3 : W5 m ρ c (Proc.devRef .tc main_v19) = _ := k_v19 (W4 m ρ c)
  unfold Klam
  rw [e3, W4_args m ρ c main_arg12 (by decide)]

/-- The affinity's width. -/
theorem Kmu_at : Kmu m ρ c (ix2 0 0) = Ideal.exp (A13 m c (ix1 0)) := by
  rw [Kmu_eq]
  generalize A13 m c = a
  pointwise []
  try rfl

/-- The fidelity's weight. -/
theorem Klam_at : Klam m ρ c (ix2 0 0) = Ideal.exp (A12 m c (ix1 0)) := by
  rw [Klam_eq]
  generalize A12 m c = a
  pointwise []
  try rfl

/-- The second layer's bias, channel by channel. -/
theorem Kb2_at : bcol (Kb2 m ρ c) = bia (A9 m c) := by
  rw [Kb2_eq]
  generalize A9 m c = a
  funext o
  unfold bcol bia
  pointwise []
  try rfl

/-- The third layer's bias, channel by channel. -/
theorem Kb3_at : bcol (Kb3 m ρ c) = bia (A11 m c) := by
  rw [Kb3_eq]
  generalize A11 m c = a
  funext o
  unfold bcol bia
  pointwise []
  try rfl

/-- The later weights' arrangement undone. -/
theorem w32_rearr (x : FVec Ideal S32x32x3x3 .f32) :
    k32 (shapeCast S3x32x96 (transpose S3x32x3x32 [2, 0, 3, 1] x transposes_S32x32x3x3_S3x32x3x32_2_0_3_1) shapeCasts_S3x32x3x32_S3x32x96) = ker x := by
  funext o a dy dx
  unfold k32 ker
  fin_vals dx with hd <;> (pointwise []; try rfl)

/-- The second layer's weights. -/
theorem Kw2_at : k32 (Kw2 m ρ c) = ker (A8 m c) := by
  rw [Kw2_eq, w32_rearr]

/-- The third layer's weights. -/
theorem Kw3_at : k32 (Kw3 m ρ c) = ker (A10 m c) := by
  rw [Kw3_eq, w32_rearr]

/-- The joint first layer's bias at the lateral channel. -/
theorem Kb1_0 : bcol (Kb1 m ρ c) 0 = bia (A5 m c) 0 := by
  rw [Kb1_eq]
  generalize A5 m c = a
  generalize A7 m c = b
  unfold bcol bia
  pointwise []
  try rfl

/-- The joint first layer's bias at the feature channels. -/
theorem Kb1_1 : bf1 (Kb1 m ρ c) = bia (A7 m c) := by
  rw [Kb1_eq]
  generalize A5 m c = a
  generalize A7 m c = b
  funext o
  unfold bf1 bcol bia up1
  pointwise []

/-- The joint first layer's weights at the first channel. -/
theorem Kw1_0 : k40 (Kw1 m ρ c) 0 = ker (A4 m c) 0 := by
  rw [Kw1_eq]
  generalize A4 m c = a
  generalize A6 m c = b
  funext ch dy dx
  unfold k40 ker
  fin_vals dx with hd <;> (pointwise []; try rfl)

/-- The joint first layer's weights at the feature channels. -/
theorem Kw1_1 : kf1 (Kw1 m ρ c) = ker (A6 m c) := by
  rw [Kw1_eq]
  generalize A4 m c = a
  generalize A6 m c = b
  funext o ch dy dx
  unfold kf1 k40 ker up1
  pointwise []
  exact dif_pos (by omega)

/-- Two guarded values are equal when the guards and the values are. -/
theorem dite_iff {α : Sort _} {p q : Prop} [Decidable p] [Decidable q] (e : p ↔ q) (f : p → α) (g : q → α) (hf : ∀ h, f h = g (e.1 h)) (x y : α) (hxy : x = y) :
    (if h : p then f h else x) = if h : q then g h else y := by
  by_cases h : p
  · rw [dif_pos h, dif_pos (e.1 h)]; exact hf h
  · rw [dif_neg h, dif_neg fun h' => h (e.2 h')]; exact hxy

/-- The padded image at an index. -/
theorem Kimg_at (n a : Fin 4) (q : Fin 67584) : Kimg m ρ c (ix3 n a q) = ext (img (A0 m c) (A3 m c) n) a ((((q : ℕ) / 256 : ℕ) : ℤ) - 4) (((q : ℕ) % 256 : ℕ) : ℤ) := by
  have hq := q.isLt
  rw [Kimg_eq]
  generalize A0 m c = a0
  generalize A3 m c = a3
  pointwise []
  unfold ext img
  refine dite_iff (by omega) _ _ (fun h => ?_) _ _ (by show (((0#32 : BitVec 32).toInt : ℝ) : EReal) = 0; simp)
  refine dite_congr rfl (fun h' => congrArg a0 ?_) fun h' => congrArg a3 ?_
  · exact congrArg₂ (fun u v => ix4 n ⟨(a : ℕ), h'⟩ u v) (Fin.ext (by show (q : ℕ) / 256 - 4 = ((((q : ℕ) / 256 : ℕ) : ℤ) - 4).toNat; omega)) (Fin.ext (by show (q : ℕ) % 256 = ((((q : ℕ) % 256 : ℕ) : ℤ)).toNat; omega))
  · have ha := a.isLt
    exact congrArg₂ (fun (u : Fin 1) (vw : Fin 256 × Fin 256) => ix4 n u vw.1 vw.2) (Fin.ext (by show (a : ℕ) - 3 = 0; omega))
      (congrArg₂ Prod.mk (Fin.ext (by show (q : ℕ) / 256 - 4 = ((((q : ℕ) / 256 : ℕ) : ℤ) - 4).toNat; omega)) (Fin.ext (by show (q : ℕ) % 256 = ((((q : ℕ) % 256 : ℕ) : ℤ)).toNat; omega)))

/-- A strip's window reads the padded image. -/
theorem Bwin_at (i : grid0.Coords) (x1 : FVec Ideal S1x4x67584 .f32) (z : Fin 1) (a : Fin 4) (q : Fin 18432) (hb : 16384 * (i 1).val + (q : ℕ) < 67584) :
    Bwin (F := Ideal) i x1 (ix3 z a q) = x1 (ix3 0 a ⟨16384 * (i 1).val + (q : ℕ), hb⟩) := by
  unfold Bwin
  have e := k0_off1_eq i
  have key : ∀ b, ((Rect.unit (s := S1x4x67584) (k0_off1 i) ![1, 4, 18432] (k0_off1_inb i)).idx (ix3 z a q) b : ℕ) = k0_off1 i b + 1 * ((ix3 z a q : Shape.Idx ⟨3, ![1, 4, 18432]⟩) b : ℕ) := fun b => rfl
  refine congrArg x1 (funext fun b => Fin.ext ((key b).trans ?_))
  rw [e]
  have hz := z.isLt
  fin_cases b
  · show 0 + 1 * (z : ℕ) = 0; omega
  · show 0 + 1 * (a : ℕ) = a; omega
  · show 16384 * (i 1).val + 1 * (q : ℕ) = 16384 * (i 1).val + q; omega

end Cert.KernelIdeal.Mine

end
-- ==== Proof.KLoop.lean ====
/-
  The second region's loop: what one trip yields and writes, and the state before a trip as iterated steps.
-/
module

public import proofs.«01_k».proof.Proof.KPre
import Idealize.ShloMosaic.Lib.Pipeline.ValueKit

@[expose] public section

set_option maxRecDepth 16384

noncomputable section

namespace Cert.KernelIdeal.Mine

open Cert.KernelIdeal Cert.KernelIdeal.Gen Cert.Mine
open Idealize.ShloMosaic Idealize.ShloMosaic.TcCoe

variable {F : FTy → Type} [FloatOps F]

/-- The zero offsets. -/
theorem hz3 : (![0, 0, 0] : Fin 3 → ℕ) = fun _ => 0 := funext fun a => by fin_cases a <;> rfl

section

variable (𝒱 : Variants) (c : Dev nD) (bd : Option 𝒱.V) (arg0 : Memref sig .tc .smem S1x1 .f32) (harg0 : arg0.IsWhole) (arg1 : Memref sig .tc .vmem S4x5x256x256 .f32) (harg1 : arg1.IsWhole) (arg2 : Memref sig .tc .vmem S4x32x32 .f32) (harg2 : arg2.IsWhole) (arg3 : Memref sig .tc .vmem S4x32x32 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole) (v0 : Elt F .f32) (v4 : FVec F S4x256x256 .f32) (v6 : FVec F S4x256x256 .f32) (v8 : FVec F S4x256x256 .f32) (v10 : FVec F S4x256x256 .f32) (v12 : FVec F S4x256x256 .f32) (v16 : FVec F S4x32x32 .f32) (v46 : FVec F S256x32 .f32) (v76 : FVec F S32x256 .f32)
  (k : Fin k1_t1_loop.trips) (acc : F .f32) (f4 : BufTy.Contents (Elt F) arg4.view.ty) (f5 : BufTy.Contents (Elt F) arg5.view.ty) (f6 : BufTy.Contents (Elt F) arg6.view.ty)

/-- A memref's whole contents, read through its zero rectangle. -/
theorem readAt_whole3 (a : Memref sig .tc .vmem S4x256x256 .f32) (inb : ∀ x, (![0, 0, 0] : Fin 3 → ℕ) x + S4x256x256.size x ≤ S4x256x256.size x) (f : BufTy.Contents (Elt F) a.view.ty) :
    View.readAt (Elt F) a.view (Rect.unit (s := S4x256x256) ![0, 0, 0] S4x256x256.size inb).toLoadRect f = a.view.read (Elt F) f := by
  rw [View.readAt_eq_ld, View.ld_unit_zero (S := S4x256x256) hz3]

/-- The operator applied to the direction, as a trip computes it. -/
def tA (P : Vec F S4x256x256 .f32) : FVec F S4x256x256 .f32 := k1_pay10 v0 v16 v46 v76 P (k1_pay7 v4 v6 v8 v10 v12 P) (k1_pay8 v0 v16 v46 v76 P) (k1_pay9 v0 v16 v46 v76 P)
/-- The step length, as a trip computes it. -/
def tAl (acc : F .f32) (P : Vec F S4x256x256 .f32) : F .f32 := k1_pay11 v0 v16 v46 v76 acc P (k1_pay7 v4 v6 v8 v10 v12 P) (k1_pay8 v0 v16 v46 v76 P) (k1_pay9 v0 v16 v46 v76 P)
/-- The next solution. -/
def tX (acc : F .f32) (X P : Vec F S4x256x256 .f32) : Vec F S4x256x256 .f32 := k1_pay12 v0 v16 v46 v76 acc P (k1_pay7 v4 v6 v8 v10 v12 P) (k1_pay8 v0 v16 v46 v76 P) (k1_pay9 v0 v16 v46 v76 P) X
/-- The next residual. -/
def tR (acc : F .f32) (R P : Vec F S4x256x256 .f32) : Vec F S4x256x256 .f32 := k1_pay4 (tA v0 v4 v6 v8 v10 v12 v16 v46 v76 P) (tAl v0 v4 v6 v8 v10 v12 v16 v46 v76 acc P) R
/-- The next direction. -/
def tP (acc : F .f32) (R P : Vec F S4x256x256 .f32) : Vec F S4x256x256 .f32 := k1_pay6 acc P (tA v0 v4 v6 v8 v10 v12 v16 v46 v76 P) (tAl v0 v4 v6 v8 v10 v12 v16 v46 v76 acc P) R
/-- The next squared residual. -/
def tS (acc : F .f32) (R P : Vec F S4x256x256 .f32) : F .f32 := k1_pay5 (tA v0 v4 v6 v8 v10 v12 v16 v46 v76 P) (tAl v0 v4 v6 v8 v10 v12 v16 v46 v76 acc P) R

/-- What a trip carries on. -/
theorem tripR_eq : tripR_k1_t1 (F := F) 𝒱 c bd arg0 harg0 arg1 harg1 arg2 harg2 arg3 harg3 arg4 harg4 arg5 harg5 arg6 harg6 v0 v4 v6 v8 v10 v12 v16 v46 v76 k acc f4 f5 f6 = tS v0 v4 v6 v8 v10 v12 v16 v46 v76 acc (arg5.view.read (Elt F) f5) (arg6.view.read (Elt F) f6) := by
  unfold tripR_k1_t1 trip_k1_t1
  dsimp only
  sl_unfold_words
  simp only [View.readAt_eq_ld, View.ld_unit_zero (S := S4x256x256) hz3]
  rfl

/-- What a trip writes. -/
theorem tripL_eq : tripL_k1_t1 (F := F) 𝒱 c bd arg0 harg0 arg1 harg1 arg2 harg2 arg3 harg3 arg4 harg4 arg5 harg5 arg6 harg6 v0 v4 v6 v8 v10 v12 v16 v46 v76 k acc f4 f5 f6
    = ([⟨Rect.unit ![0, 0, 0] ![4, 256, 256] inb_S4x256x256_S4x256x256_0_0_0, tX v0 v4 v6 v8 v10 v12 v16 v46 v76 acc (arg4.view.read (Elt F) f4) (arg6.view.read (Elt F) f6)⟩],
       [⟨Rect.unit ![0, 0, 0] ![4, 256, 256] inb_S4x256x256_S4x256x256_0_0_0, tR v0 v4 v6 v8 v10 v12 v16 v46 v76 acc (arg5.view.read (Elt F) f5) (arg6.view.read (Elt F) f6)⟩],
       [⟨Rect.unit ![0, 0, 0] ![4, 256, 256] inb_S4x256x256_S4x256x256_0_0_0, tP v0 v4 v6 v8 v10 v12 v16 v46 v76 acc (arg5.view.read (Elt F) f5) (arg6.view.read (Elt F) f6)⟩]) := by
  unfold tripL_k1_t1 trip_k1_t1
  dsimp only
  sl_unfold_words
  simp only [View.readAt_eq_ld, View.ld_unit_zero (S := S4x256x256) hz3]
  rfl

/-- Writing the whole array last leaves it. -/
theorem read_writes_whole3 (a : Memref sig .tc .vmem S4x256x256 .f32) (inb : ∀ x, (![0, 0, 0] : Fin 3 → ℕ) x + S4x256x256.size x ≤ S4x256x256.size x) (f : BufTy.Contents (Elt F) a.view.ty)
    (w : Vec F S4x256x256 .f32) (L : List (View.Piece (Elt F) S4x256x256 .f32)) :
    a.view.read (Elt F) (a.view.writes (Elt F) f ((⟨Rect.unit (s := S4x256x256) ![0, 0, 0] S4x256x256.size inb, w⟩ : View.Piece (Elt F) S4x256x256 .f32) :: L)) = w := by
  funext y
  have h := View.read_writes_cons_emb (v := a.view) (f := f) (Rect.unit (s := S4x256x256) ![0, 0, 0] S4x256x256.size inb) w L y
  have e : (Rect.unit (s := S4x256x256) ![0, 0, 0] S4x256x256.size inb).emb y = y := funext fun b => Fin.ext (by
    fin_cases b <;> exact (Nat.zero_add _).trans (Nat.one_mul _))
  rw [e] at h
  exact h

/-- The state of the iteration: the squared residual, the solution, the residual, the direction. -/
abbrev St (F : FTy → Type) : Type := F .f32 × Vec F S4x256x256 .f32 × Vec F S4x256x256 .f32 × Vec F S4x256x256 .f32

/-- One trip on the state. -/
def tstep (s : St F) : St F := (tS v0 v4 v6 v8 v10 v12 v16 v46 v76 s.1 s.2.2.1 s.2.2.2, tX v0 v4 v6 v8 v10 v12 v16 v46 v76 s.1 s.2.1 s.2.2.2, tR v0 v4 v6 v8 v10 v12 v16 v46 v76 s.1 s.2.2.1 s.2.2.2, tP v0 v4 v6 v8 v10 v12 v16 v46 v76 s.1 s.2.2.1 s.2.2.2)

variable (init : F .f32)

/-- The state before a trip, its arrays read whole. -/
def rst (k : ℕ) : St F :=
  ((st_k1_t1 (F := F) 𝒱 c bd arg0 harg0 arg1 harg1 arg2 harg2 arg3 harg3 arg4 harg4 arg5 harg5 arg6 harg6 v0 v4 v6 v8 v10 v12 v16 v46 v76 f4 f5 f6 init k).1,
   arg4.view.read (Elt F) (arg4.view.writes (Elt F) f4 (st_k1_t1 (F := F) 𝒱 c bd arg0 harg0 arg1 harg1 arg2 harg2 arg3 harg3 arg4 harg4 arg5 harg5 arg6 harg6 v0 v4 v6 v8 v10 v12 v16 v46 v76 f4 f5 f6 init k).2.1),
   arg5.view.read (Elt F) (arg5.view.writes (Elt F) f5 (st_k1_t1 (F := F) 𝒱 c bd arg0 harg0 arg1 harg1 arg2 harg2 arg3 harg3 arg4 harg4 arg5 harg5 arg6 harg6 v0 v4 v6 v8 v10 v12 v16 v46 v76 f4 f5 f6 init k).2.2.1),
   arg6.view.read (Elt F) (arg6.view.writes (Elt F) f6 (st_k1_t1 (F := F) 𝒱 c bd arg0 harg0 arg1 harg1 arg2 harg2 arg3 harg3 arg4 harg4 arg5 harg5 arg6 harg6 v0 v4 v6 v8 v10 v12 v16 v46 v76 f4 f5 f6 init k).2.2.2))

/-- The state before the next trip is one trip of the state. -/
theorem rst_succ (k : ℕ) (hk : k < 30) : rst 𝒱 c bd arg0 harg0 arg1 harg1 arg2 harg2 arg3 harg3 arg4 harg4 arg5 harg5 arg6 harg6 v0 v4 v6 v8 v10 v12 v16 v46 v76 f4 f5 f6 init (k + 1) = tstep v0 v4 v6 v8 v10 v12 v16 v46 v76 (rst 𝒱 c bd arg0 harg0 arg1 harg1 arg2 harg2 arg3 harg3 arg4 harg4 arg5 harg5 arg6 harg6 v0 v4 v6 v8 v10 v12 v16 v46 v76 f4 f5 f6 init k) := by
  have hk' : k < k1_t1_loop.trips := by
    have : k1_t1_loop.trips = 30 := by decide
    omega
  have e := st_k1_t1_succ (F := F) 𝒱 c bd arg0 harg0 arg1 harg1 arg2 harg2 arg3 harg3 arg4 harg4 arg5 harg5 arg6 harg6 v0 v4 v6 v8 v10 v12 v16 v46 v76 f4 f5 f6 init ⟨k, hk'⟩
  rw [tripR_eq, tripL_eq] at e
  unfold rst
  refine (congrArg (fun z => ((z.1, arg4.view.read (Elt F) (arg4.view.writes (Elt F) f4 z.2.1), arg5.view.read (Elt F) (arg5.view.writes (Elt F) f5 z.2.2.1), arg6.view.read (Elt F) (arg6.view.writes (Elt F) f6 z.2.2.2)) : St F)) e).trans ?_
  refine congrArg₂ Prod.mk rfl (congrArg₂ Prod.mk ?_ (congrArg₂ Prod.mk ?_ ?_))
  · exact read_writes_whole3 arg4 _ f4 _ _
  · exact read_writes_whole3 arg5 _ f5 _ _
  · exact read_writes_whole3 arg6 _ f6 _ _

/-- The state before a trip is the trips before it, iterated. -/
theorem rst_eq : ∀ k : ℕ, k ≤ 30 → rst 𝒱 c bd arg0 harg0 arg1 harg1 arg2 harg2 arg3 harg3 arg4 harg4 arg5 harg5 arg6 harg6 v0 v4 v6 v8 v10 v12 v16 v46 v76 f4 f5 f6 init k = (tstep v0 v4 v6 v8 v10 v12 v16 v46 v76)^[k] (init, arg4.view.read (Elt F) f4, arg5.view.read (Elt F) f5, arg6.view.read (Elt F) f6)
  | 0, _ => rfl
  | k + 1, h => by rw [rst_succ _ _ _ _ _ _ _ _ _ _ _ _ _ _ _ _ _ _ _ _ _ _ _ _ _ _ _ _ _ _ k (by omega), rst_eq k (by omega), Function.iterate_succ_apply']

end

end Cert.KernelIdeal.Mine

end
-- ==== Proof.KRun1.lean ====
/-
  The second region's result: thirty trips from the state its head leaves.
-/
module

public import proofs.«01_k».proof.Proof.KLoop
import Idealize.ShloMosaic.Lib.Pipeline.ValueKit

@[expose] public section

set_option maxRecDepth 16384

noncomputable section

namespace Cert.KernelIdeal.Mine

open Cert.KernelIdeal Cert.KernelIdeal.Gen Cert.Mine
open Idealize.ShloMosaic Idealize.ShloMosaic.TcCoe

variable {F : FTy → Type} [FloatOps F]

/-- The upsampling matrix. -/
def mE : FVec F S256x32 .f32 := k1_pay24 (iota .tc S256x32 32 [1] iota_S256x32_d1_w32) k1_pay21 k1_pay22 k1_pay23
/-- The downsampling matrix. -/
def mET : FVec F S32x256 .f32 := k1_pay25
/-- The initial solution. -/
def iX (x2 : Vec F S4x32x32 .f32) : Vec F S4x256x256 .f32 := k1_pay32 (k1_pay19 x2) mE mET (k1_pay29 (k1_pay19 x2) mE mET) (k1_pay30 (k1_pay19 x2) mE mET) (k1_pay31 (k1_pay19 x2) mE mET)
/-- The right-hand side. -/
def iB (lam : F .f32) (x2 x3 : Vec F S4x32x32 .f32) : FVec F S4x256x256 .f32 :=
  k1_pay28 lam (k1_pay19 x2) (k1_pay20 x3) mE mET (k1_pay26 lam (k1_pay19 x2) (k1_pay20 x3) (iota .tc S256x32 32 [1] iota_S256x32_d1_w32) k1_pay21 k1_pay22 k1_pay23) (k1_pay27 (k1_pay20 x3))
/-- The initial residual. -/
def iR (lam : F .f32) (x1 : Vec F S4x5x256x256 .f32) (x2 x3 : Vec F S4x32x32 .f32) : FVec F S4x256x256 .f32 :=
  k1_pay37 lam (k1_pay20 x3) mE mET (iB lam x2 x3) (iX x2)
    (k1_pay33 (k1_pay14 x1) (k1_pay15 x1) (k1_pay16 x1) (k1_pay17 x1) (k1_pay18 x1) (k1_pay19 x2) mE mET (k1_pay29 (k1_pay19 x2) mE mET) (k1_pay30 (k1_pay19 x2) mE mET) (k1_pay31 (k1_pay19 x2) mE mET))
    (k1_pay34 lam (k1_pay19 x2) (k1_pay20 x3) mE mET (k1_pay29 (k1_pay19 x2) mE mET) (k1_pay30 (k1_pay19 x2) mE mET) (k1_pay31 (k1_pay19 x2) mE mET))
    (k1_pay35 (k1_pay20 x3))
    (k1_pay36 (k1_pay19 x2) mE mET (k1_pay29 (k1_pay19 x2) mE mET) (k1_pay30 (k1_pay19 x2) mE mET) (k1_pay31 (k1_pay19 x2) mE mET))

/-- The initial residual is the right-hand side less the operator at the initial solution. -/
theorem iR_eq (lam : F .f32) (x1 : Vec F S4x5x256x256 .f32) (x2 x3 : Vec F S4x32x32 .f32) : iR lam x1 x2 x3 = subf (iB lam x2 x3) (tA lam (k1_pay14 x1) (k1_pay15 x1) (k1_pay16 x1) (k1_pay17 x1) (k1_pay18 x1) (k1_pay20 x3) mE mET (iX x2)) := rfl

/-- The second region's result. -/
def oX (lam : F .f32) (x1 : Vec F S4x5x256x256 .f32) (x2 x3 : Vec F S4x32x32 .f32) : Vec F S4x256x256 .f32 :=
  ((tstep lam (k1_pay14 x1) (k1_pay15 x1) (k1_pay16 x1) (k1_pay17 x1) (k1_pay18 x1) (k1_pay20 x3) mE mET)^[30] (k1_pay2 (iR lam x1 x2 x3), iX x2, iR lam x1 x2 x3, iR lam x1 x2 x3)).2.1

/-- The zero offsets of a matrix. -/
theorem hz2 : (![0, 0] : Fin 2 → ℕ) = fun _ => 0 := funext fun a => by fin_cases a <;> rfl
/-- The zero offsets of a batch of channels. -/
theorem hz4 : (![0, 0, 0, 0] : Fin 4 → ℕ) = fun _ => 0 := funext fun a => by fin_cases a <;> rfl

section

variable (c : Dev nD) (arg0 : Memref sig .tc .smem S1x1 .f32) (harg0 : arg0.IsWhole) (arg1 : Memref sig .tc .vmem S4x5x256x256 .f32) (harg1 : arg1.IsWhole) (arg2 : Memref sig .tc .vmem S4x32x32 .f32) (harg2 : arg2.IsWhole) (arg3 : Memref sig .tc .vmem S4x32x32 .f32) (harg3 : arg3.IsWhole) (arg4 : Memref sig .tc .vmem S4x256x256 .f32) (harg4 : arg4.IsWhole) (arg5 : Memref sig .tc .vmem S4x256x256 .f32) (harg5 : arg5.IsWhole) (arg6 : Memref sig .tc .vmem S4x256x256 .f32) (harg6 : arg6.IsWhole)
    (x0 : Vec F S1x1 .f32) (x1 : Vec F S4x5x256x256 .f32) (x2 : Vec F S4x32x32 .f32) (x3 : Vec F S4x32x32 .f32)

/-- The second region's body leaves thirty trips' solution. -/
theorem out1_eq : out1_A_4 c arg0 harg0 arg1 harg1 arg2 harg2 arg3 harg3 arg4 harg4 arg5 harg5 arg6 harg6 x0 x1 x2 x3 = oX (x0 (ix2 0 0)) x1 x2 x3 := by
  unfold out1_A_4
  rw [View.read_writes_eq_canon _ _ _ (cover1_A_4 c arg0 harg0 arg1 harg1 arg2 harg2 arg3 harg3 arg4 harg4 arg5 harg5 arg6 harg6 x0 x1 x2 x3),
    ← View.read_writes_eq_canon arg4.view arg4.view.junk _ (cover1_A_4 c arg0 harg0 arg1 harg1 arg2 harg2 arg3 harg3 arg4 harg4 arg5 harg5 arg6 harg6 x0 x1 x2 x3)]
  unfold kernelRun1_A
  dsimp only
  rw [View.writes_append]
  have ht : Scf.trips (0#32) (Scalar.addi 0#32 30#32) 1#32 = 30 := by decide
  rw [ht]
  refine (congrArg (fun z : St F => z.2.1) (rst_eq (F := F) Variants.none c none arg0 harg0 arg1 harg1 arg2 harg2 arg3 harg3 arg4 harg4 arg5 harg5 arg6 harg6 _ _ _ _ _ _ _ _ _ _ _ _ _ 30 le_rfl)).trans ?_
  sl_unfold_words
  rw [read_writes_whole3, read_writes_whole3, read_writes_whole3]
  simp only [View.readAt_eq_ld, harg0.read_unread, harg1.read_unread, harg2.read_unread, harg3.read_unread, View.ld_unit_zero (S := S4x32x32) hz3, View.ld_unit_zero (S := S4x5x256x256) hz4, View.ld_unit_zero (S := S1x1) hz2]
  have hl : View.ld x0 (Rect.unit ![0, 0] S1x1.size inb_S1x1_S1x1_0_0) (Shape.Idx.first (by decide)) = x0 (ix2 0 0) := by
    rw [View.ld_unit_zero (S := S1x1) hz2]
    exact congrArg x0 (funext fun a => by fin_cases a <;> rfl)
  unfold oX
  refine congrArg (fun z : St F => z.2.1) ?_
  refine congrArg₂ (fun (f : St F → St F) (z : St F) => f^[30] z) ?_ ?_
  · exact congrArg (fun l => tstep l (k1_pay14 x1) (k1_pay15 x1) (k1_pay16 x1) (k1_pay17 x1) (k1_pay18 x1) (k1_pay20 x3) mE mET) hl
  · refine Prod.ext ?_ (Prod.ext ?_ (Prod.ext ?_ ?_))
    · exact congrArg (fun l => k1_pay2 (iR l x1 x2 x3)) hl
    · rfl
    · exact (shapeCast_self _ _).trans (congrArg (fun l => iR l x1 x2 x3) hl)
    · exact (shapeCast_self _ _).trans (congrArg (fun l => iR l x1 x2 x3) hl)

end

end Cert.KernelIdeal.Mine

end
-- ==== Proof.KCg.lean ====
/-
  The second region's payloads at a point, in the extended reals.
-/
module

public import proofs.«01_k».proof.Proof.KRun1
public import proofs.«01_k».proof.Proof.CgMath
import Idealize.ShloMosaic.Lib.KernelVsHost

@[expose] public section

set_option maxRecDepth 16384

noncomputable section

namespace Cert.KernelIdeal.Mine

open Cert.KernelIdeal Cert.KernelIdeal.Gen Cert.Mine
open Idealize.ShloMosaic Idealize.ShloMosaic.TcCoe Idealize.ShloMosaic.Pointwise

/-- The quotient by eight, as the kernel's words compute it. -/
theorem floor_word : ∀ h : Fin 256, (Scalar.select
          (IntOp.andi
            (IntOp.cmpi CmpIPredicate.ne
              (IntOp.subi (BitVec.setWidth 32 (IntOp.cmpi CmpIPredicate.sgt (BitVec.ofNat 32 (h : ℕ)) 0#32))
                (BitVec.setWidth 32 (IntOp.cmpi CmpIPredicate.slt (BitVec.ofNat 32 (h : ℕ)) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 (h : ℕ)) 8#32) 0#32))
          (IntOp.subi (IntOp.divsi ArithUnit.vector (BitVec.ofNat 32 (h : ℕ)) 8#32) 1#32)
          (IntOp.divsi ArithUnit.vector (BitVec.ofNat 32 (h : ℕ)) 8#32)) = BitVec.ofNat 32 (low h : ℕ) := by
  decide +kernel

/-- The kernel's weight one eighth. -/
theorem ofBits_e8 : Ideal.ofBits .f32 1040187392#32 = e8 := by
  unfold e8
  simp [Ideal.ofBits, Ideal.ieee, -EReal.coe_mul, -EReal.coe_neg]
  norm_num

/-- The kernel's word sixty-four. -/
theorem ofBits_64 : Ideal.ofBits .f32 0x42800000#32 = ((64 : ℝ) : EReal) := by
  simp [Ideal.ofBits, Ideal.ieee, -EReal.coe_mul, -EReal.coe_neg]
  norm_num

/-- A choice on the equality of two coarse rows' words. -/
theorem sel_eq (a b : Fin 32) (x y : EReal) : Scalar.select (IntOp.cmpi .eq (BitVec.ofNat 32 (a : ℕ)) (BitVec.ofNat 32 (b : ℕ))) x y = if a = b then x else y := by
  have hb : ∀ a b : Fin 32, IntOp.cmpi .eq (BitVec.ofNat 32 (a : ℕ)) (BitVec.ofNat 32 (b : ℕ)) = if a = b then 1#1 else 0#1 := by decide +kernel
  rw [hb]
  by_cases e : a = b
  · rw [if_pos e, if_pos e]; rfl
  · rw [if_neg e, if_neg e]; rfl

/-- The upsampling matrix's entries. -/
theorem mE_at (h : Fin 256) (j : Fin 32) : mE (F := Ideal) (ix2 h j) = eW h j := by
  have e := floor_word h
  pointwise [mE, k1_pay24, k1_pay21, k1_pay22, k1_pay23]
  rw [e, sel_eq, ofBits_e8]
  rfl

/-- The downsampling matrix's entries. -/
theorem mET_at (h : Fin 256) (j : Fin 32) : mET (F := Ideal) (ix2 j h) = eW h j := by
  have e := floor_word h
  pointwise [mET, k1_pay25]
  rw [e, sel_eq, ofBits_e8]
  rfl

/-- A kernel array as a field. -/
def fld (X : FVec Ideal S4x256x256 .f32) : Fld := fun n h w => X (ix3 n h w)
/-- A coarse kernel array as a coarse field. -/
def lowF (X : FVec Ideal S4x32x32 .f32) : Low := fun n h w => X (ix3 n h w)

/-- The sum over the reshaped array is the field's. -/
theorem sum_arr (R : FVec Ideal S4x256x256 .f32) : Ideal.reduceAdd reduces_S1x4x256x256_S1 (shapeCast S1x4x256x256 R shapeCasts_S4x256x256_S1x4x256x256) (ix1 0) = tot (fld R) := by
  rw [Ideal.reduceAdd_total _ (by decide)]
  rw [sum_idx4]
  rw [Fin.sum_univ_one]
  unfold tot
  refine Finset.sum_congr rfl fun n _ => Finset.sum_congr rfl fun a _ => Finset.sum_congr rfl fun b _ => ?_
  pointwise []
  try rfl

/-- The squared residual. -/
theorem pay2_at (R : FVec Ideal S4x256x256 .f32) : k1_pay2 (F := Ideal) R = tot fun n h w => fld R n h w * fld R n h w := by
  pointwise [k1_pay2]
  exact sum_arr _

section

variable (v0 : EReal) (v4 v6 v8 v10 v12 : FVec Ideal S4x256x256 .f32) (v16 : FVec Ideal S4x32x32 .f32)

/-- The system a trip's arrays describe. -/
def kCoef : Coef := ⟨v0, fld v4, fld v6, fld v8, fld v10, fld v12, lowF v16⟩

/-- The Laplacian part at a point. -/
theorem pay7_at (P : FVec Ideal S4x256x256 .f32) (n : Fin 4) (h w : Fin 256) : k1_pay7 (F := Ideal) v4 v6 v8 v10 v12 P (ix3 n h w) = lap (kCoef v0 v4 v6 v8 v10 v12 v16) (fld P) n h w := by
  pointwise [k1_pay7]
  rfl

/-- The block averages, weighted and spread. -/
theorem gate_eq (M : Fin 32 → Fin 32 → EReal) (P : Fin 256 → Fin 256 → EReal) (h w : Fin 256) :
    (∑ j, eW h j * ∑ k, (M j k * ∑ a, eW a j * ∑ b, P a b * eW b k) * eW w k) = (M (low h) (low w) * (blk P (low h) (low w) * e64)) * e64 := by
  simp only [down_eq]
  exact up_eq (fun j k => M j k * (blk P j k * e64)) h w

/-- The ladder over the four images picks one. -/
theorem pick4 (n : Fin 4) (f : Fin 4 → EReal) :
    (if h_1 : (n : ℕ) < 1 then f 0 else if h_2 : (n : ℕ) - 1 < 1 then f 1 else if h_3 : (n : ℕ) - 1 - 1 < 1 then f 2 else f 3) = f n := by
  fin_cases n <;> rfl

/-- The operator at a point. -/
theorem tA_at (P : FVec Ideal S4x256x256 .f32) (n : Fin 4) (h w : Fin 256) : tA (F := Ideal) v0 v4 v6 v8 v10 v12 v16 mE mET P (ix3 n h w) = opA (kCoef v0 v4 v6 v8 v10 v12 v16) (fld P) n h w := by
  have e := pay7_at v0 v4 v6 v8 v10 v12 v16 P n h w
  unfold opA
  rw [← e]
  have g := fun m => gate_eq (fun j k => v16 (ix3 m j k)) (fun a b => P (ix3 m a b)) h w
  unfold tA
  generalize k1_pay7 (F := Ideal) v4 v6 v8 v10 v12 P = Q
  pointwise [k1_pay10, k1_pay8, k1_pay9, mE_at, mET_at]
  exact congrArg (Q (ix3 n h w) + ·) ((pick4 n fun m => v0 * ∑ j, eW h j * ∑ k, (v16 (ix3 m j k) * ∑ a, eW a j * ∑ b, P (ix3 m a b) * eW b k) * eW w k).trans (congrArg (v0 * ·) (g n)))

/-- The operator, as fields. -/
theorem fld_tA (P : FVec Ideal S4x256x256 .f32) : fld (tA (F := Ideal) v0 v4 v6 v8 v10 v12 v16 mE mET P) = opA (kCoef v0 v4 v6 v8 v10 v12 v16) (fld P) :=
  funext fun n => funext fun h => funext fun w => tA_at v0 v4 v6 v8 v10 v12 v16 P n h w

/-- The initial solution at a point. -/
theorem iX_at (x2 : FVec Ideal S4x32x32 .f32) (n : Fin 4) (h w : Fin 256) : iX (F := Ideal) x2 (ix3 n h w) = ini (lowF x2) n h w := by
  have g := fun m => up_eq (fun j k => x2 (ix3 m j k)) h w
  unfold iX
  pointwise [k1_pay32, k1_pay29, k1_pay30, k1_pay31, k1_pay19, mE_at, mET_at]
  rw [ofBits_64]
  exact (pick4 n fun m => ((64 : ℝ) : EReal) * ∑ j, eW h j * ∑ k, x2 (ix3 m j k) * eW w k).trans ((congrArg (((64 : ℝ) : EReal) * ·) (g n)).trans (mul_64_e64 _))

/-- The right-hand side at a point. -/
theorem iB_at (x2 x3 : FVec Ideal S4x32x32 .f32) (n : Fin 4) (h w : Fin 256) : iB (F := Ideal) v0 x2 x3 (ix3 n h w) = rhs (kCoef v0 v4 v6 v8 v10 v12 x3) (lowF x2) n h w := by
  have g := fun m => up_eq (fun j k => x3 (ix3 m j k) * x2 (ix3 m j k)) h w
  have e1 := mE_at
  unfold iB
  have e2 : k1_pay26 (F := Ideal) v0 (k1_pay19 x2) (k1_pay20 x3) (iota .tc S256x32 32 [1] iota_S256x32_d1_w32) k1_pay21 k1_pay22 k1_pay23
      = (mulf (broadcast S256x256 v0) (matmul dot_S256x32_S32x256_S256x256_1_0_0_1_n_n (some .fp32) mE (matmul dot_S32x32_S32x256_S32x256_1_0_0_1_n_n (some .fp32) (mulf (shapeCast S32x32 (extractStridedSlice S1x32x32 ![0, 0, 0] x3 slices_S4x32x32_o0_0_0_S1x32x32) shapeCasts_S1x32x32_S32x32) (shapeCast S32x32 (extractStridedSlice S1x32x32 ![0, 0, 0] x2 slices_S4x32x32_o0_0_0_S1x32x32) shapeCasts_S1x32x32_S32x32)) mET (constant S32x256 .f32 0x00000000#32)) (constant S256x256 .f32 0x00000000#32)) : FVec Ideal S256x256 .f32) := by
    unfold k1_pay26 k1_pay19 k1_pay20
    rw [shapeCast_self, shapeCast_self]
    rfl
  rw [e2]
  pointwise [k1_pay28, k1_pay27, k1_pay19, k1_pay20, mE_at, mET_at]
  exact (pick4 n fun m => v0 * ∑ j, eW h j * ∑ k, (x3 (ix3 m j k) * x2 (ix3 m j k)) * eW w k).trans (congrArg (v0 * ·) (g n))

end

section

variable (v0 : EReal) (v4 v6 v8 v10 v12 : FVec Ideal S4x256x256 .f32) (v16 : FVec Ideal S4x32x32 .f32)

/-- A trip's state as the iteration's. -/
def stF (s : St Ideal) : Cgs := (s.1, fld s.2.1, fld s.2.2.1, fld s.2.2.2)

/-- The step length. -/
theorem tAl_at (s : St Ideal) : tAl (F := Ideal) v0 v4 v6 v8 v10 v12 v16 mE mET s.1 s.2.2.2 = alpha (kCoef v0 v4 v6 v8 v10 v12 v16) (stF s) := by
  obtain ⟨rs, X, R, P⟩ := s
  have e := fld_tA v0 v4 v6 v8 v10 v12 v16 P
  have h1 : tAl (F := Ideal) v0 v4 v6 v8 v10 v12 v16 mE mET rs P = Ideal.div rs (Ideal.reduceAdd reduces_S1x4x256x256_S1 (shapeCast S1x4x256x256 (mulf P (tA v0 v4 v6 v8 v10 v12 v16 mE mET P)) shapeCasts_S4x256x256_S1x4x256x256) (ix1 0) + eps) := by
    unfold tAl tA eps
    generalize k1_pay7 (F := Ideal) v4 v6 v8 v10 v12 P = a
    generalize k1_pay8 (F := Ideal) v0 v16 mE mET P = b
    generalize k1_pay9 (F := Ideal) v0 v16 mE mET P = d
    unfold k1_pay11
    generalize k1_pay10 (F := Ideal) v0 v16 mE mET P a b d = q
    pointwise []
    try rfl
  show tAl (F := Ideal) v0 v4 v6 v8 v10 v12 v16 mE mET rs P = _
  rw [h1, sum_arr]
  unfold alpha
  show _ = Ideal.div rs (tot (fun n h w => fld P n h w * opA _ (fld P) n h w) + eps)
  rw [← e]
  rfl

/-- The next residual at a point. -/
theorem pay3_at (A : FVec Ideal S4x256x256 .f32) (al : EReal) (R : FVec Ideal S4x256x256 .f32) (n : Fin 4) (h w : Fin 256) : k1_pay3 (F := Ideal) A al R (ix3 n h w) = R (ix3 n h w) - al * A (ix3 n h w) := by
  pointwise [k1_pay3]
  try rfl

/-- The next squared residual. -/
theorem q5_at (A : FVec Ideal S4x256x256 .f32) (al : EReal) (R : FVec Ideal S4x256x256 .f32) : k1_pay5 (F := Ideal) A al R = tot fun n h w => k1_pay3 (F := Ideal) A al R (ix3 n h w) * k1_pay3 (F := Ideal) A al R (ix3 n h w) := by
  unfold k1_pay5
  generalize k1_pay3 (F := Ideal) A al R = q
  pointwise []
  exact sum_arr _

/-- A trip is one iteration. -/
theorem stF_tstep (s : St Ideal) : stF (tstep v0 v4 v6 v8 v10 v12 v16 mE mET s) = cgStep (kCoef v0 v4 v6 v8 v10 v12 v16) (stF s) := by
  have ea := tAl_at v0 v4 v6 v8 v10 v12 v16 s
  have eA := fld_tA v0 v4 v6 v8 v10 v12 v16 s.2.2.2
  have er : fld (k1_pay3 (F := Ideal) (tA v0 v4 v6 v8 v10 v12 v16 mE mET s.2.2.2) (tAl v0 v4 v6 v8 v10 v12 v16 mE mET s.1 s.2.2.2) s.2.2.1) = nextR (kCoef v0 v4 v6 v8 v10 v12 v16) (stF s) := by
    funext n h w
    refine (pay3_at _ _ _ n h w).trans ?_
    unfold nextR
    rw [ea]
    exact congrArg (fun z => s.2.2.1 (ix3 n h w) - alpha _ (stF s) * z) (congrFun (congrFun (congrFun eA n) h) w)
  have es : tS (F := Ideal) v0 v4 v6 v8 v10 v12 v16 mE mET s.1 s.2.2.1 s.2.2.2 = nextS (kCoef v0 v4 v6 v8 v10 v12 v16) (stF s) := by
    unfold tS nextS
    rw [q5_at, ← er]
    rfl
  refine Prod.ext es (Prod.ext ?_ (Prod.ext ?_ ?_))
  · funext n h w
    show tX (F := Ideal) v0 v4 v6 v8 v10 v12 v16 mE mET s.1 s.2.1 s.2.2.2 (ix3 n h w) = s.2.1 (ix3 n h w) + alpha _ (stF s) * s.2.2.2 (ix3 n h w)
    rw [← ea]
    unfold tX k1_pay12 tAl
    rw [shapeCast_self]
    rfl
  · refine Eq.trans ?_ er
    show fld (tR (F := Ideal) v0 v4 v6 v8 v10 v12 v16 mE mET s.1 s.2.2.1 s.2.2.2) = _
    unfold tR k1_pay4
    rw [shapeCast_self]
  · funext n h w
    show tP (F := Ideal) v0 v4 v6 v8 v10 v12 v16 mE mET s.1 s.2.2.1 s.2.2.2 (ix3 n h w) = nextR _ (stF s) n h w + Ideal.div (nextS _ (stF s)) (s.1 + eps) * s.2.2.2 (ix3 n h w)
    rw [← er, ← es]
    unfold tP k1_pay6
    rw [shapeCast_self]
    rfl

end

section

variable (lam : EReal) (x1 : FVec Ideal S4x5x256x256 .f32) (x2 x3 : FVec Ideal S4x32x32 .f32)

/-- The system of the region's blocks. -/
def kSys : Coef := kCoef lam (k1_pay14 (F := Ideal) x1) (k1_pay15 (F := Ideal) x1) (k1_pay16 (F := Ideal) x1) (k1_pay17 (F := Ideal) x1) (k1_pay18 (F := Ideal) x1) (k1_pay20 (F := Ideal) x3)

/-- The initial residual, as fields. -/
theorem fld_iR : fld (iR (F := Ideal) lam x1 x2 x3) = res (kSys lam x1 x3) (lowF x2) := by
  rw [iR_eq]
  funext n h w
  have e1 := iB_at lam (k1_pay14 (F := Ideal) x1) (k1_pay15 (F := Ideal) x1) (k1_pay16 (F := Ideal) x1) (k1_pay17 (F := Ideal) x1) (k1_pay18 (F := Ideal) x1) x2 x3 n h w
  have e2 := tA_at lam (k1_pay14 (F := Ideal) x1) (k1_pay15 (F := Ideal) x1) (k1_pay16 (F := Ideal) x1) (k1_pay17 (F := Ideal) x1) (k1_pay18 (F := Ideal) x1) (k1_pay20 (F := Ideal) x3) (iX (F := Ideal) x2) n h w
  have e3 : fld (iX (F := Ideal) x2) = ini (lowF x2) := funext fun n => funext fun h => funext fun w => iX_at x2 n h w
  have e4 : k1_pay20 (F := Ideal) x3 = x3 := shapeCast_self _ _
  rw [e3] at e2
  unfold res kSys
  refine congrArg₂ (fun a b : EReal => a - b) (e1.trans ?_) e2
  rw [e4]

/-- The second region's result is the thirty iterations' solution. -/
theorem oX_at (n : Fin 4) (h w : Fin 256) : oX (F := Ideal) lam x1 x2 x3 (ix3 n h w) = cgSol (kSys lam x1 x3) (lowF x2) n h w := by
  have e0 : stF (k1_pay2 (F := Ideal) (iR (F := Ideal) lam x1 x2 x3), iX (F := Ideal) x2, iR (F := Ideal) lam x1 x2 x3, iR (F := Ideal) lam x1 x2 x3) = cgInit (kSys lam x1 x3) (lowF x2) := by
    have er := fld_iR lam x1 x2 x3
    refine Prod.ext ?_ (Prod.ext ?_ (Prod.ext er er))
    · exact (pay2_at _).trans (by rw [er]; rfl)
    · exact funext fun n => funext fun h => funext fun w => iX_at x2 n h w
  have hs : ∀ s, stF (tstep lam (k1_pay14 (F := Ideal) x1) (k1_pay15 (F := Ideal) x1) (k1_pay16 (F := Ideal) x1) (k1_pay17 (F := Ideal) x1) (k1_pay18 (F := Ideal) x1) (k1_pay20 (F := Ideal) x3) mE mET s) = cgStep (kSys lam x1 x3) (stF s) :=
    fun s => stF_tstep _ _ _ _ _ _ _ s
  have hi := (Function.Semiconj.iterate_right (f := stF) hs 30) (k1_pay2 (iR (F := Ideal) lam x1 x2 x3), iX (F := Ideal) x2, iR (F := Ideal) lam x1 x2 x3, iR (F := Ideal) lam x1 x2 x3)
  rw [e0] at hi
  unfold oX cgSol
  exact congrFun (congrFun (congrFun (congrArg (fun z : Cgs => z.2.1) hi) n) h) w

end

end Cert.KernelIdeal.Mine

end
-- ==== Proof.K0Arr.lean ====
/-
  The first region's two result arrays, index by index.
-/
module

public import proofs.«01_k».proof.Proof.KPre
import Idealize.ShloMosaic.Lib.Pipeline.ValueKit

@[expose] public section

set_option maxRecDepth 16384

noncomputable section

namespace Cert.KernelIdeal.Mine

open Cert.KernelIdeal Cert.KernelIdeal.Gen Cert.Mine
open Idealize.ShloMosaic Idealize.ShloMosaic.TcCoe

/-- The windows' block indices at every point. -/
theorem idx0 : ∀ t : Fin cfg0.N, win0_0.index t = ![0, 0] ∧ win0_1.index t = ![(grid0.coords t 0).val, 0, 0] ∧ win0_2.index t = ![0, 0, 0] ∧ win0_3.index t = ![0, 0]
    ∧ win0_4.index t = ![0, 0, 0] ∧ win0_5.index t = ![0, 0] ∧ win0_6.index t = ![0, 0, 0] ∧ win0_7.index t = ![0, 0]
    ∧ win0_8.index t = ![(grid0.coords t 0).val, 0, (grid0.coords t 1).val] ∧ win0_9.index t = ![(grid0.coords t 0).val, 0, (grid0.coords t 1).val] :=
  (by decide +kernel : ∀ t : Fin grid0.N, _)

variable (m : (ℓ : Loc nD τ sig) → Buf (Elt Ideal) ℓ) (ρ : Dev nD → PrngReg) (c : Dev nD)

/-- The width's block is its array. -/
theorem blk0 (t : Fin cfg0.N) : (iblk0 (V5 m ρ) c 0 t : FVec Ideal S1x1 .f32) = Kmu m ρ c := by
  show _ = (V5 m ρ c main_v17 : FVec Ideal S1x1 .f32)
  blk_ext! [iblk0, idx0 t]
/-- The joint first layer's weights' block is their array. -/
theorem blk2 (t : Fin cfg0.N) : (iblk0 (V5 m ρ) c 2 t : FVec Ideal S3x40x12 .f32) = Kw1 m ρ c := by
  show _ = (V5 m ρ c main_v6 : FVec Ideal S3x40x12 .f32)
  blk_ext! [iblk0, idx0 t]
/-- The joint first layer's bias' block is its array. -/
theorem blk3 (t : Fin cfg0.N) : (iblk0 (V5 m ρ) c 3 t : FVec Ideal S40x1 .f32) = Kb1 m ρ c := by
  show _ = (V5 m ρ c main_v9 : FVec Ideal S40x1 .f32)
  blk_ext! [iblk0, idx0 t]
/-- The second layer's weights' block is their array. -/
theorem blk4 (t : Fin cfg0.N) : (iblk0 (V5 m ρ) c 4 t : FVec Ideal S3x32x96 .f32) = Kw2 m ρ c := by
  show _ = (V5 m ρ c main_v11 : FVec Ideal S3x32x96 .f32)
  blk_ext! [iblk0, idx0 t]
/-- The second layer's bias' block is its array. -/
theorem blk5 (t : Fin cfg0.N) : (iblk0 (V5 m ρ) c 5 t : FVec Ideal S32x1 .f32) = Kb2 m ρ c := by
  show _ = (V5 m ρ c main_v14 : FVec Ideal S32x1 .f32)
  blk_ext! [iblk0, idx0 t]
/-- The third layer's weights' block is their array. -/
theorem blk6 (t : Fin cfg0.N) : (iblk0 (V5 m ρ) c 6 t : FVec Ideal S3x32x96 .f32) = Kw3 m ρ c := by
  show _ = (V5 m ρ c main_v13 : FVec Ideal S3x32x96 .f32)
  blk_ext! [iblk0, idx0 t]
/-- The third layer's bias' block is its array. -/
theorem blk7 (t : Fin cfg0.N) : (iblk0 (V5 m ρ) c 7 t : FVec Ideal S32x1 .f32) = Kb3 m ρ c := by
  show _ = (V5 m ρ c main_v15 : FVec Ideal S32x1 .f32)
  blk_ext! [iblk0, idx0 t]

/-- A point's batch. -/
def cn (t : Fin cfg0.N) : Fin 4 := grid0.coords t 0
/-- A point's strip. -/
def cs (t : Fin cfg0.N) : Fin 4 := grid0.coords t 1

/-- The image's block is a batch of its array. -/
theorem blk1 (t : Fin cfg0.N) (z : Fin 1) (a : Fin 4) (q : Fin 67584) : (iblk0 (V5 m ρ) c 1 t : FVec Ideal S1x4x67584 .f32) (ix3 z a q) = Kimg m ρ c (ix3 (cn t) a q) := by
  show _ = (V5 m ρ c main_v2 : FVec Ideal S4x4x67584 .f32) (ix3 (cn t) a q)
  blk_ext [iblk0, idx0 t, cn]

/-- The strip's window is the image, from four rows above the strip. -/
theorem agrees0 (t : Fin cfg0.N) : Agrees (at2 (k0_pay3 (F := Ideal) (Bwin (F := Ideal) (grid0.coords t) (iblk0 (V5 m ρ) c 1 t)))) (img (A0 m c) (A3 m c) (cn t)) (64 * (cs t : ℕ) - 4 : ℤ) 0 71 := by
  intro a q h1 h2
  have hq : q < 18432 := by omega
  have hs := (cs t).isLt
  have e : ∀ (v : FVec Ideal S1x4x18432 .f32), at2 (k0_pay3 (F := Ideal) v) a q = v (ix3 0 a ⟨q, hq⟩) := by
    intro v
    have := at2_fin (k0_pay3 (F := Ideal) v) a ⟨q, hq⟩
    refine Eq.trans this ?_
    pointwise [k0_pay3]
  rw [e]
  have hb : 16384 * (grid0.coords t 1).val + q < 67584 := by
    have : (grid0.coords t 1).val = (cs t : ℕ) := rfl
    omega
  refine (Bwin_at _ _ 0 a ⟨q, hq⟩ hb).trans ((blk1 m ρ c t _ _ _).trans ((Kimg_at m ρ c _ _ _).trans ?_))
  show ext _ _ ((((16384 * (cs t : ℕ) + q) / 256 : ℕ) : ℤ) - 4) (((16384 * (cs t : ℕ) + q) % 256 : ℕ) : ℤ) = _
  congr 1 <;> omega

/-- The lateral result over the arguments. -/
def G8 : FVec Ideal S4x1x65536 .f32 := fun j => conv (ker (A4 m c)) (bia (A5 m c)) (img (A0 m c) (A3 m c) (j 0)) 0 (((j 2).val / 256 : ℕ) : ℤ) (((j 2).val % 256 : ℕ) : ℤ)

/-- The affinity result over the arguments. -/
def featK (n : Fin 4) : Img 32 :=
  feat (img (A0 m c) (A3 m c) n) (ker (A6 m c)) (bia (A7 m c)) (ker (A8 m c)) (bia (A9 m c)) (ker (A10 m c)) (bia (A11 m c))

/-- The affinity's width over the arguments. -/
def muK : EReal := Ideal.exp (A13 m c (ix1 0))

/-- A flat pixel's row. -/
def prow (j : Fin 65536) : Fin 256 := ⟨j / 256, by omega⟩
/-- A flat pixel's column. -/
def pcol (j : Fin 65536) : Fin 256 := ⟨j % 256, by omega⟩

/-- The affinity result over the arguments. -/
def G9 : FVec Ideal S4x5x65536 .f32 := fun j => affCh (muK m c) (featK m c (j 0)) (j 1) (prow (j 2)) (pcol (j 2))

/-- The convolution depends on its one channel's weights and bias. -/
theorem conv_congr {C O O' : ℕ} (k : Fin O → Fin C → Fin 3 → Fin 3 → EReal) (k' : Fin O' → Fin C → Fin 3 → Fin 3 → EReal) (b : Fin O → EReal) (b' : Fin O' → EReal) (x : Img C)
    (o : Fin O) (o' : Fin O') (hk : k o = k' o') (hb : b o = b' o') (h w : ℤ) : conv k b x o h w = conv k' b' x o' h w := by
  unfold conv tap
  rw [hk, hb]

/-- What a point leaves of the lateral result. -/
theorem point8 (t : Fin cfg0.N) (z u : Fin 1) (p : Fin 16384) (j : Shape.Idx S4x1x65536) (h0 : j 0 = cn t) (h2 : (j 2).val = 16384 * (cs t : ℕ) + p) :
    ((outsAt0 (V5 m ρ) c t).1 : FVec Ideal S1x1x16384 .f32) (ix3 z u p) = G8 m c j := by
  rw [out8_eq]
  have hp := p.isLt
  have hs := (cs t).isLt
  have e : ∀ (v : FVec Ideal S40x18432 .f32), shapeCast S1x1x16384 (extractStridedSlice S1x16384 ![0, 1024] v slices_S40x18432_o0_1024_S1x16384) shapeCasts_S1x16384_S1x1x16384 (ix3 z u p) = v (ix2 0 ⟨1024 + p, by omega⟩) := by
    intro v
    pointwise []
  refine (e _).trans ((By1_at _ _ _ _ _ (by show 256 ≤ 1024 + (p : ℕ); omega) (by show 1024 + (p : ℕ) < 18176; omega)).trans ?_)
  refine (wconv_eq _ _ _ _ _ 0 71 (agrees0 m ρ c t) _ _ (by show 0 + 1 ≤ (1024 + (p : ℕ)) / 256; omega) (by show (1024 + (p : ℕ)) / 256 + 1 ≤ 71; omega)).trans ?_
  unfold G8
  rw [h0, h2]
  refine (conv_congr _ (ker (A4 m c)) _ (bia (A5 m c)) _ _ 0 ?_ ?_ _ _).trans ?_
  · rw [blk2]; exact Kw1_0 m ρ c
  · rw [blk3]; exact Kb1_0 m ρ c
  · show conv _ _ _ _ (64 * (cs t : ℕ) - 4 + ((1024 + (p : ℕ)) / 256 : ℕ) : ℤ) (((1024 + (p : ℕ)) % 256 : ℕ) : ℤ) = _
    congr 1 <;> omega

/-- What a point leaves of the affinity result. -/
theorem point9 (hmu : muK m c ≠ 0) (t : Fin cfg0.N) (z : Fin 1) (u : Fin 5) (p : Fin 16384) (j : Shape.Idx S4x5x65536) (h0 : j 0 = cn t) (h1 : j 1 = u) (h2 : (j 2).val = 16384 * (cs t : ℕ) + p) :
    ((outsAt0 (V5 m ρ) c t).2 : FVec Ideal S1x5x16384 .f32) (ix3 z u p) = G9 m c j := by
  rw [out9_eq]
  unfold G9
  rw [h0, h1]
  have hmu' : Bmu (F := Ideal) (iblk0 (V5 m ρ) c 0 t) = muK m c := by
    rw [Bmu_eq, blk0, Kmu_at]; rfl
  rw [hmu']
  refine Baff_at (cs t) (muK m c) hmu _ _ _ _ _ (featK m c (cn t)) (fun o q q1 q2 hq => ?_) z u p _ _ (by
    show 256 * ((j 2).val / 256) + (j 2).val % 256 = _; omega)
  refine (feats (cs t) _ _ _ _ _ _ _ _ (agrees0 m ρ c t) o q q1 q2 hq).trans ?_
  rw [blk2, blk3, blk4, blk5, blk6, blk7, Kw2_at, Kw3_at, Kb2_at, Kb3_at, Kw1_1, Kb1_1]
  rfl

/-- The lateral result array. -/
theorem final8 : (dat0 (V5 m ρ) c).arrAt 8 cfg0.N = G8 m c := by
  refine (dat0 (V5 m ρ) c).arrAt_eq_of_covers 8 _ (by decide +kernel) fun t hf y => ?_
  blk_simp
  rw [after0_8]
  idx_vars y
  refine point8 m ρ c t _ _ _ _ (Fin.ext ?_) ?_
  · blk_simp [idx0 t, cn]
  · blk_simp [idx0 t, cs]
    exact congrArg (· + _) (Nat.mul_comm _ _)

/-- The affinity result array. -/
theorem final9 (hmu : muK m c ≠ 0) : (dat0 (V5 m ρ) c).arrAt 9 cfg0.N = G9 m c := by
  refine (dat0 (V5 m ρ) c).arrAt_eq_of_covers 9 _ (by decide +kernel) fun t hf y => ?_
  blk_simp
  rw [after0_9]
  idx_vars y
  refine point9 m ρ c hmu t _ _ _ _ (Fin.ext ?_) (Fin.ext ?_) ?_
  · blk_simp [idx0 t, cn]
  · blk_simp [idx0 t, cs]
  · blk_simp [idx0 t, cs]
    exact congrArg (· + _) (Nat.mul_comm _ _)

/-- The lateral result between the two regions. -/
theorem W7_v21 : W7 m ρ c (Proc.devRef .tc main_v21) = shapeCast S4x1x256x256 (G8 m c) shapeCasts_S4x1x65536_S4x1x256x256 := by
  have e1 : W7 m ρ c (Proc.devRef .tc main_v21) = _ := k_v21 (W6 m ρ c)
  have e2 : W6 m ρ c (Proc.devRef .tc main_v20_0) = _ := W6_arr m ρ c 8
  rw [e1, e2, final8]

/-- The affinity result between the two regions. -/
theorem W7_v22 (hmu : muK m c ≠ 0) : W7 m ρ c (Proc.devRef .tc main_v22) = shapeCast S4x5x256x256 (G9 m c) shapeCasts_S4x5x65536_S4x5x256x256 := by
  have e1 : W7 m ρ c (Proc.devRef .tc main_v22) = _ := k_v22 (W6 m ρ c)
  have e2 : W6 m ρ c (Proc.devRef .tc main_v20_1) = _ := W6_arr m ρ c 9
  rw [e1, e2, final9 m ρ c hmu]

/-- The affinities over the arguments, by their four coordinates. -/
def affK : FVec Ideal S4x5x256x256 .f32 := shapeCast S4x5x256x256 (G9 m c) shapeCasts_S4x5x65536_S4x5x256x256

/-- The affinities at an index. -/
theorem affK_at (n : Fin 4) (j : Fin 5) (h w : Fin 256) : affK m c (ix4 n j h w) = affCh (muK m c) (featK m c n) j h w := by
  have hh := h.isLt
  have hw := w.isLt
  have e : affK m c (ix4 n j h w) = G9 m c (ix3 n j ⟨256 * (h : ℕ) + w, by omega⟩) := by
    unfold affK
    generalize G9 m c = g
    pointwise []
    exact congrArg g (congrArg (ix3 n j) (Fin.ext (by show (h : ℕ) * 256 + w = 256 * (h : ℕ) + w; omega)))
  refine e.trans ?_
  show affCh _ _ j (prow ⟨256 * (h : ℕ) + w, by omega⟩) (pcol ⟨256 * (h : ℕ) + w, by omega⟩) = _
  rw [show prow ⟨256 * (h : ℕ) + w, by omega⟩ = h from Fin.ext (by show (256 * (h : ℕ) + w) / 256 = h; omega),
    show pcol ⟨256 * (h : ℕ) + w, by omega⟩ = w from Fin.ext (by show (256 * (h : ℕ) + w) % 256 = w; omega)]
  rfl

/-- The lateral result after the program. -/
theorem W9_v21 : W9 m ρ c (Proc.devRef .tc main_v21) = shapeCast S4x1x256x256 (G8 m c) shapeCasts_S4x1x65536_S4x1x256x256 := by
  rw [W9_of m ρ c main_v21 (by decide), W8_of m ρ c main_v21 (by decide +kernel), W7_v21]

/-- The affinity result after the program. -/
theorem W9_v22 (hmu : muK m c ≠ 0) : W9 m ρ c (Proc.devRef .tc main_v22) = affK m c := by
  rw [W9_of m ρ c main_v22 (by decide), W8_of m ρ c main_v22 (by decide +kernel), W7_v22 m ρ c hmu]
  rfl

/-- The lateral result at an index. -/
theorem v21_at (n : Fin 4) (o : Fin 1) (h w : Fin 256) : (shapeCast S4x1x256x256 (G8 m c) shapeCasts_S4x1x65536_S4x1x256x256 : FVec Ideal S4x1x256x256 .f32) (ix4 n o h w)
    = conv (ker (A4 m c)) (bia (A5 m c)) (img (A0 m c) (A3 m c) n) o (h : ℕ) (w : ℕ) := by
  have hh := h.isLt
  have hw := w.isLt
  have e : (shapeCast S4x1x256x256 (G8 m c) shapeCasts_S4x1x65536_S4x1x256x256 : FVec Ideal S4x1x256x256 .f32) (ix4 n o h w) = G8 m c (ix3 n 0 ⟨256 * (h : ℕ) + w, by omega⟩) := by
    generalize G8 m c = g
    pointwise []
    exact congrArg g (congrArg (ix3 n 0) (Fin.ext (by show (h : ℕ) * 256 + w = 256 * (h : ℕ) + w; omega)))
  refine e.trans ?_
  show conv _ _ _ 0 (((256 * (h : ℕ) + w) / 256 : ℕ) : ℤ) (((256 * (h : ℕ) + w) % 256 : ℕ) : ℤ) = _
  rw [show (256 * (h : ℕ) + w) / 256 = h by omega, show (256 * (h : ℕ) + w) % 256 = w by omega, show o = 0 from Subsingleton.elim _ _]
  rfl

end Cert.KernelIdeal.Mine

end
-- ==== Proof.K1Arr.lean ====
/-
  The second region's result array, and the program's first result, index by index.
-/
module

public import proofs.«01_k».proof.Proof.KCg
public import proofs.«01_k».proof.Proof.K0Arr
import Idealize.ShloMosaic.Lib.Pipeline.ValueKit

@[expose] public section

set_option maxRecDepth 16384

noncomputable section

namespace Cert.KernelIdeal.Mine

open Cert.KernelIdeal Cert.KernelIdeal.Gen Cert.Mine
open Idealize.ShloMosaic Idealize.ShloMosaic.TcCoe Idealize.ShloMosaic.Pointwise

/-- The windows' block indices at the one point. -/
theorem idx1 : ∀ t : Fin cfg1.N, win1_0.index t = ![0, 0] ∧ win1_1.index t = ![0, 0, 0, 0] ∧ win1_2.index t = ![0, 0, 0] ∧ win1_3.index t = ![0, 0, 0] ∧ win1_4.index t = ![0, 0, 0] :=
  (by decide +kernel : ∀ t : Fin grid1.N, _)

variable (m : (ℓ : Loc nD τ sig) → Buf (Elt Ideal) ℓ) (ρ : Dev nD → PrngReg) (c : Dev nD)

/-- The fidelity weight's block is its array. -/
theorem sblk0 (t : Fin cfg1.N) : (iblk1 (V7 m ρ) c 0 t : FVec Ideal S1x1 .f32) = V7 m ρ c main_v19 := by
  show _ = (V7 m ρ c main_v19 : FVec Ideal S1x1 .f32)
  blk_ext! [iblk1, idx1 t]
/-- The affinities' block is their array. -/
theorem sblk1 (t : Fin cfg1.N) : (iblk1 (V7 m ρ) c 1 t : FVec Ideal S4x5x256x256 .f32) = V7 m ρ c main_v22 := by
  show _ = (V7 m ρ c main_v22 : FVec Ideal S4x5x256x256 .f32)
  blk_ext! [iblk1, idx1 t]
/-- The source's block is its array. -/
theorem sblk2 (t : Fin cfg1.N) : (iblk1 (V7 m ρ) c 2 t : FVec Ideal S4x32x32 .f32) = V7 m ρ c main_v23 := by
  show _ = (V7 m ρ c main_v23 : FVec Ideal S4x32x32 .f32)
  blk_ext! [iblk1, idx1 t]
/-- The mask's block is its array. -/
theorem sblk3 (t : Fin cfg1.N) : (iblk1 (V7 m ρ) c 3 t : FVec Ideal S4x32x32 .f32) = V7 m ρ c main_v24 := by
  show _ = (V7 m ρ c main_v24 : FVec Ideal S4x32x32 .f32)
  blk_ext! [iblk1, idx1 t]

/-- The coarse source without its channel axis. -/
def src3 : FVec Ideal S4x32x32 .f32 := shapeCast S4x32x32 (A1 m c) shapeCasts_S4x1x32x32_S4x32x32
/-- The mask without its channel axis. -/
def msk3 : FVec Ideal S4x32x32 .f32 := shapeCast S4x32x32 (A2 m c) shapeCasts_S4x1x32x32_S4x32x32

/-- The source at the second region's entry. -/
theorem W7_v23 : W7 m ρ c (Proc.devRef .tc main_v23) = src3 m c := by
  have e1 : W7 m ρ c (Proc.devRef .tc main_v23) = _ := k_v23 (W6 m ρ c)
  have e2 : W6 m ρ c (Proc.devRef .tc main_arg1) = m ((c.tc : Thread nD τ).loc main_arg1) := W6_args m ρ c main_arg1 (by decide)
  rw [e1, e2]
  rfl
/-- The mask at the second region's entry. -/
theorem W7_v24 : W7 m ρ c (Proc.devRef .tc main_v24) = msk3 m c := by
  have e1 : W7 m ρ c (Proc.devRef .tc main_v24) = _ := k_v24 (W6 m ρ c)
  have e2 : W6 m ρ c (Proc.devRef .tc main_arg2) = m ((c.tc : Thread nD τ).loc main_arg2) := W6_args m ρ c main_arg2 (by decide)
  rw [e1, e2]
  rfl
/-- The fidelity weight at the second region's entry. -/
theorem W7_v19 : W7 m ρ c (Proc.devRef .tc main_v19) = Klam m ρ c := by
  rw [W7_of m ρ c main_v19 (by decide), W6_of m ρ c main_v19 (by decide +kernel)]
  rfl

/-- The second region's result over the arguments. -/
def solK : FVec Ideal S4x256x256 .f32 := oX (F := Ideal) (Ideal.exp (A12 m c (ix1 0))) (affK m c) (src3 m c) (msk3 m c)

/-- The second region's result array. -/
theorem sfinal (hmu : muK m c ≠ 0) : (dat1 (V7 m ρ) c).arrAt 4 cfg1.N = solK m c := by
  refine (dat1 (V7 m ρ) c).arrAt_eq_of_after_last 4 t1_0 (by decide +kernel) _ fun j => ?_
  blk_simp
  rw [after1_4]
  unfold outsAt1
  rw [out1_eq, sblk0, sblk1, sblk2, sblk3]
  have e0 : (V7 m ρ c main_v19 : FVec Ideal S1x1 .f32) = Klam m ρ c := W7_v19 m ρ c
  have e1 : (V7 m ρ c main_v22 : FVec Ideal S4x5x256x256 .f32) = affK m c := W7_v22 m ρ c hmu
  have e2 : (V7 m ρ c main_v23 : FVec Ideal S4x32x32 .f32) = src3 m c := W7_v23 m ρ c
  have e3 : (V7 m ρ c main_v24 : FVec Ideal S4x32x32 .f32) = msk3 m c := W7_v24 m ρ c
  rw [e0, e1, e2, e3, Klam_at]
  rfl

/-- The solution result after the program. -/
theorem W9_v26 (hmu : muK m c ≠ 0) : W9 m ρ c (Proc.devRef .tc main_v26) = shapeCast S4x1x256x256 (solK m c) shapeCasts_S4x256x256_S4x1x256x256 := by
  have e1 : W9 m ρ c (Proc.devRef .tc main_v26) = _ := k_v26 (W8 m ρ c)
  have e2 : W8 m ρ c (Proc.devRef .tc main_v25) = _ := W8_arr m ρ c 4
  rw [e1, e2, sfinal m ρ c hmu]

/-- The linear system over the arguments. -/
def coefK : Coef where
  lam := Ideal.exp (A12 m c (ix1 0))
  wu := fun n h w => affCh (muK m c) (featK m c n) 0 h w
  wd := fun n h w => affCh (muK m c) (featK m c n) 1 h w
  wl := fun n h w => affCh (muK m c) (featK m c n) 2 h w
  wr := fun n h w => affCh (muK m c) (featK m c n) 3 h w
  deg := fun n h w => affCh (muK m c) (featK m c n) 4 h w
  msk := fun n h w => A2 m c (ix4 n 0 h w)

/-- The region's system is the arguments'. -/
theorem kSys_eq : kSys (Ideal.exp (A12 m c (ix1 0))) (affK m c) (msk3 m c) = coefK m c := by
  have e := affK_at m c
  unfold kSys kCoef coefK
  have f0 : fld (k1_pay14 (F := Ideal) (affK m c)) = fun n h w => affCh (muK m c) (featK m c n) 0 h w := by
    simp only [← e]
    generalize affK m c = g
    funext n h w
    unfold fld
    pointwise [k1_pay14, k1_pay13]
    try rfl
  have f1 : fld (k1_pay15 (F := Ideal) (affK m c)) = fun n h w => affCh (muK m c) (featK m c n) 1 h w := by
    simp only [← e]
    generalize affK m c = g
    funext n h w
    unfold fld
    pointwise [k1_pay15, k1_pay13]
    try rfl
  have f2 : fld (k1_pay16 (F := Ideal) (affK m c)) = fun n h w => affCh (muK m c) (featK m c n) 2 h w := by
    simp only [← e]
    generalize affK m c = g
    funext n h w
    unfold fld
    pointwise [k1_pay16, k1_pay13]
    try rfl
  have f3 : fld (k1_pay17 (F := Ideal) (affK m c)) = fun n h w => affCh (muK m c) (featK m c n) 3 h w := by
    simp only [← e]
    generalize affK m c = g
    funext n h w
    unfold fld
    pointwise [k1_pay17, k1_pay13]
    try rfl
  have f4 : fld (k1_pay18 (F := Ideal) (affK m c)) = fun n h w => affCh (muK m c) (featK m c n) 4 h w := by
    simp only [← e]
    generalize affK m c = g
    funext n h w
    unfold fld
    pointwise [k1_pay18, k1_pay13]
    try rfl
  have f5 : lowF (k1_pay20 (F := Ideal) (msk3 m c)) = fun n h w => A2 m c (ix4 n 0 h w) := by
    unfold msk3
    generalize A2 m c = g
    funext n h w
    unfold lowF
    pointwise [k1_pay20]
    try rfl
  rw [f0, f1, f2, f3, f4, f5]

/-- The solution result at an index: thirty iterations on the arguments' system. -/
theorem v26_at (n : Fin 4) (o : Fin 1) (h w : Fin 256) : (shapeCast S4x1x256x256 (solK m c) shapeCasts_S4x256x256_S4x1x256x256 : FVec Ideal S4x1x256x256 .f32) (ix4 n o h w)
    = cgSol (coefK m c) (fun n h w => A1 m c (ix4 n 0 h w)) n h w := by
  have e := oX_at (Ideal.exp (A12 m c (ix1 0))) (affK m c) (src3 m c) (msk3 m c) n h w
  rw [kSys_eq] at e
  have e1 : lowF (src3 m c) = fun n h w => A1 m c (ix4 n 0 h w) := by
    unfold src3
    generalize A1 m c = g
    funext n h w
    unfold lowF
    pointwise []
    try rfl
  rw [e1] at e
  rw [← e]
  show (shapeCast S4x1x256x256 (solK m c) shapeCasts_S4x256x256_S4x1x256x256 : FVec Ideal S4x1x256x256 .f32) (ix4 n o h w) = solK m c (ix3 n h w)
  generalize solK m c = g
  pointwise []
  try rfl

end Cert.KernelIdeal.Mine

end
-- ==== Proof.Equal.lean ====
/-
  The two programs' results are the same functions of the arguments.
-/
module

public import proofs.«01_k».proof.Proof.RefEnd
public import proofs.«01_k».proof.Proof.K1Arr

@[expose] public section

set_option maxRecDepth 16384

noncomputable section

namespace Cert.Mine

open Cert.KernelIdeal.Mine Cert.ReferenceIdeal.Mine
open Idealize.ShloMosaic Idealize.ShloMosaic.TcCoe Idealize.ShloMosaic.StableHlo Idealize.ShloMosaic.Pointwise

/-- A launch state of the kernel. -/
abbrev KMem := (ℓ : Loc Cert.KernelIdeal.nD Cert.KernelIdeal.τ Cert.KernelIdeal.sig) → Buf (Elt Ideal) ℓ
/-- The buffers of the reference on a device. -/
abbrev RVal := Valuation Cert.ReferenceIdeal.τ Cert.ReferenceIdeal.sig (Elt Ideal)

/-- The reference's arguments are the kernel's. -/
structure Same (m : KMem) (c : Dev Cert.KernelIdeal.nD) (V : RVal) : Prop where
  /-- Argument 0 is the same. -/
  h0 : (V (Proc.devRef .tc Cert.ReferenceIdeal.main_arg0) : FVec Ideal Cert.ReferenceIdeal.S4x3x256x256 .f32) = A0 m c
  /-- Argument 1 is the same. -/
  h1 : (V (Proc.devRef .tc Cert.ReferenceIdeal.main_arg1) : FVec Ideal Cert.ReferenceIdeal.S4x1x32x32 .f32) = A1 m c
  /-- Argument 2 is the same. -/
  h2 : (V (Proc.devRef .tc Cert.ReferenceIdeal.main_arg2) : FVec Ideal Cert.ReferenceIdeal.S4x1x32x32 .f32) = A2 m c
  /-- Argument 3 is the same. -/
  h3 : (V (Proc.devRef .tc Cert.ReferenceIdeal.main_arg3) : FVec Ideal Cert.ReferenceIdeal.S4x1x256x256 .f32) = A3 m c
  /-- Argument 4 is the same. -/
  h4 : (V (Proc.devRef .tc Cert.ReferenceIdeal.main_arg4) : FVec Ideal Cert.ReferenceIdeal.S1x4x3x3 .f32) = A4 m c
  /-- Argument 5 is the same. -/
  h5 : (V (Proc.devRef .tc Cert.ReferenceIdeal.main_arg5) : FVec Ideal Cert.ReferenceIdeal.S1 .f32) = A5 m c
  /-- Argument 6 is the same. -/
  h6 : (V (Proc.devRef .tc Cert.ReferenceIdeal.main_arg6) : FVec Ideal Cert.ReferenceIdeal.S32x4x3x3 .f32) = A6 m c
  /-- Argument 7 is the same. -/
  h7 : (V (Proc.devRef .tc Cert.ReferenceIdeal.main_arg7) : FVec Ideal Cert.ReferenceIdeal.S32 .f32) = A7 m c
  /-- Argument 8 is the same. -/
  h8 : (V (Proc.devRef .tc Cert.ReferenceIdeal.main_arg8) : FVec Ideal Cert.ReferenceIdeal.S32x32x3x3 .f32) = A8 m c
  /-- Argument 9 is the same. -/
  h9 : (V (Proc.devRef .tc Cert.ReferenceIdeal.main_arg9) : FVec Ideal Cert.ReferenceIdeal.S32 .f32) = A9 m c
  /-- Argument 10 is the same. -/
  h10 : (V (Proc.devRef .tc Cert.ReferenceIdeal.main_arg10) : FVec Ideal Cert.ReferenceIdeal.S32x32x3x3 .f32) = A10 m c
  /-- Argument 11 is the same. -/
  h11 : (V (Proc.devRef .tc Cert.ReferenceIdeal.main_arg11) : FVec Ideal Cert.ReferenceIdeal.S32 .f32) = A11 m c
  /-- Argument 12 is the same. -/
  h12 : (V (Proc.devRef .tc Cert.ReferenceIdeal.main_arg12) : FVec Ideal Cert.ReferenceIdeal.S1 .f32) = A12 m c
  /-- Argument 13 is the same. -/
  h13 : (V (Proc.devRef .tc Cert.ReferenceIdeal.main_arg13) : FVec Ideal Cert.ReferenceIdeal.S1 .f32) = A13 m c

variable {m : KMem} {c : Dev Cert.KernelIdeal.nD} {V : RVal}

/-- Arrays of rank four agreeing at every index are equal. -/
theorem ext4 {a b d e : ℕ} {X Y : FVec Ideal ⟨4, ![a, b, d, e]⟩ .f32} (h : ∀ (i : Fin a) (j : Fin b) (k : Fin d) (l : Fin e), X (ix4 i j k l) = Y (ix4 i j k l)) : X = Y := by
  funext q
  have hq := h (q 0) (q 1) (q 2) (q 3)
  rw [← Idealize.ShloMosaic.eq_ix4 q] at hq
  exact hq

/-- The features are the same. -/
theorem feat_same (H : Same m c V) : featR V = featK m c := by
  funext n
  unfold featR featK
  rw [H.h0, H.h3, H.h6, H.h7, H.h8, H.h9, H.h10, H.h11]

/-- The affinity scale is the same. -/
theorem mu_same (H : Same m c V) : muR V = muK m c := by
  unfold muR muK
  exact congrArg (fun z : FVec Ideal Cert.KernelIdeal.S1 .f32 => Ideal.exp (z (ix1 0))) H.h13

/-- The system is the same. -/
theorem coef_same (H : Same m c V) : coefInit V = coefK m c := by
  rw [aff_slice, feat_same H, mu_same H, H.h12, H.h2]
  rfl

/-- The variance results are the same. -/
theorem var_same (H : Same m c V) : (Cert.ReferenceIdeal.Mine.R_v57 V : FVec Ideal Cert.KernelIdeal.S4x1x256x256 .f32)
    = shapeCast Cert.KernelIdeal.S4x1x256x256 (G8 m c) Cert.KernelIdeal.Gen.shapeCasts_S4x1x65536_S4x1x256x256 := by
  refine ext4 fun n o h w => ?_
  refine (R_v57_at V n o h w).trans ?_
  rw [H.h0, H.h3, H.h4, H.h5]
  exact (v21_at m c n o h w).symm

/-- The affinity results are the same. -/
theorem aff_same (H : Same m c V) : (Cert.ReferenceIdeal.Mine.R_v291 V : FVec Ideal Cert.KernelIdeal.S4x5x256x256 .f32) = affK m c := by
  refine ext4 fun n o h w => ?_
  refine (R_v291_at V n o h w).trans ?_
  rw [feat_same H, mu_same H]
  exact (affK_at m c n o h w).symm

/-- The solution results are the same. -/
theorem sol_same (H : Same m c V) (X : FVec Ideal Cert.KernelIdeal.S4x1x256x256 .f32)
    (hX : ∀ (n : Fin 4) (h w : Fin 256), X (ix4 n 0 h w) = cgSol (coefInit V) (low4 (V (Proc.devRef .tc Cert.ReferenceIdeal.main_arg1))) n h w) :
    X = shapeCast Cert.KernelIdeal.S4x1x256x256 (solK m c) Cert.KernelIdeal.Gen.shapeCasts_S4x256x256_S4x1x256x256 := by
  refine ext4 fun n o h w => ?_
  obtain rfl : o = 0 := Subsingleton.elim _ _
  rw [hX, coef_same H, H.h1]
  exact (v26_at m c n 0 h w).symm

/-- The exponential of anything above minus infinity is nonzero. -/
theorem exp_ne_zero {x : EReal} (hx : x ≠ ⊥) : Ideal.exp x ≠ 0 := by
  induction x with
  | bot => exact absurd rfl hx
  | top => rw [Ideal.exp_top]; exact EReal.top_ne_zero
  | coe r => rw [Ideal.exp_coe]; exact fun e => (Real.exp_pos r).ne' (EReal.coe_eq_zero.mp e)

/-- A true comparison from above excludes minus infinity. -/
theorem ne_bot_of_cmp {x y : EReal} (h : Ideal.cmp .ogt x y = 1#1) : x ≠ ⊥ := by
  rintro rfl
  simp [Ideal.cmp] at h

end Cert.Mine

end
-- ==== Proof.KernelRun.lean ====
/-
  The run of the idealized kernel program with its result arrays: every execution ends with each result array holding
  what the fold over the program's items (`W9`, the generated frame's contents at the last boundary) gives it, and with
  the arguments as launched. The launch is the generated frame's, read at three more arrays.
-/
module

public import proofs.«01_k».proof.Proof.Gen.KernelIdeal.Frame

@[expose] public section

set_option maxRecDepth 16384

noncomputable section

namespace Cert.KernelIdeal.Mine

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the idealized kernel's program ends with the three result arrays at the last boundary's
    contents and the arguments unchanged. -/
theorem run : θ_run defs (onTc (τ := τ) (main (F := F))) ⟨m, fun _ => 0, ρ⟩ (fun r => ∀ c : Dev nD,
      r.2.mem ((c.tc : Thread nD τ).loc main_v26) = W9 m ρ c (Proc.devRef .tc main_v26)
      ∧ r.2.mem ((c.tc : Thread nD τ).loc main_v21) = W9 m ρ c (Proc.devRef .tc main_v21)
      ∧ r.2.mem ((c.tc : Thread nD τ).loc main_v22) = W9 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v26 (by decide)),
       h c _ (mem_uc main_v21 (by decide)),
       h c _ (mem_uc main_v22 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.Mine

end
-- ==== Proof.lean ====
/-
  The proof of `Cert.Claim`: the frames come from the generated launches and from the reference's run; the equation
  comes from the kernel's run and the reference's run, whose results are the same functions of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.KernelRun
public import Idealize.ShloMosaic.Adequacy
public import Idealize.ShloMosaic.Init

@[expose] public section

noncomputable section

namespace Cert.Proof

open Idealize.ShloMosaic Idealize.SL.Sem

/-- The precondition's one broadcast. -/
theorem preFacts : Cert.Pre_log_mu_above_minus_infinity.Facts where
  bcast_S_S1 := by decide

/-- The reference's frame. -/
theorem frame_ref : Cert.quiescent_ReferenceIdeal := fun m g _ =>
  (θ_run (Cert.ReferenceIdeal.defs (F := Ideal)) _ _).mono (fun _ hr => ⟨fun c => (hr.1 c).2.2.2, hr.2⟩) (Cert.ReferenceIdeal.Mine.run m g)

/-- Under the precondition the affinity scale is not zero. -/
theorem mu_ne_zero (m : Cert.Mine.KMem) (h : Cert.Pre_KernelIdeal_log_mu_above_minus_infinity (hPre_log_mu_above_minus_infinity := preFacts) m)
    (c : Dev Cert.KernelIdeal.nD) : Cert.KernelIdeal.Mine.muK m c ≠ 0 :=
  Cert.Mine.exp_ne_zero (Cert.Mine.ne_bot_of_cmp (congrFun (h c) (ValueIdx.ix1 0)))

/-- The equation: on equal arguments with `log_mu` above minus infinity the two programs end with equal results. -/
theorem algebraic : Cert.algebraic_KernelIdeal_ReferenceIdeal_pre_log_mu_above_minus_infinity (hPre_log_mu_above_minus_infinity := preFacts) := by
  intro m g m' g' hpre hargs
  have hmu := mu_ne_zero m hpre
  have hs : ∀ c, Cert.Mine.Same m c (StableHlo.launchContents m' c) := fun c => by
    obtain ⟨e0, e1, e2, e3, e4, e5, e6, e7, e8, e9, e10, e11, e12, e13⟩ := hargs c
    exact ⟨e0, e1, e2, e3, e4, e5, e6, e7, e8, e9, e10, e11, e12, e13⟩
  refine ⟨_, _, _, (θ_run (Cert.KernelIdeal.defs (F := Ideal)) _ _).mono (fun r hr => hr) (Cert.KernelIdeal.Mine.run m g), ?_⟩
  refine (θ_run (Cert.ReferenceIdeal.defs (F := Ideal)) _ _).mono (fun r hr c => ?_) (Cert.ReferenceIdeal.Mine.run m' g')
  obtain ⟨h0, h1, h2, hk⟩ := hr.1 c
  refine ⟨h0.trans ?_, h1.trans ?_, h2.trans ?_, hk⟩
  · exact (Cert.Mine.sol_same (hs c) _ (Cert.ReferenceIdeal.Mine.end_v344_9 m' c)).trans (Cert.KernelIdeal.Mine.W9_v26 m g c (hmu c)).symm
  · exact (Cert.Mine.var_same (hs c)).trans (Cert.KernelIdeal.Mine.W9_v21 m g c).symm
  · exact (Cert.Mine.aff_same (hs c)).trans (Cert.KernelIdeal.Mine.W9_v22 m g c (hmu c)).symm

/-- Everything the certificate claims. -/
theorem claim : Cert.Claim := ⟨Cert.Kernel.Gen.facts, Cert.KernelIdeal.Gen.facts, Cert.ReferenceIdeal.Gen.facts, preFacts,
  fun m g _ => Cert.Kernel.Gen.frame m g, fun m g _ => Cert.KernelIdeal.Gen.frame m g, fun m g _ => Cert.KernelIdeal.Gen.frame m g,
  frame_ref, fun m g _ => frame_ref m g True.intro, trivial, algebraic⟩

end Cert.Proof

end
